-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_segments [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments [hPre_segments : Cert.Pre_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_segments [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_segments [hReferenceIdeal : Cert.ReferenceIdeal.Facts] [hPre_segments : Cert.Pre_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_segments [hKernelIdeal : Cert.KernelIdeal.Facts] [hReferenceIdeal : Cert.ReferenceIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_table : Cert.Pre_in_table.Facts) (hPre_segments : Cert.Pre_segments.Facts),
    quiescent_Kernel (hKernel := hKernel) (hPre_in_table := hPre_in_table)
    ∧ quiescent_KernelIdeal (hKernelIdeal := hKernelIdeal) (hPre_in_table := hPre_in_table)
    ∧ quiescent_KernelIdeal_pre_segments (hKernelIdeal := hKernelIdeal) (hPre_segments := hPre_segments)
    ∧ quiescent_ReferenceIdeal (hReferenceIdeal := hReferenceIdeal)
    ∧ quiescent_ReferenceIdeal_pre_segments (hReferenceIdeal := hReferenceIdeal) (hPre_segments := hPre_segments)
    ∧ preserves_Kernel_KernelIdeal
    ∧ algebraic_KernelIdeal_ReferenceIdeal_pre_segments (hKernelIdeal := hKernelIdeal) (hReferenceIdeal := hReferenceIdeal) (hPre_segments := hPre_segments)
-- ==== Pre_in_table.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : FVec F S320000x3 .f32) (main_arg2 : IVec S320000 32) (main_arg3 : FVec F S131x128 .f32) (main_arg4 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 512#32
  let main_v2 : IVec S320000 32 := broadcastInDim S320000 ![] bcast_S_S320000 main_c_0
  let main_v3 : IVec S320000 1 := cmpi .slt main_arg2 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Pre_segments.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : FVec F S320000x3 .f32) (main_arg2 : IVec S320000 32) (main_arg3 : FVec F S131x128 .f32) (main_arg4 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 512#32
  let main_v2 : IVec S320000 32 := broadcastInDim S320000 ![] bcast_S_S320000 main_c_0
  let main_v3 : IVec S320000 1 := cmpi .slt main_arg2 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![0] · slices_S320000_S319999_0) main_arg2
  let main_v7 : IVec S319999 32 := (extractStridedSlice S319999 ![1] · slices_S320000_S319999_1) main_arg2
  let main_v8 : IVec S319999 1 := cmpi .sle main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  main_v10
-- ==== Kernel.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S128x128 : Shape := ⟨2, ![128, 128]⟩
abbrev S3x128 : Shape := ⟨2, ![3, 128]⟩
abbrev S1x128 : Shape := ⟨2, ![1, 128]⟩
abbrev S8000x128 : Shape := ⟨2, ![8000, 128]⟩
abbrev S8000x3 : Shape := ⟨2, ![8000, 3]⟩
abbrev S8000x1 : Shape := ⟨2, ![8000, 1]⟩
abbrev S32x512x128 : Shape := ⟨3, ![32, 512, 128]⟩
abbrev S400x128 : Shape := ⟨2, ![400, 128]⟩
abbrev S400 : Shape := ⟨1, ![400]⟩
abbrev S1 : Shape := ⟨1, ![1]⟩
abbrev S_ : Shape := ⟨0, ![]⟩
abbrev S16 : Shape := ⟨1, ![16]⟩
abbrev S1x16 : Shape := ⟨2, ![1, 16]⟩
abbrev S1x400x128 : Shape := ⟨3, ![1, 400, 128]⟩
abbrev S112x128 : Shape := ⟨2, ![112, 128]⟩
abbrev S1x112x128 : Shape := ⟨3, ![1, 112, 128]⟩
abbrev S1x1x128 : Shape := ⟨3, ![1, 1, 128]⟩
abbrev S512x128 : Shape := ⟨2, ![512, 128]⟩
abbrev S512x3 : Shape := ⟨2, ![512, 3]⟩
abbrev S512 : Shape := ⟨1, ![512]⟩

abbrev nBuf : Table → Nat
  | .hbm => 14
  | .local .tc .vmem => 11
  | .local .scVector .smem => 1
  | .local .scVector .vmem => 5
  | _ => 0

abbrev bufTy : (tb : Table) → Fin (nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S3x128, .f32⟩
  | .hbm, ⟨7, _⟩ => ⟨S1x128, .f32⟩
  | .hbm, ⟨8, _⟩ => ⟨S320000x128, .f32⟩
  | .hbm, ⟨9, _⟩ => ⟨S32x512x128, .f32⟩
  | .hbm, ⟨10, _⟩ => ⟨S512x128, .f32⟩
  | .hbm, ⟨11, _⟩ => ⟨S_, .f32⟩
  | .hbm, ⟨12, _⟩ => ⟨S512x3, .f32⟩
  | .hbm, ⟨13, _⟩ => ⟨S512, .i32⟩
  | .local .tc .vmem, ⟨0, _⟩ => ⟨S8000x128, .f32⟩
  | .local .tc .vmem, ⟨1, _⟩ => ⟨S8000x128, .f32⟩
  | .local .tc .vmem, ⟨2, _⟩ => ⟨S8000x3, .f32⟩
  | .local .tc .vmem, ⟨3, _⟩ => ⟨S8000x3, .f32⟩
  | .local .tc .vmem, ⟨4, _⟩ => ⟨S128x128, .f32⟩
  | .local .tc .vmem, ⟨5, _⟩ => ⟨S3x128, .f32⟩
  | .local .tc .vmem, ⟨6, _⟩ => ⟨S1x128, .f32⟩
  | .local .tc .vmem, ⟨7, _⟩ => ⟨S8000x128, .f32⟩
  | .local .tc .vmem, ⟨8, _⟩ => ⟨S8000x128, .f32⟩
  | .local .tc .vmem, ⟨9, _⟩ => ⟨S32x512x128, .f32⟩
  | .local .tc .vmem, ⟨10, _⟩ => ⟨S512x128, .f32⟩
  | .local .scVector .smem, ⟨0, _⟩ => ⟨S1, .i32⟩
  | .local .scVector .vmem, ⟨0, _⟩ => ⟨S400x128, .f32⟩
  | .local .scVector .vmem, ⟨1, _⟩ => ⟨S400x128, .f32⟩
  | .local .scVector .vmem, ⟨2, _⟩ => ⟨S400, .i32⟩
  | .local .scVector .vmem, ⟨3, _⟩ => ⟨S400, .i32⟩
  | .local .scVector .vmem, ⟨4, _⟩ => ⟨S128, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => true
  | ⟨65, _⟩ => true
  | _ => false

abbrev sig : RefSig :=
  ofTables nBuf rfl bufTy 4 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v3_scv : Ref sig .scVector := ⟨.hbm, 8, rfl⟩
abbrev main_arg2_scv : Ref sig .scVector := ⟨.hbm, 2, rfl⟩
abbrev main_v4_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc2_stg0_0 : Ref sig .tc := ⟨.vmem, 9, rfl⟩
abbrev cc2_stg1_0 : Ref sig .tc := ⟨.vmem, 10, rfl⟩
abbrev cc1_scratch5 : Ref sig .scVector := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc2_sem0_0 : DmaSem sig := 64
abbrev cc2_sem1_0 : DmaSem sig := 65
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

@[reducible] def k1_t1_loop : Scf.Loop 32 :=
  let c0_i32_0 : BitVec 32 := 0#32
  let c400_i32 : BitVec 32 := 400#32
  let v4 : BitVec 32 := Scalar.addi c0_i32_0 c400_i32
  let c1_i32 : BitVec 32 := 1#32
  ⟨c0_i32_0, v4, c1_i32⟩
def k1_off1 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v61 : Index := Scalar.indexCast arg15
  let c0_27 : Index := 0#32
  ![v61.toNat, 0]
def k1_off2 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v65 : Index := Scalar.indexCast arg15
  let c16_28 : Index := 16#32
  ![v65.toNat, 16]
def k1_off3 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v69 : Index := Scalar.indexCast arg15
  let c32_29 : Index := 32#32
  ![v69.toNat, 32]
def k1_off4 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v73 : Index := Scalar.indexCast arg15
  let c48_30 : Index := 48#32
  ![v73.toNat, 48]
def k1_off5 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v77 : Index := Scalar.indexCast arg15
  let c64_31 : Index := 64#32
  ![v77.toNat, 64]
def k1_off6 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v81 : Index := Scalar.indexCast arg15
  let c80_32 : Index := 80#32
  ![v81.toNat, 80]
def k1_off7 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v85 : Index := Scalar.indexCast arg15
  let c96_33 : Index := 96#32
  ![v85.toNat, 96]
def k1_off8 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v89 : Index := Scalar.indexCast arg15
  let c112_34 : Index := 112#32
  ![v89.toNat, 112]
def k1_off9 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27_r0 : BitVec 32 := 0#32
  let c0_i32_28_r0 : BitVec 32 := 0#32
  ![v1.toNat, 0, 0]
def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32_29_r1 : BitVec 32 := 400#32
  let c0_i32_30_r1 : BitVec 32 := 0#32
  ![v1.toNat, 400, 0]
def k1_off11 (i : grid1.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v6 : BitVec 32 := Scalar.addi v2 c0_i32_2
  let c0_i32_3 : BitVec 32 := 0#32
  ![v6.toNat, 0]
def k1_off12 (i : grid1.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v6 : BitVec 32 := Scalar.addi v2 c0_i32_2
  ![v6.toNat]
@[reducible] def k1_t2_loop : Scf.Loop 32 :=
  let c0_i32_17 : BitVec 32 := 0#32
  let c25_i32 : BitVec 32 := 25#32
  let v50 : BitVec 32 := Scalar.addi c0_i32_17 c25_i32
  let c1_i32_18 : BitVec 32 := 1#32
  ⟨c0_i32_17, v50, c1_i32_18⟩
def k1_off13 (k1_t2 : Fin k1_t2_loop.trips) : Fin 1 → Nat :=
  let c0_i32_17 : BitVec 32 := 0#32
  let c1_i32_18 : BitVec 32 := 1#32
  let arg15 : BitVec 32 := Scf.iv c0_i32_17 c1_i32_18 k1_t2
  let c16_i32 : BitVec 32 := 16#32
  let v61 : BitVec 32 := Scalar.muli arg15 c16_i32
  let v62 : Index := Scalar.indexCast v61
  ![v62.toNat]
def k1_off14 (k1_t2 : Fin k1_t2_loop.trips) (c0_i32_32 : BitVec 32) : Fin 2 → Nat :=
  let c0_i32_17 : BitVec 32 := 0#32
  let c1_i32_18 : BitVec 32 := 1#32
  let arg15 : BitVec 32 := Scf.iv c0_i32_17 c1_i32_18 k1_t2
  let c16_i32_31 : BitVec 32 := 16#32
  let v79 : BitVec 32 := Scalar.muli arg15 c16_i32_31
  let v80 : BitVec 32 := Scalar.addi v79 c0_i32_32
  let v81 : Index := Scalar.indexCast v80
  let c0_33 : Index := 0#32
  ![v81.toNat, 0]
def k1_off15 (k1_t2 : Fin k1_t2_loop.trips) (c0_i32_70 : BitVec 32) : Fin 2 → Nat :=
  let c0_i32_17 : BitVec 32 := 0#32
  let c1_i32_18 : BitVec 32 := 1#32
  let arg15 : BitVec 32 := Scf.iv c0_i32_17 c1_i32_18 k1_t2
  let c16_i32_69 : BitVec 32 := 16#32
  let v180 : BitVec 32 := Scalar.muli arg15 c16_i32_69
  let v181 : BitVec 32 := Scalar.addi v180 c0_i32_70
  let v182 : Index := Scalar.indexCast v181
  let c16_71 : Index := 16#32
  ![v182.toNat, 16]
def k1_off16 (k1_t2 : Fin k1_t2_loop.trips) (c0_i32_120 : BitVec 32) : Fin 2 → Nat :=
  let c0_i32_17 : BitVec 32 := 0#32
  let c1_i32_18 : BitVec 32 := 1#32
  let arg15 : BitVec 32 := Scf.iv c0_i32_17 c1_i32_18 k1_t2
  let c16_i32_119 : BitVec 32 := 16#32
  let v281 : BitVec 32 := Scalar.muli arg15 c16_i32_119
  let v282 : BitVec 32 := Scalar.addi v281 c0_i32_120
  let v283 : Index := Scalar.indexCast v282
  let c32_121 : Index := 32#32
  ![v283.toNat, 32]
def k1_off17 (k1_t2 : Fin k1_t2_loop.trips) (c0_i32_170 : BitVec 32) : Fin 2 → Nat :=
  let c0_i32_17 : BitVec 32 := 0#32
  let c1_i32_18 : BitVec 32 := 1#32
  let arg15 : BitVec 32 := Scf.iv c0_i32_17 c1_i32_18 k1_t2
  let c16_i32_169 : BitVec 32 := 16#32
  let v382 : BitVec 32 := Scalar.muli arg15 c16_i32_169
  let v383 : BitVec 32 := Scalar.addi v382 c0_i32_170
  let v384 : Index := Scalar.indexCast v383
  let c48_171 : Index := 48#32
  ![v384.toNat, 48]
def k1_off18 (k1_t2 : Fin k1_t2_loop.trips) (c0_i32_220 : BitVec 32) : Fin 2 → Nat :=
  let c0_i32_17 : BitVec 32 := 0#32
  let c1_i32_18 : BitVec 32 := 1#32
  let arg15 : BitVec 32 := Scf.iv c0_i32_17 c1_i32_18 k1_t2
  let c16_i32_219 : BitVec 32 := 16#32
  let v483 : BitVec 32 := Scalar.muli arg15 c16_i32_219
  let v484 : BitVec 32 := Scalar.addi v483 c0_i32_220
  let v485 : Index := Scalar.indexCast v484
  let c64_221 : Index := 64#32
  ![v485.toNat, 64]
def k1_off19 (k1_t2 : Fin k1_t2_loop.trips) (c0_i32_270 : BitVec 32) : Fin 2 → Nat :=
  let c0_i32_17 : BitVec 32 := 0#32
  let c1_i32_18 : BitVec 32 := 1#32
  let arg15 : BitVec 32 := Scf.iv c0_i32_17 c1_i32_18 k1_t2
  let c16_i32_269 : BitVec 32 := 16#32
  let v584 : BitVec 32 := Scalar.muli arg15 c16_i32_269
  let v585 : BitVec 32 := Scalar.addi v584 c0_i32_270
  let v586 : Index := Scalar.indexCast v585
  let c80_271 : Index := 80#32
  ![v586.toNat, 80]
def k1_off20 (k1_t2 : Fin k1_t2_loop.trips) (c0_i32_320 : BitVec 32) : Fin 2 → Nat :=
  let c0_i32_17 : BitVec 32 := 0#32
  let c1_i32_18 : BitVec 32 := 1#32
  let arg15 : BitVec 32 := Scf.iv c0_i32_17 c1_i32_18 k1_t2
  let c16_i32_319 : BitVec 32 := 16#32
  let v685 : BitVec 32 := Scalar.muli arg15 c16_i32_319
  let v686 : BitVec 32 := Scalar.addi v685 c0_i32_320
  let v687 : Index := Scalar.indexCast v686
  let c96_321 : Index := 96#32
  ![v687.toNat, 96]
def k1_off21 (k1_t2 : Fin k1_t2_loop.trips) (c0_i32_370 : BitVec 32) : Fin 2 → Nat :=
  let c0_i32_17 : BitVec 32 := 0#32
  let c1_i32_18 : BitVec 32 := 1#32
  let arg15 : BitVec 32 := Scf.iv c0_i32_17 c1_i32_18 k1_t2
  let c16_i32_369 : BitVec 32 := 16#32
  let v786 : BitVec 32 := Scalar.muli arg15 c16_i32_369
  let v787 : BitVec 32 := Scalar.addi v786 c0_i32_370
  let v788 : Index := Scalar.indexCast v787
  let c112_371 : Index := 112#32
  ![v788.toNat, 112]
def k1_off22 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r2 : BitVec 32 := 0#32
  ![v1.toNat, v1600.toNat, 0]
def k1_cond2 (v66 : BitVec 32) (v68 : BitVec 32) (v70 : BitVec 32) : BitVec 1 :=
  let v71 : BitVec 1 := Scalar.cmpi .eq v66 v70
  let v72 : BitVec 1 := Scalar.cmpi .eq v66 v68
  let v73 : BitVec 1 := Scalar.andi v71 v72
  let v_true : BitVec 1 := 1#1
  let v76 : BitVec 1 := Scalar.xori v73 v_true
  let v77 : BitVec 32 := Scalar.extui v76
  let c0_i32_29 : BitVec 32 := 0#32
  let v78 : BitVec 1 := Scalar.cmpi .ne v77 c0_i32_29
  v78

def k1_cond3 (v80 : BitVec 32) (v82 : BitVec 32) : BitVec 1 :=
  let v83 : BitVec 1 := Scalar.cmpi .ne v80 v82
  let v84 : BitVec 32 := Scalar.extui v83
  let c0_i32_32 : BitVec 32 := 0#32
  let v85 : BitVec 1 := Scalar.cmpi .ne v84 c0_i32_32
  v85

def k1_chk1 (i : grid1.Coords) (v66 : BitVec 32) (v68 : BitVec 32) (v70 : BitVec 32) (v80 : BitVec 32) (v82 : BitVec 32) (v1600 : BitVec 32) : Prop :=
  (∀ (k1_h2 : k1_cond2 v66 v68 v70 = 1#1), ∀ (k1_h3 : k1_cond3 v80 v82 = 1#1), ∀ a, (k1_off22 i v1600) a + S1x1x128.size a ≤ S32x512x128.size a)
theorem k1_off22_inb : ∀ (i : grid1.Coords) (v66 : BitVec 32) (v68 : BitVec 32) (v70 : BitVec 32) (v80 : BitVec 32) (v82 : BitVec 32) (v1600 : BitVec 32) (k1_hw1 : k1_chk1 i v66 v68 v70 v80 v82 v1600), ∀ (k1_h2 : k1_cond2 v66 v68 v70 = 1#1), ∀ (k1_h3 : k1_cond3 v80 v82 = 1#1), ∀ a, (k1_off22 i v1600) a + S1x1x128.size a ≤ S32x512x128.size a := fun i v66 v68 v70 v80 v82 v1600 k1_hw1 k1_h2 k1_h3 => k1_hw1 k1_h2 k1_h3

def k1_off23 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_34 : BitVec 32 := 16#32
  let v88 : BitVec 32 := Scalar.muli arg15 c16_i32_34
  let c0_i32_35 : BitVec 32 := 0#32
  let v89 : BitVec 32 := Scalar.addi v88 c0_i32_35
  let v90 : Index := Scalar.indexCast v89
  let c0_36 : Index := 0#32
  ![v90.toNat, 0]
def k1_off24 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_39 : BitVec 32 := 16#32
  let v99 : BitVec 32 := Scalar.muli arg15 c16_i32_39
  let c0_i32_40 : BitVec 32 := 0#32
  let v100 : BitVec 32 := Scalar.addi v99 c0_i32_40
  let v101 : Index := Scalar.indexCast v100
  let c16_41 : Index := 16#32
  ![v101.toNat, 16]
def k1_off25 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_44 : BitVec 32 := 16#32
  let v110 : BitVec 32 := Scalar.muli arg15 c16_i32_44
  let c0_i32_45 : BitVec 32 := 0#32
  let v111 : BitVec 32 := Scalar.addi v110 c0_i32_45
  let v112 : Index := Scalar.indexCast v111
  let c32_46 : Index := 32#32
  ![v112.toNat, 32]
def k1_off26 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_49 : BitVec 32 := 16#32
  let v121 : BitVec 32 := Scalar.muli arg15 c16_i32_49
  let c0_i32_50 : BitVec 32 := 0#32
  let v122 : BitVec 32 := Scalar.addi v121 c0_i32_50
  let v123 : Index := Scalar.indexCast v122
  let c48_51 : Index := 48#32
  ![v123.toNat, 48]
def k1_off27 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_54 : BitVec 32 := 16#32
  let v132 : BitVec 32 := Scalar.muli arg15 c16_i32_54
  let c0_i32_55 : BitVec 32 := 0#32
  let v133 : BitVec 32 := Scalar.addi v132 c0_i32_55
  let v134 : Index := Scalar.indexCast v133
  let c64_56 : Index := 64#32
  ![v134.toNat, 64]
def k1_off28 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_59 : BitVec 32 := 16#32
  let v143 : BitVec 32 := Scalar.muli arg15 c16_i32_59
  let c0_i32_60 : BitVec 32 := 0#32
  let v144 : BitVec 32 := Scalar.addi v143 c0_i32_60
  let v145 : Index := Scalar.indexCast v144
  let c80_61 : Index := 80#32
  ![v145.toNat, 80]
def k1_off29 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_64 : BitVec 32 := 16#32
  let v154 : BitVec 32 := Scalar.muli arg15 c16_i32_64
  let c0_i32_65 : BitVec 32 := 0#32
  let v155 : BitVec 32 := Scalar.addi v154 c0_i32_65
  let v156 : Index := Scalar.indexCast v155
  let c96_66 : Index := 96#32
  ![v156.toNat, 96]
def k1_off30 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_69 : BitVec 32 := 16#32
  let v165 : BitVec 32 := Scalar.muli arg15 c16_i32_69
  let c0_i32_70 : BitVec 32 := 0#32
  let v166 : BitVec 32 := Scalar.addi v165 c0_i32_70
  let v167 : Index := Scalar.indexCast v166
  let c112_71 : Index := 112#32
  ![v167.toNat, 112]
def k1_off31 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r3 : BitVec 32 := 0#32
  ![v1.toNat, v1600.toNat, 0]
def k1_cond4 (v175 : BitVec 32) (v177 : BitVec 32) : BitVec 1 :=
  let v178 : BitVec 1 := Scalar.cmpi .ne v175 v177
  let v179 : BitVec 32 := Scalar.extui v178
  let c0_i32_74 : BitVec 32 := 0#32
  let v180 : BitVec 1 := Scalar.cmpi .ne v179 c0_i32_74
  v180

def k1_chk2 (i : grid1.Coords) (v66 : BitVec 32) (v68 : BitVec 32) (v70 : BitVec 32) (v175 : BitVec 32) (v177 : BitVec 32) (v1600 : BitVec 32) : Prop :=
  (∀ (k1_h2 : k1_cond2 v66 v68 v70 = 1#1), ∀ (k1_h4 : k1_cond4 v175 v177 = 1#1), ∀ a, (k1_off31 i v1600) a + S1x1x128.size a ≤ S32x512x128.size a)
theorem k1_off31_inb : ∀ (i : grid1.Coords) (v66 : BitVec 32) (v68 : BitVec 32) (v70 : BitVec 32) (v175 : BitVec 32) (v177 : BitVec 32) (v1600 : BitVec 32) (k1_hw2 : k1_chk2 i v66 v68 v70 v175 v177 v1600), ∀ (k1_h2 : k1_cond2 v66 v68 v70 = 1#1), ∀ (k1_h4 : k1_cond4 v175 v177 = 1#1), ∀ a, (k1_off31 i v1600) a + S1x1x128.size a ≤ S32x512x128.size a := fun i v66 v68 v70 v175 v177 v1600 k1_hw2 k1_h2 k1_h4 => k1_hw2 k1_h2 k1_h4

def k1_off32 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_76 : BitVec 32 := 16#32
  let v183 : BitVec 32 := Scalar.muli arg15 c16_i32_76
  let c1_i32_77 : BitVec 32 := 1#32
  let v184 : BitVec 32 := Scalar.addi v183 c1_i32_77
  let v185 : Index := Scalar.indexCast v184
  let c0_78 : Index := 0#32
  ![v185.toNat, 0]
def k1_off33 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_81 : BitVec 32 := 16#32
  let v194 : BitVec 32 := Scalar.muli arg15 c16_i32_81
  let c1_i32_82 : BitVec 32 := 1#32
  let v195 : BitVec 32 := Scalar.addi v194 c1_i32_82
  let v196 : Index := Scalar.indexCast v195
  let c16_83 : Index := 16#32
  ![v196.toNat, 16]
def k1_off34 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_86 : BitVec 32 := 16#32
  let v205 : BitVec 32 := Scalar.muli arg15 c16_i32_86
  let c1_i32_87 : BitVec 32 := 1#32
  let v206 : BitVec 32 := Scalar.addi v205 c1_i32_87
  let v207 : Index := Scalar.indexCast v206
  let c32_88 : Index := 32#32
  ![v207.toNat, 32]
def k1_off35 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_91 : BitVec 32 := 16#32
  let v216 : BitVec 32 := Scalar.muli arg15 c16_i32_91
  let c1_i32_92 : BitVec 32 := 1#32
  let v217 : BitVec 32 := Scalar.addi v216 c1_i32_92
  let v218 : Index := Scalar.indexCast v217
  let c48_93 : Index := 48#32
  ![v218.toNat, 48]
def k1_off36 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_96 : BitVec 32 := 16#32
  let v227 : BitVec 32 := Scalar.muli arg15 c16_i32_96
  let c1_i32_97 : BitVec 32 := 1#32
  let v228 : BitVec 32 := Scalar.addi v227 c1_i32_97
  let v229 : Index := Scalar.indexCast v228
  let c64_98 : Index := 64#32
  ![v229.toNat, 64]
def k1_off37 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_101 : BitVec 32 := 16#32
  let v238 : BitVec 32 := Scalar.muli arg15 c16_i32_101
  let c1_i32_102 : BitVec 32 := 1#32
  let v239 : BitVec 32 := Scalar.addi v238 c1_i32_102
  let v240 : Index := Scalar.indexCast v239
  let c80_103 : Index := 80#32
  ![v240.toNat, 80]
def k1_off38 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_106 : BitVec 32 := 16#32
  let v249 : BitVec 32 := Scalar.muli arg15 c16_i32_106
  let c1_i32_107 : BitVec 32 := 1#32
  let v250 : BitVec 32 := Scalar.addi v249 c1_i32_107
  let v251 : Index := Scalar.indexCast v250
  let c96_108 : Index := 96#32
  ![v251.toNat, 96]
def k1_off39 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_111 : BitVec 32 := 16#32
  let v260 : BitVec 32 := Scalar.muli arg15 c16_i32_111
  let c1_i32_112 : BitVec 32 := 1#32
  let v261 : BitVec 32 := Scalar.addi v260 c1_i32_112
  let v262 : Index := Scalar.indexCast v261
  let c112_113 : Index := 112#32
  ![v262.toNat, 112]
def k1_off40 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r4 : BitVec 32 := 0#32
  ![v1.toNat, v1600.toNat, 0]
def k1_cond5 (v270 : BitVec 32) (v272 : BitVec 32) : BitVec 1 :=
  let v273 : BitVec 1 := Scalar.cmpi .ne v270 v272
  let v274 : BitVec 32 := Scalar.extui v273
  let c0_i32_116 : BitVec 32 := 0#32
  let v275 : BitVec 1 := Scalar.cmpi .ne v274 c0_i32_116
  v275

def k1_chk3 (i : grid1.Coords) (v66 : BitVec 32) (v68 : BitVec 32) (v70 : BitVec 32) (v270 : BitVec 32) (v272 : BitVec 32) (v1600 : BitVec 32) : Prop :=
  (∀ (k1_h2 : k1_cond2 v66 v68 v70 = 1#1), ∀ (k1_h5 : k1_cond5 v270 v272 = 1#1), ∀ a, (k1_off40 i v1600) a + S1x1x128.size a ≤ S32x512x128.size a)
theorem k1_off40_inb : ∀ (i : grid1.Coords) (v66 : BitVec 32) (v68 : BitVec 32) (v70 : BitVec 32) (v270 : BitVec 32) (v272 : BitVec 32) (v1600 : BitVec 32) (k1_hw3 : k1_chk3 i v66 v68 v70 v270 v272 v1600), ∀ (k1_h2 : k1_cond2 v66 v68 v70 = 1#1), ∀ (k1_h5 : k1_cond5 v270 v272 = 1#1), ∀ a, (k1_off40 i v1600) a + S1x1x128.size a ≤ S32x512x128.size a := fun i v66 v68 v70 v270 v272 v1600 k1_hw3 k1_h2 k1_h5 => k1_hw3 k1_h2 k1_h5

def k1_off41 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_118 : BitVec 32 := 16#32
  let v278 : BitVec 32 := Scalar.muli arg15 c16_i32_118
  let c2_i32_119 : BitVec 32 := 2#32
  let v279 : BitVec 32 := Scalar.addi v278 c2_i32_119
  let v280 : Index := Scalar.indexCast v279
  let c0_120 : Index := 0#32
  ![v280.toNat, 0]
def k1_off42 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_123 : BitVec 32 := 16#32
  let v289 : BitVec 32 := Scalar.muli arg15 c16_i32_123
  let c2_i32_124 : BitVec 32 := 2#32
  let v290 : BitVec 32 := Scalar.addi v289 c2_i32_124
  let v291 : Index := Scalar.indexCast v290
  let c16_125 : Index := 16#32
  ![v291.toNat, 16]
def k1_off43 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_128 : BitVec 32 := 16#32
  let v300 : BitVec 32 := Scalar.muli arg15 c16_i32_128
  let c2_i32_129 : BitVec 32 := 2#32
  let v301 : BitVec 32 := Scalar.addi v300 c2_i32_129
  let v302 : Index := Scalar.indexCast v301
  let c32_130 : Index := 32#32
  ![v302.toNat, 32]
def k1_off44 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_133 : BitVec 32 := 16#32
  let v311 : BitVec 32 := Scalar.muli arg15 c16_i32_133
  let c2_i32_134 : BitVec 32 := 2#32
  let v312 : BitVec 32 := Scalar.addi v311 c2_i32_134
  let v313 : Index := Scalar.indexCast v312
  let c48_135 : Index := 48#32
  ![v313.toNat, 48]
def k1_off45 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_138 : BitVec 32 := 16#32
  let v322 : BitVec 32 := Scalar.muli arg15 c16_i32_138
  let c2_i32_139 : BitVec 32 := 2#32
  let v323 : BitVec 32 := Scalar.addi v322 c2_i32_139
  let v324 : Index := Scalar.indexCast v323
  let c64_140 : Index := 64#32
  ![v324.toNat, 64]
def k1_off46 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_143 : BitVec 32 := 16#32
  let v333 : BitVec 32 := Scalar.muli arg15 c16_i32_143
  let c2_i32_144 : BitVec 32 := 2#32
  let v334 : BitVec 32 := Scalar.addi v333 c2_i32_144
  let v335 : Index := Scalar.indexCast v334
  let c80_145 : Index := 80#32
  ![v335.toNat, 80]
def k1_off47 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_148 : BitVec 32 := 16#32
  let v344 : BitVec 32 := Scalar.muli arg15 c16_i32_148
  let c2_i32_149 : BitVec 32 := 2#32
  let v345 : BitVec 32 := Scalar.addi v344 c2_i32_149
  let v346 : Index := Scalar.indexCast v345
  let c96_150 : Index := 96#32
  ![v346.toNat, 96]
def k1_off48 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_153 : BitVec 32 := 16#32
  let v355 : BitVec 32 := Scalar.muli arg15 c16_i32_153
  let c2_i32_154 : BitVec 32 := 2#32
  let v356 : BitVec 32 := Scalar.addi v355 c2_i32_154
  let v357 : Index := Scalar.indexCast v356
  let c112_155 : Index := 112#32
  ![v357.toNat, 112]
def k1_off49 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r5 : BitVec 32 := 0#32
  ![v1.toNat, v1600.toNat, 0]
def k1_cond6 (v365 : BitVec 32) (v367 : BitVec 32) : BitVec 1 :=
  let v368 : BitVec 1 := Scalar.cmpi .ne v365 v367
  let v369 : BitVec 32 := Scalar.extui v368
  let c0_i32_158 : BitVec 32 := 0#32
  let v370 : BitVec 1 := Scalar.cmpi .ne v369 c0_i32_158
  v370

def k1_chk4 (i : grid1.Coords) (v66 : BitVec 32) (v68 : BitVec 32) (v70 : BitVec 32) (v365 : BitVec 32) (v367 : BitVec 32) (v1600 : BitVec 32) : Prop :=
  (∀ (k1_h2 : k1_cond2 v66 v68 v70 = 1#1), ∀ (k1_h6 : k1_cond6 v365 v367 = 1#1), ∀ a, (k1_off49 i v1600) a + S1x1x128.size a ≤ S32x512x128.size a)
theorem k1_off49_inb : ∀ (i : grid1.Coords) (v66 : BitVec 32) (v68 : BitVec 32) (v70 : BitVec 32) (v365 : BitVec 32) (v367 : BitVec 32) (v1600 : BitVec 32) (k1_hw4 : k1_chk4 i v66 v68 v70 v365 v367 v1600), ∀ (k1_h2 : k1_cond2 v66 v68 v70 = 1#1), ∀ (k1_h6 : k1_cond6 v365 v367 = 1#1), ∀ a, (k1_off49 i v1600) a + S1x1x128.size a ≤ S32x512x128.size a := fun i v66 v68 v70 v365 v367 v1600 k1_hw4 k1_h2 k1_h6 => k1_hw4 k1_h2 k1_h6

def k1_off50 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_160 : BitVec 32 := 16#32
  let v373 : BitVec 32 := Scalar.muli arg15 c16_i32_160
  let c3_i32 : BitVec 32 := 3#32
  let v374 : BitVec 32 := Scalar.addi v373 c3_i32
  let v375 : Index := Scalar.indexCast v374
  let c0_161 : Index := 0#32
  ![v375.toNat, 0]
def k1_off51 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_164 : BitVec 32 := 16#32
  let v384 : BitVec 32 := Scalar.muli arg15 c16_i32_164
  let c3_i32_165 : BitVec 32 := 3#32
  let v385 : BitVec 32 := Scalar.addi v384 c3_i32_165
  let v386 : Index := Scalar.indexCast v385
  let c16_166 : Index := 16#32
  ![v386.toNat, 16]
def k1_off52 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_169 : BitVec 32 := 16#32
  let v395 : BitVec 32 := Scalar.muli arg15 c16_i32_169
  let c3_i32_170 : BitVec 32 := 3#32
  let v396 : BitVec 32 := Scalar.addi v395 c3_i32_170
  let v397 : Index := Scalar.indexCast v396
  let c32_171 : Index := 32#32
  ![v397.toNat, 32]
def k1_off53 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_174 : BitVec 32 := 16#32
  let v406 : BitVec 32 := Scalar.muli arg15 c16_i32_174
  let c3_i32_175 : BitVec 32 := 3#32
  let v407 : BitVec 32 := Scalar.addi v406 c3_i32_175
  let v408 : Index := Scalar.indexCast v407
  let c48_176 : Index := 48#32
  ![v408.toNat, 48]
def k1_off54 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_179 : BitVec 32 := 16#32
  let v417 : BitVec 32 := Scalar.muli arg15 c16_i32_179
  let c3_i32_180 : BitVec 32 := 3#32
  let v418 : BitVec 32 := Scalar.addi v417 c3_i32_180
  let v419 : Index := Scalar.indexCast v418
  let c64_181 : Index := 64#32
  ![v419.toNat, 64]
def k1_off55 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_184 : BitVec 32 := 16#32
  let v428 : BitVec 32 := Scalar.muli arg15 c16_i32_184
  let c3_i32_185 : BitVec 32 := 3#32
  let v429 : BitVec 32 := Scalar.addi v428 c3_i32_185
  let v430 : Index := Scalar.indexCast v429
  let c80_186 : Index := 80#32
  ![v430.toNat, 80]
def k1_off56 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_189 : BitVec 32 := 16#32
  let v439 : BitVec 32 := Scalar.muli arg15 c16_i32_189
  let c3_i32_190 : BitVec 32 := 3#32
  let v440 : BitVec 32 := Scalar.addi v439 c3_i32_190
  let v441 : Index := Scalar.indexCast v440
  let c96_191 : Index := 96#32
  ![v441.toNat, 96]
def k1_off57 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_194 : BitVec 32 := 16#32
  let v450 : BitVec 32 := Scalar.muli arg15 c16_i32_194
  let c3_i32_195 : BitVec 32 := 3#32
  let v451 : BitVec 32 := Scalar.addi v450 c3_i32_195
  let v452 : Index := Scalar.indexCast v451
  let c112_196 : Index := 112#32
  ![v452.toNat, 112]
def k1_off58 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r6 : BitVec 32 := 0#32
  ![v1.toNat, v1600.toNat, 0]
def k1_cond7 (v460 : BitVec 32) (v462 : BitVec 32) : BitVec 1 :=
  let v463 : BitVec 1 := Scalar.cmpi .ne v460 v462
  let v464 : BitVec 32 := Scalar.extui v463
  let c0_i32_199 : BitVec 32 := 0#32
  let v465 : BitVec 1 := Scalar.cmpi .ne v464 c0_i32_199
  v465

def k1_chk5 (i : grid1.Coords) (v66 : BitVec 32) (v68 : BitVec 32) (v70 : BitVec 32) (v460 : BitVec 32) (v462 : BitVec 32) (v1600 : BitVec 32) : Prop :=
  (∀ (k1_h2 : k1_cond2 v66 v68 v70 = 1#1), ∀ (k1_h7 : k1_cond7 v460 v462 = 1#1), ∀ a, (k1_off58 i v1600) a + S1x1x128.size a ≤ S32x512x128.size a)
theorem k1_off58_inb : ∀ (i : grid1.Coords) (v66 : BitVec 32) (v68 : BitVec 32) (v70 : BitVec 32) (v460 : BitVec 32) (v462 : BitVec 32) (v1600 : BitVec 32) (k1_hw5 : k1_chk5 i v66 v68 v70 v460 v462 v1600), ∀ (k1_h2 : k1_cond2 v66 v68 v70 = 1#1), ∀ (k1_h7 : k1_cond7 v460 v462 = 1#1), ∀ a, (k1_off58 i v1600) a + S1x1x128.size a ≤ S32x512x128.size a := fun i v66 v68 v70 v460 v462 v1600 k1_hw5 k1_h2 k1_h7 => k1_hw5 k1_h2 k1_h7

def k1_off59 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_201 : BitVec 32 := 16#32
  let v468 : BitVec 32 := Scalar.muli arg15 c16_i32_201
  let c4_i32 : BitVec 32 := 4#32
  let v469 : BitVec 32 := Scalar.addi v468 c4_i32
  let v470 : Index := Scalar.indexCast v469
  let c0_202 : Index := 0#32
  ![v470.toNat, 0]
def k1_off60 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_205 : BitVec 32 := 16#32
  let v479 : BitVec 32 := Scalar.muli arg15 c16_i32_205
  let c4_i32_206 : BitVec 32 := 4#32
  let v480 : BitVec 32 := Scalar.addi v479 c4_i32_206
  let v481 : Index := Scalar.indexCast v480
  let c16_207 : Index := 16#32
  ![v481.toNat, 16]
def k1_off61 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_210 : BitVec 32 := 16#32
  let v490 : BitVec 32 := Scalar.muli arg15 c16_i32_210
  let c4_i32_211 : BitVec 32 := 4#32
  let v491 : BitVec 32 := Scalar.addi v490 c4_i32_211
  let v492 : Index := Scalar.indexCast v491
  let c32_212 : Index := 32#32
  ![v492.toNat, 32]
def k1_off62 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_215 : BitVec 32 := 16#32
  let v501 : BitVec 32 := Scalar.muli arg15 c16_i32_215
  let c4_i32_216 : BitVec 32 := 4#32
  let v502 : BitVec 32 := Scalar.addi v501 c4_i32_216
  let v503 : Index := Scalar.indexCast v502
  let c48_217 : Index := 48#32
  ![v503.toNat, 48]
def k1_off63 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_220 : BitVec 32 := 16#32
  let v512 : BitVec 32 := Scalar.muli arg15 c16_i32_220
  let c4_i32_221 : BitVec 32 := 4#32
  let v513 : BitVec 32 := Scalar.addi v512 c4_i32_221
  let v514 : Index := Scalar.indexCast v513
  let c64_222 : Index := 64#32
  ![v514.toNat, 64]
def k1_off64 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_225 : BitVec 32 := 16#32
  let v523 : BitVec 32 := Scalar.muli arg15 c16_i32_225
  let c4_i32_226 : BitVec 32 := 4#32
  let v524 : BitVec 32 := Scalar.addi v523 c4_i32_226
  let v525 : Index := Scalar.indexCast v524
  let c80_227 : Index := 80#32
  ![v525.toNat, 80]
def k1_off65 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_230 : BitVec 32 := 16#32
  let v534 : BitVec 32 := Scalar.muli arg15 c16_i32_230
  let c4_i32_231 : BitVec 32 := 4#32
  let v535 : BitVec 32 := Scalar.addi v534 c4_i32_231
  let v536 : Index := Scalar.indexCast v535
  let c96_232 : Index := 96#32
  ![v536.toNat, 96]
def k1_off66 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_235 : BitVec 32 := 16#32
  let v545 : BitVec 32 := Scalar.muli arg15 c16_i32_235
  let c4_i32_236 : BitVec 32 := 4#32
  let v546 : BitVec 32 := Scalar.addi v545 c4_i32_236
  let v547 : Index := Scalar.indexCast v546
  let c112_237 : Index := 112#32
  ![v547.toNat, 112]
def k1_off67 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r7 : BitVec 32 := 0#32
  ![v1.toNat, v1600.toNat, 0]
def k1_cond8 (v555 : BitVec 32) (v557 : BitVec 32) : BitVec 1 :=
  let v558 : BitVec 1 := Scalar.cmpi .ne v555 v557
  let v559 : BitVec 32 := Scalar.extui v558
  let c0_i32_240 : BitVec 32 := 0#32
  let v560 : BitVec 1 := Scalar.cmpi .ne v559 c0_i32_240
  v560

def k1_chk6 (i : grid1.Coords) (v66 : BitVec 32) (v68 : BitVec 32) (v70 : BitVec 32) (v555 : BitVec 32) (v557 : BitVec 32) (v1600 : BitVec 32) : Prop :=
  (∀ (k1_h2 : k1_cond2 v66 v68 v70 = 1#1), ∀ (k1_h8 : k1_cond8 v555 v557 = 1#1), ∀ a, (k1_off67 i v1600) a + S1x1x128.size a ≤ S32x512x128.size a)
theorem k1_off67_inb : ∀ (i : grid1.Coords) (v66 : BitVec 32) (v68 : BitVec 32) (v70 : BitVec 32) (v555 : BitVec 32) (v557 : BitVec 32) (v1600 : BitVec 32) (k1_hw6 : k1_chk6 i v66 v68 v70 v555 v557 v1600), ∀ (k1_h2 : k1_cond2 v66 v68 v70 = 1#1), ∀ (k1_h8 : k1_cond8 v555 v557 = 1#1), ∀ a, (k1_off67 i v1600) a + S1x1x128.size a ≤ S32x512x128.size a := fun i v66 v68 v70 v555 v557 v1600 k1_hw6 k1_h2 k1_h8 => k1_hw6 k1_h2 k1_h8

def k1_off68 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_242 : BitVec 32 := 16#32
  let v563 : BitVec 32 := Scalar.muli arg15 c16_i32_242
  let c5_i32 : BitVec 32 := 5#32
  let v564 : BitVec 32 := Scalar.addi v563 c5_i32
  let v565 : Index := Scalar.indexCast v564
  let c0_243 : Index := 0#32
  ![v565.toNat, 0]
def k1_off69 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_246 : BitVec 32 := 16#32
  let v574 : BitVec 32 := Scalar.muli arg15 c16_i32_246
  let c5_i32_247 : BitVec 32 := 5#32
  let v575 : BitVec 32 := Scalar.addi v574 c5_i32_247
  let v576 : Index := Scalar.indexCast v575
  let c16_248 : Index := 16#32
  ![v576.toNat, 16]
def k1_off70 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_251 : BitVec 32 := 16#32
  let v585 : BitVec 32 := Scalar.muli arg15 c16_i32_251
  let c5_i32_252 : BitVec 32 := 5#32
  let v586 : BitVec 32 := Scalar.addi v585 c5_i32_252
  let v587 : Index := Scalar.indexCast v586
  let c32_253 : Index := 32#32
  ![v587.toNat, 32]
def k1_off71 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_256 : BitVec 32 := 16#32
  let v596 : BitVec 32 := Scalar.muli arg15 c16_i32_256
  let c5_i32_257 : BitVec 32 := 5#32
  let v597 : BitVec 32 := Scalar.addi v596 c5_i32_257
  let v598 : Index := Scalar.indexCast v597
  let c48_258 : Index := 48#32
  ![v598.toNat, 48]
def k1_off72 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_261 : BitVec 32 := 16#32
  let v607 : BitVec 32 := Scalar.muli arg15 c16_i32_261
  let c5_i32_262 : BitVec 32 := 5#32
  let v608 : BitVec 32 := Scalar.addi v607 c5_i32_262
  let v609 : Index := Scalar.indexCast v608
  let c64_263 : Index := 64#32
  ![v609.toNat, 64]
def k1_off73 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_266 : BitVec 32 := 16#32
  let v618 : BitVec 32 := Scalar.muli arg15 c16_i32_266
  let c5_i32_267 : BitVec 32 := 5#32
  let v619 : BitVec 32 := Scalar.addi v618 c5_i32_267
  let v620 : Index := Scalar.indexCast v619
  let c80_268 : Index := 80#32
  ![v620.toNat, 80]
def k1_off74 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_271 : BitVec 32 := 16#32
  let v629 : BitVec 32 := Scalar.muli arg15 c16_i32_271
  let c5_i32_272 : BitVec 32 := 5#32
  let v630 : BitVec 32 := Scalar.addi v629 c5_i32_272
  let v631 : Index := Scalar.indexCast v630
  let c96_273 : Index := 96#32
  ![v631.toNat, 96]
def k1_off75 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_276 : BitVec 32 := 16#32
  let v640 : BitVec 32 := Scalar.muli arg15 c16_i32_276
  let c5_i32_277 : BitVec 32 := 5#32
  let v641 : BitVec 32 := Scalar.addi v640 c5_i32_277
  let v642 : Index := Scalar.indexCast v641
  let c112_278 : Index := 112#32
  ![v642.toNat, 112]
def k1_off76 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r8 : BitVec 32 := 0#32
  ![v1.toNat, v1600.toNat, 0]
def k1_cond9 (v650 : BitVec 32) (v652 : BitVec 32) : BitVec 1 :=
  let v653 : BitVec 1 := Scalar.cmpi .ne v650 v652
  let v654 : BitVec 32 := Scalar.extui v653
  let c0_i32_281 : BitVec 32 := 0#32
  let v655 : BitVec 1 := Scalar.cmpi .ne v654 c0_i32_281
  v655

def k1_chk7 (i : grid1.Coords) (v66 : BitVec 32) (v68 : BitVec 32) (v70 : BitVec 32) (v650 : BitVec 32) (v652 : BitVec 32) (v1600 : BitVec 32) : Prop :=
  (∀ (k1_h2 : k1_cond2 v66 v68 v70 = 1#1), ∀ (k1_h9 : k1_cond9 v650 v652 = 1#1), ∀ a, (k1_off76 i v1600) a + S1x1x128.size a ≤ S32x512x128.size a)
theorem k1_off76_inb : ∀ (i : grid1.Coords) (v66 : BitVec 32) (v68 : BitVec 32) (v70 : BitVec 32) (v650 : BitVec 32) (v652 : BitVec 32) (v1600 : BitVec 32) (k1_hw7 : k1_chk7 i v66 v68 v70 v650 v652 v1600), ∀ (k1_h2 : k1_cond2 v66 v68 v70 = 1#1), ∀ (k1_h9 : k1_cond9 v650 v652 = 1#1), ∀ a, (k1_off76 i v1600) a + S1x1x128.size a ≤ S32x512x128.size a := fun i v66 v68 v70 v650 v652 v1600 k1_hw7 k1_h2 k1_h9 => k1_hw7 k1_h2 k1_h9

def k1_off77 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_283 : BitVec 32 := 16#32
  let v658 : BitVec 32 := Scalar.muli arg15 c16_i32_283
  let c6_i32 : BitVec 32 := 6#32
  let v659 : BitVec 32 := Scalar.addi v658 c6_i32
  let v660 : Index := Scalar.indexCast v659
  let c0_284 : Index := 0#32
  ![v660.toNat, 0]
def k1_off78 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_287 : BitVec 32 := 16#32
  let v669 : BitVec 32 := Scalar.muli arg15 c16_i32_287
  let c6_i32_288 : BitVec 32 := 6#32
  let v670 : BitVec 32 := Scalar.addi v669 c6_i32_288
  let v671 : Index := Scalar.indexCast v670
  let c16_289 : Index := 16#32
  ![v671.toNat, 16]
def k1_off79 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_292 : BitVec 32 := 16#32
  let v680 : BitVec 32 := Scalar.muli arg15 c16_i32_292
  let c6_i32_293 : BitVec 32 := 6#32
  let v681 : BitVec 32 := Scalar.addi v680 c6_i32_293
  let v682 : Index := Scalar.indexCast v681
  let c32_294 : Index := 32#32
  ![v682.toNat, 32]
def k1_off80 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_297 : BitVec 32 := 16#32
  let v691 : BitVec 32 := Scalar.muli arg15 c16_i32_297
  let c6_i32_298 : BitVec 32 := 6#32
  let v692 : BitVec 32 := Scalar.addi v691 c6_i32_298
  let v693 : Index := Scalar.indexCast v692
  let c48_299 : Index := 48#32
  ![v693.toNat, 48]
def k1_off81 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_302 : BitVec 32 := 16#32
  let v702 : BitVec 32 := Scalar.muli arg15 c16_i32_302
  let c6_i32_303 : BitVec 32 := 6#32
  let v703 : BitVec 32 := Scalar.addi v702 c6_i32_303
  let v704 : Index := Scalar.indexCast v703
  let c64_304 : Index := 64#32
  ![v704.toNat, 64]
def k1_off82 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_307 : BitVec 32 := 16#32
  let v713 : BitVec 32 := Scalar.muli arg15 c16_i32_307
  let c6_i32_308 : BitVec 32 := 6#32
  let v714 : BitVec 32 := Scalar.addi v713 c6_i32_308
  let v715 : Index := Scalar.indexCast v714
  let c80_309 : Index := 80#32
  ![v715.toNat, 80]
def k1_off83 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_312 : BitVec 32 := 16#32
  let v724 : BitVec 32 := Scalar.muli arg15 c16_i32_312
  let c6_i32_313 : BitVec 32 := 6#32
  let v725 : BitVec 32 := Scalar.addi v724 c6_i32_313
  let v726 : Index := Scalar.indexCast v725
  let c96_314 : Index := 96#32
  ![v726.toNat, 96]
def k1_off84 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_317 : BitVec 32 := 16#32
  let v735 : BitVec 32 := Scalar.muli arg15 c16_i32_317
  let c6_i32_318 : BitVec 32 := 6#32
  let v736 : BitVec 32 := Scalar.addi v735 c6_i32_318
  let v737 : Index := Scalar.indexCast v736
  let c112_319 : Index := 112#32
  ![v737.toNat, 112]
def k1_off85 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r9 : BitVec 32 := 0#32
  ![v1.toNat, v1600.toNat, 0]
def k1_cond10 (v745 : BitVec 32) (v747 : BitVec 32) : BitVec 1 :=
  let v748 : BitVec 1 := Scalar.cmpi .ne v745 v747
  let v749 : BitVec 32 := Scalar.extui v748
  let c0_i32_322 : BitVec 32 := 0#32
  let v750 : BitVec 1 := Scalar.cmpi .ne v749 c0_i32_322
  v750

def k1_chk8 (i : grid1.Coords) (v66 : BitVec 32) (v68 : BitVec 32) (v70 : BitVec 32) (v745 : BitVec 32) (v747 : BitVec 32) (v1600 : BitVec 32) : Prop :=
  (∀ (k1_h2 : k1_cond2 v66 v68 v70 = 1#1), ∀ (k1_h10 : k1_cond10 v745 v747 = 1#1), ∀ a, (k1_off85 i v1600) a + S1x1x128.size a ≤ S32x512x128.size a)
theorem k1_off85_inb : ∀ (i : grid1.Coords) (v66 : BitVec 32) (v68 : BitVec 32) (v70 : BitVec 32) (v745 : BitVec 32) (v747 : BitVec 32) (v1600 : BitVec 32) (k1_hw8 : k1_chk8 i v66 v68 v70 v745 v747 v1600), ∀ (k1_h2 : k1_cond2 v66 v68 v70 = 1#1), ∀ (k1_h10 : k1_cond10 v745 v747 = 1#1), ∀ a, (k1_off85 i v1600) a + S1x1x128.size a ≤ S32x512x128.size a := fun i v66 v68 v70 v745 v747 v1600 k1_hw8 k1_h2 k1_h10 => k1_hw8 k1_h2 k1_h10

def k1_off86 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_324 : BitVec 32 := 16#32
  let v753 : BitVec 32 := Scalar.muli arg15 c16_i32_324
  let c7_i32 : BitVec 32 := 7#32
  let v754 : BitVec 32 := Scalar.addi v753 c7_i32
  let v755 : Index := Scalar.indexCast v754
  let c0_325 : Index := 0#32
  ![v755.toNat, 0]
def k1_off87 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_328 : BitVec 32 := 16#32
  let v764 : BitVec 32 := Scalar.muli arg15 c16_i32_328
  let c7_i32_329 : BitVec 32 := 7#32
  let v765 : BitVec 32 := Scalar.addi v764 c7_i32_329
  let v766 : Index := Scalar.indexCast v765
  let c16_330 : Index := 16#32
  ![v766.toNat, 16]
def k1_off88 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_333 : BitVec 32 := 16#32
  let v775 : BitVec 32 := Scalar.muli arg15 c16_i32_333
  let c7_i32_334 : BitVec 32 := 7#32
  let v776 : BitVec 32 := Scalar.addi v775 c7_i32_334
  let v777 : Index := Scalar.indexCast v776
  let c32_335 : Index := 32#32
  ![v777.toNat, 32]
def k1_off89 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_338 : BitVec 32 := 16#32
  let v786 : BitVec 32 := Scalar.muli arg15 c16_i32_338
  let c7_i32_339 : BitVec 32 := 7#32
  let v787 : BitVec 32 := Scalar.addi v786 c7_i32_339
  let v788 : Index := Scalar.indexCast v787
  let c48_340 : Index := 48#32
  ![v788.toNat, 48]
def k1_off90 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_343 : BitVec 32 := 16#32
  let v797 : BitVec 32 := Scalar.muli arg15 c16_i32_343
  let c7_i32_344 : BitVec 32 := 7#32
  let v798 : BitVec 32 := Scalar.addi v797 c7_i32_344
  let v799 : Index := Scalar.indexCast v798
  let c64_345 : Index := 64#32
  ![v799.toNat, 64]
def k1_off91 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_348 : BitVec 32 := 16#32
  let v808 : BitVec 32 := Scalar.muli arg15 c16_i32_348
  let c7_i32_349 : BitVec 32 := 7#32
  let v809 : BitVec 32 := Scalar.addi v808 c7_i32_349
  let v810 : Index := Scalar.indexCast v809
  let c80_350 : Index := 80#32
  ![v810.toNat, 80]
def k1_off92 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_353 : BitVec 32 := 16#32
  let v819 : BitVec 32 := Scalar.muli arg15 c16_i32_353
  let c7_i32_354 : BitVec 32 := 7#32
  let v820 : BitVec 32 := Scalar.addi v819 c7_i32_354
  let v821 : Index := Scalar.indexCast v820
  let c96_355 : Index := 96#32
  ![v821.toNat, 96]
def k1_off93 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_358 : BitVec 32 := 16#32
  let v830 : BitVec 32 := Scalar.muli arg15 c16_i32_358
  let c7_i32_359 : BitVec 32 := 7#32
  let v831 : BitVec 32 := Scalar.addi v830 c7_i32_359
  let v832 : Index := Scalar.indexCast v831
  let c112_360 : Index := 112#32
  ![v832.toNat, 112]
def k1_off94 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r10 : BitVec 32 := 0#32
  ![v1.toNat, v1600.toNat, 0]
def k1_cond11 (v840 : BitVec 32) (v842 : BitVec 32) : BitVec 1 :=
  let v843 : BitVec 1 := Scalar.cmpi .ne v840 v842
  let v844 : BitVec 32 := Scalar.extui v843
  let c0_i32_363 : BitVec 32 := 0#32
  let v845 : BitVec 1 := Scalar.cmpi .ne v844 c0_i32_363
  v845

def k1_chk9 (i : grid1.Coords) (v66 : BitVec 32) (v68 : BitVec 32) (v70 : BitVec 32) (v840 : BitVec 32) (v842 : BitVec 32) (v1600 : BitVec 32) : Prop :=
  (∀ (k1_h2 : k1_cond2 v66 v68 v70 = 1#1), ∀ (k1_h11 : k1_cond11 v840 v842 = 1#1), ∀ a, (k1_off94 i v1600) a + S1x1x128.size a ≤ S32x512x128.size a)
theorem k1_off94_inb : ∀ (i : grid1.Coords) (v66 : BitVec 32) (v68 : BitVec 32) (v70 : BitVec 32) (v840 : BitVec 32) (v842 : BitVec 32) (v1600 : BitVec 32) (k1_hw9 : k1_chk9 i v66 v68 v70 v840 v842 v1600), ∀ (k1_h2 : k1_cond2 v66 v68 v70 = 1#1), ∀ (k1_h11 : k1_cond11 v840 v842 = 1#1), ∀ a, (k1_off94 i v1600) a + S1x1x128.size a ≤ S32x512x128.size a := fun i v66 v68 v70 v840 v842 v1600 k1_hw9 k1_h2 k1_h11 => k1_hw9 k1_h2 k1_h11

def k1_off95 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_365 : BitVec 32 := 16#32
  let v848 : BitVec 32 := Scalar.muli arg15 c16_i32_365
  let c8_i32 : BitVec 32 := 8#32
  let v849 : BitVec 32 := Scalar.addi v848 c8_i32
  let v850 : Index := Scalar.indexCast v849
  let c0_366 : Index := 0#32
  ![v850.toNat, 0]
def k1_off96 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_369 : BitVec 32 := 16#32
  let v859 : BitVec 32 := Scalar.muli arg15 c16_i32_369
  let c8_i32_370 : BitVec 32 := 8#32
  let v860 : BitVec 32 := Scalar.addi v859 c8_i32_370
  let v861 : Index := Scalar.indexCast v860
  let c16_371 : Index := 16#32
  ![v861.toNat, 16]
def k1_off97 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_374 : BitVec 32 := 16#32
  let v870 : BitVec 32 := Scalar.muli arg15 c16_i32_374
  let c8_i32_375 : BitVec 32 := 8#32
  let v871 : BitVec 32 := Scalar.addi v870 c8_i32_375
  let v872 : Index := Scalar.indexCast v871
  let c32_376 : Index := 32#32
  ![v872.toNat, 32]
def k1_off98 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_379 : BitVec 32 := 16#32
  let v881 : BitVec 32 := Scalar.muli arg15 c16_i32_379
  let c8_i32_380 : BitVec 32 := 8#32
  let v882 : BitVec 32 := Scalar.addi v881 c8_i32_380
  let v883 : Index := Scalar.indexCast v882
  let c48_381 : Index := 48#32
  ![v883.toNat, 48]
def k1_off99 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_384 : BitVec 32 := 16#32
  let v892 : BitVec 32 := Scalar.muli arg15 c16_i32_384
  let c8_i32_385 : BitVec 32 := 8#32
  let v893 : BitVec 32 := Scalar.addi v892 c8_i32_385
  let v894 : Index := Scalar.indexCast v893
  let c64_386 : Index := 64#32
  ![v894.toNat, 64]
def k1_off100 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_389 : BitVec 32 := 16#32
  let v903 : BitVec 32 := Scalar.muli arg15 c16_i32_389
  let c8_i32_390 : BitVec 32 := 8#32
  let v904 : BitVec 32 := Scalar.addi v903 c8_i32_390
  let v905 : Index := Scalar.indexCast v904
  let c80_391 : Index := 80#32
  ![v905.toNat, 80]
def k1_off101 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_394 : BitVec 32 := 16#32
  let v914 : BitVec 32 := Scalar.muli arg15 c16_i32_394
  let c8_i32_395 : BitVec 32 := 8#32
  let v915 : BitVec 32 := Scalar.addi v914 c8_i32_395
  let v916 : Index := Scalar.indexCast v915
  let c96_396 : Index := 96#32
  ![v916.toNat, 96]
def k1_off102 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_399 : BitVec 32 := 16#32
  let v925 : BitVec 32 := Scalar.muli arg15 c16_i32_399
  let c8_i32_400 : BitVec 32 := 8#32
  let v926 : BitVec 32 := Scalar.addi v925 c8_i32_400
  let v927 : Index := Scalar.indexCast v926
  let c112_401 : Index := 112#32
  ![v927.toNat, 112]
def k1_off103 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r11 : BitVec 32 := 0#32
  ![v1.toNat, v1600.toNat, 0]
def k1_cond12 (v935 : BitVec 32) (v937 : BitVec 32) : BitVec 1 :=
  let v938 : BitVec 1 := Scalar.cmpi .ne v935 v937
  let v939 : BitVec 32 := Scalar.extui v938
  let c0_i32_404 : BitVec 32 := 0#32
  let v940 : BitVec 1 := Scalar.cmpi .ne v939 c0_i32_404
  v940

def k1_chk10 (i : grid1.Coords) (v66 : BitVec 32) (v68 : BitVec 32) (v70 : BitVec 32) (v935 : BitVec 32) (v937 : BitVec 32) (v1600 : BitVec 32) : Prop :=
  (∀ (k1_h2 : k1_cond2 v66 v68 v70 = 1#1), ∀ (k1_h12 : k1_cond12 v935 v937 = 1#1), ∀ a, (k1_off103 i v1600) a + S1x1x128.size a ≤ S32x512x128.size a)
theorem k1_off103_inb : ∀ (i : grid1.Coords) (v66 : BitVec 32) (v68 : BitVec 32) (v70 : BitVec 32) (v935 : BitVec 32) (v937 : BitVec 32) (v1600 : BitVec 32) (k1_hw10 : k1_chk10 i v66 v68 v70 v935 v937 v1600), ∀ (k1_h2 : k1_cond2 v66 v68 v70 = 1#1), ∀ (k1_h12 : k1_cond12 v935 v937 = 1#1), ∀ a, (k1_off103 i v1600) a + S1x1x128.size a ≤ S32x512x128.size a := fun i v66 v68 v70 v935 v937 v1600 k1_hw10 k1_h2 k1_h12 => k1_hw10 k1_h2 k1_h12

def k1_off104 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_406 : BitVec 32 := 16#32
  let v943 : BitVec 32 := Scalar.muli arg15 c16_i32_406
  let c9_i32 : BitVec 32 := 9#32
  let v944 : BitVec 32 := Scalar.addi v943 c9_i32
  let v945 : Index := Scalar.indexCast v944
  let c0_407 : Index := 0#32
  ![v945.toNat, 0]
def k1_off105 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_410 : BitVec 32 := 16#32
  let v954 : BitVec 32 := Scalar.muli arg15 c16_i32_410
  let c9_i32_411 : BitVec 32 := 9#32
  let v955 : BitVec 32 := Scalar.addi v954 c9_i32_411
  let v956 : Index := Scalar.indexCast v955
  let c16_412 : Index := 16#32
  ![v956.toNat, 16]
def k1_off106 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_415 : BitVec 32 := 16#32
  let v965 : BitVec 32 := Scalar.muli arg15 c16_i32_415
  let c9_i32_416 : BitVec 32 := 9#32
  let v966 : BitVec 32 := Scalar.addi v965 c9_i32_416
  let v967 : Index := Scalar.indexCast v966
  let c32_417 : Index := 32#32
  ![v967.toNat, 32]
def k1_off107 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_420 : BitVec 32 := 16#32
  let v976 : BitVec 32 := Scalar.muli arg15 c16_i32_420
  let c9_i32_421 : BitVec 32 := 9#32
  let v977 : BitVec 32 := Scalar.addi v976 c9_i32_421
  let v978 : Index := Scalar.indexCast v977
  let c48_422 : Index := 48#32
  ![v978.toNat, 48]
def k1_off108 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_425 : BitVec 32 := 16#32
  let v987 : BitVec 32 := Scalar.muli arg15 c16_i32_425
  let c9_i32_426 : BitVec 32 := 9#32
  let v988 : BitVec 32 := Scalar.addi v987 c9_i32_426
  let v989 : Index := Scalar.indexCast v988
  let c64_427 : Index := 64#32
  ![v989.toNat, 64]
def k1_off109 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_430 : BitVec 32 := 16#32
  let v998 : BitVec 32 := Scalar.muli arg15 c16_i32_430
  let c9_i32_431 : BitVec 32 := 9#32
  let v999 : BitVec 32 := Scalar.addi v998 c9_i32_431
  let v1000 : Index := Scalar.indexCast v999
  let c80_432 : Index := 80#32
  ![v1000.toNat, 80]
def k1_off110 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_435 : BitVec 32 := 16#32
  let v1009 : BitVec 32 := Scalar.muli arg15 c16_i32_435
  let c9_i32_436 : BitVec 32 := 9#32
  let v1010 : BitVec 32 := Scalar.addi v1009 c9_i32_436
  let v1011 : Index := Scalar.indexCast v1010
  let c96_437 : Index := 96#32
  ![v1011.toNat, 96]
def k1_off111 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_440 : BitVec 32 := 16#32
  let v1020 : BitVec 32 := Scalar.muli arg15 c16_i32_440
  let c9_i32_441 : BitVec 32 := 9#32
  let v1021 : BitVec 32 := Scalar.addi v1020 c9_i32_441
  let v1022 : Index := Scalar.indexCast v1021
  let c112_442 : Index := 112#32
  ![v1022.toNat, 112]
def k1_off112 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r12 : BitVec 32 := 0#32
  ![v1.toNat, v1600.toNat, 0]
def k1_cond13 (v1030 : BitVec 32) (v1032 : BitVec 32) : BitVec 1 :=
  let v1033 : BitVec 1 := Scalar.cmpi .ne v1030 v1032
  let v1034 : BitVec 32 := Scalar.extui v1033
  let c0_i32_445 : BitVec 32 := 0#32
  let v1035 : BitVec 1 := Scalar.cmpi .ne v1034 c0_i32_445
  v1035

def k1_chk11 (i : grid1.Coords) (v66 : BitVec 32) (v68 : BitVec 32) (v70 : BitVec 32) (v1030 : BitVec 32) (v1032 : BitVec 32) (v1600 : BitVec 32) : Prop :=
  (∀ (k1_h2 : k1_cond2 v66 v68 v70 = 1#1), ∀ (k1_h13 : k1_cond13 v1030 v1032 = 1#1), ∀ a, (k1_off112 i v1600) a + S1x1x128.size a ≤ S32x512x128.size a)
theorem k1_off112_inb : ∀ (i : grid1.Coords) (v66 : BitVec 32) (v68 : BitVec 32) (v70 : BitVec 32) (v1030 : BitVec 32) (v1032 : BitVec 32) (v1600 : BitVec 32) (k1_hw11 : k1_chk11 i v66 v68 v70 v1030 v1032 v1600), ∀ (k1_h2 : k1_cond2 v66 v68 v70 = 1#1), ∀ (k1_h13 : k1_cond13 v1030 v1032 = 1#1), ∀ a, (k1_off112 i v1600) a + S1x1x128.size a ≤ S32x512x128.size a := fun i v66 v68 v70 v1030 v1032 v1600 k1_hw11 k1_h2 k1_h13 => k1_hw11 k1_h2 k1_h13

def k1_off113 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_447 : BitVec 32 := 16#32
  let v1038 : BitVec 32 := Scalar.muli arg15 c16_i32_447
  let c10_i32 : BitVec 32 := 10#32
  let v1039 : BitVec 32 := Scalar.addi v1038 c10_i32
  let v1040 : Index := Scalar.indexCast v1039
  let c0_448 : Index := 0#32
  ![v1040.toNat, 0]
def k1_off114 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_451 : BitVec 32 := 16#32
  let v1049 : BitVec 32 := Scalar.muli arg15 c16_i32_451
  let c10_i32_452 : BitVec 32 := 10#32
  let v1050 : BitVec 32 := Scalar.addi v1049 c10_i32_452
  let v1051 : Index := Scalar.indexCast v1050
  let c16_453 : Index := 16#32
  ![v1051.toNat, 16]
def k1_off115 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_456 : BitVec 32 := 16#32
  let v1060 : BitVec 32 := Scalar.muli arg15 c16_i32_456
  let c10_i32_457 : BitVec 32 := 10#32
  let v1061 : BitVec 32 := Scalar.addi v1060 c10_i32_457
  let v1062 : Index := Scalar.indexCast v1061
  let c32_458 : Index := 32#32
  ![v1062.toNat, 32]
def k1_off116 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_461 : BitVec 32 := 16#32
  let v1071 : BitVec 32 := Scalar.muli arg15 c16_i32_461
  let c10_i32_462 : BitVec 32 := 10#32
  let v1072 : BitVec 32 := Scalar.addi v1071 c10_i32_462
  let v1073 : Index := Scalar.indexCast v1072
  let c48_463 : Index := 48#32
  ![v1073.toNat, 48]
def k1_off117 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_466 : BitVec 32 := 16#32
  let v1082 : BitVec 32 := Scalar.muli arg15 c16_i32_466
  let c10_i32_467 : BitVec 32 := 10#32
  let v1083 : BitVec 32 := Scalar.addi v1082 c10_i32_467
  let v1084 : Index := Scalar.indexCast v1083
  let c64_468 : Index := 64#32
  ![v1084.toNat, 64]
def k1_off118 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_471 : BitVec 32 := 16#32
  let v1093 : BitVec 32 := Scalar.muli arg15 c16_i32_471
  let c10_i32_472 : BitVec 32 := 10#32
  let v1094 : BitVec 32 := Scalar.addi v1093 c10_i32_472
  let v1095 : Index := Scalar.indexCast v1094
  let c80_473 : Index := 80#32
  ![v1095.toNat, 80]
def k1_off119 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_476 : BitVec 32 := 16#32
  let v1104 : BitVec 32 := Scalar.muli arg15 c16_i32_476
  let c10_i32_477 : BitVec 32 := 10#32
  let v1105 : BitVec 32 := Scalar.addi v1104 c10_i32_477
  let v1106 : Index := Scalar.indexCast v1105
  let c96_478 : Index := 96#32
  ![v1106.toNat, 96]
def k1_off120 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_481 : BitVec 32 := 16#32
  let v1115 : BitVec 32 := Scalar.muli arg15 c16_i32_481
  let c10_i32_482 : BitVec 32 := 10#32
  let v1116 : BitVec 32 := Scalar.addi v1115 c10_i32_482
  let v1117 : Index := Scalar.indexCast v1116
  let c112_483 : Index := 112#32
  ![v1117.toNat, 112]
def k1_off121 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r13 : BitVec 32 := 0#32
  ![v1.toNat, v1600.toNat, 0]
def k1_cond14 (v1125 : BitVec 32) (v1127 : BitVec 32) : BitVec 1 :=
  let v1128 : BitVec 1 := Scalar.cmpi .ne v1125 v1127
  let v1129 : BitVec 32 := Scalar.extui v1128
  let c0_i32_486 : BitVec 32 := 0#32
  let v1130 : BitVec 1 := Scalar.cmpi .ne v1129 c0_i32_486
  v1130

def k1_chk12 (i : grid1.Coords) (v66 : BitVec 32) (v68 : BitVec 32) (v70 : BitVec 32) (v1125 : BitVec 32) (v1127 : BitVec 32) (v1600 : BitVec 32) : Prop :=
  (∀ (k1_h2 : k1_cond2 v66 v68 v70 = 1#1), ∀ (k1_h14 : k1_cond14 v1125 v1127 = 1#1), ∀ a, (k1_off121 i v1600) a + S1x1x128.size a ≤ S32x512x128.size a)
theorem k1_off121_inb : ∀ (i : grid1.Coords) (v66 : BitVec 32) (v68 : BitVec 32) (v70 : BitVec 32) (v1125 : BitVec 32) (v1127 : BitVec 32) (v1600 : BitVec 32) (k1_hw12 : k1_chk12 i v66 v68 v70 v1125 v1127 v1600), ∀ (k1_h2 : k1_cond2 v66 v68 v70 = 1#1), ∀ (k1_h14 : k1_cond14 v1125 v1127 = 1#1), ∀ a, (k1_off121 i v1600) a + S1x1x128.size a ≤ S32x512x128.size a := fun i v66 v68 v70 v1125 v1127 v1600 k1_hw12 k1_h2 k1_h14 => k1_hw12 k1_h2 k1_h14

def k1_off122 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_488 : BitVec 32 := 16#32
  let v1133 : BitVec 32 := Scalar.muli arg15 c16_i32_488
  let c11_i32 : BitVec 32 := 11#32
  let v1134 : BitVec 32 := Scalar.addi v1133 c11_i32
  let v1135 : Index := Scalar.indexCast v1134
  let c0_489 : Index := 0#32
  ![v1135.toNat, 0]
def k1_off123 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_492 : BitVec 32 := 16#32
  let v1144 : BitVec 32 := Scalar.muli arg15 c16_i32_492
  let c11_i32_493 : BitVec 32 := 11#32
  let v1145 : BitVec 32 := Scalar.addi v1144 c11_i32_493
  let v1146 : Index := Scalar.indexCast v1145
  let c16_494 : Index := 16#32
  ![v1146.toNat, 16]
def k1_off124 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_497 : BitVec 32 := 16#32
  let v1155 : BitVec 32 := Scalar.muli arg15 c16_i32_497
  let c11_i32_498 : BitVec 32 := 11#32
  let v1156 : BitVec 32 := Scalar.addi v1155 c11_i32_498
  let v1157 : Index := Scalar.indexCast v1156
  let c32_499 : Index := 32#32
  ![v1157.toNat, 32]
def k1_off125 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_502 : BitVec 32 := 16#32
  let v1166 : BitVec 32 := Scalar.muli arg15 c16_i32_502
  let c11_i32_503 : BitVec 32 := 11#32
  let v1167 : BitVec 32 := Scalar.addi v1166 c11_i32_503
  let v1168 : Index := Scalar.indexCast v1167
  let c48_504 : Index := 48#32
  ![v1168.toNat, 48]
def k1_off126 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_507 : BitVec 32 := 16#32
  let v1177 : BitVec 32 := Scalar.muli arg15 c16_i32_507
  let c11_i32_508 : BitVec 32 := 11#32
  let v1178 : BitVec 32 := Scalar.addi v1177 c11_i32_508
  let v1179 : Index := Scalar.indexCast v1178
  let c64_509 : Index := 64#32
  ![v1179.toNat, 64]
def k1_off127 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_512 : BitVec 32 := 16#32
  let v1188 : BitVec 32 := Scalar.muli arg15 c16_i32_512
  let c11_i32_513 : BitVec 32 := 11#32
  let v1189 : BitVec 32 := Scalar.addi v1188 c11_i32_513
  let v1190 : Index := Scalar.indexCast v1189
  let c80_514 : Index := 80#32
  ![v1190.toNat, 80]
def k1_off128 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_517 : BitVec 32 := 16#32
  let v1199 : BitVec 32 := Scalar.muli arg15 c16_i32_517
  let c11_i32_518 : BitVec 32 := 11#32
  let v1200 : BitVec 32 := Scalar.addi v1199 c11_i32_518
  let v1201 : Index := Scalar.indexCast v1200
  let c96_519 : Index := 96#32
  ![v1201.toNat, 96]
def k1_off129 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_522 : BitVec 32 := 16#32
  let v1210 : BitVec 32 := Scalar.muli arg15 c16_i32_522
  let c11_i32_523 : BitVec 32 := 11#32
  let v1211 : BitVec 32 := Scalar.addi v1210 c11_i32_523
  let v1212 : Index := Scalar.indexCast v1211
  let c112_524 : Index := 112#32
  ![v1212.toNat, 112]
def k1_off130 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r14 : BitVec 32 := 0#32
  ![v1.toNat, v1600.toNat, 0]
def k1_cond15 (v1220 : BitVec 32) (v1222 : BitVec 32) : BitVec 1 :=
  let v1223 : BitVec 1 := Scalar.cmpi .ne v1220 v1222
  let v1224 : BitVec 32 := Scalar.extui v1223
  let c0_i32_527 : BitVec 32 := 0#32
  let v1225 : BitVec 1 := Scalar.cmpi .ne v1224 c0_i32_527
  v1225

def k1_chk13 (i : grid1.Coords) (v66 : BitVec 32) (v68 : BitVec 32) (v70 : BitVec 32) (v1220 : BitVec 32) (v1222 : BitVec 32) (v1600 : BitVec 32) : Prop :=
  (∀ (k1_h2 : k1_cond2 v66 v68 v70 = 1#1), ∀ (k1_h15 : k1_cond15 v1220 v1222 = 1#1), ∀ a, (k1_off130 i v1600) a + S1x1x128.size a ≤ S32x512x128.size a)
theorem k1_off130_inb : ∀ (i : grid1.Coords) (v66 : BitVec 32) (v68 : BitVec 32) (v70 : BitVec 32) (v1220 : BitVec 32) (v1222 : BitVec 32) (v1600 : BitVec 32) (k1_hw13 : k1_chk13 i v66 v68 v70 v1220 v1222 v1600), ∀ (k1_h2 : k1_cond2 v66 v68 v70 = 1#1), ∀ (k1_h15 : k1_cond15 v1220 v1222 = 1#1), ∀ a, (k1_off130 i v1600) a + S1x1x128.size a ≤ S32x512x128.size a := fun i v66 v68 v70 v1220 v1222 v1600 k1_hw13 k1_h2 k1_h15 => k1_hw13 k1_h2 k1_h15

def k1_off131 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_529 : BitVec 32 := 16#32
  let v1228 : BitVec 32 := Scalar.muli arg15 c16_i32_529
  let c12_i32_530 : BitVec 32 := 12#32
  let v1229 : BitVec 32 := Scalar.addi v1228 c12_i32_530
  let v1230 : Index := Scalar.indexCast v1229
  let c0_531 : Index := 0#32
  ![v1230.toNat, 0]
def k1_off132 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_534 : BitVec 32 := 16#32
  let v1239 : BitVec 32 := Scalar.muli arg15 c16_i32_534
  let c12_i32_535 : BitVec 32 := 12#32
  let v1240 : BitVec 32 := Scalar.addi v1239 c12_i32_535
  let v1241 : Index := Scalar.indexCast v1240
  let c16_536 : Index := 16#32
  ![v1241.toNat, 16]
def k1_off133 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_539 : BitVec 32 := 16#32
  let v1250 : BitVec 32 := Scalar.muli arg15 c16_i32_539
  let c12_i32_540 : BitVec 32 := 12#32
  let v1251 : BitVec 32 := Scalar.addi v1250 c12_i32_540
  let v1252 : Index := Scalar.indexCast v1251
  let c32_541 : Index := 32#32
  ![v1252.toNat, 32]
def k1_off134 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_544 : BitVec 32 := 16#32
  let v1261 : BitVec 32 := Scalar.muli arg15 c16_i32_544
  let c12_i32_545 : BitVec 32 := 12#32
  let v1262 : BitVec 32 := Scalar.addi v1261 c12_i32_545
  let v1263 : Index := Scalar.indexCast v1262
  let c48_546 : Index := 48#32
  ![v1263.toNat, 48]
def k1_off135 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_549 : BitVec 32 := 16#32
  let v1272 : BitVec 32 := Scalar.muli arg15 c16_i32_549
  let c12_i32_550 : BitVec 32 := 12#32
  let v1273 : BitVec 32 := Scalar.addi v1272 c12_i32_550
  let v1274 : Index := Scalar.indexCast v1273
  let c64_551 : Index := 64#32
  ![v1274.toNat, 64]
def k1_off136 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_554 : BitVec 32 := 16#32
  let v1283 : BitVec 32 := Scalar.muli arg15 c16_i32_554
  let c12_i32_555 : BitVec 32 := 12#32
  let v1284 : BitVec 32 := Scalar.addi v1283 c12_i32_555
  let v1285 : Index := Scalar.indexCast v1284
  let c80_556 : Index := 80#32
  ![v1285.toNat, 80]
def k1_off137 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_559 : BitVec 32 := 16#32
  let v1294 : BitVec 32 := Scalar.muli arg15 c16_i32_559
  let c12_i32_560 : BitVec 32 := 12#32
  let v1295 : BitVec 32 := Scalar.addi v1294 c12_i32_560
  let v1296 : Index := Scalar.indexCast v1295
  let c96_561 : Index := 96#32
  ![v1296.toNat, 96]
def k1_off138 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_564 : BitVec 32 := 16#32
  let v1305 : BitVec 32 := Scalar.muli arg15 c16_i32_564
  let c12_i32_565 : BitVec 32 := 12#32
  let v1306 : BitVec 32 := Scalar.addi v1305 c12_i32_565
  let v1307 : Index := Scalar.indexCast v1306
  let c112_566 : Index := 112#32
  ![v1307.toNat, 112]
def k1_off139 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r15 : BitVec 32 := 0#32
  ![v1.toNat, v1600.toNat, 0]
def k1_cond16 (v1315 : BitVec 32) (v1317 : BitVec 32) : BitVec 1 :=
  let v1318 : BitVec 1 := Scalar.cmpi .ne v1315 v1317
  let v1319 : BitVec 32 := Scalar.extui v1318
  let c0_i32_569 : BitVec 32 := 0#32
  let v1320 : BitVec 1 := Scalar.cmpi .ne v1319 c0_i32_569
  v1320

def k1_chk14 (i : grid1.Coords) (v66 : BitVec 32) (v68 : BitVec 32) (v70 : BitVec 32) (v1315 : BitVec 32) (v1317 : BitVec 32) (v1600 : BitVec 32) : Prop :=
  (∀ (k1_h2 : k1_cond2 v66 v68 v70 = 1#1), ∀ (k1_h16 : k1_cond16 v1315 v1317 = 1#1), ∀ a, (k1_off139 i v1600) a + S1x1x128.size a ≤ S32x512x128.size a)
theorem k1_off139_inb : ∀ (i : grid1.Coords) (v66 : BitVec 32) (v68 : BitVec 32) (v70 : BitVec 32) (v1315 : BitVec 32) (v1317 : BitVec 32) (v1600 : BitVec 32) (k1_hw14 : k1_chk14 i v66 v68 v70 v1315 v1317 v1600), ∀ (k1_h2 : k1_cond2 v66 v68 v70 = 1#1), ∀ (k1_h16 : k1_cond16 v1315 v1317 = 1#1), ∀ a, (k1_off139 i v1600) a + S1x1x128.size a ≤ S32x512x128.size a := fun i v66 v68 v70 v1315 v1317 v1600 k1_hw14 k1_h2 k1_h16 => k1_hw14 k1_h2 k1_h16

def k1_off140 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_571 : BitVec 32 := 16#32
  let v1323 : BitVec 32 := Scalar.muli arg15 c16_i32_571
  let c13_i32 : BitVec 32 := 13#32
  let v1324 : BitVec 32 := Scalar.addi v1323 c13_i32
  let v1325 : Index := Scalar.indexCast v1324
  let c0_572 : Index := 0#32
  ![v1325.toNat, 0]
def k1_off141 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_575 : BitVec 32 := 16#32
  let v1334 : BitVec 32 := Scalar.muli arg15 c16_i32_575
  let c13_i32_576 : BitVec 32 := 13#32
  let v1335 : BitVec 32 := Scalar.addi v1334 c13_i32_576
  let v1336 : Index := Scalar.indexCast v1335
  let c16_577 : Index := 16#32
  ![v1336.toNat, 16]
def k1_off142 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_580 : BitVec 32 := 16#32
  let v1345 : BitVec 32 := Scalar.muli arg15 c16_i32_580
  let c13_i32_581 : BitVec 32 := 13#32
  let v1346 : BitVec 32 := Scalar.addi v1345 c13_i32_581
  let v1347 : Index := Scalar.indexCast v1346
  let c32_582 : Index := 32#32
  ![v1347.toNat, 32]
def k1_off143 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_585 : BitVec 32 := 16#32
  let v1356 : BitVec 32 := Scalar.muli arg15 c16_i32_585
  let c13_i32_586 : BitVec 32 := 13#32
  let v1357 : BitVec 32 := Scalar.addi v1356 c13_i32_586
  let v1358 : Index := Scalar.indexCast v1357
  let c48_587 : Index := 48#32
  ![v1358.toNat, 48]
def k1_off144 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_590 : BitVec 32 := 16#32
  let v1367 : BitVec 32 := Scalar.muli arg15 c16_i32_590
  let c13_i32_591 : BitVec 32 := 13#32
  let v1368 : BitVec 32 := Scalar.addi v1367 c13_i32_591
  let v1369 : Index := Scalar.indexCast v1368
  let c64_592 : Index := 64#32
  ![v1369.toNat, 64]
def k1_off145 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_595 : BitVec 32 := 16#32
  let v1378 : BitVec 32 := Scalar.muli arg15 c16_i32_595
  let c13_i32_596 : BitVec 32 := 13#32
  let v1379 : BitVec 32 := Scalar.addi v1378 c13_i32_596
  let v1380 : Index := Scalar.indexCast v1379
  let c80_597 : Index := 80#32
  ![v1380.toNat, 80]
def k1_off146 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_600 : BitVec 32 := 16#32
  let v1389 : BitVec 32 := Scalar.muli arg15 c16_i32_600
  let c13_i32_601 : BitVec 32 := 13#32
  let v1390 : BitVec 32 := Scalar.addi v1389 c13_i32_601
  let v1391 : Index := Scalar.indexCast v1390
  let c96_602 : Index := 96#32
  ![v1391.toNat, 96]
def k1_off147 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_605 : BitVec 32 := 16#32
  let v1400 : BitVec 32 := Scalar.muli arg15 c16_i32_605
  let c13_i32_606 : BitVec 32 := 13#32
  let v1401 : BitVec 32 := Scalar.addi v1400 c13_i32_606
  let v1402 : Index := Scalar.indexCast v1401
  let c112_607 : Index := 112#32
  ![v1402.toNat, 112]
def k1_off148 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r16 : BitVec 32 := 0#32
  ![v1.toNat, v1600.toNat, 0]
def k1_cond17 (v1410 : BitVec 32) (v1412 : BitVec 32) : BitVec 1 :=
  let v1413 : BitVec 1 := Scalar.cmpi .ne v1410 v1412
  let v1414 : BitVec 32 := Scalar.extui v1413
  let c0_i32_610 : BitVec 32 := 0#32
  let v1415 : BitVec 1 := Scalar.cmpi .ne v1414 c0_i32_610
  v1415

def k1_chk15 (i : grid1.Coords) (v66 : BitVec 32) (v68 : BitVec 32) (v70 : BitVec 32) (v1410 : BitVec 32) (v1412 : BitVec 32) (v1600 : BitVec 32) : Prop :=
  (∀ (k1_h2 : k1_cond2 v66 v68 v70 = 1#1), ∀ (k1_h17 : k1_cond17 v1410 v1412 = 1#1), ∀ a, (k1_off148 i v1600) a + S1x1x128.size a ≤ S32x512x128.size a)
theorem k1_off148_inb : ∀ (i : grid1.Coords) (v66 : BitVec 32) (v68 : BitVec 32) (v70 : BitVec 32) (v1410 : BitVec 32) (v1412 : BitVec 32) (v1600 : BitVec 32) (k1_hw15 : k1_chk15 i v66 v68 v70 v1410 v1412 v1600), ∀ (k1_h2 : k1_cond2 v66 v68 v70 = 1#1), ∀ (k1_h17 : k1_cond17 v1410 v1412 = 1#1), ∀ a, (k1_off148 i v1600) a + S1x1x128.size a ≤ S32x512x128.size a := fun i v66 v68 v70 v1410 v1412 v1600 k1_hw15 k1_h2 k1_h17 => k1_hw15 k1_h2 k1_h17

def k1_off149 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_612 : BitVec 32 := 16#32
  let v1418 : BitVec 32 := Scalar.muli arg15 c16_i32_612
  let c14_i32 : BitVec 32 := 14#32
  let v1419 : BitVec 32 := Scalar.addi v1418 c14_i32
  let v1420 : Index := Scalar.indexCast v1419
  let c0_613 : Index := 0#32
  ![v1420.toNat, 0]
def k1_off150 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_616 : BitVec 32 := 16#32
  let v1429 : BitVec 32 := Scalar.muli arg15 c16_i32_616
  let c14_i32_617 : BitVec 32 := 14#32
  let v1430 : BitVec 32 := Scalar.addi v1429 c14_i32_617
  let v1431 : Index := Scalar.indexCast v1430
  let c16_618 : Index := 16#32
  ![v1431.toNat, 16]
def k1_off151 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_621 : BitVec 32 := 16#32
  let v1440 : BitVec 32 := Scalar.muli arg15 c16_i32_621
  let c14_i32_622 : BitVec 32 := 14#32
  let v1441 : BitVec 32 := Scalar.addi v1440 c14_i32_622
  let v1442 : Index := Scalar.indexCast v1441
  let c32_623 : Index := 32#32
  ![v1442.toNat, 32]
def k1_off152 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_626 : BitVec 32 := 16#32
  let v1451 : BitVec 32 := Scalar.muli arg15 c16_i32_626
  let c14_i32_627 : BitVec 32 := 14#32
  let v1452 : BitVec 32 := Scalar.addi v1451 c14_i32_627
  let v1453 : Index := Scalar.indexCast v1452
  let c48_628 : Index := 48#32
  ![v1453.toNat, 48]
def k1_off153 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_631 : BitVec 32 := 16#32
  let v1462 : BitVec 32 := Scalar.muli arg15 c16_i32_631
  let c14_i32_632 : BitVec 32 := 14#32
  let v1463 : BitVec 32 := Scalar.addi v1462 c14_i32_632
  let v1464 : Index := Scalar.indexCast v1463
  let c64_633 : Index := 64#32
  ![v1464.toNat, 64]
def k1_off154 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_636 : BitVec 32 := 16#32
  let v1473 : BitVec 32 := Scalar.muli arg15 c16_i32_636
  let c14_i32_637 : BitVec 32 := 14#32
  let v1474 : BitVec 32 := Scalar.addi v1473 c14_i32_637
  let v1475 : Index := Scalar.indexCast v1474
  let c80_638 : Index := 80#32
  ![v1475.toNat, 80]
def k1_off155 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_641 : BitVec 32 := 16#32
  let v1484 : BitVec 32 := Scalar.muli arg15 c16_i32_641
  let c14_i32_642 : BitVec 32 := 14#32
  let v1485 : BitVec 32 := Scalar.addi v1484 c14_i32_642
  let v1486 : Index := Scalar.indexCast v1485
  let c96_643 : Index := 96#32
  ![v1486.toNat, 96]
def k1_off156 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_646 : BitVec 32 := 16#32
  let v1495 : BitVec 32 := Scalar.muli arg15 c16_i32_646
  let c14_i32_647 : BitVec 32 := 14#32
  let v1496 : BitVec 32 := Scalar.addi v1495 c14_i32_647
  let v1497 : Index := Scalar.indexCast v1496
  let c112_648 : Index := 112#32
  ![v1497.toNat, 112]
def k1_off157 (i : grid1.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_701_r17 : BitVec 32 := 0#32
  ![v1.toNat, v1600.toNat, 0]
def k1_cond18 (v1505 : BitVec 32) (v1507 : BitVec 32) : BitVec 1 :=
  let v1508 : BitVec 1 := Scalar.cmpi .ne v1505 v1507
  let v1509 : BitVec 32 := Scalar.extui v1508
  let c0_i32_651 : BitVec 32 := 0#32
  let v1510 : BitVec 1 := Scalar.cmpi .ne v1509 c0_i32_651
  v1510

def k1_chk16 (i : grid1.Coords) (v66 : BitVec 32) (v68 : BitVec 32) (v70 : BitVec 32) (v1505 : BitVec 32) (v1507 : BitVec 32) (v1600 : BitVec 32) : Prop :=
  (∀ (k1_h2 : k1_cond2 v66 v68 v70 = 1#1), ∀ (k1_h18 : k1_cond18 v1505 v1507 = 1#1), ∀ a, (k1_off157 i v1600) a + S1x1x128.size a ≤ S32x512x128.size a)
theorem k1_off157_inb : ∀ (i : grid1.Coords) (v66 : BitVec 32) (v68 : BitVec 32) (v70 : BitVec 32) (v1505 : BitVec 32) (v1507 : BitVec 32) (v1600 : BitVec 32) (k1_hw16 : k1_chk16 i v66 v68 v70 v1505 v1507 v1600), ∀ (k1_h2 : k1_cond2 v66 v68 v70 = 1#1), ∀ (k1_h18 : k1_cond18 v1505 v1507 = 1#1), ∀ a, (k1_off157 i v1600) a + S1x1x128.size a ≤ S32x512x128.size a := fun i v66 v68 v70 v1505 v1507 v1600 k1_hw16 k1_h2 k1_h18 => k1_hw16 k1_h2 k1_h18

def k1_off158 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_653 : BitVec 32 := 16#32
  let v1513 : BitVec 32 := Scalar.muli arg15 c16_i32_653
  let c15_i32 : BitVec 32 := 15#32
  let v1514 : BitVec 32 := Scalar.addi v1513 c15_i32
  let v1515 : Index := Scalar.indexCast v1514
  let c0_654 : Index := 0#32
  ![v1515.toNat, 0]
def k1_off159 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_657 : BitVec 32 := 16#32
  let v1524 : BitVec 32 := Scalar.muli arg15 c16_i32_657
  let c15_i32_658 : BitVec 32 := 15#32
  let v1525 : BitVec 32 := Scalar.addi v1524 c15_i32_658
  let v1526 : Index := Scalar.indexCast v1525
  let c16_659 : Index := 16#32
  ![v1526.toNat, 16]
def k1_off160 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_662 : BitVec 32 := 16#32
  let v1535 : BitVec 32 := Scalar.muli arg15 c16_i32_662
  let c15_i32_663 : BitVec 32 := 15#32
  let v1536 : BitVec 32 := Scalar.addi v1535 c15_i32_663
  let v1537 : Index := Scalar.indexCast v1536
  let c32_664 : Index := 32#32
  ![v1537.toNat, 32]
def k1_off161 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_667 : BitVec 32 := 16#32
  let v1546 : BitVec 32 := Scalar.muli arg15 c16_i32_667
  let c15_i32_668 : BitVec 32 := 15#32
  let v1547 : BitVec 32 := Scalar.addi v1546 c15_i32_668
  let v1548 : Index := Scalar.indexCast v1547
  let c48_669 : Index := 48#32
  ![v1548.toNat, 48]
def k1_off162 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_672 : BitVec 32 := 16#32
  let v1557 : BitVec 32 := Scalar.muli arg15 c16_i32_672
  let c15_i32_673 : BitVec 32 := 15#32
  let v1558 : BitVec 32 := Scalar.addi v1557 c15_i32_673
  let v1559 : Index := Scalar.indexCast v1558
  let c64_674 : Index := 64#32
  ![v1559.toNat, 64]
def k1_off163 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_677 : BitVec 32 := 16#32
  let v1568 : BitVec 32 := Scalar.muli arg15 c16_i32_677
  let c15_i32_678 : BitVec 32 := 15#32
  let v1569 : BitVec 32 := Scalar.addi v1568 c15_i32_678
  let v1570 : Index := Scalar.indexCast v1569
  let c80_679 : Index := 80#32
  ![v1570.toNat, 80]
def k1_off164 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_682 : BitVec 32 := 16#32
  let v1579 : BitVec 32 := Scalar.muli arg15 c16_i32_682
  let c15_i32_683 : BitVec 32 := 15#32
  let v1580 : BitVec 32 := Scalar.addi v1579 c15_i32_683
  let v1581 : Index := Scalar.indexCast v1580
  let c96_684 : Index := 96#32
  ![v1581.toNat, 96]
def k1_off165 (k1_t2 : Fin k1_t2_loop.trips) : Fin 2 → Nat :=
  let c0_i32_17 : BitVec 32 := 0#32
  let c1_i32_18 : BitVec 32 := 1#32
  let arg15 : BitVec 32 := Scf.iv c0_i32_17 c1_i32_18 k1_t2
  let c16_i32_687 : BitVec 32 := 16#32
  let v1590 : BitVec 32 := Scalar.muli arg15 c16_i32_687
  let c15_i32_688 : BitVec 32 := 15#32
  let v1591 : BitVec 32 := Scalar.addi v1590 c15_i32_688
  let v1592 : Index := Scalar.indexCast v1591
  let c112_689 : Index := 112#32
  ![v1592.toNat, 112]
@[reducible] def k1_t3_loop : Scf.Loop 32 :=
  let c0_i32_23 : BitVec 32 := 0#32
  let c12_i32 : BitVec 32 := 12#32
  let v57 : BitVec 32 := Scalar.addi c0_i32_23 c12_i32
  let c1_i32_24 : BitVec 32 := 1#32
  ⟨c0_i32_23, v57, c1_i32_24⟩
@[reducible] def k1_t4_loop : Scf.Loop 32 :=
  let c0_i32_34 : BitVec 32 := 0#32
  let c25_i32_35 : BitVec 32 := 25#32
  let v65 : BitVec 32 := Scalar.addi c0_i32_34 c25_i32_35
  let c1_i32_36 : BitVec 32 := 1#32
  ⟨c0_i32_34, v65, c1_i32_36⟩
def k1_off166 (k1_t4 : Fin k1_t4_loop.trips) : Fin 1 → Nat :=
  let c0_i32_34 : BitVec 32 := 0#32
  let c1_i32_36 : BitVec 32 := 1#32
  let arg17 : BitVec 32 := Scf.iv c0_i32_34 c1_i32_36 k1_t4
  let c16_i32 : BitVec 32 := 16#32
  let v79 : BitVec 32 := Scalar.muli arg17 c16_i32
  let v80 : Index := Scalar.indexCast v79
  ![v80.toNat]
def k1_off167 (k1_t4 : Fin k1_t4_loop.trips) (c0_i32_58 : BitVec 32) : Fin 2 → Nat :=
  let c0_i32_34 : BitVec 32 := 0#32
  let c1_i32_36 : BitVec 32 := 1#32
  let arg17 : BitVec 32 := Scf.iv c0_i32_34 c1_i32_36 k1_t4
  let c16_i32_57 : BitVec 32 := 16#32
  let v97 : BitVec 32 := Scalar.muli arg17 c16_i32_57
  let v98 : BitVec 32 := Scalar.addi v97 c0_i32_58
  let v99 : Index := Scalar.indexCast v98
  let c0_59 : Index := 0#32
  ![v99.toNat, 0]
def k1_off168 (k1_t4 : Fin k1_t4_loop.trips) (c0_i32_97 : BitVec 32) : Fin 2 → Nat :=
  let c0_i32_34 : BitVec 32 := 0#32
  let c1_i32_36 : BitVec 32 := 1#32
  let arg17 : BitVec 32 := Scf.iv c0_i32_34 c1_i32_36 k1_t4
  let c16_i32_96 : BitVec 32 := 16#32
  let v198 : BitVec 32 := Scalar.muli arg17 c16_i32_96
  let v199 : BitVec 32 := Scalar.addi v198 c0_i32_97
  let v200 : Index := Scalar.indexCast v199
  let c16_98 : Index := 16#32
  ![v200.toNat, 16]
def k1_off169 (k1_t4 : Fin k1_t4_loop.trips) (c0_i32_147 : BitVec 32) : Fin 2 → Nat :=
  let c0_i32_34 : BitVec 32 := 0#32
  let c1_i32_36 : BitVec 32 := 1#32
  let arg17 : BitVec 32 := Scf.iv c0_i32_34 c1_i32_36 k1_t4
  let c16_i32_146 : BitVec 32 := 16#32
  let v299 : BitVec 32 := Scalar.muli arg17 c16_i32_146
  let v300 : BitVec 32 := Scalar.addi v299 c0_i32_147
  let v301 : Index := Scalar.indexCast v300
  let c32_148 : Index := 32#32
  ![v301.toNat, 32]
def k1_off170 (k1_t4 : Fin k1_t4_loop.trips) (c0_i32_197 : BitVec 32) : Fin 2 → Nat :=
  let c0_i32_34 : BitVec 32 := 0#32
  let c1_i32_36 : BitVec 32 := 1#32
  let arg17 : BitVec 32 := Scf.iv c0_i32_34 c1_i32_36 k1_t4
  let c16_i32_196 : BitVec 32 := 16#32
  let v400 : BitVec 32 := Scalar.muli arg17 c16_i32_196
  let v401 : BitVec 32 := Scalar.addi v400 c0_i32_197
  let v402 : Index := Scalar.indexCast v401
  let c48_198 : Index := 48#32
  ![v402.toNat, 48]
def k1_off171 (k1_t4 : Fin k1_t4_loop.trips) (c0_i32_247 : BitVec 32) : Fin 2 → Nat :=
  let c0_i32_34 : BitVec 32 := 0#32
  let c1_i32_36 : BitVec 32 := 1#32
  let arg17 : BitVec 32 := Scf.iv c0_i32_34 c1_i32_36 k1_t4
  let c16_i32_246 : BitVec 32 := 16#32
  let v501 : BitVec 32 := Scalar.muli arg17 c16_i32_246
  let v502 : BitVec 32 := Scalar.addi v501 c0_i32_247
  let v503 : Index := Scalar.indexCast v502
  let c64_248 : Index := 64#32
  ![v503.toNat, 64]
def k1_off172 (k1_t4 : Fin k1_t4_loop.trips) (c0_i32_297 : BitVec 32) : Fin 2 → Nat :=
  let c0_i32_34 : BitVec 32 := 0#32
  let c1_i32_36 : BitVec 32 := 1#32
  let arg17 : BitVec 32 := Scf.iv c0_i32_34 c1_i32_36 k1_t4
  let c16_i32_296 : BitVec 32 := 16#32
  let v602 : BitVec 32 := Scalar.muli arg17 c16_i32_296
  let v603 : BitVec 32 := Scalar.addi v602 c0_i32_297
  let v604 : Index := Scalar.indexCast v603
  let c80_298 : Index := 80#32
  ![v604.toNat, 80]
def k1_off173 (k1_t4 : Fin k1_t4_loop.trips) (c0_i32_347 : BitVec 32) : Fin 2 → Nat :=
  let c0_i32_34 : BitVec 32 := 0#32
  let c1_i32_36 : BitVec 32 := 1#32
  let arg17 : BitVec 32 := Scf.iv c0_i32_34 c1_i32_36 k1_t4
  let c16_i32_346 : BitVec 32 := 16#32
  let v703 : BitVec 32 := Scalar.muli arg17 c16_i32_346
  let v704 : BitVec 32 := Scalar.addi v703 c0_i32_347
  let v705 : Index := Scalar.indexCast v704
  let c96_348 : Index := 96#32
  ![v705.toNat, 96]
def k1_off174 (k1_t4 : Fin k1_t4_loop.trips) (c0_i32_397 : BitVec 32) : Fin 2 → Nat :=
  let c0_i32_34 : BitVec 32 := 0#32
  let c1_i32_36 : BitVec 32 := 1#32
  let arg17 : BitVec 32 := Scf.iv c0_i32_34 c1_i32_36 k1_t4
  let c16_i32_396 : BitVec 32 := 16#32
  let v804 : BitVec 32 := Scalar.muli arg17 c16_i32_396
  let v805 : BitVec 32 := Scalar.addi v804 c0_i32_397
  let v806 : Index := Scalar.indexCast v805
  let c112_398 : Index := 112#32
  ![v806.toNat, 112]
def k1_off175 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r18 : BitVec 32 := 0#32
  ![v1.toNat, v1618.toNat, 0]
def k1_cond20 (v84 : BitVec 32) (v86 : BitVec 32) (v88 : BitVec 32) : BitVec 1 :=
  let v89 : BitVec 1 := Scalar.cmpi .eq v84 v88
  let v90 : BitVec 1 := Scalar.cmpi .eq v84 v86
  let v91 : BitVec 1 := Scalar.andi v89 v90
  let v_true : BitVec 1 := 1#1
  let v94 : BitVec 1 := Scalar.xori v91 v_true
  let v95 : BitVec 32 := Scalar.extui v94
  let c0_i32_55 : BitVec 32 := 0#32
  let v96 : BitVec 1 := Scalar.cmpi .ne v95 c0_i32_55
  v96

def k1_cond21 (v98 : BitVec 32) (v100 : BitVec 32) : BitVec 1 :=
  let v101 : BitVec 1 := Scalar.cmpi .ne v98 v100
  let v102 : BitVec 32 := Scalar.extui v101
  let c0_i32_58 : BitVec 32 := 0#32
  let v103 : BitVec 1 := Scalar.cmpi .ne v102 c0_i32_58
  v103

def k1_chk17 (i : grid1.Coords) (v84 : BitVec 32) (v86 : BitVec 32) (v88 : BitVec 32) (v98 : BitVec 32) (v100 : BitVec 32) (v1618 : BitVec 32) : Prop :=
  (∀ (k1_h20 : k1_cond20 v84 v86 v88 = 1#1), ∀ (k1_h21 : k1_cond21 v98 v100 = 1#1), ∀ a, (k1_off175 i v1618) a + S1x1x128.size a ≤ S32x512x128.size a)
theorem k1_off175_inb : ∀ (i : grid1.Coords) (v84 : BitVec 32) (v86 : BitVec 32) (v88 : BitVec 32) (v98 : BitVec 32) (v100 : BitVec 32) (v1618 : BitVec 32) (k1_hw17 : k1_chk17 i v84 v86 v88 v98 v100 v1618), ∀ (k1_h20 : k1_cond20 v84 v86 v88 = 1#1), ∀ (k1_h21 : k1_cond21 v98 v100 = 1#1), ∀ a, (k1_off175 i v1618) a + S1x1x128.size a ≤ S32x512x128.size a := fun i v84 v86 v88 v98 v100 v1618 k1_hw17 k1_h20 k1_h21 => k1_hw17 k1_h20 k1_h21

def k1_off176 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_60 : BitVec 32 := 16#32
  let v106 : BitVec 32 := Scalar.muli arg17 c16_i32_60
  let c0_i32_61 : BitVec 32 := 0#32
  let v107 : BitVec 32 := Scalar.addi v106 c0_i32_61
  let v108 : Index := Scalar.indexCast v107
  let c0_62 : Index := 0#32
  ![v108.toNat, 0]
def k1_off177 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_65 : BitVec 32 := 16#32
  let v117 : BitVec 32 := Scalar.muli arg17 c16_i32_65
  let c0_i32_66 : BitVec 32 := 0#32
  let v118 : BitVec 32 := Scalar.addi v117 c0_i32_66
  let v119 : Index := Scalar.indexCast v118
  let c16_67 : Index := 16#32
  ![v119.toNat, 16]
def k1_off178 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_70 : BitVec 32 := 16#32
  let v128 : BitVec 32 := Scalar.muli arg17 c16_i32_70
  let c0_i32_71 : BitVec 32 := 0#32
  let v129 : BitVec 32 := Scalar.addi v128 c0_i32_71
  let v130 : Index := Scalar.indexCast v129
  let c32_72 : Index := 32#32
  ![v130.toNat, 32]
def k1_off179 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_75 : BitVec 32 := 16#32
  let v139 : BitVec 32 := Scalar.muli arg17 c16_i32_75
  let c0_i32_76 : BitVec 32 := 0#32
  let v140 : BitVec 32 := Scalar.addi v139 c0_i32_76
  let v141 : Index := Scalar.indexCast v140
  let c48_77 : Index := 48#32
  ![v141.toNat, 48]
def k1_off180 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_80 : BitVec 32 := 16#32
  let v150 : BitVec 32 := Scalar.muli arg17 c16_i32_80
  let c0_i32_81 : BitVec 32 := 0#32
  let v151 : BitVec 32 := Scalar.addi v150 c0_i32_81
  let v152 : Index := Scalar.indexCast v151
  let c64_82 : Index := 64#32
  ![v152.toNat, 64]
def k1_off181 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_85 : BitVec 32 := 16#32
  let v161 : BitVec 32 := Scalar.muli arg17 c16_i32_85
  let c0_i32_86 : BitVec 32 := 0#32
  let v162 : BitVec 32 := Scalar.addi v161 c0_i32_86
  let v163 : Index := Scalar.indexCast v162
  let c80_87 : Index := 80#32
  ![v163.toNat, 80]
def k1_off182 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_90 : BitVec 32 := 16#32
  let v172 : BitVec 32 := Scalar.muli arg17 c16_i32_90
  let c0_i32_91 : BitVec 32 := 0#32
  let v173 : BitVec 32 := Scalar.addi v172 c0_i32_91
  let v174 : Index := Scalar.indexCast v173
  let c96_92 : Index := 96#32
  ![v174.toNat, 96]
def k1_off183 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_95 : BitVec 32 := 16#32
  let v183 : BitVec 32 := Scalar.muli arg17 c16_i32_95
  let c0_i32_96 : BitVec 32 := 0#32
  let v184 : BitVec 32 := Scalar.addi v183 c0_i32_96
  let v185 : Index := Scalar.indexCast v184
  let c112_97 : Index := 112#32
  ![v185.toNat, 112]
def k1_off184 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r19 : BitVec 32 := 0#32
  ![v1.toNat, v1618.toNat, 0]
def k1_cond22 (v193 : BitVec 32) (v195 : BitVec 32) : BitVec 1 :=
  let v196 : BitVec 1 := Scalar.cmpi .ne v193 v195
  let v197 : BitVec 32 := Scalar.extui v196
  let c0_i32_100 : BitVec 32 := 0#32
  let v198 : BitVec 1 := Scalar.cmpi .ne v197 c0_i32_100
  v198

def k1_chk18 (i : grid1.Coords) (v84 : BitVec 32) (v86 : BitVec 32) (v88 : BitVec 32) (v193 : BitVec 32) (v195 : BitVec 32) (v1618 : BitVec 32) : Prop :=
  (∀ (k1_h20 : k1_cond20 v84 v86 v88 = 1#1), ∀ (k1_h22 : k1_cond22 v193 v195 = 1#1), ∀ a, (k1_off184 i v1618) a + S1x1x128.size a ≤ S32x512x128.size a)
theorem k1_off184_inb : ∀ (i : grid1.Coords) (v84 : BitVec 32) (v86 : BitVec 32) (v88 : BitVec 32) (v193 : BitVec 32) (v195 : BitVec 32) (v1618 : BitVec 32) (k1_hw18 : k1_chk18 i v84 v86 v88 v193 v195 v1618), ∀ (k1_h20 : k1_cond20 v84 v86 v88 = 1#1), ∀ (k1_h22 : k1_cond22 v193 v195 = 1#1), ∀ a, (k1_off184 i v1618) a + S1x1x128.size a ≤ S32x512x128.size a := fun i v84 v86 v88 v193 v195 v1618 k1_hw18 k1_h20 k1_h22 => k1_hw18 k1_h20 k1_h22

def k1_off185 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_102 : BitVec 32 := 16#32
  let v201 : BitVec 32 := Scalar.muli arg17 c16_i32_102
  let c1_i32_103 : BitVec 32 := 1#32
  let v202 : BitVec 32 := Scalar.addi v201 c1_i32_103
  let v203 : Index := Scalar.indexCast v202
  let c0_104 : Index := 0#32
  ![v203.toNat, 0]
def k1_off186 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_107 : BitVec 32 := 16#32
  let v212 : BitVec 32 := Scalar.muli arg17 c16_i32_107
  let c1_i32_108 : BitVec 32 := 1#32
  let v213 : BitVec 32 := Scalar.addi v212 c1_i32_108
  let v214 : Index := Scalar.indexCast v213
  let c16_109 : Index := 16#32
  ![v214.toNat, 16]
def k1_off187 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_112 : BitVec 32 := 16#32
  let v223 : BitVec 32 := Scalar.muli arg17 c16_i32_112
  let c1_i32_113 : BitVec 32 := 1#32
  let v224 : BitVec 32 := Scalar.addi v223 c1_i32_113
  let v225 : Index := Scalar.indexCast v224
  let c32_114 : Index := 32#32
  ![v225.toNat, 32]
def k1_off188 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_117 : BitVec 32 := 16#32
  let v234 : BitVec 32 := Scalar.muli arg17 c16_i32_117
  let c1_i32_118 : BitVec 32 := 1#32
  let v235 : BitVec 32 := Scalar.addi v234 c1_i32_118
  let v236 : Index := Scalar.indexCast v235
  let c48_119 : Index := 48#32
  ![v236.toNat, 48]
def k1_off189 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_122 : BitVec 32 := 16#32
  let v245 : BitVec 32 := Scalar.muli arg17 c16_i32_122
  let c1_i32_123 : BitVec 32 := 1#32
  let v246 : BitVec 32 := Scalar.addi v245 c1_i32_123
  let v247 : Index := Scalar.indexCast v246
  let c64_124 : Index := 64#32
  ![v247.toNat, 64]
def k1_off190 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_127 : BitVec 32 := 16#32
  let v256 : BitVec 32 := Scalar.muli arg17 c16_i32_127
  let c1_i32_128 : BitVec 32 := 1#32
  let v257 : BitVec 32 := Scalar.addi v256 c1_i32_128
  let v258 : Index := Scalar.indexCast v257
  let c80_129 : Index := 80#32
  ![v258.toNat, 80]
def k1_off191 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_132 : BitVec 32 := 16#32
  let v267 : BitVec 32 := Scalar.muli arg17 c16_i32_132
  let c1_i32_133 : BitVec 32 := 1#32
  let v268 : BitVec 32 := Scalar.addi v267 c1_i32_133
  let v269 : Index := Scalar.indexCast v268
  let c96_134 : Index := 96#32
  ![v269.toNat, 96]
def k1_off192 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_137 : BitVec 32 := 16#32
  let v278 : BitVec 32 := Scalar.muli arg17 c16_i32_137
  let c1_i32_138 : BitVec 32 := 1#32
  let v279 : BitVec 32 := Scalar.addi v278 c1_i32_138
  let v280 : Index := Scalar.indexCast v279
  let c112_139 : Index := 112#32
  ![v280.toNat, 112]
def k1_off193 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r20 : BitVec 32 := 0#32
  ![v1.toNat, v1618.toNat, 0]
def k1_cond23 (v288 : BitVec 32) (v290 : BitVec 32) : BitVec 1 :=
  let v291 : BitVec 1 := Scalar.cmpi .ne v288 v290
  let v292 : BitVec 32 := Scalar.extui v291
  let c0_i32_142 : BitVec 32 := 0#32
  let v293 : BitVec 1 := Scalar.cmpi .ne v292 c0_i32_142
  v293

def k1_chk19 (i : grid1.Coords) (v84 : BitVec 32) (v86 : BitVec 32) (v88 : BitVec 32) (v288 : BitVec 32) (v290 : BitVec 32) (v1618 : BitVec 32) : Prop :=
  (∀ (k1_h20 : k1_cond20 v84 v86 v88 = 1#1), ∀ (k1_h23 : k1_cond23 v288 v290 = 1#1), ∀ a, (k1_off193 i v1618) a + S1x1x128.size a ≤ S32x512x128.size a)
theorem k1_off193_inb : ∀ (i : grid1.Coords) (v84 : BitVec 32) (v86 : BitVec 32) (v88 : BitVec 32) (v288 : BitVec 32) (v290 : BitVec 32) (v1618 : BitVec 32) (k1_hw19 : k1_chk19 i v84 v86 v88 v288 v290 v1618), ∀ (k1_h20 : k1_cond20 v84 v86 v88 = 1#1), ∀ (k1_h23 : k1_cond23 v288 v290 = 1#1), ∀ a, (k1_off193 i v1618) a + S1x1x128.size a ≤ S32x512x128.size a := fun i v84 v86 v88 v288 v290 v1618 k1_hw19 k1_h20 k1_h23 => k1_hw19 k1_h20 k1_h23

def k1_off194 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_144 : BitVec 32 := 16#32
  let v296 : BitVec 32 := Scalar.muli arg17 c16_i32_144
  let c2_i32_145 : BitVec 32 := 2#32
  let v297 : BitVec 32 := Scalar.addi v296 c2_i32_145
  let v298 : Index := Scalar.indexCast v297
  let c0_146 : Index := 0#32
  ![v298.toNat, 0]
def k1_off195 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_149 : BitVec 32 := 16#32
  let v307 : BitVec 32 := Scalar.muli arg17 c16_i32_149
  let c2_i32_150 : BitVec 32 := 2#32
  let v308 : BitVec 32 := Scalar.addi v307 c2_i32_150
  let v309 : Index := Scalar.indexCast v308
  let c16_151 : Index := 16#32
  ![v309.toNat, 16]
def k1_off196 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_154 : BitVec 32 := 16#32
  let v318 : BitVec 32 := Scalar.muli arg17 c16_i32_154
  let c2_i32_155 : BitVec 32 := 2#32
  let v319 : BitVec 32 := Scalar.addi v318 c2_i32_155
  let v320 : Index := Scalar.indexCast v319
  let c32_156 : Index := 32#32
  ![v320.toNat, 32]
def k1_off197 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_159 : BitVec 32 := 16#32
  let v329 : BitVec 32 := Scalar.muli arg17 c16_i32_159
  let c2_i32_160 : BitVec 32 := 2#32
  let v330 : BitVec 32 := Scalar.addi v329 c2_i32_160
  let v331 : Index := Scalar.indexCast v330
  let c48_161 : Index := 48#32
  ![v331.toNat, 48]
def k1_off198 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_164 : BitVec 32 := 16#32
  let v340 : BitVec 32 := Scalar.muli arg17 c16_i32_164
  let c2_i32_165 : BitVec 32 := 2#32
  let v341 : BitVec 32 := Scalar.addi v340 c2_i32_165
  let v342 : Index := Scalar.indexCast v341
  let c64_166 : Index := 64#32
  ![v342.toNat, 64]
def k1_off199 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_169 : BitVec 32 := 16#32
  let v351 : BitVec 32 := Scalar.muli arg17 c16_i32_169
  let c2_i32_170 : BitVec 32 := 2#32
  let v352 : BitVec 32 := Scalar.addi v351 c2_i32_170
  let v353 : Index := Scalar.indexCast v352
  let c80_171 : Index := 80#32
  ![v353.toNat, 80]
def k1_off200 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_174 : BitVec 32 := 16#32
  let v362 : BitVec 32 := Scalar.muli arg17 c16_i32_174
  let c2_i32_175 : BitVec 32 := 2#32
  let v363 : BitVec 32 := Scalar.addi v362 c2_i32_175
  let v364 : Index := Scalar.indexCast v363
  let c96_176 : Index := 96#32
  ![v364.toNat, 96]
def k1_off201 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_179 : BitVec 32 := 16#32
  let v373 : BitVec 32 := Scalar.muli arg17 c16_i32_179
  let c2_i32_180 : BitVec 32 := 2#32
  let v374 : BitVec 32 := Scalar.addi v373 c2_i32_180
  let v375 : Index := Scalar.indexCast v374
  let c112_181 : Index := 112#32
  ![v375.toNat, 112]
def k1_off202 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r21 : BitVec 32 := 0#32
  ![v1.toNat, v1618.toNat, 0]
def k1_cond24 (v383 : BitVec 32) (v385 : BitVec 32) : BitVec 1 :=
  let v386 : BitVec 1 := Scalar.cmpi .ne v383 v385
  let v387 : BitVec 32 := Scalar.extui v386
  let c0_i32_184 : BitVec 32 := 0#32
  let v388 : BitVec 1 := Scalar.cmpi .ne v387 c0_i32_184
  v388

def k1_chk20 (i : grid1.Coords) (v84 : BitVec 32) (v86 : BitVec 32) (v88 : BitVec 32) (v383 : BitVec 32) (v385 : BitVec 32) (v1618 : BitVec 32) : Prop :=
  (∀ (k1_h20 : k1_cond20 v84 v86 v88 = 1#1), ∀ (k1_h24 : k1_cond24 v383 v385 = 1#1), ∀ a, (k1_off202 i v1618) a + S1x1x128.size a ≤ S32x512x128.size a)
theorem k1_off202_inb : ∀ (i : grid1.Coords) (v84 : BitVec 32) (v86 : BitVec 32) (v88 : BitVec 32) (v383 : BitVec 32) (v385 : BitVec 32) (v1618 : BitVec 32) (k1_hw20 : k1_chk20 i v84 v86 v88 v383 v385 v1618), ∀ (k1_h20 : k1_cond20 v84 v86 v88 = 1#1), ∀ (k1_h24 : k1_cond24 v383 v385 = 1#1), ∀ a, (k1_off202 i v1618) a + S1x1x128.size a ≤ S32x512x128.size a := fun i v84 v86 v88 v383 v385 v1618 k1_hw20 k1_h20 k1_h24 => k1_hw20 k1_h20 k1_h24

def k1_off203 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_186 : BitVec 32 := 16#32
  let v391 : BitVec 32 := Scalar.muli arg17 c16_i32_186
  let c3_i32 : BitVec 32 := 3#32
  let v392 : BitVec 32 := Scalar.addi v391 c3_i32
  let v393 : Index := Scalar.indexCast v392
  let c0_187 : Index := 0#32
  ![v393.toNat, 0]
def k1_off204 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_190 : BitVec 32 := 16#32
  let v402 : BitVec 32 := Scalar.muli arg17 c16_i32_190
  let c3_i32_191 : BitVec 32 := 3#32
  let v403 : BitVec 32 := Scalar.addi v402 c3_i32_191
  let v404 : Index := Scalar.indexCast v403
  let c16_192 : Index := 16#32
  ![v404.toNat, 16]
def k1_off205 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_195 : BitVec 32 := 16#32
  let v413 : BitVec 32 := Scalar.muli arg17 c16_i32_195
  let c3_i32_196 : BitVec 32 := 3#32
  let v414 : BitVec 32 := Scalar.addi v413 c3_i32_196
  let v415 : Index := Scalar.indexCast v414
  let c32_197 : Index := 32#32
  ![v415.toNat, 32]
def k1_off206 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_200 : BitVec 32 := 16#32
  let v424 : BitVec 32 := Scalar.muli arg17 c16_i32_200
  let c3_i32_201 : BitVec 32 := 3#32
  let v425 : BitVec 32 := Scalar.addi v424 c3_i32_201
  let v426 : Index := Scalar.indexCast v425
  let c48_202 : Index := 48#32
  ![v426.toNat, 48]
def k1_off207 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_205 : BitVec 32 := 16#32
  let v435 : BitVec 32 := Scalar.muli arg17 c16_i32_205
  let c3_i32_206 : BitVec 32 := 3#32
  let v436 : BitVec 32 := Scalar.addi v435 c3_i32_206
  let v437 : Index := Scalar.indexCast v436
  let c64_207 : Index := 64#32
  ![v437.toNat, 64]
def k1_off208 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_210 : BitVec 32 := 16#32
  let v446 : BitVec 32 := Scalar.muli arg17 c16_i32_210
  let c3_i32_211 : BitVec 32 := 3#32
  let v447 : BitVec 32 := Scalar.addi v446 c3_i32_211
  let v448 : Index := Scalar.indexCast v447
  let c80_212 : Index := 80#32
  ![v448.toNat, 80]
def k1_off209 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_215 : BitVec 32 := 16#32
  let v457 : BitVec 32 := Scalar.muli arg17 c16_i32_215
  let c3_i32_216 : BitVec 32 := 3#32
  let v458 : BitVec 32 := Scalar.addi v457 c3_i32_216
  let v459 : Index := Scalar.indexCast v458
  let c96_217 : Index := 96#32
  ![v459.toNat, 96]
def k1_off210 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_220 : BitVec 32 := 16#32
  let v468 : BitVec 32 := Scalar.muli arg17 c16_i32_220
  let c3_i32_221 : BitVec 32 := 3#32
  let v469 : BitVec 32 := Scalar.addi v468 c3_i32_221
  let v470 : Index := Scalar.indexCast v469
  let c112_222 : Index := 112#32
  ![v470.toNat, 112]
def k1_off211 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r22 : BitVec 32 := 0#32
  ![v1.toNat, v1618.toNat, 0]
def k1_cond25 (v478 : BitVec 32) (v480 : BitVec 32) : BitVec 1 :=
  let v481 : BitVec 1 := Scalar.cmpi .ne v478 v480
  let v482 : BitVec 32 := Scalar.extui v481
  let c0_i32_225 : BitVec 32 := 0#32
  let v483 : BitVec 1 := Scalar.cmpi .ne v482 c0_i32_225
  v483

def k1_chk21 (i : grid1.Coords) (v84 : BitVec 32) (v86 : BitVec 32) (v88 : BitVec 32) (v478 : BitVec 32) (v480 : BitVec 32) (v1618 : BitVec 32) : Prop :=
  (∀ (k1_h20 : k1_cond20 v84 v86 v88 = 1#1), ∀ (k1_h25 : k1_cond25 v478 v480 = 1#1), ∀ a, (k1_off211 i v1618) a + S1x1x128.size a ≤ S32x512x128.size a)
theorem k1_off211_inb : ∀ (i : grid1.Coords) (v84 : BitVec 32) (v86 : BitVec 32) (v88 : BitVec 32) (v478 : BitVec 32) (v480 : BitVec 32) (v1618 : BitVec 32) (k1_hw21 : k1_chk21 i v84 v86 v88 v478 v480 v1618), ∀ (k1_h20 : k1_cond20 v84 v86 v88 = 1#1), ∀ (k1_h25 : k1_cond25 v478 v480 = 1#1), ∀ a, (k1_off211 i v1618) a + S1x1x128.size a ≤ S32x512x128.size a := fun i v84 v86 v88 v478 v480 v1618 k1_hw21 k1_h20 k1_h25 => k1_hw21 k1_h20 k1_h25

def k1_off212 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_227 : BitVec 32 := 16#32
  let v486 : BitVec 32 := Scalar.muli arg17 c16_i32_227
  let c4_i32 : BitVec 32 := 4#32
  let v487 : BitVec 32 := Scalar.addi v486 c4_i32
  let v488 : Index := Scalar.indexCast v487
  let c0_228 : Index := 0#32
  ![v488.toNat, 0]
def k1_off213 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_231 : BitVec 32 := 16#32
  let v497 : BitVec 32 := Scalar.muli arg17 c16_i32_231
  let c4_i32_232 : BitVec 32 := 4#32
  let v498 : BitVec 32 := Scalar.addi v497 c4_i32_232
  let v499 : Index := Scalar.indexCast v498
  let c16_233 : Index := 16#32
  ![v499.toNat, 16]
def k1_off214 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_236 : BitVec 32 := 16#32
  let v508 : BitVec 32 := Scalar.muli arg17 c16_i32_236
  let c4_i32_237 : BitVec 32 := 4#32
  let v509 : BitVec 32 := Scalar.addi v508 c4_i32_237
  let v510 : Index := Scalar.indexCast v509
  let c32_238 : Index := 32#32
  ![v510.toNat, 32]
def k1_off215 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_241 : BitVec 32 := 16#32
  let v519 : BitVec 32 := Scalar.muli arg17 c16_i32_241
  let c4_i32_242 : BitVec 32 := 4#32
  let v520 : BitVec 32 := Scalar.addi v519 c4_i32_242
  let v521 : Index := Scalar.indexCast v520
  let c48_243 : Index := 48#32
  ![v521.toNat, 48]
def k1_off216 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_246 : BitVec 32 := 16#32
  let v530 : BitVec 32 := Scalar.muli arg17 c16_i32_246
  let c4_i32_247 : BitVec 32 := 4#32
  let v531 : BitVec 32 := Scalar.addi v530 c4_i32_247
  let v532 : Index := Scalar.indexCast v531
  let c64_248 : Index := 64#32
  ![v532.toNat, 64]
def k1_off217 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_251 : BitVec 32 := 16#32
  let v541 : BitVec 32 := Scalar.muli arg17 c16_i32_251
  let c4_i32_252 : BitVec 32 := 4#32
  let v542 : BitVec 32 := Scalar.addi v541 c4_i32_252
  let v543 : Index := Scalar.indexCast v542
  let c80_253 : Index := 80#32
  ![v543.toNat, 80]
def k1_off218 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_256 : BitVec 32 := 16#32
  let v552 : BitVec 32 := Scalar.muli arg17 c16_i32_256
  let c4_i32_257 : BitVec 32 := 4#32
  let v553 : BitVec 32 := Scalar.addi v552 c4_i32_257
  let v554 : Index := Scalar.indexCast v553
  let c96_258 : Index := 96#32
  ![v554.toNat, 96]
def k1_off219 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_261 : BitVec 32 := 16#32
  let v563 : BitVec 32 := Scalar.muli arg17 c16_i32_261
  let c4_i32_262 : BitVec 32 := 4#32
  let v564 : BitVec 32 := Scalar.addi v563 c4_i32_262
  let v565 : Index := Scalar.indexCast v564
  let c112_263 : Index := 112#32
  ![v565.toNat, 112]
def k1_off220 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r23 : BitVec 32 := 0#32
  ![v1.toNat, v1618.toNat, 0]
def k1_cond26 (v573 : BitVec 32) (v575 : BitVec 32) : BitVec 1 :=
  let v576 : BitVec 1 := Scalar.cmpi .ne v573 v575
  let v577 : BitVec 32 := Scalar.extui v576
  let c0_i32_266 : BitVec 32 := 0#32
  let v578 : BitVec 1 := Scalar.cmpi .ne v577 c0_i32_266
  v578

def k1_chk22 (i : grid1.Coords) (v84 : BitVec 32) (v86 : BitVec 32) (v88 : BitVec 32) (v573 : BitVec 32) (v575 : BitVec 32) (v1618 : BitVec 32) : Prop :=
  (∀ (k1_h20 : k1_cond20 v84 v86 v88 = 1#1), ∀ (k1_h26 : k1_cond26 v573 v575 = 1#1), ∀ a, (k1_off220 i v1618) a + S1x1x128.size a ≤ S32x512x128.size a)
theorem k1_off220_inb : ∀ (i : grid1.Coords) (v84 : BitVec 32) (v86 : BitVec 32) (v88 : BitVec 32) (v573 : BitVec 32) (v575 : BitVec 32) (v1618 : BitVec 32) (k1_hw22 : k1_chk22 i v84 v86 v88 v573 v575 v1618), ∀ (k1_h20 : k1_cond20 v84 v86 v88 = 1#1), ∀ (k1_h26 : k1_cond26 v573 v575 = 1#1), ∀ a, (k1_off220 i v1618) a + S1x1x128.size a ≤ S32x512x128.size a := fun i v84 v86 v88 v573 v575 v1618 k1_hw22 k1_h20 k1_h26 => k1_hw22 k1_h20 k1_h26

def k1_off221 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_268 : BitVec 32 := 16#32
  let v581 : BitVec 32 := Scalar.muli arg17 c16_i32_268
  let c5_i32 : BitVec 32 := 5#32
  let v582 : BitVec 32 := Scalar.addi v581 c5_i32
  let v583 : Index := Scalar.indexCast v582
  let c0_269 : Index := 0#32
  ![v583.toNat, 0]
def k1_off222 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_272 : BitVec 32 := 16#32
  let v592 : BitVec 32 := Scalar.muli arg17 c16_i32_272
  let c5_i32_273 : BitVec 32 := 5#32
  let v593 : BitVec 32 := Scalar.addi v592 c5_i32_273
  let v594 : Index := Scalar.indexCast v593
  let c16_274 : Index := 16#32
  ![v594.toNat, 16]
def k1_off223 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_277 : BitVec 32 := 16#32
  let v603 : BitVec 32 := Scalar.muli arg17 c16_i32_277
  let c5_i32_278 : BitVec 32 := 5#32
  let v604 : BitVec 32 := Scalar.addi v603 c5_i32_278
  let v605 : Index := Scalar.indexCast v604
  let c32_279 : Index := 32#32
  ![v605.toNat, 32]
def k1_off224 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_282 : BitVec 32 := 16#32
  let v614 : BitVec 32 := Scalar.muli arg17 c16_i32_282
  let c5_i32_283 : BitVec 32 := 5#32
  let v615 : BitVec 32 := Scalar.addi v614 c5_i32_283
  let v616 : Index := Scalar.indexCast v615
  let c48_284 : Index := 48#32
  ![v616.toNat, 48]
def k1_off225 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_287 : BitVec 32 := 16#32
  let v625 : BitVec 32 := Scalar.muli arg17 c16_i32_287
  let c5_i32_288 : BitVec 32 := 5#32
  let v626 : BitVec 32 := Scalar.addi v625 c5_i32_288
  let v627 : Index := Scalar.indexCast v626
  let c64_289 : Index := 64#32
  ![v627.toNat, 64]
def k1_off226 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_292 : BitVec 32 := 16#32
  let v636 : BitVec 32 := Scalar.muli arg17 c16_i32_292
  let c5_i32_293 : BitVec 32 := 5#32
  let v637 : BitVec 32 := Scalar.addi v636 c5_i32_293
  let v638 : Index := Scalar.indexCast v637
  let c80_294 : Index := 80#32
  ![v638.toNat, 80]
def k1_off227 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_297 : BitVec 32 := 16#32
  let v647 : BitVec 32 := Scalar.muli arg17 c16_i32_297
  let c5_i32_298 : BitVec 32 := 5#32
  let v648 : BitVec 32 := Scalar.addi v647 c5_i32_298
  let v649 : Index := Scalar.indexCast v648
  let c96_299 : Index := 96#32
  ![v649.toNat, 96]
def k1_off228 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_302 : BitVec 32 := 16#32
  let v658 : BitVec 32 := Scalar.muli arg17 c16_i32_302
  let c5_i32_303 : BitVec 32 := 5#32
  let v659 : BitVec 32 := Scalar.addi v658 c5_i32_303
  let v660 : Index := Scalar.indexCast v659
  let c112_304 : Index := 112#32
  ![v660.toNat, 112]
def k1_off229 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r24 : BitVec 32 := 0#32
  ![v1.toNat, v1618.toNat, 0]
def k1_cond27 (v668 : BitVec 32) (v670 : BitVec 32) : BitVec 1 :=
  let v671 : BitVec 1 := Scalar.cmpi .ne v668 v670
  let v672 : BitVec 32 := Scalar.extui v671
  let c0_i32_307 : BitVec 32 := 0#32
  let v673 : BitVec 1 := Scalar.cmpi .ne v672 c0_i32_307
  v673

def k1_chk23 (i : grid1.Coords) (v84 : BitVec 32) (v86 : BitVec 32) (v88 : BitVec 32) (v668 : BitVec 32) (v670 : BitVec 32) (v1618 : BitVec 32) : Prop :=
  (∀ (k1_h20 : k1_cond20 v84 v86 v88 = 1#1), ∀ (k1_h27 : k1_cond27 v668 v670 = 1#1), ∀ a, (k1_off229 i v1618) a + S1x1x128.size a ≤ S32x512x128.size a)
theorem k1_off229_inb : ∀ (i : grid1.Coords) (v84 : BitVec 32) (v86 : BitVec 32) (v88 : BitVec 32) (v668 : BitVec 32) (v670 : BitVec 32) (v1618 : BitVec 32) (k1_hw23 : k1_chk23 i v84 v86 v88 v668 v670 v1618), ∀ (k1_h20 : k1_cond20 v84 v86 v88 = 1#1), ∀ (k1_h27 : k1_cond27 v668 v670 = 1#1), ∀ a, (k1_off229 i v1618) a + S1x1x128.size a ≤ S32x512x128.size a := fun i v84 v86 v88 v668 v670 v1618 k1_hw23 k1_h20 k1_h27 => k1_hw23 k1_h20 k1_h27

def k1_off230 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_309 : BitVec 32 := 16#32
  let v676 : BitVec 32 := Scalar.muli arg17 c16_i32_309
  let c6_i32 : BitVec 32 := 6#32
  let v677 : BitVec 32 := Scalar.addi v676 c6_i32
  let v678 : Index := Scalar.indexCast v677
  let c0_310 : Index := 0#32
  ![v678.toNat, 0]
def k1_off231 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_313 : BitVec 32 := 16#32
  let v687 : BitVec 32 := Scalar.muli arg17 c16_i32_313
  let c6_i32_314 : BitVec 32 := 6#32
  let v688 : BitVec 32 := Scalar.addi v687 c6_i32_314
  let v689 : Index := Scalar.indexCast v688
  let c16_315 : Index := 16#32
  ![v689.toNat, 16]
def k1_off232 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_318 : BitVec 32 := 16#32
  let v698 : BitVec 32 := Scalar.muli arg17 c16_i32_318
  let c6_i32_319 : BitVec 32 := 6#32
  let v699 : BitVec 32 := Scalar.addi v698 c6_i32_319
  let v700 : Index := Scalar.indexCast v699
  let c32_320 : Index := 32#32
  ![v700.toNat, 32]
def k1_off233 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_323 : BitVec 32 := 16#32
  let v709 : BitVec 32 := Scalar.muli arg17 c16_i32_323
  let c6_i32_324 : BitVec 32 := 6#32
  let v710 : BitVec 32 := Scalar.addi v709 c6_i32_324
  let v711 : Index := Scalar.indexCast v710
  let c48_325 : Index := 48#32
  ![v711.toNat, 48]
def k1_off234 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_328 : BitVec 32 := 16#32
  let v720 : BitVec 32 := Scalar.muli arg17 c16_i32_328
  let c6_i32_329 : BitVec 32 := 6#32
  let v721 : BitVec 32 := Scalar.addi v720 c6_i32_329
  let v722 : Index := Scalar.indexCast v721
  let c64_330 : Index := 64#32
  ![v722.toNat, 64]
def k1_off235 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_333 : BitVec 32 := 16#32
  let v731 : BitVec 32 := Scalar.muli arg17 c16_i32_333
  let c6_i32_334 : BitVec 32 := 6#32
  let v732 : BitVec 32 := Scalar.addi v731 c6_i32_334
  let v733 : Index := Scalar.indexCast v732
  let c80_335 : Index := 80#32
  ![v733.toNat, 80]
def k1_off236 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_338 : BitVec 32 := 16#32
  let v742 : BitVec 32 := Scalar.muli arg17 c16_i32_338
  let c6_i32_339 : BitVec 32 := 6#32
  let v743 : BitVec 32 := Scalar.addi v742 c6_i32_339
  let v744 : Index := Scalar.indexCast v743
  let c96_340 : Index := 96#32
  ![v744.toNat, 96]
def k1_off237 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_343 : BitVec 32 := 16#32
  let v753 : BitVec 32 := Scalar.muli arg17 c16_i32_343
  let c6_i32_344 : BitVec 32 := 6#32
  let v754 : BitVec 32 := Scalar.addi v753 c6_i32_344
  let v755 : Index := Scalar.indexCast v754
  let c112_345 : Index := 112#32
  ![v755.toNat, 112]
def k1_off238 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r25 : BitVec 32 := 0#32
  ![v1.toNat, v1618.toNat, 0]
def k1_cond28 (v763 : BitVec 32) (v765 : BitVec 32) : BitVec 1 :=
  let v766 : BitVec 1 := Scalar.cmpi .ne v763 v765
  let v767 : BitVec 32 := Scalar.extui v766
  let c0_i32_348 : BitVec 32 := 0#32
  let v768 : BitVec 1 := Scalar.cmpi .ne v767 c0_i32_348
  v768

def k1_chk24 (i : grid1.Coords) (v84 : BitVec 32) (v86 : BitVec 32) (v88 : BitVec 32) (v763 : BitVec 32) (v765 : BitVec 32) (v1618 : BitVec 32) : Prop :=
  (∀ (k1_h20 : k1_cond20 v84 v86 v88 = 1#1), ∀ (k1_h28 : k1_cond28 v763 v765 = 1#1), ∀ a, (k1_off238 i v1618) a + S1x1x128.size a ≤ S32x512x128.size a)
theorem k1_off238_inb : ∀ (i : grid1.Coords) (v84 : BitVec 32) (v86 : BitVec 32) (v88 : BitVec 32) (v763 : BitVec 32) (v765 : BitVec 32) (v1618 : BitVec 32) (k1_hw24 : k1_chk24 i v84 v86 v88 v763 v765 v1618), ∀ (k1_h20 : k1_cond20 v84 v86 v88 = 1#1), ∀ (k1_h28 : k1_cond28 v763 v765 = 1#1), ∀ a, (k1_off238 i v1618) a + S1x1x128.size a ≤ S32x512x128.size a := fun i v84 v86 v88 v763 v765 v1618 k1_hw24 k1_h20 k1_h28 => k1_hw24 k1_h20 k1_h28

def k1_off239 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_350 : BitVec 32 := 16#32
  let v771 : BitVec 32 := Scalar.muli arg17 c16_i32_350
  let c7_i32 : BitVec 32 := 7#32
  let v772 : BitVec 32 := Scalar.addi v771 c7_i32
  let v773 : Index := Scalar.indexCast v772
  let c0_351 : Index := 0#32
  ![v773.toNat, 0]
def k1_off240 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_354 : BitVec 32 := 16#32
  let v782 : BitVec 32 := Scalar.muli arg17 c16_i32_354
  let c7_i32_355 : BitVec 32 := 7#32
  let v783 : BitVec 32 := Scalar.addi v782 c7_i32_355
  let v784 : Index := Scalar.indexCast v783
  let c16_356 : Index := 16#32
  ![v784.toNat, 16]
def k1_off241 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_359 : BitVec 32 := 16#32
  let v793 : BitVec 32 := Scalar.muli arg17 c16_i32_359
  let c7_i32_360 : BitVec 32 := 7#32
  let v794 : BitVec 32 := Scalar.addi v793 c7_i32_360
  let v795 : Index := Scalar.indexCast v794
  let c32_361 : Index := 32#32
  ![v795.toNat, 32]
def k1_off242 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_364 : BitVec 32 := 16#32
  let v804 : BitVec 32 := Scalar.muli arg17 c16_i32_364
  let c7_i32_365 : BitVec 32 := 7#32
  let v805 : BitVec 32 := Scalar.addi v804 c7_i32_365
  let v806 : Index := Scalar.indexCast v805
  let c48_366 : Index := 48#32
  ![v806.toNat, 48]
def k1_off243 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_369 : BitVec 32 := 16#32
  let v815 : BitVec 32 := Scalar.muli arg17 c16_i32_369
  let c7_i32_370 : BitVec 32 := 7#32
  let v816 : BitVec 32 := Scalar.addi v815 c7_i32_370
  let v817 : Index := Scalar.indexCast v816
  let c64_371 : Index := 64#32
  ![v817.toNat, 64]
def k1_off244 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_374 : BitVec 32 := 16#32
  let v826 : BitVec 32 := Scalar.muli arg17 c16_i32_374
  let c7_i32_375 : BitVec 32 := 7#32
  let v827 : BitVec 32 := Scalar.addi v826 c7_i32_375
  let v828 : Index := Scalar.indexCast v827
  let c80_376 : Index := 80#32
  ![v828.toNat, 80]
def k1_off245 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_379 : BitVec 32 := 16#32
  let v837 : BitVec 32 := Scalar.muli arg17 c16_i32_379
  let c7_i32_380 : BitVec 32 := 7#32
  let v838 : BitVec 32 := Scalar.addi v837 c7_i32_380
  let v839 : Index := Scalar.indexCast v838
  let c96_381 : Index := 96#32
  ![v839.toNat, 96]
def k1_off246 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_384 : BitVec 32 := 16#32
  let v848 : BitVec 32 := Scalar.muli arg17 c16_i32_384
  let c7_i32_385 : BitVec 32 := 7#32
  let v849 : BitVec 32 := Scalar.addi v848 c7_i32_385
  let v850 : Index := Scalar.indexCast v849
  let c112_386 : Index := 112#32
  ![v850.toNat, 112]
def k1_off247 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r26 : BitVec 32 := 0#32
  ![v1.toNat, v1618.toNat, 0]
def k1_cond29 (v858 : BitVec 32) (v860 : BitVec 32) : BitVec 1 :=
  let v861 : BitVec 1 := Scalar.cmpi .ne v858 v860
  let v862 : BitVec 32 := Scalar.extui v861
  let c0_i32_389 : BitVec 32 := 0#32
  let v863 : BitVec 1 := Scalar.cmpi .ne v862 c0_i32_389
  v863

def k1_chk25 (i : grid1.Coords) (v84 : BitVec 32) (v86 : BitVec 32) (v88 : BitVec 32) (v858 : BitVec 32) (v860 : BitVec 32) (v1618 : BitVec 32) : Prop :=
  (∀ (k1_h20 : k1_cond20 v84 v86 v88 = 1#1), ∀ (k1_h29 : k1_cond29 v858 v860 = 1#1), ∀ a, (k1_off247 i v1618) a + S1x1x128.size a ≤ S32x512x128.size a)
theorem k1_off247_inb : ∀ (i : grid1.Coords) (v84 : BitVec 32) (v86 : BitVec 32) (v88 : BitVec 32) (v858 : BitVec 32) (v860 : BitVec 32) (v1618 : BitVec 32) (k1_hw25 : k1_chk25 i v84 v86 v88 v858 v860 v1618), ∀ (k1_h20 : k1_cond20 v84 v86 v88 = 1#1), ∀ (k1_h29 : k1_cond29 v858 v860 = 1#1), ∀ a, (k1_off247 i v1618) a + S1x1x128.size a ≤ S32x512x128.size a := fun i v84 v86 v88 v858 v860 v1618 k1_hw25 k1_h20 k1_h29 => k1_hw25 k1_h20 k1_h29

def k1_off248 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_391 : BitVec 32 := 16#32
  let v866 : BitVec 32 := Scalar.muli arg17 c16_i32_391
  let c8_i32 : BitVec 32 := 8#32
  let v867 : BitVec 32 := Scalar.addi v866 c8_i32
  let v868 : Index := Scalar.indexCast v867
  let c0_392 : Index := 0#32
  ![v868.toNat, 0]
def k1_off249 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_395 : BitVec 32 := 16#32
  let v877 : BitVec 32 := Scalar.muli arg17 c16_i32_395
  let c8_i32_396 : BitVec 32 := 8#32
  let v878 : BitVec 32 := Scalar.addi v877 c8_i32_396
  let v879 : Index := Scalar.indexCast v878
  let c16_397 : Index := 16#32
  ![v879.toNat, 16]
def k1_off250 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_400 : BitVec 32 := 16#32
  let v888 : BitVec 32 := Scalar.muli arg17 c16_i32_400
  let c8_i32_401 : BitVec 32 := 8#32
  let v889 : BitVec 32 := Scalar.addi v888 c8_i32_401
  let v890 : Index := Scalar.indexCast v889
  let c32_402 : Index := 32#32
  ![v890.toNat, 32]
def k1_off251 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_405 : BitVec 32 := 16#32
  let v899 : BitVec 32 := Scalar.muli arg17 c16_i32_405
  let c8_i32_406 : BitVec 32 := 8#32
  let v900 : BitVec 32 := Scalar.addi v899 c8_i32_406
  let v901 : Index := Scalar.indexCast v900
  let c48_407 : Index := 48#32
  ![v901.toNat, 48]
def k1_off252 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_410 : BitVec 32 := 16#32
  let v910 : BitVec 32 := Scalar.muli arg17 c16_i32_410
  let c8_i32_411 : BitVec 32 := 8#32
  let v911 : BitVec 32 := Scalar.addi v910 c8_i32_411
  let v912 : Index := Scalar.indexCast v911
  let c64_412 : Index := 64#32
  ![v912.toNat, 64]
def k1_off253 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_415 : BitVec 32 := 16#32
  let v921 : BitVec 32 := Scalar.muli arg17 c16_i32_415
  let c8_i32_416 : BitVec 32 := 8#32
  let v922 : BitVec 32 := Scalar.addi v921 c8_i32_416
  let v923 : Index := Scalar.indexCast v922
  let c80_417 : Index := 80#32
  ![v923.toNat, 80]
def k1_off254 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_420 : BitVec 32 := 16#32
  let v932 : BitVec 32 := Scalar.muli arg17 c16_i32_420
  let c8_i32_421 : BitVec 32 := 8#32
  let v933 : BitVec 32 := Scalar.addi v932 c8_i32_421
  let v934 : Index := Scalar.indexCast v933
  let c96_422 : Index := 96#32
  ![v934.toNat, 96]
def k1_off255 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_425 : BitVec 32 := 16#32
  let v943 : BitVec 32 := Scalar.muli arg17 c16_i32_425
  let c8_i32_426 : BitVec 32 := 8#32
  let v944 : BitVec 32 := Scalar.addi v943 c8_i32_426
  let v945 : Index := Scalar.indexCast v944
  let c112_427 : Index := 112#32
  ![v945.toNat, 112]
def k1_off256 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r27 : BitVec 32 := 0#32
  ![v1.toNat, v1618.toNat, 0]
def k1_cond30 (v953 : BitVec 32) (v955 : BitVec 32) : BitVec 1 :=
  let v956 : BitVec 1 := Scalar.cmpi .ne v953 v955
  let v957 : BitVec 32 := Scalar.extui v956
  let c0_i32_430 : BitVec 32 := 0#32
  let v958 : BitVec 1 := Scalar.cmpi .ne v957 c0_i32_430
  v958

def k1_chk26 (i : grid1.Coords) (v84 : BitVec 32) (v86 : BitVec 32) (v88 : BitVec 32) (v953 : BitVec 32) (v955 : BitVec 32) (v1618 : BitVec 32) : Prop :=
  (∀ (k1_h20 : k1_cond20 v84 v86 v88 = 1#1), ∀ (k1_h30 : k1_cond30 v953 v955 = 1#1), ∀ a, (k1_off256 i v1618) a + S1x1x128.size a ≤ S32x512x128.size a)
theorem k1_off256_inb : ∀ (i : grid1.Coords) (v84 : BitVec 32) (v86 : BitVec 32) (v88 : BitVec 32) (v953 : BitVec 32) (v955 : BitVec 32) (v1618 : BitVec 32) (k1_hw26 : k1_chk26 i v84 v86 v88 v953 v955 v1618), ∀ (k1_h20 : k1_cond20 v84 v86 v88 = 1#1), ∀ (k1_h30 : k1_cond30 v953 v955 = 1#1), ∀ a, (k1_off256 i v1618) a + S1x1x128.size a ≤ S32x512x128.size a := fun i v84 v86 v88 v953 v955 v1618 k1_hw26 k1_h20 k1_h30 => k1_hw26 k1_h20 k1_h30

def k1_off257 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_432 : BitVec 32 := 16#32
  let v961 : BitVec 32 := Scalar.muli arg17 c16_i32_432
  let c9_i32 : BitVec 32 := 9#32
  let v962 : BitVec 32 := Scalar.addi v961 c9_i32
  let v963 : Index := Scalar.indexCast v962
  let c0_433 : Index := 0#32
  ![v963.toNat, 0]
def k1_off258 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_436 : BitVec 32 := 16#32
  let v972 : BitVec 32 := Scalar.muli arg17 c16_i32_436
  let c9_i32_437 : BitVec 32 := 9#32
  let v973 : BitVec 32 := Scalar.addi v972 c9_i32_437
  let v974 : Index := Scalar.indexCast v973
  let c16_438 : Index := 16#32
  ![v974.toNat, 16]
def k1_off259 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_441 : BitVec 32 := 16#32
  let v983 : BitVec 32 := Scalar.muli arg17 c16_i32_441
  let c9_i32_442 : BitVec 32 := 9#32
  let v984 : BitVec 32 := Scalar.addi v983 c9_i32_442
  let v985 : Index := Scalar.indexCast v984
  let c32_443 : Index := 32#32
  ![v985.toNat, 32]
def k1_off260 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_446 : BitVec 32 := 16#32
  let v994 : BitVec 32 := Scalar.muli arg17 c16_i32_446
  let c9_i32_447 : BitVec 32 := 9#32
  let v995 : BitVec 32 := Scalar.addi v994 c9_i32_447
  let v996 : Index := Scalar.indexCast v995
  let c48_448 : Index := 48#32
  ![v996.toNat, 48]
def k1_off261 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_451 : BitVec 32 := 16#32
  let v1005 : BitVec 32 := Scalar.muli arg17 c16_i32_451
  let c9_i32_452 : BitVec 32 := 9#32
  let v1006 : BitVec 32 := Scalar.addi v1005 c9_i32_452
  let v1007 : Index := Scalar.indexCast v1006
  let c64_453 : Index := 64#32
  ![v1007.toNat, 64]
def k1_off262 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_456 : BitVec 32 := 16#32
  let v1016 : BitVec 32 := Scalar.muli arg17 c16_i32_456
  let c9_i32_457 : BitVec 32 := 9#32
  let v1017 : BitVec 32 := Scalar.addi v1016 c9_i32_457
  let v1018 : Index := Scalar.indexCast v1017
  let c80_458 : Index := 80#32
  ![v1018.toNat, 80]
def k1_off263 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_461 : BitVec 32 := 16#32
  let v1027 : BitVec 32 := Scalar.muli arg17 c16_i32_461
  let c9_i32_462 : BitVec 32 := 9#32
  let v1028 : BitVec 32 := Scalar.addi v1027 c9_i32_462
  let v1029 : Index := Scalar.indexCast v1028
  let c96_463 : Index := 96#32
  ![v1029.toNat, 96]
def k1_off264 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_466 : BitVec 32 := 16#32
  let v1038 : BitVec 32 := Scalar.muli arg17 c16_i32_466
  let c9_i32_467 : BitVec 32 := 9#32
  let v1039 : BitVec 32 := Scalar.addi v1038 c9_i32_467
  let v1040 : Index := Scalar.indexCast v1039
  let c112_468 : Index := 112#32
  ![v1040.toNat, 112]
def k1_off265 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r28 : BitVec 32 := 0#32
  ![v1.toNat, v1618.toNat, 0]
def k1_cond31 (v1048 : BitVec 32) (v1050 : BitVec 32) : BitVec 1 :=
  let v1051 : BitVec 1 := Scalar.cmpi .ne v1048 v1050
  let v1052 : BitVec 32 := Scalar.extui v1051
  let c0_i32_471 : BitVec 32 := 0#32
  let v1053 : BitVec 1 := Scalar.cmpi .ne v1052 c0_i32_471
  v1053

def k1_chk27 (i : grid1.Coords) (v84 : BitVec 32) (v86 : BitVec 32) (v88 : BitVec 32) (v1048 : BitVec 32) (v1050 : BitVec 32) (v1618 : BitVec 32) : Prop :=
  (∀ (k1_h20 : k1_cond20 v84 v86 v88 = 1#1), ∀ (k1_h31 : k1_cond31 v1048 v1050 = 1#1), ∀ a, (k1_off265 i v1618) a + S1x1x128.size a ≤ S32x512x128.size a)
theorem k1_off265_inb : ∀ (i : grid1.Coords) (v84 : BitVec 32) (v86 : BitVec 32) (v88 : BitVec 32) (v1048 : BitVec 32) (v1050 : BitVec 32) (v1618 : BitVec 32) (k1_hw27 : k1_chk27 i v84 v86 v88 v1048 v1050 v1618), ∀ (k1_h20 : k1_cond20 v84 v86 v88 = 1#1), ∀ (k1_h31 : k1_cond31 v1048 v1050 = 1#1), ∀ a, (k1_off265 i v1618) a + S1x1x128.size a ≤ S32x512x128.size a := fun i v84 v86 v88 v1048 v1050 v1618 k1_hw27 k1_h20 k1_h31 => k1_hw27 k1_h20 k1_h31

def k1_off266 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_473 : BitVec 32 := 16#32
  let v1056 : BitVec 32 := Scalar.muli arg17 c16_i32_473
  let c10_i32 : BitVec 32 := 10#32
  let v1057 : BitVec 32 := Scalar.addi v1056 c10_i32
  let v1058 : Index := Scalar.indexCast v1057
  let c0_474 : Index := 0#32
  ![v1058.toNat, 0]
def k1_off267 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_477 : BitVec 32 := 16#32
  let v1067 : BitVec 32 := Scalar.muli arg17 c16_i32_477
  let c10_i32_478 : BitVec 32 := 10#32
  let v1068 : BitVec 32 := Scalar.addi v1067 c10_i32_478
  let v1069 : Index := Scalar.indexCast v1068
  let c16_479 : Index := 16#32
  ![v1069.toNat, 16]
def k1_off268 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_482 : BitVec 32 := 16#32
  let v1078 : BitVec 32 := Scalar.muli arg17 c16_i32_482
  let c10_i32_483 : BitVec 32 := 10#32
  let v1079 : BitVec 32 := Scalar.addi v1078 c10_i32_483
  let v1080 : Index := Scalar.indexCast v1079
  let c32_484 : Index := 32#32
  ![v1080.toNat, 32]
def k1_off269 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_487 : BitVec 32 := 16#32
  let v1089 : BitVec 32 := Scalar.muli arg17 c16_i32_487
  let c10_i32_488 : BitVec 32 := 10#32
  let v1090 : BitVec 32 := Scalar.addi v1089 c10_i32_488
  let v1091 : Index := Scalar.indexCast v1090
  let c48_489 : Index := 48#32
  ![v1091.toNat, 48]
def k1_off270 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_492 : BitVec 32 := 16#32
  let v1100 : BitVec 32 := Scalar.muli arg17 c16_i32_492
  let c10_i32_493 : BitVec 32 := 10#32
  let v1101 : BitVec 32 := Scalar.addi v1100 c10_i32_493
  let v1102 : Index := Scalar.indexCast v1101
  let c64_494 : Index := 64#32
  ![v1102.toNat, 64]
def k1_off271 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_497 : BitVec 32 := 16#32
  let v1111 : BitVec 32 := Scalar.muli arg17 c16_i32_497
  let c10_i32_498 : BitVec 32 := 10#32
  let v1112 : BitVec 32 := Scalar.addi v1111 c10_i32_498
  let v1113 : Index := Scalar.indexCast v1112
  let c80_499 : Index := 80#32
  ![v1113.toNat, 80]
def k1_off272 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_502 : BitVec 32 := 16#32
  let v1122 : BitVec 32 := Scalar.muli arg17 c16_i32_502
  let c10_i32_503 : BitVec 32 := 10#32
  let v1123 : BitVec 32 := Scalar.addi v1122 c10_i32_503
  let v1124 : Index := Scalar.indexCast v1123
  let c96_504 : Index := 96#32
  ![v1124.toNat, 96]
def k1_off273 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_507 : BitVec 32 := 16#32
  let v1133 : BitVec 32 := Scalar.muli arg17 c16_i32_507
  let c10_i32_508 : BitVec 32 := 10#32
  let v1134 : BitVec 32 := Scalar.addi v1133 c10_i32_508
  let v1135 : Index := Scalar.indexCast v1134
  let c112_509 : Index := 112#32
  ![v1135.toNat, 112]
def k1_off274 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r29 : BitVec 32 := 0#32
  ![v1.toNat, v1618.toNat, 0]
def k1_cond32 (v1143 : BitVec 32) (v1145 : BitVec 32) : BitVec 1 :=
  let v1146 : BitVec 1 := Scalar.cmpi .ne v1143 v1145
  let v1147 : BitVec 32 := Scalar.extui v1146
  let c0_i32_512 : BitVec 32 := 0#32
  let v1148 : BitVec 1 := Scalar.cmpi .ne v1147 c0_i32_512
  v1148

def k1_chk28 (i : grid1.Coords) (v84 : BitVec 32) (v86 : BitVec 32) (v88 : BitVec 32) (v1143 : BitVec 32) (v1145 : BitVec 32) (v1618 : BitVec 32) : Prop :=
  (∀ (k1_h20 : k1_cond20 v84 v86 v88 = 1#1), ∀ (k1_h32 : k1_cond32 v1143 v1145 = 1#1), ∀ a, (k1_off274 i v1618) a + S1x1x128.size a ≤ S32x512x128.size a)
theorem k1_off274_inb : ∀ (i : grid1.Coords) (v84 : BitVec 32) (v86 : BitVec 32) (v88 : BitVec 32) (v1143 : BitVec 32) (v1145 : BitVec 32) (v1618 : BitVec 32) (k1_hw28 : k1_chk28 i v84 v86 v88 v1143 v1145 v1618), ∀ (k1_h20 : k1_cond20 v84 v86 v88 = 1#1), ∀ (k1_h32 : k1_cond32 v1143 v1145 = 1#1), ∀ a, (k1_off274 i v1618) a + S1x1x128.size a ≤ S32x512x128.size a := fun i v84 v86 v88 v1143 v1145 v1618 k1_hw28 k1_h20 k1_h32 => k1_hw28 k1_h20 k1_h32

def k1_off275 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_514 : BitVec 32 := 16#32
  let v1151 : BitVec 32 := Scalar.muli arg17 c16_i32_514
  let c11_i32_515 : BitVec 32 := 11#32
  let v1152 : BitVec 32 := Scalar.addi v1151 c11_i32_515
  let v1153 : Index := Scalar.indexCast v1152
  let c0_516 : Index := 0#32
  ![v1153.toNat, 0]
def k1_off276 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_519 : BitVec 32 := 16#32
  let v1162 : BitVec 32 := Scalar.muli arg17 c16_i32_519
  let c11_i32_520 : BitVec 32 := 11#32
  let v1163 : BitVec 32 := Scalar.addi v1162 c11_i32_520
  let v1164 : Index := Scalar.indexCast v1163
  let c16_521 : Index := 16#32
  ![v1164.toNat, 16]
def k1_off277 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_524 : BitVec 32 := 16#32
  let v1173 : BitVec 32 := Scalar.muli arg17 c16_i32_524
  let c11_i32_525 : BitVec 32 := 11#32
  let v1174 : BitVec 32 := Scalar.addi v1173 c11_i32_525
  let v1175 : Index := Scalar.indexCast v1174
  let c32_526 : Index := 32#32
  ![v1175.toNat, 32]
def k1_off278 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_529 : BitVec 32 := 16#32
  let v1184 : BitVec 32 := Scalar.muli arg17 c16_i32_529
  let c11_i32_530 : BitVec 32 := 11#32
  let v1185 : BitVec 32 := Scalar.addi v1184 c11_i32_530
  let v1186 : Index := Scalar.indexCast v1185
  let c48_531 : Index := 48#32
  ![v1186.toNat, 48]
def k1_off279 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_534 : BitVec 32 := 16#32
  let v1195 : BitVec 32 := Scalar.muli arg17 c16_i32_534
  let c11_i32_535 : BitVec 32 := 11#32
  let v1196 : BitVec 32 := Scalar.addi v1195 c11_i32_535
  let v1197 : Index := Scalar.indexCast v1196
  let c64_536 : Index := 64#32
  ![v1197.toNat, 64]
def k1_off280 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_539 : BitVec 32 := 16#32
  let v1206 : BitVec 32 := Scalar.muli arg17 c16_i32_539
  let c11_i32_540 : BitVec 32 := 11#32
  let v1207 : BitVec 32 := Scalar.addi v1206 c11_i32_540
  let v1208 : Index := Scalar.indexCast v1207
  let c80_541 : Index := 80#32
  ![v1208.toNat, 80]
def k1_off281 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_544 : BitVec 32 := 16#32
  let v1217 : BitVec 32 := Scalar.muli arg17 c16_i32_544
  let c11_i32_545 : BitVec 32 := 11#32
  let v1218 : BitVec 32 := Scalar.addi v1217 c11_i32_545
  let v1219 : Index := Scalar.indexCast v1218
  let c96_546 : Index := 96#32
  ![v1219.toNat, 96]
def k1_off282 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_549 : BitVec 32 := 16#32
  let v1228 : BitVec 32 := Scalar.muli arg17 c16_i32_549
  let c11_i32_550 : BitVec 32 := 11#32
  let v1229 : BitVec 32 := Scalar.addi v1228 c11_i32_550
  let v1230 : Index := Scalar.indexCast v1229
  let c112_551 : Index := 112#32
  ![v1230.toNat, 112]
def k1_off283 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r30 : BitVec 32 := 0#32
  ![v1.toNat, v1618.toNat, 0]
def k1_cond33 (v1238 : BitVec 32) (v1240 : BitVec 32) : BitVec 1 :=
  let v1241 : BitVec 1 := Scalar.cmpi .ne v1238 v1240
  let v1242 : BitVec 32 := Scalar.extui v1241
  let c0_i32_554 : BitVec 32 := 0#32
  let v1243 : BitVec 1 := Scalar.cmpi .ne v1242 c0_i32_554
  v1243

def k1_chk29 (i : grid1.Coords) (v84 : BitVec 32) (v86 : BitVec 32) (v88 : BitVec 32) (v1238 : BitVec 32) (v1240 : BitVec 32) (v1618 : BitVec 32) : Prop :=
  (∀ (k1_h20 : k1_cond20 v84 v86 v88 = 1#1), ∀ (k1_h33 : k1_cond33 v1238 v1240 = 1#1), ∀ a, (k1_off283 i v1618) a + S1x1x128.size a ≤ S32x512x128.size a)
theorem k1_off283_inb : ∀ (i : grid1.Coords) (v84 : BitVec 32) (v86 : BitVec 32) (v88 : BitVec 32) (v1238 : BitVec 32) (v1240 : BitVec 32) (v1618 : BitVec 32) (k1_hw29 : k1_chk29 i v84 v86 v88 v1238 v1240 v1618), ∀ (k1_h20 : k1_cond20 v84 v86 v88 = 1#1), ∀ (k1_h33 : k1_cond33 v1238 v1240 = 1#1), ∀ a, (k1_off283 i v1618) a + S1x1x128.size a ≤ S32x512x128.size a := fun i v84 v86 v88 v1238 v1240 v1618 k1_hw29 k1_h20 k1_h33 => k1_hw29 k1_h20 k1_h33

def k1_off284 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_556 : BitVec 32 := 16#32
  let v1246 : BitVec 32 := Scalar.muli arg17 c16_i32_556
  let c12_i32_557 : BitVec 32 := 12#32
  let v1247 : BitVec 32 := Scalar.addi v1246 c12_i32_557
  let v1248 : Index := Scalar.indexCast v1247
  let c0_558 : Index := 0#32
  ![v1248.toNat, 0]
def k1_off285 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_561 : BitVec 32 := 16#32
  let v1257 : BitVec 32 := Scalar.muli arg17 c16_i32_561
  let c12_i32_562 : BitVec 32 := 12#32
  let v1258 : BitVec 32 := Scalar.addi v1257 c12_i32_562
  let v1259 : Index := Scalar.indexCast v1258
  let c16_563 : Index := 16#32
  ![v1259.toNat, 16]
def k1_off286 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_566 : BitVec 32 := 16#32
  let v1268 : BitVec 32 := Scalar.muli arg17 c16_i32_566
  let c12_i32_567 : BitVec 32 := 12#32
  let v1269 : BitVec 32 := Scalar.addi v1268 c12_i32_567
  let v1270 : Index := Scalar.indexCast v1269
  let c32_568 : Index := 32#32
  ![v1270.toNat, 32]
def k1_off287 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_571 : BitVec 32 := 16#32
  let v1279 : BitVec 32 := Scalar.muli arg17 c16_i32_571
  let c12_i32_572 : BitVec 32 := 12#32
  let v1280 : BitVec 32 := Scalar.addi v1279 c12_i32_572
  let v1281 : Index := Scalar.indexCast v1280
  let c48_573 : Index := 48#32
  ![v1281.toNat, 48]
def k1_off288 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_576 : BitVec 32 := 16#32
  let v1290 : BitVec 32 := Scalar.muli arg17 c16_i32_576
  let c12_i32_577 : BitVec 32 := 12#32
  let v1291 : BitVec 32 := Scalar.addi v1290 c12_i32_577
  let v1292 : Index := Scalar.indexCast v1291
  let c64_578 : Index := 64#32
  ![v1292.toNat, 64]
def k1_off289 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_581 : BitVec 32 := 16#32
  let v1301 : BitVec 32 := Scalar.muli arg17 c16_i32_581
  let c12_i32_582 : BitVec 32 := 12#32
  let v1302 : BitVec 32 := Scalar.addi v1301 c12_i32_582
  let v1303 : Index := Scalar.indexCast v1302
  let c80_583 : Index := 80#32
  ![v1303.toNat, 80]
def k1_off290 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_586 : BitVec 32 := 16#32
  let v1312 : BitVec 32 := Scalar.muli arg17 c16_i32_586
  let c12_i32_587 : BitVec 32 := 12#32
  let v1313 : BitVec 32 := Scalar.addi v1312 c12_i32_587
  let v1314 : Index := Scalar.indexCast v1313
  let c96_588 : Index := 96#32
  ![v1314.toNat, 96]
def k1_off291 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_591 : BitVec 32 := 16#32
  let v1323 : BitVec 32 := Scalar.muli arg17 c16_i32_591
  let c12_i32_592 : BitVec 32 := 12#32
  let v1324 : BitVec 32 := Scalar.addi v1323 c12_i32_592
  let v1325 : Index := Scalar.indexCast v1324
  let c112_593 : Index := 112#32
  ![v1325.toNat, 112]
def k1_off292 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r31 : BitVec 32 := 0#32
  ![v1.toNat, v1618.toNat, 0]
def k1_cond34 (v1333 : BitVec 32) (v1335 : BitVec 32) : BitVec 1 :=
  let v1336 : BitVec 1 := Scalar.cmpi .ne v1333 v1335
  let v1337 : BitVec 32 := Scalar.extui v1336
  let c0_i32_596 : BitVec 32 := 0#32
  let v1338 : BitVec 1 := Scalar.cmpi .ne v1337 c0_i32_596
  v1338

def k1_chk30 (i : grid1.Coords) (v84 : BitVec 32) (v86 : BitVec 32) (v88 : BitVec 32) (v1333 : BitVec 32) (v1335 : BitVec 32) (v1618 : BitVec 32) : Prop :=
  (∀ (k1_h20 : k1_cond20 v84 v86 v88 = 1#1), ∀ (k1_h34 : k1_cond34 v1333 v1335 = 1#1), ∀ a, (k1_off292 i v1618) a + S1x1x128.size a ≤ S32x512x128.size a)
theorem k1_off292_inb : ∀ (i : grid1.Coords) (v84 : BitVec 32) (v86 : BitVec 32) (v88 : BitVec 32) (v1333 : BitVec 32) (v1335 : BitVec 32) (v1618 : BitVec 32) (k1_hw30 : k1_chk30 i v84 v86 v88 v1333 v1335 v1618), ∀ (k1_h20 : k1_cond20 v84 v86 v88 = 1#1), ∀ (k1_h34 : k1_cond34 v1333 v1335 = 1#1), ∀ a, (k1_off292 i v1618) a + S1x1x128.size a ≤ S32x512x128.size a := fun i v84 v86 v88 v1333 v1335 v1618 k1_hw30 k1_h20 k1_h34 => k1_hw30 k1_h20 k1_h34

def k1_off293 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_598 : BitVec 32 := 16#32
  let v1341 : BitVec 32 := Scalar.muli arg17 c16_i32_598
  let c13_i32 : BitVec 32 := 13#32
  let v1342 : BitVec 32 := Scalar.addi v1341 c13_i32
  let v1343 : Index := Scalar.indexCast v1342
  let c0_599 : Index := 0#32
  ![v1343.toNat, 0]
def k1_off294 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_602 : BitVec 32 := 16#32
  let v1352 : BitVec 32 := Scalar.muli arg17 c16_i32_602
  let c13_i32_603 : BitVec 32 := 13#32
  let v1353 : BitVec 32 := Scalar.addi v1352 c13_i32_603
  let v1354 : Index := Scalar.indexCast v1353
  let c16_604 : Index := 16#32
  ![v1354.toNat, 16]
def k1_off295 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_607 : BitVec 32 := 16#32
  let v1363 : BitVec 32 := Scalar.muli arg17 c16_i32_607
  let c13_i32_608 : BitVec 32 := 13#32
  let v1364 : BitVec 32 := Scalar.addi v1363 c13_i32_608
  let v1365 : Index := Scalar.indexCast v1364
  let c32_609 : Index := 32#32
  ![v1365.toNat, 32]
def k1_off296 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_612 : BitVec 32 := 16#32
  let v1374 : BitVec 32 := Scalar.muli arg17 c16_i32_612
  let c13_i32_613 : BitVec 32 := 13#32
  let v1375 : BitVec 32 := Scalar.addi v1374 c13_i32_613
  let v1376 : Index := Scalar.indexCast v1375
  let c48_614 : Index := 48#32
  ![v1376.toNat, 48]
def k1_off297 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_617 : BitVec 32 := 16#32
  let v1385 : BitVec 32 := Scalar.muli arg17 c16_i32_617
  let c13_i32_618 : BitVec 32 := 13#32
  let v1386 : BitVec 32 := Scalar.addi v1385 c13_i32_618
  let v1387 : Index := Scalar.indexCast v1386
  let c64_619 : Index := 64#32
  ![v1387.toNat, 64]
def k1_off298 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_622 : BitVec 32 := 16#32
  let v1396 : BitVec 32 := Scalar.muli arg17 c16_i32_622
  let c13_i32_623 : BitVec 32 := 13#32
  let v1397 : BitVec 32 := Scalar.addi v1396 c13_i32_623
  let v1398 : Index := Scalar.indexCast v1397
  let c80_624 : Index := 80#32
  ![v1398.toNat, 80]
def k1_off299 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_627 : BitVec 32 := 16#32
  let v1407 : BitVec 32 := Scalar.muli arg17 c16_i32_627
  let c13_i32_628 : BitVec 32 := 13#32
  let v1408 : BitVec 32 := Scalar.addi v1407 c13_i32_628
  let v1409 : Index := Scalar.indexCast v1408
  let c96_629 : Index := 96#32
  ![v1409.toNat, 96]
def k1_off300 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_632 : BitVec 32 := 16#32
  let v1418 : BitVec 32 := Scalar.muli arg17 c16_i32_632
  let c13_i32_633 : BitVec 32 := 13#32
  let v1419 : BitVec 32 := Scalar.addi v1418 c13_i32_633
  let v1420 : Index := Scalar.indexCast v1419
  let c112_634 : Index := 112#32
  ![v1420.toNat, 112]
def k1_off301 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r32 : BitVec 32 := 0#32
  ![v1.toNat, v1618.toNat, 0]
def k1_cond35 (v1428 : BitVec 32) (v1430 : BitVec 32) : BitVec 1 :=
  let v1431 : BitVec 1 := Scalar.cmpi .ne v1428 v1430
  let v1432 : BitVec 32 := Scalar.extui v1431
  let c0_i32_637 : BitVec 32 := 0#32
  let v1433 : BitVec 1 := Scalar.cmpi .ne v1432 c0_i32_637
  v1433

def k1_chk31 (i : grid1.Coords) (v84 : BitVec 32) (v86 : BitVec 32) (v88 : BitVec 32) (v1428 : BitVec 32) (v1430 : BitVec 32) (v1618 : BitVec 32) : Prop :=
  (∀ (k1_h20 : k1_cond20 v84 v86 v88 = 1#1), ∀ (k1_h35 : k1_cond35 v1428 v1430 = 1#1), ∀ a, (k1_off301 i v1618) a + S1x1x128.size a ≤ S32x512x128.size a)
theorem k1_off301_inb : ∀ (i : grid1.Coords) (v84 : BitVec 32) (v86 : BitVec 32) (v88 : BitVec 32) (v1428 : BitVec 32) (v1430 : BitVec 32) (v1618 : BitVec 32) (k1_hw31 : k1_chk31 i v84 v86 v88 v1428 v1430 v1618), ∀ (k1_h20 : k1_cond20 v84 v86 v88 = 1#1), ∀ (k1_h35 : k1_cond35 v1428 v1430 = 1#1), ∀ a, (k1_off301 i v1618) a + S1x1x128.size a ≤ S32x512x128.size a := fun i v84 v86 v88 v1428 v1430 v1618 k1_hw31 k1_h20 k1_h35 => k1_hw31 k1_h20 k1_h35

def k1_off302 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_639 : BitVec 32 := 16#32
  let v1436 : BitVec 32 := Scalar.muli arg17 c16_i32_639
  let c14_i32 : BitVec 32 := 14#32
  let v1437 : BitVec 32 := Scalar.addi v1436 c14_i32
  let v1438 : Index := Scalar.indexCast v1437
  let c0_640 : Index := 0#32
  ![v1438.toNat, 0]
def k1_off303 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_643 : BitVec 32 := 16#32
  let v1447 : BitVec 32 := Scalar.muli arg17 c16_i32_643
  let c14_i32_644 : BitVec 32 := 14#32
  let v1448 : BitVec 32 := Scalar.addi v1447 c14_i32_644
  let v1449 : Index := Scalar.indexCast v1448
  let c16_645 : Index := 16#32
  ![v1449.toNat, 16]
def k1_off304 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_648 : BitVec 32 := 16#32
  let v1458 : BitVec 32 := Scalar.muli arg17 c16_i32_648
  let c14_i32_649 : BitVec 32 := 14#32
  let v1459 : BitVec 32 := Scalar.addi v1458 c14_i32_649
  let v1460 : Index := Scalar.indexCast v1459
  let c32_650 : Index := 32#32
  ![v1460.toNat, 32]
def k1_off305 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_653 : BitVec 32 := 16#32
  let v1469 : BitVec 32 := Scalar.muli arg17 c16_i32_653
  let c14_i32_654 : BitVec 32 := 14#32
  let v1470 : BitVec 32 := Scalar.addi v1469 c14_i32_654
  let v1471 : Index := Scalar.indexCast v1470
  let c48_655 : Index := 48#32
  ![v1471.toNat, 48]
def k1_off306 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_658 : BitVec 32 := 16#32
  let v1480 : BitVec 32 := Scalar.muli arg17 c16_i32_658
  let c14_i32_659 : BitVec 32 := 14#32
  let v1481 : BitVec 32 := Scalar.addi v1480 c14_i32_659
  let v1482 : Index := Scalar.indexCast v1481
  let c64_660 : Index := 64#32
  ![v1482.toNat, 64]
def k1_off307 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_663 : BitVec 32 := 16#32
  let v1491 : BitVec 32 := Scalar.muli arg17 c16_i32_663
  let c14_i32_664 : BitVec 32 := 14#32
  let v1492 : BitVec 32 := Scalar.addi v1491 c14_i32_664
  let v1493 : Index := Scalar.indexCast v1492
  let c80_665 : Index := 80#32
  ![v1493.toNat, 80]
def k1_off308 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_668 : BitVec 32 := 16#32
  let v1502 : BitVec 32 := Scalar.muli arg17 c16_i32_668
  let c14_i32_669 : BitVec 32 := 14#32
  let v1503 : BitVec 32 := Scalar.addi v1502 c14_i32_669
  let v1504 : Index := Scalar.indexCast v1503
  let c96_670 : Index := 96#32
  ![v1504.toNat, 96]
def k1_off309 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_673 : BitVec 32 := 16#32
  let v1513 : BitVec 32 := Scalar.muli arg17 c16_i32_673
  let c14_i32_674 : BitVec 32 := 14#32
  let v1514 : BitVec 32 := Scalar.addi v1513 c14_i32_674
  let v1515 : Index := Scalar.indexCast v1514
  let c112_675 : Index := 112#32
  ![v1515.toNat, 112]
def k1_off310 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r33 : BitVec 32 := 0#32
  ![v1.toNat, v1618.toNat, 0]
def k1_cond36 (v1523 : BitVec 32) (v1525 : BitVec 32) : BitVec 1 :=
  let v1526 : BitVec 1 := Scalar.cmpi .ne v1523 v1525
  let v1527 : BitVec 32 := Scalar.extui v1526
  let c0_i32_678 : BitVec 32 := 0#32
  let v1528 : BitVec 1 := Scalar.cmpi .ne v1527 c0_i32_678
  v1528

def k1_chk32 (i : grid1.Coords) (v84 : BitVec 32) (v86 : BitVec 32) (v88 : BitVec 32) (v1523 : BitVec 32) (v1525 : BitVec 32) (v1618 : BitVec 32) : Prop :=
  (∀ (k1_h20 : k1_cond20 v84 v86 v88 = 1#1), ∀ (k1_h36 : k1_cond36 v1523 v1525 = 1#1), ∀ a, (k1_off310 i v1618) a + S1x1x128.size a ≤ S32x512x128.size a)
theorem k1_off310_inb : ∀ (i : grid1.Coords) (v84 : BitVec 32) (v86 : BitVec 32) (v88 : BitVec 32) (v1523 : BitVec 32) (v1525 : BitVec 32) (v1618 : BitVec 32) (k1_hw32 : k1_chk32 i v84 v86 v88 v1523 v1525 v1618), ∀ (k1_h20 : k1_cond20 v84 v86 v88 = 1#1), ∀ (k1_h36 : k1_cond36 v1523 v1525 = 1#1), ∀ a, (k1_off310 i v1618) a + S1x1x128.size a ≤ S32x512x128.size a := fun i v84 v86 v88 v1523 v1525 v1618 k1_hw32 k1_h20 k1_h36 => k1_hw32 k1_h20 k1_h36

def k1_off311 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_680 : BitVec 32 := 16#32
  let v1531 : BitVec 32 := Scalar.muli arg17 c16_i32_680
  let c15_i32 : BitVec 32 := 15#32
  let v1532 : BitVec 32 := Scalar.addi v1531 c15_i32
  let v1533 : Index := Scalar.indexCast v1532
  let c0_681 : Index := 0#32
  ![v1533.toNat, 0]
def k1_off312 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_684 : BitVec 32 := 16#32
  let v1542 : BitVec 32 := Scalar.muli arg17 c16_i32_684
  let c15_i32_685 : BitVec 32 := 15#32
  let v1543 : BitVec 32 := Scalar.addi v1542 c15_i32_685
  let v1544 : Index := Scalar.indexCast v1543
  let c16_686 : Index := 16#32
  ![v1544.toNat, 16]
def k1_off313 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_689 : BitVec 32 := 16#32
  let v1553 : BitVec 32 := Scalar.muli arg17 c16_i32_689
  let c15_i32_690 : BitVec 32 := 15#32
  let v1554 : BitVec 32 := Scalar.addi v1553 c15_i32_690
  let v1555 : Index := Scalar.indexCast v1554
  let c32_691 : Index := 32#32
  ![v1555.toNat, 32]
def k1_off314 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_694 : BitVec 32 := 16#32
  let v1564 : BitVec 32 := Scalar.muli arg17 c16_i32_694
  let c15_i32_695 : BitVec 32 := 15#32
  let v1565 : BitVec 32 := Scalar.addi v1564 c15_i32_695
  let v1566 : Index := Scalar.indexCast v1565
  let c48_696 : Index := 48#32
  ![v1566.toNat, 48]
def k1_off315 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_699 : BitVec 32 := 16#32
  let v1575 : BitVec 32 := Scalar.muli arg17 c16_i32_699
  let c15_i32_700 : BitVec 32 := 15#32
  let v1576 : BitVec 32 := Scalar.addi v1575 c15_i32_700
  let v1577 : Index := Scalar.indexCast v1576
  let c64_701 : Index := 64#32
  ![v1577.toNat, 64]
def k1_off316 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_704 : BitVec 32 := 16#32
  let v1586 : BitVec 32 := Scalar.muli arg17 c16_i32_704
  let c15_i32_705 : BitVec 32 := 15#32
  let v1587 : BitVec 32 := Scalar.addi v1586 c15_i32_705
  let v1588 : Index := Scalar.indexCast v1587
  let c80_706 : Index := 80#32
  ![v1588.toNat, 80]
def k1_off317 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_709 : BitVec 32 := 16#32
  let v1597 : BitVec 32 := Scalar.muli arg17 c16_i32_709
  let c15_i32_710 : BitVec 32 := 15#32
  let v1598 : BitVec 32 := Scalar.addi v1597 c15_i32_710
  let v1599 : Index := Scalar.indexCast v1598
  let c96_711 : Index := 96#32
  ![v1599.toNat, 96]
def k1_off318 (k1_t4 : Fin k1_t4_loop.trips) : Fin 2 → Nat :=
  let c0_i32_34 : BitVec 32 := 0#32
  let c1_i32_36 : BitVec 32 := 1#32
  let arg17 : BitVec 32 := Scf.iv c0_i32_34 c1_i32_36 k1_t4
  let c16_i32_714 : BitVec 32 := 16#32
  let v1608 : BitVec 32 := Scalar.muli arg17 c16_i32_714
  let c15_i32_715 : BitVec 32 := 15#32
  let v1609 : BitVec 32 := Scalar.addi v1608 c15_i32_715
  let v1610 : Index := Scalar.indexCast v1609
  let c112_716 : Index := 112#32
  ![v1610.toNat, 112]
def k1_cond37 (k1_t3 : Fin k1_t3_loop.trips) : BitVec 1 :=
  let c0_i32_23 : BitVec 32 := 0#32
  let c1_i32_24 : BitVec 32 := 1#32
  let arg15 : BitVec 32 := Scf.iv c0_i32_23 c1_i32_24 k1_t3
  let c11_i32 : BitVec 32 := 11#32
  let v67 : BitVec 1 := Scalar.cmpi .slt arg15 c11_i32
  let v68 : BitVec 32 := Scalar.extui v67
  let c0_i32_38 : BitVec 32 := 0#32
  let v69 : BitVec 1 := Scalar.cmpi .ne v68 c0_i32_38
  v69

def k1_off319 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_53 : BitVec 32 := 2#32
  let c0_i32_23 : BitVec 32 := 0#32
  let c1_i32_24 : BitVec 32 := 1#32
  let arg15 : BitVec 32 := Scf.iv c0_i32_23 c1_i32_24 k1_t3
  let v79 : BitVec 32 := Scalar.muli c2_i32_53 arg15
  let c3_i32 : BitVec 32 := 3#32
  let v80 : BitVec 32 := Scalar.addi v79 c3_i32
  let c400_i32_54 : BitVec 32 := 400#32
  let v81 : BitVec 32 := Scalar.muli v80 c400_i32_54
  let v82 : BitVec 32 := Scalar.addi v2 v81
  let c0_i32_55 : BitVec 32 := 0#32
  ![v82.toNat, 0]
def k1_off320 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_53 : BitVec 32 := 2#32
  let c0_i32_23 : BitVec 32 := 0#32
  let c1_i32_24 : BitVec 32 := 1#32
  let arg15 : BitVec 32 := Scf.iv c0_i32_23 c1_i32_24 k1_t3
  let v79 : BitVec 32 := Scalar.muli c2_i32_53 arg15
  let c3_i32 : BitVec 32 := 3#32
  let v80 : BitVec 32 := Scalar.addi v79 c3_i32
  let c400_i32_54 : BitVec 32 := 400#32
  let v81 : BitVec 32 := Scalar.muli v80 c400_i32_54
  let v82 : BitVec 32 := Scalar.addi v2 v81
  ![v82.toNat]
@[reducible] def k1_t5_loop : Scf.Loop 32 :=
  let c0_i32_46 : BitVec 32 := 0#32
  let c25_i32_47 : BitVec 32 := 25#32
  let v74 : BitVec 32 := Scalar.addi c0_i32_46 c25_i32_47
  let c1_i32_48 : BitVec 32 := 1#32
  ⟨c0_i32_46, v74, c1_i32_48⟩
def k1_off321 (k1_t5 : Fin k1_t5_loop.trips) : Fin 1 → Nat :=
  let c0_i32_46 : BitVec 32 := 0#32
  let c1_i32_48 : BitVec 32 := 1#32
  let arg17 : BitVec 32 := Scf.iv c0_i32_46 c1_i32_48 k1_t5
  let c16_i32 : BitVec 32 := 16#32
  let v79 : BitVec 32 := Scalar.muli arg17 c16_i32
  let v80 : Index := Scalar.indexCast v79
  ![v80.toNat]
def k1_off322 (k1_t5 : Fin k1_t5_loop.trips) (c0_i32_58 : BitVec 32) : Fin 2 → Nat :=
  let c0_i32_46 : BitVec 32 := 0#32
  let c1_i32_48 : BitVec 32 := 1#32
  let arg17 : BitVec 32 := Scf.iv c0_i32_46 c1_i32_48 k1_t5
  let c16_i32_57 : BitVec 32 := 16#32
  let v97 : BitVec 32 := Scalar.muli arg17 c16_i32_57
  let v98 : BitVec 32 := Scalar.addi v97 c0_i32_58
  let v99 : Index := Scalar.indexCast v98
  let c0_59 : Index := 0#32
  ![v99.toNat, 0]
def k1_off323 (k1_t5 : Fin k1_t5_loop.trips) (c0_i32_97 : BitVec 32) : Fin 2 → Nat :=
  let c0_i32_46 : BitVec 32 := 0#32
  let c1_i32_48 : BitVec 32 := 1#32
  let arg17 : BitVec 32 := Scf.iv c0_i32_46 c1_i32_48 k1_t5
  let c16_i32_96 : BitVec 32 := 16#32
  let v198 : BitVec 32 := Scalar.muli arg17 c16_i32_96
  let v199 : BitVec 32 := Scalar.addi v198 c0_i32_97
  let v200 : Index := Scalar.indexCast v199
  let c16_98 : Index := 16#32
  ![v200.toNat, 16]
def k1_off324 (k1_t5 : Fin k1_t5_loop.trips) (c0_i32_147 : BitVec 32) : Fin 2 → Nat :=
  let c0_i32_46 : BitVec 32 := 0#32
  let c1_i32_48 : BitVec 32 := 1#32
  let arg17 : BitVec 32 := Scf.iv c0_i32_46 c1_i32_48 k1_t5
  let c16_i32_146 : BitVec 32 := 16#32
  let v299 : BitVec 32 := Scalar.muli arg17 c16_i32_146
  let v300 : BitVec 32 := Scalar.addi v299 c0_i32_147
  let v301 : Index := Scalar.indexCast v300
  let c32_148 : Index := 32#32
  ![v301.toNat, 32]
def k1_off325 (k1_t5 : Fin k1_t5_loop.trips) (c0_i32_197 : BitVec 32) : Fin 2 → Nat :=
  let c0_i32_46 : BitVec 32 := 0#32
  let c1_i32_48 : BitVec 32 := 1#32
  let arg17 : BitVec 32 := Scf.iv c0_i32_46 c1_i32_48 k1_t5
  let c16_i32_196 : BitVec 32 := 16#32
  let v400 : BitVec 32 := Scalar.muli arg17 c16_i32_196
  let v401 : BitVec 32 := Scalar.addi v400 c0_i32_197
  let v402 : Index := Scalar.indexCast v401
  let c48_198 : Index := 48#32
  ![v402.toNat, 48]
def k1_off326 (k1_t5 : Fin k1_t5_loop.trips) (c0_i32_247 : BitVec 32) : Fin 2 → Nat :=
  let c0_i32_46 : BitVec 32 := 0#32
  let c1_i32_48 : BitVec 32 := 1#32
  let arg17 : BitVec 32 := Scf.iv c0_i32_46 c1_i32_48 k1_t5
  let c16_i32_246 : BitVec 32 := 16#32
  let v501 : BitVec 32 := Scalar.muli arg17 c16_i32_246
  let v502 : BitVec 32 := Scalar.addi v501 c0_i32_247
  let v503 : Index := Scalar.indexCast v502
  let c64_248 : Index := 64#32
  ![v503.toNat, 64]
def k1_off327 (k1_t5 : Fin k1_t5_loop.trips) (c0_i32_297 : BitVec 32) : Fin 2 → Nat :=
  let c0_i32_46 : BitVec 32 := 0#32
  let c1_i32_48 : BitVec 32 := 1#32
  let arg17 : BitVec 32 := Scf.iv c0_i32_46 c1_i32_48 k1_t5
  let c16_i32_296 : BitVec 32 := 16#32
  let v602 : BitVec 32 := Scalar.muli arg17 c16_i32_296
  let v603 : BitVec 32 := Scalar.addi v602 c0_i32_297
  let v604 : Index := Scalar.indexCast v603
  let c80_298 : Index := 80#32
  ![v604.toNat, 80]
def k1_off328 (k1_t5 : Fin k1_t5_loop.trips) (c0_i32_347 : BitVec 32) : Fin 2 → Nat :=
  let c0_i32_46 : BitVec 32 := 0#32
  let c1_i32_48 : BitVec 32 := 1#32
  let arg17 : BitVec 32 := Scf.iv c0_i32_46 c1_i32_48 k1_t5
  let c16_i32_346 : BitVec 32 := 16#32
  let v703 : BitVec 32 := Scalar.muli arg17 c16_i32_346
  let v704 : BitVec 32 := Scalar.addi v703 c0_i32_347
  let v705 : Index := Scalar.indexCast v704
  let c96_348 : Index := 96#32
  ![v705.toNat, 96]
def k1_off329 (k1_t5 : Fin k1_t5_loop.trips) (c0_i32_397 : BitVec 32) : Fin 2 → Nat :=
  let c0_i32_46 : BitVec 32 := 0#32
  let c1_i32_48 : BitVec 32 := 1#32
  let arg17 : BitVec 32 := Scf.iv c0_i32_46 c1_i32_48 k1_t5
  let c16_i32_396 : BitVec 32 := 16#32
  let v804 : BitVec 32 := Scalar.muli arg17 c16_i32_396
  let v805 : BitVec 32 := Scalar.addi v804 c0_i32_397
  let v806 : Index := Scalar.indexCast v805
  let c112_398 : Index := 112#32
  ![v806.toNat, 112]
def k1_off330 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r34 : BitVec 32 := 0#32
  ![v1.toNat, v1618.toNat, 0]
def k1_cond39 (v84 : BitVec 32) (v86 : BitVec 32) (v88 : BitVec 32) : BitVec 1 :=
  let v89 : BitVec 1 := Scalar.cmpi .eq v84 v88
  let v90 : BitVec 1 := Scalar.cmpi .eq v84 v86
  let v91 : BitVec 1 := Scalar.andi v89 v90
  let v_true : BitVec 1 := 1#1
  let v94 : BitVec 1 := Scalar.xori v91 v_true
  let v95 : BitVec 32 := Scalar.extui v94
  let c0_i32_55 : BitVec 32 := 0#32
  let v96 : BitVec 1 := Scalar.cmpi .ne v95 c0_i32_55
  v96

def k1_cond40 (v98 : BitVec 32) (v100 : BitVec 32) : BitVec 1 :=
  let v101 : BitVec 1 := Scalar.cmpi .ne v98 v100
  let v102 : BitVec 32 := Scalar.extui v101
  let c0_i32_58 : BitVec 32 := 0#32
  let v103 : BitVec 1 := Scalar.cmpi .ne v102 c0_i32_58
  v103

def k1_chk33 (i : grid1.Coords) (v84 : BitVec 32) (v86 : BitVec 32) (v88 : BitVec 32) (v98 : BitVec 32) (v100 : BitVec 32) (v1618 : BitVec 32) : Prop :=
  (∀ (k1_h39 : k1_cond39 v84 v86 v88 = 1#1), ∀ (k1_h40 : k1_cond40 v98 v100 = 1#1), ∀ a, (k1_off330 i v1618) a + S1x1x128.size a ≤ S32x512x128.size a)
theorem k1_off330_inb : ∀ (i : grid1.Coords) (v84 : BitVec 32) (v86 : BitVec 32) (v88 : BitVec 32) (v98 : BitVec 32) (v100 : BitVec 32) (v1618 : BitVec 32) (k1_hw33 : k1_chk33 i v84 v86 v88 v98 v100 v1618), ∀ (k1_h39 : k1_cond39 v84 v86 v88 = 1#1), ∀ (k1_h40 : k1_cond40 v98 v100 = 1#1), ∀ a, (k1_off330 i v1618) a + S1x1x128.size a ≤ S32x512x128.size a := fun i v84 v86 v88 v98 v100 v1618 k1_hw33 k1_h39 k1_h40 => k1_hw33 k1_h39 k1_h40

def k1_off331 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_60 : BitVec 32 := 16#32
  let v106 : BitVec 32 := Scalar.muli arg17 c16_i32_60
  let c0_i32_61 : BitVec 32 := 0#32
  let v107 : BitVec 32 := Scalar.addi v106 c0_i32_61
  let v108 : Index := Scalar.indexCast v107
  let c0_62 : Index := 0#32
  ![v108.toNat, 0]
def k1_off332 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_65 : BitVec 32 := 16#32
  let v117 : BitVec 32 := Scalar.muli arg17 c16_i32_65
  let c0_i32_66 : BitVec 32 := 0#32
  let v118 : BitVec 32 := Scalar.addi v117 c0_i32_66
  let v119 : Index := Scalar.indexCast v118
  let c16_67 : Index := 16#32
  ![v119.toNat, 16]
def k1_off333 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_70 : BitVec 32 := 16#32
  let v128 : BitVec 32 := Scalar.muli arg17 c16_i32_70
  let c0_i32_71 : BitVec 32 := 0#32
  let v129 : BitVec 32 := Scalar.addi v128 c0_i32_71
  let v130 : Index := Scalar.indexCast v129
  let c32_72 : Index := 32#32
  ![v130.toNat, 32]
def k1_off334 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_75 : BitVec 32 := 16#32
  let v139 : BitVec 32 := Scalar.muli arg17 c16_i32_75
  let c0_i32_76 : BitVec 32 := 0#32
  let v140 : BitVec 32 := Scalar.addi v139 c0_i32_76
  let v141 : Index := Scalar.indexCast v140
  let c48_77 : Index := 48#32
  ![v141.toNat, 48]
def k1_off335 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_80 : BitVec 32 := 16#32
  let v150 : BitVec 32 := Scalar.muli arg17 c16_i32_80
  let c0_i32_81 : BitVec 32 := 0#32
  let v151 : BitVec 32 := Scalar.addi v150 c0_i32_81
  let v152 : Index := Scalar.indexCast v151
  let c64_82 : Index := 64#32
  ![v152.toNat, 64]
def k1_off336 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_85 : BitVec 32 := 16#32
  let v161 : BitVec 32 := Scalar.muli arg17 c16_i32_85
  let c0_i32_86 : BitVec 32 := 0#32
  let v162 : BitVec 32 := Scalar.addi v161 c0_i32_86
  let v163 : Index := Scalar.indexCast v162
  let c80_87 : Index := 80#32
  ![v163.toNat, 80]
def k1_off337 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_90 : BitVec 32 := 16#32
  let v172 : BitVec 32 := Scalar.muli arg17 c16_i32_90
  let c0_i32_91 : BitVec 32 := 0#32
  let v173 : BitVec 32 := Scalar.addi v172 c0_i32_91
  let v174 : Index := Scalar.indexCast v173
  let c96_92 : Index := 96#32
  ![v174.toNat, 96]
def k1_off338 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_95 : BitVec 32 := 16#32
  let v183 : BitVec 32 := Scalar.muli arg17 c16_i32_95
  let c0_i32_96 : BitVec 32 := 0#32
  let v184 : BitVec 32 := Scalar.addi v183 c0_i32_96
  let v185 : Index := Scalar.indexCast v184
  let c112_97 : Index := 112#32
  ![v185.toNat, 112]
def k1_off339 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r35 : BitVec 32 := 0#32
  ![v1.toNat, v1618.toNat, 0]
def k1_cond41 (v193 : BitVec 32) (v195 : BitVec 32) : BitVec 1 :=
  let v196 : BitVec 1 := Scalar.cmpi .ne v193 v195
  let v197 : BitVec 32 := Scalar.extui v196
  let c0_i32_100 : BitVec 32 := 0#32
  let v198 : BitVec 1 := Scalar.cmpi .ne v197 c0_i32_100
  v198

def k1_chk34 (i : grid1.Coords) (v84 : BitVec 32) (v86 : BitVec 32) (v88 : BitVec 32) (v193 : BitVec 32) (v195 : BitVec 32) (v1618 : BitVec 32) : Prop :=
  (∀ (k1_h39 : k1_cond39 v84 v86 v88 = 1#1), ∀ (k1_h41 : k1_cond41 v193 v195 = 1#1), ∀ a, (k1_off339 i v1618) a + S1x1x128.size a ≤ S32x512x128.size a)
theorem k1_off339_inb : ∀ (i : grid1.Coords) (v84 : BitVec 32) (v86 : BitVec 32) (v88 : BitVec 32) (v193 : BitVec 32) (v195 : BitVec 32) (v1618 : BitVec 32) (k1_hw34 : k1_chk34 i v84 v86 v88 v193 v195 v1618), ∀ (k1_h39 : k1_cond39 v84 v86 v88 = 1#1), ∀ (k1_h41 : k1_cond41 v193 v195 = 1#1), ∀ a, (k1_off339 i v1618) a + S1x1x128.size a ≤ S32x512x128.size a := fun i v84 v86 v88 v193 v195 v1618 k1_hw34 k1_h39 k1_h41 => k1_hw34 k1_h39 k1_h41

def k1_off340 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_102 : BitVec 32 := 16#32
  let v201 : BitVec 32 := Scalar.muli arg17 c16_i32_102
  let c1_i32_103 : BitVec 32 := 1#32
  let v202 : BitVec 32 := Scalar.addi v201 c1_i32_103
  let v203 : Index := Scalar.indexCast v202
  let c0_104 : Index := 0#32
  ![v203.toNat, 0]
def k1_off341 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_107 : BitVec 32 := 16#32
  let v212 : BitVec 32 := Scalar.muli arg17 c16_i32_107
  let c1_i32_108 : BitVec 32 := 1#32
  let v213 : BitVec 32 := Scalar.addi v212 c1_i32_108
  let v214 : Index := Scalar.indexCast v213
  let c16_109 : Index := 16#32
  ![v214.toNat, 16]
def k1_off342 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_112 : BitVec 32 := 16#32
  let v223 : BitVec 32 := Scalar.muli arg17 c16_i32_112
  let c1_i32_113 : BitVec 32 := 1#32
  let v224 : BitVec 32 := Scalar.addi v223 c1_i32_113
  let v225 : Index := Scalar.indexCast v224
  let c32_114 : Index := 32#32
  ![v225.toNat, 32]
def k1_off343 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_117 : BitVec 32 := 16#32
  let v234 : BitVec 32 := Scalar.muli arg17 c16_i32_117
  let c1_i32_118 : BitVec 32 := 1#32
  let v235 : BitVec 32 := Scalar.addi v234 c1_i32_118
  let v236 : Index := Scalar.indexCast v235
  let c48_119 : Index := 48#32
  ![v236.toNat, 48]
def k1_off344 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_122 : BitVec 32 := 16#32
  let v245 : BitVec 32 := Scalar.muli arg17 c16_i32_122
  let c1_i32_123 : BitVec 32 := 1#32
  let v246 : BitVec 32 := Scalar.addi v245 c1_i32_123
  let v247 : Index := Scalar.indexCast v246
  let c64_124 : Index := 64#32
  ![v247.toNat, 64]
def k1_off345 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_127 : BitVec 32 := 16#32
  let v256 : BitVec 32 := Scalar.muli arg17 c16_i32_127
  let c1_i32_128 : BitVec 32 := 1#32
  let v257 : BitVec 32 := Scalar.addi v256 c1_i32_128
  let v258 : Index := Scalar.indexCast v257
  let c80_129 : Index := 80#32
  ![v258.toNat, 80]
def k1_off346 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_132 : BitVec 32 := 16#32
  let v267 : BitVec 32 := Scalar.muli arg17 c16_i32_132
  let c1_i32_133 : BitVec 32 := 1#32
  let v268 : BitVec 32 := Scalar.addi v267 c1_i32_133
  let v269 : Index := Scalar.indexCast v268
  let c96_134 : Index := 96#32
  ![v269.toNat, 96]
def k1_off347 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_137 : BitVec 32 := 16#32
  let v278 : BitVec 32 := Scalar.muli arg17 c16_i32_137
  let c1_i32_138 : BitVec 32 := 1#32
  let v279 : BitVec 32 := Scalar.addi v278 c1_i32_138
  let v280 : Index := Scalar.indexCast v279
  let c112_139 : Index := 112#32
  ![v280.toNat, 112]
def k1_off348 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r36 : BitVec 32 := 0#32
  ![v1.toNat, v1618.toNat, 0]
def k1_cond42 (v288 : BitVec 32) (v290 : BitVec 32) : BitVec 1 :=
  let v291 : BitVec 1 := Scalar.cmpi .ne v288 v290
  let v292 : BitVec 32 := Scalar.extui v291
  let c0_i32_142 : BitVec 32 := 0#32
  let v293 : BitVec 1 := Scalar.cmpi .ne v292 c0_i32_142
  v293

def k1_chk35 (i : grid1.Coords) (v84 : BitVec 32) (v86 : BitVec 32) (v88 : BitVec 32) (v288 : BitVec 32) (v290 : BitVec 32) (v1618 : BitVec 32) : Prop :=
  (∀ (k1_h39 : k1_cond39 v84 v86 v88 = 1#1), ∀ (k1_h42 : k1_cond42 v288 v290 = 1#1), ∀ a, (k1_off348 i v1618) a + S1x1x128.size a ≤ S32x512x128.size a)
theorem k1_off348_inb : ∀ (i : grid1.Coords) (v84 : BitVec 32) (v86 : BitVec 32) (v88 : BitVec 32) (v288 : BitVec 32) (v290 : BitVec 32) (v1618 : BitVec 32) (k1_hw35 : k1_chk35 i v84 v86 v88 v288 v290 v1618), ∀ (k1_h39 : k1_cond39 v84 v86 v88 = 1#1), ∀ (k1_h42 : k1_cond42 v288 v290 = 1#1), ∀ a, (k1_off348 i v1618) a + S1x1x128.size a ≤ S32x512x128.size a := fun i v84 v86 v88 v288 v290 v1618 k1_hw35 k1_h39 k1_h42 => k1_hw35 k1_h39 k1_h42

def k1_off349 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_144 : BitVec 32 := 16#32
  let v296 : BitVec 32 := Scalar.muli arg17 c16_i32_144
  let c2_i32_145 : BitVec 32 := 2#32
  let v297 : BitVec 32 := Scalar.addi v296 c2_i32_145
  let v298 : Index := Scalar.indexCast v297
  let c0_146 : Index := 0#32
  ![v298.toNat, 0]
def k1_off350 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_149 : BitVec 32 := 16#32
  let v307 : BitVec 32 := Scalar.muli arg17 c16_i32_149
  let c2_i32_150 : BitVec 32 := 2#32
  let v308 : BitVec 32 := Scalar.addi v307 c2_i32_150
  let v309 : Index := Scalar.indexCast v308
  let c16_151 : Index := 16#32
  ![v309.toNat, 16]
def k1_off351 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_154 : BitVec 32 := 16#32
  let v318 : BitVec 32 := Scalar.muli arg17 c16_i32_154
  let c2_i32_155 : BitVec 32 := 2#32
  let v319 : BitVec 32 := Scalar.addi v318 c2_i32_155
  let v320 : Index := Scalar.indexCast v319
  let c32_156 : Index := 32#32
  ![v320.toNat, 32]
def k1_off352 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_159 : BitVec 32 := 16#32
  let v329 : BitVec 32 := Scalar.muli arg17 c16_i32_159
  let c2_i32_160 : BitVec 32 := 2#32
  let v330 : BitVec 32 := Scalar.addi v329 c2_i32_160
  let v331 : Index := Scalar.indexCast v330
  let c48_161 : Index := 48#32
  ![v331.toNat, 48]
def k1_off353 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_164 : BitVec 32 := 16#32
  let v340 : BitVec 32 := Scalar.muli arg17 c16_i32_164
  let c2_i32_165 : BitVec 32 := 2#32
  let v341 : BitVec 32 := Scalar.addi v340 c2_i32_165
  let v342 : Index := Scalar.indexCast v341
  let c64_166 : Index := 64#32
  ![v342.toNat, 64]
def k1_off354 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_169 : BitVec 32 := 16#32
  let v351 : BitVec 32 := Scalar.muli arg17 c16_i32_169
  let c2_i32_170 : BitVec 32 := 2#32
  let v352 : BitVec 32 := Scalar.addi v351 c2_i32_170
  let v353 : Index := Scalar.indexCast v352
  let c80_171 : Index := 80#32
  ![v353.toNat, 80]
def k1_off355 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_174 : BitVec 32 := 16#32
  let v362 : BitVec 32 := Scalar.muli arg17 c16_i32_174
  let c2_i32_175 : BitVec 32 := 2#32
  let v363 : BitVec 32 := Scalar.addi v362 c2_i32_175
  let v364 : Index := Scalar.indexCast v363
  let c96_176 : Index := 96#32
  ![v364.toNat, 96]
def k1_off356 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_179 : BitVec 32 := 16#32
  let v373 : BitVec 32 := Scalar.muli arg17 c16_i32_179
  let c2_i32_180 : BitVec 32 := 2#32
  let v374 : BitVec 32 := Scalar.addi v373 c2_i32_180
  let v375 : Index := Scalar.indexCast v374
  let c112_181 : Index := 112#32
  ![v375.toNat, 112]
def k1_off357 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r37 : BitVec 32 := 0#32
  ![v1.toNat, v1618.toNat, 0]
def k1_cond43 (v383 : BitVec 32) (v385 : BitVec 32) : BitVec 1 :=
  let v386 : BitVec 1 := Scalar.cmpi .ne v383 v385
  let v387 : BitVec 32 := Scalar.extui v386
  let c0_i32_184 : BitVec 32 := 0#32
  let v388 : BitVec 1 := Scalar.cmpi .ne v387 c0_i32_184
  v388

def k1_chk36 (i : grid1.Coords) (v84 : BitVec 32) (v86 : BitVec 32) (v88 : BitVec 32) (v383 : BitVec 32) (v385 : BitVec 32) (v1618 : BitVec 32) : Prop :=
  (∀ (k1_h39 : k1_cond39 v84 v86 v88 = 1#1), ∀ (k1_h43 : k1_cond43 v383 v385 = 1#1), ∀ a, (k1_off357 i v1618) a + S1x1x128.size a ≤ S32x512x128.size a)
theorem k1_off357_inb : ∀ (i : grid1.Coords) (v84 : BitVec 32) (v86 : BitVec 32) (v88 : BitVec 32) (v383 : BitVec 32) (v385 : BitVec 32) (v1618 : BitVec 32) (k1_hw36 : k1_chk36 i v84 v86 v88 v383 v385 v1618), ∀ (k1_h39 : k1_cond39 v84 v86 v88 = 1#1), ∀ (k1_h43 : k1_cond43 v383 v385 = 1#1), ∀ a, (k1_off357 i v1618) a + S1x1x128.size a ≤ S32x512x128.size a := fun i v84 v86 v88 v383 v385 v1618 k1_hw36 k1_h39 k1_h43 => k1_hw36 k1_h39 k1_h43

def k1_off358 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_186 : BitVec 32 := 16#32
  let v391 : BitVec 32 := Scalar.muli arg17 c16_i32_186
  let c3_i32 : BitVec 32 := 3#32
  let v392 : BitVec 32 := Scalar.addi v391 c3_i32
  let v393 : Index := Scalar.indexCast v392
  let c0_187 : Index := 0#32
  ![v393.toNat, 0]
def k1_off359 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_190 : BitVec 32 := 16#32
  let v402 : BitVec 32 := Scalar.muli arg17 c16_i32_190
  let c3_i32_191 : BitVec 32 := 3#32
  let v403 : BitVec 32 := Scalar.addi v402 c3_i32_191
  let v404 : Index := Scalar.indexCast v403
  let c16_192 : Index := 16#32
  ![v404.toNat, 16]
def k1_off360 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_195 : BitVec 32 := 16#32
  let v413 : BitVec 32 := Scalar.muli arg17 c16_i32_195
  let c3_i32_196 : BitVec 32 := 3#32
  let v414 : BitVec 32 := Scalar.addi v413 c3_i32_196
  let v415 : Index := Scalar.indexCast v414
  let c32_197 : Index := 32#32
  ![v415.toNat, 32]
def k1_off361 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_200 : BitVec 32 := 16#32
  let v424 : BitVec 32 := Scalar.muli arg17 c16_i32_200
  let c3_i32_201 : BitVec 32 := 3#32
  let v425 : BitVec 32 := Scalar.addi v424 c3_i32_201
  let v426 : Index := Scalar.indexCast v425
  let c48_202 : Index := 48#32
  ![v426.toNat, 48]
def k1_off362 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_205 : BitVec 32 := 16#32
  let v435 : BitVec 32 := Scalar.muli arg17 c16_i32_205
  let c3_i32_206 : BitVec 32 := 3#32
  let v436 : BitVec 32 := Scalar.addi v435 c3_i32_206
  let v437 : Index := Scalar.indexCast v436
  let c64_207 : Index := 64#32
  ![v437.toNat, 64]
def k1_off363 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_210 : BitVec 32 := 16#32
  let v446 : BitVec 32 := Scalar.muli arg17 c16_i32_210
  let c3_i32_211 : BitVec 32 := 3#32
  let v447 : BitVec 32 := Scalar.addi v446 c3_i32_211
  let v448 : Index := Scalar.indexCast v447
  let c80_212 : Index := 80#32
  ![v448.toNat, 80]
def k1_off364 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_215 : BitVec 32 := 16#32
  let v457 : BitVec 32 := Scalar.muli arg17 c16_i32_215
  let c3_i32_216 : BitVec 32 := 3#32
  let v458 : BitVec 32 := Scalar.addi v457 c3_i32_216
  let v459 : Index := Scalar.indexCast v458
  let c96_217 : Index := 96#32
  ![v459.toNat, 96]
def k1_off365 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_220 : BitVec 32 := 16#32
  let v468 : BitVec 32 := Scalar.muli arg17 c16_i32_220
  let c3_i32_221 : BitVec 32 := 3#32
  let v469 : BitVec 32 := Scalar.addi v468 c3_i32_221
  let v470 : Index := Scalar.indexCast v469
  let c112_222 : Index := 112#32
  ![v470.toNat, 112]
def k1_off366 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r38 : BitVec 32 := 0#32
  ![v1.toNat, v1618.toNat, 0]
def k1_cond44 (v478 : BitVec 32) (v480 : BitVec 32) : BitVec 1 :=
  let v481 : BitVec 1 := Scalar.cmpi .ne v478 v480
  let v482 : BitVec 32 := Scalar.extui v481
  let c0_i32_225 : BitVec 32 := 0#32
  let v483 : BitVec 1 := Scalar.cmpi .ne v482 c0_i32_225
  v483

def k1_chk37 (i : grid1.Coords) (v84 : BitVec 32) (v86 : BitVec 32) (v88 : BitVec 32) (v478 : BitVec 32) (v480 : BitVec 32) (v1618 : BitVec 32) : Prop :=
  (∀ (k1_h39 : k1_cond39 v84 v86 v88 = 1#1), ∀ (k1_h44 : k1_cond44 v478 v480 = 1#1), ∀ a, (k1_off366 i v1618) a + S1x1x128.size a ≤ S32x512x128.size a)
theorem k1_off366_inb : ∀ (i : grid1.Coords) (v84 : BitVec 32) (v86 : BitVec 32) (v88 : BitVec 32) (v478 : BitVec 32) (v480 : BitVec 32) (v1618 : BitVec 32) (k1_hw37 : k1_chk37 i v84 v86 v88 v478 v480 v1618), ∀ (k1_h39 : k1_cond39 v84 v86 v88 = 1#1), ∀ (k1_h44 : k1_cond44 v478 v480 = 1#1), ∀ a, (k1_off366 i v1618) a + S1x1x128.size a ≤ S32x512x128.size a := fun i v84 v86 v88 v478 v480 v1618 k1_hw37 k1_h39 k1_h44 => k1_hw37 k1_h39 k1_h44

def k1_off367 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_227 : BitVec 32 := 16#32
  let v486 : BitVec 32 := Scalar.muli arg17 c16_i32_227
  let c4_i32 : BitVec 32 := 4#32
  let v487 : BitVec 32 := Scalar.addi v486 c4_i32
  let v488 : Index := Scalar.indexCast v487
  let c0_228 : Index := 0#32
  ![v488.toNat, 0]
def k1_off368 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_231 : BitVec 32 := 16#32
  let v497 : BitVec 32 := Scalar.muli arg17 c16_i32_231
  let c4_i32_232 : BitVec 32 := 4#32
  let v498 : BitVec 32 := Scalar.addi v497 c4_i32_232
  let v499 : Index := Scalar.indexCast v498
  let c16_233 : Index := 16#32
  ![v499.toNat, 16]
def k1_off369 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_236 : BitVec 32 := 16#32
  let v508 : BitVec 32 := Scalar.muli arg17 c16_i32_236
  let c4_i32_237 : BitVec 32 := 4#32
  let v509 : BitVec 32 := Scalar.addi v508 c4_i32_237
  let v510 : Index := Scalar.indexCast v509
  let c32_238 : Index := 32#32
  ![v510.toNat, 32]
def k1_off370 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_241 : BitVec 32 := 16#32
  let v519 : BitVec 32 := Scalar.muli arg17 c16_i32_241
  let c4_i32_242 : BitVec 32 := 4#32
  let v520 : BitVec 32 := Scalar.addi v519 c4_i32_242
  let v521 : Index := Scalar.indexCast v520
  let c48_243 : Index := 48#32
  ![v521.toNat, 48]
def k1_off371 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_246 : BitVec 32 := 16#32
  let v530 : BitVec 32 := Scalar.muli arg17 c16_i32_246
  let c4_i32_247 : BitVec 32 := 4#32
  let v531 : BitVec 32 := Scalar.addi v530 c4_i32_247
  let v532 : Index := Scalar.indexCast v531
  let c64_248 : Index := 64#32
  ![v532.toNat, 64]
def k1_off372 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_251 : BitVec 32 := 16#32
  let v541 : BitVec 32 := Scalar.muli arg17 c16_i32_251
  let c4_i32_252 : BitVec 32 := 4#32
  let v542 : BitVec 32 := Scalar.addi v541 c4_i32_252
  let v543 : Index := Scalar.indexCast v542
  let c80_253 : Index := 80#32
  ![v543.toNat, 80]
def k1_off373 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_256 : BitVec 32 := 16#32
  let v552 : BitVec 32 := Scalar.muli arg17 c16_i32_256
  let c4_i32_257 : BitVec 32 := 4#32
  let v553 : BitVec 32 := Scalar.addi v552 c4_i32_257
  let v554 : Index := Scalar.indexCast v553
  let c96_258 : Index := 96#32
  ![v554.toNat, 96]
def k1_off374 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_261 : BitVec 32 := 16#32
  let v563 : BitVec 32 := Scalar.muli arg17 c16_i32_261
  let c4_i32_262 : BitVec 32 := 4#32
  let v564 : BitVec 32 := Scalar.addi v563 c4_i32_262
  let v565 : Index := Scalar.indexCast v564
  let c112_263 : Index := 112#32
  ![v565.toNat, 112]
def k1_off375 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r39 : BitVec 32 := 0#32
  ![v1.toNat, v1618.toNat, 0]
def k1_cond45 (v573 : BitVec 32) (v575 : BitVec 32) : BitVec 1 :=
  let v576 : BitVec 1 := Scalar.cmpi .ne v573 v575
  let v577 : BitVec 32 := Scalar.extui v576
  let c0_i32_266 : BitVec 32 := 0#32
  let v578 : BitVec 1 := Scalar.cmpi .ne v577 c0_i32_266
  v578

def k1_chk38 (i : grid1.Coords) (v84 : BitVec 32) (v86 : BitVec 32) (v88 : BitVec 32) (v573 : BitVec 32) (v575 : BitVec 32) (v1618 : BitVec 32) : Prop :=
  (∀ (k1_h39 : k1_cond39 v84 v86 v88 = 1#1), ∀ (k1_h45 : k1_cond45 v573 v575 = 1#1), ∀ a, (k1_off375 i v1618) a + S1x1x128.size a ≤ S32x512x128.size a)
theorem k1_off375_inb : ∀ (i : grid1.Coords) (v84 : BitVec 32) (v86 : BitVec 32) (v88 : BitVec 32) (v573 : BitVec 32) (v575 : BitVec 32) (v1618 : BitVec 32) (k1_hw38 : k1_chk38 i v84 v86 v88 v573 v575 v1618), ∀ (k1_h39 : k1_cond39 v84 v86 v88 = 1#1), ∀ (k1_h45 : k1_cond45 v573 v575 = 1#1), ∀ a, (k1_off375 i v1618) a + S1x1x128.size a ≤ S32x512x128.size a := fun i v84 v86 v88 v573 v575 v1618 k1_hw38 k1_h39 k1_h45 => k1_hw38 k1_h39 k1_h45

def k1_off376 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_268 : BitVec 32 := 16#32
  let v581 : BitVec 32 := Scalar.muli arg17 c16_i32_268
  let c5_i32 : BitVec 32 := 5#32
  let v582 : BitVec 32 := Scalar.addi v581 c5_i32
  let v583 : Index := Scalar.indexCast v582
  let c0_269 : Index := 0#32
  ![v583.toNat, 0]
def k1_off377 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_272 : BitVec 32 := 16#32
  let v592 : BitVec 32 := Scalar.muli arg17 c16_i32_272
  let c5_i32_273 : BitVec 32 := 5#32
  let v593 : BitVec 32 := Scalar.addi v592 c5_i32_273
  let v594 : Index := Scalar.indexCast v593
  let c16_274 : Index := 16#32
  ![v594.toNat, 16]
def k1_off378 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_277 : BitVec 32 := 16#32
  let v603 : BitVec 32 := Scalar.muli arg17 c16_i32_277
  let c5_i32_278 : BitVec 32 := 5#32
  let v604 : BitVec 32 := Scalar.addi v603 c5_i32_278
  let v605 : Index := Scalar.indexCast v604
  let c32_279 : Index := 32#32
  ![v605.toNat, 32]
def k1_off379 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_282 : BitVec 32 := 16#32
  let v614 : BitVec 32 := Scalar.muli arg17 c16_i32_282
  let c5_i32_283 : BitVec 32 := 5#32
  let v615 : BitVec 32 := Scalar.addi v614 c5_i32_283
  let v616 : Index := Scalar.indexCast v615
  let c48_284 : Index := 48#32
  ![v616.toNat, 48]
def k1_off380 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_287 : BitVec 32 := 16#32
  let v625 : BitVec 32 := Scalar.muli arg17 c16_i32_287
  let c5_i32_288 : BitVec 32 := 5#32
  let v626 : BitVec 32 := Scalar.addi v625 c5_i32_288
  let v627 : Index := Scalar.indexCast v626
  let c64_289 : Index := 64#32
  ![v627.toNat, 64]
def k1_off381 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_292 : BitVec 32 := 16#32
  let v636 : BitVec 32 := Scalar.muli arg17 c16_i32_292
  let c5_i32_293 : BitVec 32 := 5#32
  let v637 : BitVec 32 := Scalar.addi v636 c5_i32_293
  let v638 : Index := Scalar.indexCast v637
  let c80_294 : Index := 80#32
  ![v638.toNat, 80]
def k1_off382 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_297 : BitVec 32 := 16#32
  let v647 : BitVec 32 := Scalar.muli arg17 c16_i32_297
  let c5_i32_298 : BitVec 32 := 5#32
  let v648 : BitVec 32 := Scalar.addi v647 c5_i32_298
  let v649 : Index := Scalar.indexCast v648
  let c96_299 : Index := 96#32
  ![v649.toNat, 96]
def k1_off383 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_302 : BitVec 32 := 16#32
  let v658 : BitVec 32 := Scalar.muli arg17 c16_i32_302
  let c5_i32_303 : BitVec 32 := 5#32
  let v659 : BitVec 32 := Scalar.addi v658 c5_i32_303
  let v660 : Index := Scalar.indexCast v659
  let c112_304 : Index := 112#32
  ![v660.toNat, 112]
def k1_off384 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r40 : BitVec 32 := 0#32
  ![v1.toNat, v1618.toNat, 0]
def k1_cond46 (v668 : BitVec 32) (v670 : BitVec 32) : BitVec 1 :=
  let v671 : BitVec 1 := Scalar.cmpi .ne v668 v670
  let v672 : BitVec 32 := Scalar.extui v671
  let c0_i32_307 : BitVec 32 := 0#32
  let v673 : BitVec 1 := Scalar.cmpi .ne v672 c0_i32_307
  v673

def k1_chk39 (i : grid1.Coords) (v84 : BitVec 32) (v86 : BitVec 32) (v88 : BitVec 32) (v668 : BitVec 32) (v670 : BitVec 32) (v1618 : BitVec 32) : Prop :=
  (∀ (k1_h39 : k1_cond39 v84 v86 v88 = 1#1), ∀ (k1_h46 : k1_cond46 v668 v670 = 1#1), ∀ a, (k1_off384 i v1618) a + S1x1x128.size a ≤ S32x512x128.size a)
theorem k1_off384_inb : ∀ (i : grid1.Coords) (v84 : BitVec 32) (v86 : BitVec 32) (v88 : BitVec 32) (v668 : BitVec 32) (v670 : BitVec 32) (v1618 : BitVec 32) (k1_hw39 : k1_chk39 i v84 v86 v88 v668 v670 v1618), ∀ (k1_h39 : k1_cond39 v84 v86 v88 = 1#1), ∀ (k1_h46 : k1_cond46 v668 v670 = 1#1), ∀ a, (k1_off384 i v1618) a + S1x1x128.size a ≤ S32x512x128.size a := fun i v84 v86 v88 v668 v670 v1618 k1_hw39 k1_h39 k1_h46 => k1_hw39 k1_h39 k1_h46

def k1_off385 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_309 : BitVec 32 := 16#32
  let v676 : BitVec 32 := Scalar.muli arg17 c16_i32_309
  let c6_i32 : BitVec 32 := 6#32
  let v677 : BitVec 32 := Scalar.addi v676 c6_i32
  let v678 : Index := Scalar.indexCast v677
  let c0_310 : Index := 0#32
  ![v678.toNat, 0]
def k1_off386 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_313 : BitVec 32 := 16#32
  let v687 : BitVec 32 := Scalar.muli arg17 c16_i32_313
  let c6_i32_314 : BitVec 32 := 6#32
  let v688 : BitVec 32 := Scalar.addi v687 c6_i32_314
  let v689 : Index := Scalar.indexCast v688
  let c16_315 : Index := 16#32
  ![v689.toNat, 16]
def k1_off387 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_318 : BitVec 32 := 16#32
  let v698 : BitVec 32 := Scalar.muli arg17 c16_i32_318
  let c6_i32_319 : BitVec 32 := 6#32
  let v699 : BitVec 32 := Scalar.addi v698 c6_i32_319
  let v700 : Index := Scalar.indexCast v699
  let c32_320 : Index := 32#32
  ![v700.toNat, 32]
def k1_off388 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_323 : BitVec 32 := 16#32
  let v709 : BitVec 32 := Scalar.muli arg17 c16_i32_323
  let c6_i32_324 : BitVec 32 := 6#32
  let v710 : BitVec 32 := Scalar.addi v709 c6_i32_324
  let v711 : Index := Scalar.indexCast v710
  let c48_325 : Index := 48#32
  ![v711.toNat, 48]
def k1_off389 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_328 : BitVec 32 := 16#32
  let v720 : BitVec 32 := Scalar.muli arg17 c16_i32_328
  let c6_i32_329 : BitVec 32 := 6#32
  let v721 : BitVec 32 := Scalar.addi v720 c6_i32_329
  let v722 : Index := Scalar.indexCast v721
  let c64_330 : Index := 64#32
  ![v722.toNat, 64]
def k1_off390 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_333 : BitVec 32 := 16#32
  let v731 : BitVec 32 := Scalar.muli arg17 c16_i32_333
  let c6_i32_334 : BitVec 32 := 6#32
  let v732 : BitVec 32 := Scalar.addi v731 c6_i32_334
  let v733 : Index := Scalar.indexCast v732
  let c80_335 : Index := 80#32
  ![v733.toNat, 80]
def k1_off391 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_338 : BitVec 32 := 16#32
  let v742 : BitVec 32 := Scalar.muli arg17 c16_i32_338
  let c6_i32_339 : BitVec 32 := 6#32
  let v743 : BitVec 32 := Scalar.addi v742 c6_i32_339
  let v744 : Index := Scalar.indexCast v743
  let c96_340 : Index := 96#32
  ![v744.toNat, 96]
def k1_off392 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_343 : BitVec 32 := 16#32
  let v753 : BitVec 32 := Scalar.muli arg17 c16_i32_343
  let c6_i32_344 : BitVec 32 := 6#32
  let v754 : BitVec 32 := Scalar.addi v753 c6_i32_344
  let v755 : Index := Scalar.indexCast v754
  let c112_345 : Index := 112#32
  ![v755.toNat, 112]
def k1_off393 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r41 : BitVec 32 := 0#32
  ![v1.toNat, v1618.toNat, 0]
def k1_cond47 (v763 : BitVec 32) (v765 : BitVec 32) : BitVec 1 :=
  let v766 : BitVec 1 := Scalar.cmpi .ne v763 v765
  let v767 : BitVec 32 := Scalar.extui v766
  let c0_i32_348 : BitVec 32 := 0#32
  let v768 : BitVec 1 := Scalar.cmpi .ne v767 c0_i32_348
  v768

def k1_chk40 (i : grid1.Coords) (v84 : BitVec 32) (v86 : BitVec 32) (v88 : BitVec 32) (v763 : BitVec 32) (v765 : BitVec 32) (v1618 : BitVec 32) : Prop :=
  (∀ (k1_h39 : k1_cond39 v84 v86 v88 = 1#1), ∀ (k1_h47 : k1_cond47 v763 v765 = 1#1), ∀ a, (k1_off393 i v1618) a + S1x1x128.size a ≤ S32x512x128.size a)
theorem k1_off393_inb : ∀ (i : grid1.Coords) (v84 : BitVec 32) (v86 : BitVec 32) (v88 : BitVec 32) (v763 : BitVec 32) (v765 : BitVec 32) (v1618 : BitVec 32) (k1_hw40 : k1_chk40 i v84 v86 v88 v763 v765 v1618), ∀ (k1_h39 : k1_cond39 v84 v86 v88 = 1#1), ∀ (k1_h47 : k1_cond47 v763 v765 = 1#1), ∀ a, (k1_off393 i v1618) a + S1x1x128.size a ≤ S32x512x128.size a := fun i v84 v86 v88 v763 v765 v1618 k1_hw40 k1_h39 k1_h47 => k1_hw40 k1_h39 k1_h47

def k1_off394 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_350 : BitVec 32 := 16#32
  let v771 : BitVec 32 := Scalar.muli arg17 c16_i32_350
  let c7_i32 : BitVec 32 := 7#32
  let v772 : BitVec 32 := Scalar.addi v771 c7_i32
  let v773 : Index := Scalar.indexCast v772
  let c0_351 : Index := 0#32
  ![v773.toNat, 0]
def k1_off395 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_354 : BitVec 32 := 16#32
  let v782 : BitVec 32 := Scalar.muli arg17 c16_i32_354
  let c7_i32_355 : BitVec 32 := 7#32
  let v783 : BitVec 32 := Scalar.addi v782 c7_i32_355
  let v784 : Index := Scalar.indexCast v783
  let c16_356 : Index := 16#32
  ![v784.toNat, 16]
def k1_off396 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_359 : BitVec 32 := 16#32
  let v793 : BitVec 32 := Scalar.muli arg17 c16_i32_359
  let c7_i32_360 : BitVec 32 := 7#32
  let v794 : BitVec 32 := Scalar.addi v793 c7_i32_360
  let v795 : Index := Scalar.indexCast v794
  let c32_361 : Index := 32#32
  ![v795.toNat, 32]
def k1_off397 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_364 : BitVec 32 := 16#32
  let v804 : BitVec 32 := Scalar.muli arg17 c16_i32_364
  let c7_i32_365 : BitVec 32 := 7#32
  let v805 : BitVec 32 := Scalar.addi v804 c7_i32_365
  let v806 : Index := Scalar.indexCast v805
  let c48_366 : Index := 48#32
  ![v806.toNat, 48]
def k1_off398 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_369 : BitVec 32 := 16#32
  let v815 : BitVec 32 := Scalar.muli arg17 c16_i32_369
  let c7_i32_370 : BitVec 32 := 7#32
  let v816 : BitVec 32 := Scalar.addi v815 c7_i32_370
  let v817 : Index := Scalar.indexCast v816
  let c64_371 : Index := 64#32
  ![v817.toNat, 64]
def k1_off399 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_374 : BitVec 32 := 16#32
  let v826 : BitVec 32 := Scalar.muli arg17 c16_i32_374
  let c7_i32_375 : BitVec 32 := 7#32
  let v827 : BitVec 32 := Scalar.addi v826 c7_i32_375
  let v828 : Index := Scalar.indexCast v827
  let c80_376 : Index := 80#32
  ![v828.toNat, 80]
def k1_off400 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_379 : BitVec 32 := 16#32
  let v837 : BitVec 32 := Scalar.muli arg17 c16_i32_379
  let c7_i32_380 : BitVec 32 := 7#32
  let v838 : BitVec 32 := Scalar.addi v837 c7_i32_380
  let v839 : Index := Scalar.indexCast v838
  let c96_381 : Index := 96#32
  ![v839.toNat, 96]
def k1_off401 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_384 : BitVec 32 := 16#32
  let v848 : BitVec 32 := Scalar.muli arg17 c16_i32_384
  let c7_i32_385 : BitVec 32 := 7#32
  let v849 : BitVec 32 := Scalar.addi v848 c7_i32_385
  let v850 : Index := Scalar.indexCast v849
  let c112_386 : Index := 112#32
  ![v850.toNat, 112]
def k1_off402 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r42 : BitVec 32 := 0#32
  ![v1.toNat, v1618.toNat, 0]
def k1_cond48 (v858 : BitVec 32) (v860 : BitVec 32) : BitVec 1 :=
  let v861 : BitVec 1 := Scalar.cmpi .ne v858 v860
  let v862 : BitVec 32 := Scalar.extui v861
  let c0_i32_389 : BitVec 32 := 0#32
  let v863 : BitVec 1 := Scalar.cmpi .ne v862 c0_i32_389
  v863

def k1_chk41 (i : grid1.Coords) (v84 : BitVec 32) (v86 : BitVec 32) (v88 : BitVec 32) (v858 : BitVec 32) (v860 : BitVec 32) (v1618 : BitVec 32) : Prop :=
  (∀ (k1_h39 : k1_cond39 v84 v86 v88 = 1#1), ∀ (k1_h48 : k1_cond48 v858 v860 = 1#1), ∀ a, (k1_off402 i v1618) a + S1x1x128.size a ≤ S32x512x128.size a)
theorem k1_off402_inb : ∀ (i : grid1.Coords) (v84 : BitVec 32) (v86 : BitVec 32) (v88 : BitVec 32) (v858 : BitVec 32) (v860 : BitVec 32) (v1618 : BitVec 32) (k1_hw41 : k1_chk41 i v84 v86 v88 v858 v860 v1618), ∀ (k1_h39 : k1_cond39 v84 v86 v88 = 1#1), ∀ (k1_h48 : k1_cond48 v858 v860 = 1#1), ∀ a, (k1_off402 i v1618) a + S1x1x128.size a ≤ S32x512x128.size a := fun i v84 v86 v88 v858 v860 v1618 k1_hw41 k1_h39 k1_h48 => k1_hw41 k1_h39 k1_h48

def k1_off403 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_391 : BitVec 32 := 16#32
  let v866 : BitVec 32 := Scalar.muli arg17 c16_i32_391
  let c8_i32 : BitVec 32 := 8#32
  let v867 : BitVec 32 := Scalar.addi v866 c8_i32
  let v868 : Index := Scalar.indexCast v867
  let c0_392 : Index := 0#32
  ![v868.toNat, 0]
def k1_off404 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_395 : BitVec 32 := 16#32
  let v877 : BitVec 32 := Scalar.muli arg17 c16_i32_395
  let c8_i32_396 : BitVec 32 := 8#32
  let v878 : BitVec 32 := Scalar.addi v877 c8_i32_396
  let v879 : Index := Scalar.indexCast v878
  let c16_397 : Index := 16#32
  ![v879.toNat, 16]
def k1_off405 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_400 : BitVec 32 := 16#32
  let v888 : BitVec 32 := Scalar.muli arg17 c16_i32_400
  let c8_i32_401 : BitVec 32 := 8#32
  let v889 : BitVec 32 := Scalar.addi v888 c8_i32_401
  let v890 : Index := Scalar.indexCast v889
  let c32_402 : Index := 32#32
  ![v890.toNat, 32]
def k1_off406 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_405 : BitVec 32 := 16#32
  let v899 : BitVec 32 := Scalar.muli arg17 c16_i32_405
  let c8_i32_406 : BitVec 32 := 8#32
  let v900 : BitVec 32 := Scalar.addi v899 c8_i32_406
  let v901 : Index := Scalar.indexCast v900
  let c48_407 : Index := 48#32
  ![v901.toNat, 48]
def k1_off407 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_410 : BitVec 32 := 16#32
  let v910 : BitVec 32 := Scalar.muli arg17 c16_i32_410
  let c8_i32_411 : BitVec 32 := 8#32
  let v911 : BitVec 32 := Scalar.addi v910 c8_i32_411
  let v912 : Index := Scalar.indexCast v911
  let c64_412 : Index := 64#32
  ![v912.toNat, 64]
def k1_off408 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_415 : BitVec 32 := 16#32
  let v921 : BitVec 32 := Scalar.muli arg17 c16_i32_415
  let c8_i32_416 : BitVec 32 := 8#32
  let v922 : BitVec 32 := Scalar.addi v921 c8_i32_416
  let v923 : Index := Scalar.indexCast v922
  let c80_417 : Index := 80#32
  ![v923.toNat, 80]
def k1_off409 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_420 : BitVec 32 := 16#32
  let v932 : BitVec 32 := Scalar.muli arg17 c16_i32_420
  let c8_i32_421 : BitVec 32 := 8#32
  let v933 : BitVec 32 := Scalar.addi v932 c8_i32_421
  let v934 : Index := Scalar.indexCast v933
  let c96_422 : Index := 96#32
  ![v934.toNat, 96]
def k1_off410 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_425 : BitVec 32 := 16#32
  let v943 : BitVec 32 := Scalar.muli arg17 c16_i32_425
  let c8_i32_426 : BitVec 32 := 8#32
  let v944 : BitVec 32 := Scalar.addi v943 c8_i32_426
  let v945 : Index := Scalar.indexCast v944
  let c112_427 : Index := 112#32
  ![v945.toNat, 112]
def k1_off411 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r43 : BitVec 32 := 0#32
  ![v1.toNat, v1618.toNat, 0]
def k1_cond49 (v953 : BitVec 32) (v955 : BitVec 32) : BitVec 1 :=
  let v956 : BitVec 1 := Scalar.cmpi .ne v953 v955
  let v957 : BitVec 32 := Scalar.extui v956
  let c0_i32_430 : BitVec 32 := 0#32
  let v958 : BitVec 1 := Scalar.cmpi .ne v957 c0_i32_430
  v958

def k1_chk42 (i : grid1.Coords) (v84 : BitVec 32) (v86 : BitVec 32) (v88 : BitVec 32) (v953 : BitVec 32) (v955 : BitVec 32) (v1618 : BitVec 32) : Prop :=
  (∀ (k1_h39 : k1_cond39 v84 v86 v88 = 1#1), ∀ (k1_h49 : k1_cond49 v953 v955 = 1#1), ∀ a, (k1_off411 i v1618) a + S1x1x128.size a ≤ S32x512x128.size a)
theorem k1_off411_inb : ∀ (i : grid1.Coords) (v84 : BitVec 32) (v86 : BitVec 32) (v88 : BitVec 32) (v953 : BitVec 32) (v955 : BitVec 32) (v1618 : BitVec 32) (k1_hw42 : k1_chk42 i v84 v86 v88 v953 v955 v1618), ∀ (k1_h39 : k1_cond39 v84 v86 v88 = 1#1), ∀ (k1_h49 : k1_cond49 v953 v955 = 1#1), ∀ a, (k1_off411 i v1618) a + S1x1x128.size a ≤ S32x512x128.size a := fun i v84 v86 v88 v953 v955 v1618 k1_hw42 k1_h39 k1_h49 => k1_hw42 k1_h39 k1_h49

def k1_off412 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_432 : BitVec 32 := 16#32
  let v961 : BitVec 32 := Scalar.muli arg17 c16_i32_432
  let c9_i32 : BitVec 32 := 9#32
  let v962 : BitVec 32 := Scalar.addi v961 c9_i32
  let v963 : Index := Scalar.indexCast v962
  let c0_433 : Index := 0#32
  ![v963.toNat, 0]
def k1_off413 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_436 : BitVec 32 := 16#32
  let v972 : BitVec 32 := Scalar.muli arg17 c16_i32_436
  let c9_i32_437 : BitVec 32 := 9#32
  let v973 : BitVec 32 := Scalar.addi v972 c9_i32_437
  let v974 : Index := Scalar.indexCast v973
  let c16_438 : Index := 16#32
  ![v974.toNat, 16]
def k1_off414 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_441 : BitVec 32 := 16#32
  let v983 : BitVec 32 := Scalar.muli arg17 c16_i32_441
  let c9_i32_442 : BitVec 32 := 9#32
  let v984 : BitVec 32 := Scalar.addi v983 c9_i32_442
  let v985 : Index := Scalar.indexCast v984
  let c32_443 : Index := 32#32
  ![v985.toNat, 32]
def k1_off415 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_446 : BitVec 32 := 16#32
  let v994 : BitVec 32 := Scalar.muli arg17 c16_i32_446
  let c9_i32_447 : BitVec 32 := 9#32
  let v995 : BitVec 32 := Scalar.addi v994 c9_i32_447
  let v996 : Index := Scalar.indexCast v995
  let c48_448 : Index := 48#32
  ![v996.toNat, 48]
def k1_off416 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_451 : BitVec 32 := 16#32
  let v1005 : BitVec 32 := Scalar.muli arg17 c16_i32_451
  let c9_i32_452 : BitVec 32 := 9#32
  let v1006 : BitVec 32 := Scalar.addi v1005 c9_i32_452
  let v1007 : Index := Scalar.indexCast v1006
  let c64_453 : Index := 64#32
  ![v1007.toNat, 64]
def k1_off417 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_456 : BitVec 32 := 16#32
  let v1016 : BitVec 32 := Scalar.muli arg17 c16_i32_456
  let c9_i32_457 : BitVec 32 := 9#32
  let v1017 : BitVec 32 := Scalar.addi v1016 c9_i32_457
  let v1018 : Index := Scalar.indexCast v1017
  let c80_458 : Index := 80#32
  ![v1018.toNat, 80]
def k1_off418 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_461 : BitVec 32 := 16#32
  let v1027 : BitVec 32 := Scalar.muli arg17 c16_i32_461
  let c9_i32_462 : BitVec 32 := 9#32
  let v1028 : BitVec 32 := Scalar.addi v1027 c9_i32_462
  let v1029 : Index := Scalar.indexCast v1028
  let c96_463 : Index := 96#32
  ![v1029.toNat, 96]
def k1_off419 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_466 : BitVec 32 := 16#32
  let v1038 : BitVec 32 := Scalar.muli arg17 c16_i32_466
  let c9_i32_467 : BitVec 32 := 9#32
  let v1039 : BitVec 32 := Scalar.addi v1038 c9_i32_467
  let v1040 : Index := Scalar.indexCast v1039
  let c112_468 : Index := 112#32
  ![v1040.toNat, 112]
def k1_off420 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r44 : BitVec 32 := 0#32
  ![v1.toNat, v1618.toNat, 0]
def k1_cond50 (v1048 : BitVec 32) (v1050 : BitVec 32) : BitVec 1 :=
  let v1051 : BitVec 1 := Scalar.cmpi .ne v1048 v1050
  let v1052 : BitVec 32 := Scalar.extui v1051
  let c0_i32_471 : BitVec 32 := 0#32
  let v1053 : BitVec 1 := Scalar.cmpi .ne v1052 c0_i32_471
  v1053

def k1_chk43 (i : grid1.Coords) (v84 : BitVec 32) (v86 : BitVec 32) (v88 : BitVec 32) (v1048 : BitVec 32) (v1050 : BitVec 32) (v1618 : BitVec 32) : Prop :=
  (∀ (k1_h39 : k1_cond39 v84 v86 v88 = 1#1), ∀ (k1_h50 : k1_cond50 v1048 v1050 = 1#1), ∀ a, (k1_off420 i v1618) a + S1x1x128.size a ≤ S32x512x128.size a)
theorem k1_off420_inb : ∀ (i : grid1.Coords) (v84 : BitVec 32) (v86 : BitVec 32) (v88 : BitVec 32) (v1048 : BitVec 32) (v1050 : BitVec 32) (v1618 : BitVec 32) (k1_hw43 : k1_chk43 i v84 v86 v88 v1048 v1050 v1618), ∀ (k1_h39 : k1_cond39 v84 v86 v88 = 1#1), ∀ (k1_h50 : k1_cond50 v1048 v1050 = 1#1), ∀ a, (k1_off420 i v1618) a + S1x1x128.size a ≤ S32x512x128.size a := fun i v84 v86 v88 v1048 v1050 v1618 k1_hw43 k1_h39 k1_h50 => k1_hw43 k1_h39 k1_h50

def k1_off421 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_473 : BitVec 32 := 16#32
  let v1056 : BitVec 32 := Scalar.muli arg17 c16_i32_473
  let c10_i32 : BitVec 32 := 10#32
  let v1057 : BitVec 32 := Scalar.addi v1056 c10_i32
  let v1058 : Index := Scalar.indexCast v1057
  let c0_474 : Index := 0#32
  ![v1058.toNat, 0]
def k1_off422 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_477 : BitVec 32 := 16#32
  let v1067 : BitVec 32 := Scalar.muli arg17 c16_i32_477
  let c10_i32_478 : BitVec 32 := 10#32
  let v1068 : BitVec 32 := Scalar.addi v1067 c10_i32_478
  let v1069 : Index := Scalar.indexCast v1068
  let c16_479 : Index := 16#32
  ![v1069.toNat, 16]
def k1_off423 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_482 : BitVec 32 := 16#32
  let v1078 : BitVec 32 := Scalar.muli arg17 c16_i32_482
  let c10_i32_483 : BitVec 32 := 10#32
  let v1079 : BitVec 32 := Scalar.addi v1078 c10_i32_483
  let v1080 : Index := Scalar.indexCast v1079
  let c32_484 : Index := 32#32
  ![v1080.toNat, 32]
def k1_off424 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_487 : BitVec 32 := 16#32
  let v1089 : BitVec 32 := Scalar.muli arg17 c16_i32_487
  let c10_i32_488 : BitVec 32 := 10#32
  let v1090 : BitVec 32 := Scalar.addi v1089 c10_i32_488
  let v1091 : Index := Scalar.indexCast v1090
  let c48_489 : Index := 48#32
  ![v1091.toNat, 48]
def k1_off425 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_492 : BitVec 32 := 16#32
  let v1100 : BitVec 32 := Scalar.muli arg17 c16_i32_492
  let c10_i32_493 : BitVec 32 := 10#32
  let v1101 : BitVec 32 := Scalar.addi v1100 c10_i32_493
  let v1102 : Index := Scalar.indexCast v1101
  let c64_494 : Index := 64#32
  ![v1102.toNat, 64]
def k1_off426 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_497 : BitVec 32 := 16#32
  let v1111 : BitVec 32 := Scalar.muli arg17 c16_i32_497
  let c10_i32_498 : BitVec 32 := 10#32
  let v1112 : BitVec 32 := Scalar.addi v1111 c10_i32_498
  let v1113 : Index := Scalar.indexCast v1112
  let c80_499 : Index := 80#32
  ![v1113.toNat, 80]
def k1_off427 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_502 : BitVec 32 := 16#32
  let v1122 : BitVec 32 := Scalar.muli arg17 c16_i32_502
  let c10_i32_503 : BitVec 32 := 10#32
  let v1123 : BitVec 32 := Scalar.addi v1122 c10_i32_503
  let v1124 : Index := Scalar.indexCast v1123
  let c96_504 : Index := 96#32
  ![v1124.toNat, 96]
def k1_off428 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_507 : BitVec 32 := 16#32
  let v1133 : BitVec 32 := Scalar.muli arg17 c16_i32_507
  let c10_i32_508 : BitVec 32 := 10#32
  let v1134 : BitVec 32 := Scalar.addi v1133 c10_i32_508
  let v1135 : Index := Scalar.indexCast v1134
  let c112_509 : Index := 112#32
  ![v1135.toNat, 112]
def k1_off429 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r45 : BitVec 32 := 0#32
  ![v1.toNat, v1618.toNat, 0]
def k1_cond51 (v1143 : BitVec 32) (v1145 : BitVec 32) : BitVec 1 :=
  let v1146 : BitVec 1 := Scalar.cmpi .ne v1143 v1145
  let v1147 : BitVec 32 := Scalar.extui v1146
  let c0_i32_512 : BitVec 32 := 0#32
  let v1148 : BitVec 1 := Scalar.cmpi .ne v1147 c0_i32_512
  v1148

def k1_chk44 (i : grid1.Coords) (v84 : BitVec 32) (v86 : BitVec 32) (v88 : BitVec 32) (v1143 : BitVec 32) (v1145 : BitVec 32) (v1618 : BitVec 32) : Prop :=
  (∀ (k1_h39 : k1_cond39 v84 v86 v88 = 1#1), ∀ (k1_h51 : k1_cond51 v1143 v1145 = 1#1), ∀ a, (k1_off429 i v1618) a + S1x1x128.size a ≤ S32x512x128.size a)
theorem k1_off429_inb : ∀ (i : grid1.Coords) (v84 : BitVec 32) (v86 : BitVec 32) (v88 : BitVec 32) (v1143 : BitVec 32) (v1145 : BitVec 32) (v1618 : BitVec 32) (k1_hw44 : k1_chk44 i v84 v86 v88 v1143 v1145 v1618), ∀ (k1_h39 : k1_cond39 v84 v86 v88 = 1#1), ∀ (k1_h51 : k1_cond51 v1143 v1145 = 1#1), ∀ a, (k1_off429 i v1618) a + S1x1x128.size a ≤ S32x512x128.size a := fun i v84 v86 v88 v1143 v1145 v1618 k1_hw44 k1_h39 k1_h51 => k1_hw44 k1_h39 k1_h51

def k1_off430 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_514 : BitVec 32 := 16#32
  let v1151 : BitVec 32 := Scalar.muli arg17 c16_i32_514
  let c11_i32_515 : BitVec 32 := 11#32
  let v1152 : BitVec 32 := Scalar.addi v1151 c11_i32_515
  let v1153 : Index := Scalar.indexCast v1152
  let c0_516 : Index := 0#32
  ![v1153.toNat, 0]
def k1_off431 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_519 : BitVec 32 := 16#32
  let v1162 : BitVec 32 := Scalar.muli arg17 c16_i32_519
  let c11_i32_520 : BitVec 32 := 11#32
  let v1163 : BitVec 32 := Scalar.addi v1162 c11_i32_520
  let v1164 : Index := Scalar.indexCast v1163
  let c16_521 : Index := 16#32
  ![v1164.toNat, 16]
def k1_off432 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_524 : BitVec 32 := 16#32
  let v1173 : BitVec 32 := Scalar.muli arg17 c16_i32_524
  let c11_i32_525 : BitVec 32 := 11#32
  let v1174 : BitVec 32 := Scalar.addi v1173 c11_i32_525
  let v1175 : Index := Scalar.indexCast v1174
  let c32_526 : Index := 32#32
  ![v1175.toNat, 32]
def k1_off433 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_529 : BitVec 32 := 16#32
  let v1184 : BitVec 32 := Scalar.muli arg17 c16_i32_529
  let c11_i32_530 : BitVec 32 := 11#32
  let v1185 : BitVec 32 := Scalar.addi v1184 c11_i32_530
  let v1186 : Index := Scalar.indexCast v1185
  let c48_531 : Index := 48#32
  ![v1186.toNat, 48]
def k1_off434 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_534 : BitVec 32 := 16#32
  let v1195 : BitVec 32 := Scalar.muli arg17 c16_i32_534
  let c11_i32_535 : BitVec 32 := 11#32
  let v1196 : BitVec 32 := Scalar.addi v1195 c11_i32_535
  let v1197 : Index := Scalar.indexCast v1196
  let c64_536 : Index := 64#32
  ![v1197.toNat, 64]
def k1_off435 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_539 : BitVec 32 := 16#32
  let v1206 : BitVec 32 := Scalar.muli arg17 c16_i32_539
  let c11_i32_540 : BitVec 32 := 11#32
  let v1207 : BitVec 32 := Scalar.addi v1206 c11_i32_540
  let v1208 : Index := Scalar.indexCast v1207
  let c80_541 : Index := 80#32
  ![v1208.toNat, 80]
def k1_off436 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_544 : BitVec 32 := 16#32
  let v1217 : BitVec 32 := Scalar.muli arg17 c16_i32_544
  let c11_i32_545 : BitVec 32 := 11#32
  let v1218 : BitVec 32 := Scalar.addi v1217 c11_i32_545
  let v1219 : Index := Scalar.indexCast v1218
  let c96_546 : Index := 96#32
  ![v1219.toNat, 96]
def k1_off437 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_549 : BitVec 32 := 16#32
  let v1228 : BitVec 32 := Scalar.muli arg17 c16_i32_549
  let c11_i32_550 : BitVec 32 := 11#32
  let v1229 : BitVec 32 := Scalar.addi v1228 c11_i32_550
  let v1230 : Index := Scalar.indexCast v1229
  let c112_551 : Index := 112#32
  ![v1230.toNat, 112]
def k1_off438 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r46 : BitVec 32 := 0#32
  ![v1.toNat, v1618.toNat, 0]
def k1_cond52 (v1238 : BitVec 32) (v1240 : BitVec 32) : BitVec 1 :=
  let v1241 : BitVec 1 := Scalar.cmpi .ne v1238 v1240
  let v1242 : BitVec 32 := Scalar.extui v1241
  let c0_i32_554 : BitVec 32 := 0#32
  let v1243 : BitVec 1 := Scalar.cmpi .ne v1242 c0_i32_554
  v1243

def k1_chk45 (i : grid1.Coords) (v84 : BitVec 32) (v86 : BitVec 32) (v88 : BitVec 32) (v1238 : BitVec 32) (v1240 : BitVec 32) (v1618 : BitVec 32) : Prop :=
  (∀ (k1_h39 : k1_cond39 v84 v86 v88 = 1#1), ∀ (k1_h52 : k1_cond52 v1238 v1240 = 1#1), ∀ a, (k1_off438 i v1618) a + S1x1x128.size a ≤ S32x512x128.size a)
theorem k1_off438_inb : ∀ (i : grid1.Coords) (v84 : BitVec 32) (v86 : BitVec 32) (v88 : BitVec 32) (v1238 : BitVec 32) (v1240 : BitVec 32) (v1618 : BitVec 32) (k1_hw45 : k1_chk45 i v84 v86 v88 v1238 v1240 v1618), ∀ (k1_h39 : k1_cond39 v84 v86 v88 = 1#1), ∀ (k1_h52 : k1_cond52 v1238 v1240 = 1#1), ∀ a, (k1_off438 i v1618) a + S1x1x128.size a ≤ S32x512x128.size a := fun i v84 v86 v88 v1238 v1240 v1618 k1_hw45 k1_h39 k1_h52 => k1_hw45 k1_h39 k1_h52

def k1_off439 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_556 : BitVec 32 := 16#32
  let v1246 : BitVec 32 := Scalar.muli arg17 c16_i32_556
  let c12_i32_557 : BitVec 32 := 12#32
  let v1247 : BitVec 32 := Scalar.addi v1246 c12_i32_557
  let v1248 : Index := Scalar.indexCast v1247
  let c0_558 : Index := 0#32
  ![v1248.toNat, 0]
def k1_off440 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_561 : BitVec 32 := 16#32
  let v1257 : BitVec 32 := Scalar.muli arg17 c16_i32_561
  let c12_i32_562 : BitVec 32 := 12#32
  let v1258 : BitVec 32 := Scalar.addi v1257 c12_i32_562
  let v1259 : Index := Scalar.indexCast v1258
  let c16_563 : Index := 16#32
  ![v1259.toNat, 16]
def k1_off441 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_566 : BitVec 32 := 16#32
  let v1268 : BitVec 32 := Scalar.muli arg17 c16_i32_566
  let c12_i32_567 : BitVec 32 := 12#32
  let v1269 : BitVec 32 := Scalar.addi v1268 c12_i32_567
  let v1270 : Index := Scalar.indexCast v1269
  let c32_568 : Index := 32#32
  ![v1270.toNat, 32]
def k1_off442 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_571 : BitVec 32 := 16#32
  let v1279 : BitVec 32 := Scalar.muli arg17 c16_i32_571
  let c12_i32_572 : BitVec 32 := 12#32
  let v1280 : BitVec 32 := Scalar.addi v1279 c12_i32_572
  let v1281 : Index := Scalar.indexCast v1280
  let c48_573 : Index := 48#32
  ![v1281.toNat, 48]
def k1_off443 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_576 : BitVec 32 := 16#32
  let v1290 : BitVec 32 := Scalar.muli arg17 c16_i32_576
  let c12_i32_577 : BitVec 32 := 12#32
  let v1291 : BitVec 32 := Scalar.addi v1290 c12_i32_577
  let v1292 : Index := Scalar.indexCast v1291
  let c64_578 : Index := 64#32
  ![v1292.toNat, 64]
def k1_off444 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_581 : BitVec 32 := 16#32
  let v1301 : BitVec 32 := Scalar.muli arg17 c16_i32_581
  let c12_i32_582 : BitVec 32 := 12#32
  let v1302 : BitVec 32 := Scalar.addi v1301 c12_i32_582
  let v1303 : Index := Scalar.indexCast v1302
  let c80_583 : Index := 80#32
  ![v1303.toNat, 80]
def k1_off445 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_586 : BitVec 32 := 16#32
  let v1312 : BitVec 32 := Scalar.muli arg17 c16_i32_586
  let c12_i32_587 : BitVec 32 := 12#32
  let v1313 : BitVec 32 := Scalar.addi v1312 c12_i32_587
  let v1314 : Index := Scalar.indexCast v1313
  let c96_588 : Index := 96#32
  ![v1314.toNat, 96]
def k1_off446 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_591 : BitVec 32 := 16#32
  let v1323 : BitVec 32 := Scalar.muli arg17 c16_i32_591
  let c12_i32_592 : BitVec 32 := 12#32
  let v1324 : BitVec 32 := Scalar.addi v1323 c12_i32_592
  let v1325 : Index := Scalar.indexCast v1324
  let c112_593 : Index := 112#32
  ![v1325.toNat, 112]
def k1_off447 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r47 : BitVec 32 := 0#32
  ![v1.toNat, v1618.toNat, 0]
def k1_cond53 (v1333 : BitVec 32) (v1335 : BitVec 32) : BitVec 1 :=
  let v1336 : BitVec 1 := Scalar.cmpi .ne v1333 v1335
  let v1337 : BitVec 32 := Scalar.extui v1336
  let c0_i32_596 : BitVec 32 := 0#32
  let v1338 : BitVec 1 := Scalar.cmpi .ne v1337 c0_i32_596
  v1338

def k1_chk46 (i : grid1.Coords) (v84 : BitVec 32) (v86 : BitVec 32) (v88 : BitVec 32) (v1333 : BitVec 32) (v1335 : BitVec 32) (v1618 : BitVec 32) : Prop :=
  (∀ (k1_h39 : k1_cond39 v84 v86 v88 = 1#1), ∀ (k1_h53 : k1_cond53 v1333 v1335 = 1#1), ∀ a, (k1_off447 i v1618) a + S1x1x128.size a ≤ S32x512x128.size a)
theorem k1_off447_inb : ∀ (i : grid1.Coords) (v84 : BitVec 32) (v86 : BitVec 32) (v88 : BitVec 32) (v1333 : BitVec 32) (v1335 : BitVec 32) (v1618 : BitVec 32) (k1_hw46 : k1_chk46 i v84 v86 v88 v1333 v1335 v1618), ∀ (k1_h39 : k1_cond39 v84 v86 v88 = 1#1), ∀ (k1_h53 : k1_cond53 v1333 v1335 = 1#1), ∀ a, (k1_off447 i v1618) a + S1x1x128.size a ≤ S32x512x128.size a := fun i v84 v86 v88 v1333 v1335 v1618 k1_hw46 k1_h39 k1_h53 => k1_hw46 k1_h39 k1_h53

def k1_off448 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_598 : BitVec 32 := 16#32
  let v1341 : BitVec 32 := Scalar.muli arg17 c16_i32_598
  let c13_i32 : BitVec 32 := 13#32
  let v1342 : BitVec 32 := Scalar.addi v1341 c13_i32
  let v1343 : Index := Scalar.indexCast v1342
  let c0_599 : Index := 0#32
  ![v1343.toNat, 0]
def k1_off449 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_602 : BitVec 32 := 16#32
  let v1352 : BitVec 32 := Scalar.muli arg17 c16_i32_602
  let c13_i32_603 : BitVec 32 := 13#32
  let v1353 : BitVec 32 := Scalar.addi v1352 c13_i32_603
  let v1354 : Index := Scalar.indexCast v1353
  let c16_604 : Index := 16#32
  ![v1354.toNat, 16]
def k1_off450 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_607 : BitVec 32 := 16#32
  let v1363 : BitVec 32 := Scalar.muli arg17 c16_i32_607
  let c13_i32_608 : BitVec 32 := 13#32
  let v1364 : BitVec 32 := Scalar.addi v1363 c13_i32_608
  let v1365 : Index := Scalar.indexCast v1364
  let c32_609 : Index := 32#32
  ![v1365.toNat, 32]
def k1_off451 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_612 : BitVec 32 := 16#32
  let v1374 : BitVec 32 := Scalar.muli arg17 c16_i32_612
  let c13_i32_613 : BitVec 32 := 13#32
  let v1375 : BitVec 32 := Scalar.addi v1374 c13_i32_613
  let v1376 : Index := Scalar.indexCast v1375
  let c48_614 : Index := 48#32
  ![v1376.toNat, 48]
def k1_off452 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_617 : BitVec 32 := 16#32
  let v1385 : BitVec 32 := Scalar.muli arg17 c16_i32_617
  let c13_i32_618 : BitVec 32 := 13#32
  let v1386 : BitVec 32 := Scalar.addi v1385 c13_i32_618
  let v1387 : Index := Scalar.indexCast v1386
  let c64_619 : Index := 64#32
  ![v1387.toNat, 64]
def k1_off453 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_622 : BitVec 32 := 16#32
  let v1396 : BitVec 32 := Scalar.muli arg17 c16_i32_622
  let c13_i32_623 : BitVec 32 := 13#32
  let v1397 : BitVec 32 := Scalar.addi v1396 c13_i32_623
  let v1398 : Index := Scalar.indexCast v1397
  let c80_624 : Index := 80#32
  ![v1398.toNat, 80]
def k1_off454 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_627 : BitVec 32 := 16#32
  let v1407 : BitVec 32 := Scalar.muli arg17 c16_i32_627
  let c13_i32_628 : BitVec 32 := 13#32
  let v1408 : BitVec 32 := Scalar.addi v1407 c13_i32_628
  let v1409 : Index := Scalar.indexCast v1408
  let c96_629 : Index := 96#32
  ![v1409.toNat, 96]
def k1_off455 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_632 : BitVec 32 := 16#32
  let v1418 : BitVec 32 := Scalar.muli arg17 c16_i32_632
  let c13_i32_633 : BitVec 32 := 13#32
  let v1419 : BitVec 32 := Scalar.addi v1418 c13_i32_633
  let v1420 : Index := Scalar.indexCast v1419
  let c112_634 : Index := 112#32
  ![v1420.toNat, 112]
def k1_off456 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r48 : BitVec 32 := 0#32
  ![v1.toNat, v1618.toNat, 0]
def k1_cond54 (v1428 : BitVec 32) (v1430 : BitVec 32) : BitVec 1 :=
  let v1431 : BitVec 1 := Scalar.cmpi .ne v1428 v1430
  let v1432 : BitVec 32 := Scalar.extui v1431
  let c0_i32_637 : BitVec 32 := 0#32
  let v1433 : BitVec 1 := Scalar.cmpi .ne v1432 c0_i32_637
  v1433

def k1_chk47 (i : grid1.Coords) (v84 : BitVec 32) (v86 : BitVec 32) (v88 : BitVec 32) (v1428 : BitVec 32) (v1430 : BitVec 32) (v1618 : BitVec 32) : Prop :=
  (∀ (k1_h39 : k1_cond39 v84 v86 v88 = 1#1), ∀ (k1_h54 : k1_cond54 v1428 v1430 = 1#1), ∀ a, (k1_off456 i v1618) a + S1x1x128.size a ≤ S32x512x128.size a)
theorem k1_off456_inb : ∀ (i : grid1.Coords) (v84 : BitVec 32) (v86 : BitVec 32) (v88 : BitVec 32) (v1428 : BitVec 32) (v1430 : BitVec 32) (v1618 : BitVec 32) (k1_hw47 : k1_chk47 i v84 v86 v88 v1428 v1430 v1618), ∀ (k1_h39 : k1_cond39 v84 v86 v88 = 1#1), ∀ (k1_h54 : k1_cond54 v1428 v1430 = 1#1), ∀ a, (k1_off456 i v1618) a + S1x1x128.size a ≤ S32x512x128.size a := fun i v84 v86 v88 v1428 v1430 v1618 k1_hw47 k1_h39 k1_h54 => k1_hw47 k1_h39 k1_h54

def k1_off457 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_639 : BitVec 32 := 16#32
  let v1436 : BitVec 32 := Scalar.muli arg17 c16_i32_639
  let c14_i32 : BitVec 32 := 14#32
  let v1437 : BitVec 32 := Scalar.addi v1436 c14_i32
  let v1438 : Index := Scalar.indexCast v1437
  let c0_640 : Index := 0#32
  ![v1438.toNat, 0]
def k1_off458 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_643 : BitVec 32 := 16#32
  let v1447 : BitVec 32 := Scalar.muli arg17 c16_i32_643
  let c14_i32_644 : BitVec 32 := 14#32
  let v1448 : BitVec 32 := Scalar.addi v1447 c14_i32_644
  let v1449 : Index := Scalar.indexCast v1448
  let c16_645 : Index := 16#32
  ![v1449.toNat, 16]
def k1_off459 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_648 : BitVec 32 := 16#32
  let v1458 : BitVec 32 := Scalar.muli arg17 c16_i32_648
  let c14_i32_649 : BitVec 32 := 14#32
  let v1459 : BitVec 32 := Scalar.addi v1458 c14_i32_649
  let v1460 : Index := Scalar.indexCast v1459
  let c32_650 : Index := 32#32
  ![v1460.toNat, 32]
def k1_off460 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_653 : BitVec 32 := 16#32
  let v1469 : BitVec 32 := Scalar.muli arg17 c16_i32_653
  let c14_i32_654 : BitVec 32 := 14#32
  let v1470 : BitVec 32 := Scalar.addi v1469 c14_i32_654
  let v1471 : Index := Scalar.indexCast v1470
  let c48_655 : Index := 48#32
  ![v1471.toNat, 48]
def k1_off461 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_658 : BitVec 32 := 16#32
  let v1480 : BitVec 32 := Scalar.muli arg17 c16_i32_658
  let c14_i32_659 : BitVec 32 := 14#32
  let v1481 : BitVec 32 := Scalar.addi v1480 c14_i32_659
  let v1482 : Index := Scalar.indexCast v1481
  let c64_660 : Index := 64#32
  ![v1482.toNat, 64]
def k1_off462 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_663 : BitVec 32 := 16#32
  let v1491 : BitVec 32 := Scalar.muli arg17 c16_i32_663
  let c14_i32_664 : BitVec 32 := 14#32
  let v1492 : BitVec 32 := Scalar.addi v1491 c14_i32_664
  let v1493 : Index := Scalar.indexCast v1492
  let c80_665 : Index := 80#32
  ![v1493.toNat, 80]
def k1_off463 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_668 : BitVec 32 := 16#32
  let v1502 : BitVec 32 := Scalar.muli arg17 c16_i32_668
  let c14_i32_669 : BitVec 32 := 14#32
  let v1503 : BitVec 32 := Scalar.addi v1502 c14_i32_669
  let v1504 : Index := Scalar.indexCast v1503
  let c96_670 : Index := 96#32
  ![v1504.toNat, 96]
def k1_off464 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_673 : BitVec 32 := 16#32
  let v1513 : BitVec 32 := Scalar.muli arg17 c16_i32_673
  let c14_i32_674 : BitVec 32 := 14#32
  let v1514 : BitVec 32 := Scalar.addi v1513 c14_i32_674
  let v1515 : Index := Scalar.indexCast v1514
  let c112_675 : Index := 112#32
  ![v1515.toNat, 112]
def k1_off465 (i : grid1.Coords) (v1618 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_728_r49 : BitVec 32 := 0#32
  ![v1.toNat, v1618.toNat, 0]
def k1_cond55 (v1523 : BitVec 32) (v1525 : BitVec 32) : BitVec 1 :=
  let v1526 : BitVec 1 := Scalar.cmpi .ne v1523 v1525
  let v1527 : BitVec 32 := Scalar.extui v1526
  let c0_i32_678 : BitVec 32 := 0#32
  let v1528 : BitVec 1 := Scalar.cmpi .ne v1527 c0_i32_678
  v1528

def k1_chk48 (i : grid1.Coords) (v84 : BitVec 32) (v86 : BitVec 32) (v88 : BitVec 32) (v1523 : BitVec 32) (v1525 : BitVec 32) (v1618 : BitVec 32) : Prop :=
  (∀ (k1_h39 : k1_cond39 v84 v86 v88 = 1#1), ∀ (k1_h55 : k1_cond55 v1523 v1525 = 1#1), ∀ a, (k1_off465 i v1618) a + S1x1x128.size a ≤ S32x512x128.size a)
theorem k1_off465_inb : ∀ (i : grid1.Coords) (v84 : BitVec 32) (v86 : BitVec 32) (v88 : BitVec 32) (v1523 : BitVec 32) (v1525 : BitVec 32) (v1618 : BitVec 32) (k1_hw48 : k1_chk48 i v84 v86 v88 v1523 v1525 v1618), ∀ (k1_h39 : k1_cond39 v84 v86 v88 = 1#1), ∀ (k1_h55 : k1_cond55 v1523 v1525 = 1#1), ∀ a, (k1_off465 i v1618) a + S1x1x128.size a ≤ S32x512x128.size a := fun i v84 v86 v88 v1523 v1525 v1618 k1_hw48 k1_h39 k1_h55 => k1_hw48 k1_h39 k1_h55

def k1_off466 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_680 : BitVec 32 := 16#32
  let v1531 : BitVec 32 := Scalar.muli arg17 c16_i32_680
  let c15_i32 : BitVec 32 := 15#32
  let v1532 : BitVec 32 := Scalar.addi v1531 c15_i32
  let v1533 : Index := Scalar.indexCast v1532
  let c0_681 : Index := 0#32
  ![v1533.toNat, 0]
def k1_off467 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_684 : BitVec 32 := 16#32
  let v1542 : BitVec 32 := Scalar.muli arg17 c16_i32_684
  let c15_i32_685 : BitVec 32 := 15#32
  let v1543 : BitVec 32 := Scalar.addi v1542 c15_i32_685
  let v1544 : Index := Scalar.indexCast v1543
  let c16_686 : Index := 16#32
  ![v1544.toNat, 16]
def k1_off468 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_689 : BitVec 32 := 16#32
  let v1553 : BitVec 32 := Scalar.muli arg17 c16_i32_689
  let c15_i32_690 : BitVec 32 := 15#32
  let v1554 : BitVec 32 := Scalar.addi v1553 c15_i32_690
  let v1555 : Index := Scalar.indexCast v1554
  let c32_691 : Index := 32#32
  ![v1555.toNat, 32]
def k1_off469 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_694 : BitVec 32 := 16#32
  let v1564 : BitVec 32 := Scalar.muli arg17 c16_i32_694
  let c15_i32_695 : BitVec 32 := 15#32
  let v1565 : BitVec 32 := Scalar.addi v1564 c15_i32_695
  let v1566 : Index := Scalar.indexCast v1565
  let c48_696 : Index := 48#32
  ![v1566.toNat, 48]
def k1_off470 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_699 : BitVec 32 := 16#32
  let v1575 : BitVec 32 := Scalar.muli arg17 c16_i32_699
  let c15_i32_700 : BitVec 32 := 15#32
  let v1576 : BitVec 32 := Scalar.addi v1575 c15_i32_700
  let v1577 : Index := Scalar.indexCast v1576
  let c64_701 : Index := 64#32
  ![v1577.toNat, 64]
def k1_off471 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_704 : BitVec 32 := 16#32
  let v1586 : BitVec 32 := Scalar.muli arg17 c16_i32_704
  let c15_i32_705 : BitVec 32 := 15#32
  let v1587 : BitVec 32 := Scalar.addi v1586 c15_i32_705
  let v1588 : Index := Scalar.indexCast v1587
  let c80_706 : Index := 80#32
  ![v1588.toNat, 80]
def k1_off472 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_709 : BitVec 32 := 16#32
  let v1597 : BitVec 32 := Scalar.muli arg17 c16_i32_709
  let c15_i32_710 : BitVec 32 := 15#32
  let v1598 : BitVec 32 := Scalar.addi v1597 c15_i32_710
  let v1599 : Index := Scalar.indexCast v1598
  let c96_711 : Index := 96#32
  ![v1599.toNat, 96]
def k1_off473 (k1_t5 : Fin k1_t5_loop.trips) : Fin 2 → Nat :=
  let c0_i32_46 : BitVec 32 := 0#32
  let c1_i32_48 : BitVec 32 := 1#32
  let arg17 : BitVec 32 := Scf.iv c0_i32_46 c1_i32_48 k1_t5
  let c16_i32_714 : BitVec 32 := 16#32
  let v1608 : BitVec 32 := Scalar.muli arg17 c16_i32_714
  let c15_i32_715 : BitVec 32 := 15#32
  let v1609 : BitVec 32 := Scalar.addi v1608 c15_i32_715
  let v1610 : Index := Scalar.indexCast v1609
  let c112_716 : Index := 112#32
  ![v1610.toNat, 112]
def k1_cond56 (k1_t3 : Fin k1_t3_loop.trips) : BitVec 1 :=
  let c0_i32_23 : BitVec 32 := 0#32
  let c1_i32_24 : BitVec 32 := 1#32
  let arg15 : BitVec 32 := Scf.iv c0_i32_23 c1_i32_24 k1_t3
  let c11_i32_50 : BitVec 32 := 11#32
  let v76 : BitVec 1 := Scalar.cmpi .slt arg15 c11_i32_50
  let v77 : BitVec 32 := Scalar.extui v76
  let c0_i32_51 : BitVec 32 := 0#32
  let v78 : BitVec 1 := Scalar.cmpi .ne v77 c0_i32_51
  v78

def k1_off474 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_53 : BitVec 32 := 2#32
  let c0_i32_23 : BitVec 32 := 0#32
  let c1_i32_24 : BitVec 32 := 1#32
  let arg15 : BitVec 32 := Scf.iv c0_i32_23 c1_i32_24 k1_t3
  let v79 : BitVec 32 := Scalar.muli c2_i32_53 arg15
  let c4_i32 : BitVec 32 := 4#32
  let v80 : BitVec 32 := Scalar.addi v79 c4_i32
  let c400_i32_54 : BitVec 32 := 400#32
  let v81 : BitVec 32 := Scalar.muli v80 c400_i32_54
  let v82 : BitVec 32 := Scalar.addi v2 v81
  let c0_i32_55 : BitVec 32 := 0#32
  ![v82.toNat, 0]
def k1_off475 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_53 : BitVec 32 := 2#32
  let c0_i32_23 : BitVec 32 := 0#32
  let c1_i32_24 : BitVec 32 := 1#32
  let arg15 : BitVec 32 := Scf.iv c0_i32_23 c1_i32_24 k1_t3
  let v79 : BitVec 32 := Scalar.muli c2_i32_53 arg15
  let c4_i32 : BitVec 32 := 4#32
  let v80 : BitVec 32 := Scalar.addi v79 c4_i32
  let c400_i32_54 : BitVec 32 := 400#32
  let v81 : BitVec 32 := Scalar.muli v80 c400_i32_54
  let v82 : BitVec 32 := Scalar.addi v2 v81
  ![v82.toNat]
def k1_off476 (i : grid1.Coords) (v60 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27_r50 : BitVec 32 := 0#32
  ![v1.toNat, v60.toNat, 0]

def k1_chk49 (i : grid1.Coords) (v60 : BitVec 32) : Prop :=
  (∀ a, (k1_off476 i v60) a + S1x1x128.size a ≤ S32x512x128.size a)
theorem k1_off476_inb : ∀ (i : grid1.Coords) (v60 : BitVec 32) (k1_hw49 : k1_chk49 i v60), ∀ a, (k1_off476 i v60) a + S1x1x128.size a ≤ S32x512x128.size a := fun i v60 k1_hw49 => k1_hw49

abbrev grid2 : Pipeline.Grid := .none

abbrev stage2_0 : Fin 1 → Memref sig .tc .vmem S32x512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S320000x131 : Shape := ⟨2, ![320000, 131]⟩
abbrev S1x128 : Shape := ⟨2, ![1, 128]⟩
abbrev S320000x1 : Shape := ⟨2, ![320000, 1]⟩
abbrev S512 : Shape := ⟨1, ![512]⟩
abbrev S1x512 : Shape := ⟨2, ![1, 512]⟩
abbrev S320000x512 : Shape := ⟨2, ![320000, 512]⟩
abbrev S320000x512x1 : Shape := ⟨3, ![320000, 512, 1]⟩
abbrev S320000x1x128 : Shape := ⟨3, ![320000, 1, 128]⟩
abbrev S_ : Shape := ⟨0, ![]⟩
abbrev S320000x512x128 : Shape := ⟨3, ![320000, 512, 128]⟩
abbrev S512x128 : Shape := ⟨2, ![512, 128]⟩
abbrev S512x3 : Shape := ⟨2, ![512, 3]⟩

abbrev nBuf : Space → Nat
  | .hbm => 29
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S131x128, .f32⟩
  | .hbm, ⟨4, _⟩ => ⟨S128, .f32⟩
  | .hbm, ⟨5, _⟩ => ⟨S320000x131, .f32⟩
  | .hbm, ⟨6, _⟩ => ⟨S320000x128, .f32⟩
  | .hbm, ⟨7, _⟩ => ⟨S1x128, .f32⟩
  | .hbm, ⟨8, _⟩ => ⟨S320000x128, .f32⟩
  | .hbm, ⟨9, _⟩ => ⟨S320000x128, .f32⟩
  | .hbm, ⟨10, _⟩ => ⟨S320000x1, .i32⟩
  | .hbm, ⟨11, _⟩ => ⟨S512, .i32⟩
  | .hbm, ⟨12, _⟩ => ⟨S1x512, .i32⟩
  | .hbm, ⟨13, _⟩ => ⟨S320000x512, .i32⟩
  | .hbm, ⟨14, _⟩ => ⟨S320000x512, .i32⟩
  | .hbm, ⟨15, _⟩ => ⟨S320000x512, .i1⟩
  | .hbm, ⟨16, _⟩ => ⟨S320000x512x1, .i1⟩
  | .hbm, ⟨17, _⟩ => ⟨S320000x1x128, .f32⟩
  | .hbm, ⟨18, _⟩ => ⟨S_, .f32⟩
  | .hbm, ⟨19, _⟩ => ⟨S_, .f32⟩
  | .hbm, ⟨20, _⟩ => ⟨S320000x512x128, .i1⟩
  | .hbm, ⟨21, _⟩ => ⟨S320000x512x128, .f32⟩
  | .hbm, ⟨22, _⟩ => ⟨S320000x512x128, .f32⟩
  | .hbm, ⟨23, _⟩ => ⟨S320000x512x128, .f32⟩
  | .hbm, ⟨24, _⟩ => ⟨S_, .f32⟩
  | .hbm, ⟨25, _⟩ => ⟨S512x128, .f32⟩
  | .hbm, ⟨26, _⟩ => ⟨S_, .f32⟩
  | .hbm, ⟨27, _⟩ => ⟨S512x3, .f32⟩
  | .hbm, ⟨28, _⟩ => ⟨S512, .i32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Group.lean ====
/-
  The kernel's work on one group of sixteen rows, written once with a row number, a column block and the buffers as
  parameters. The printed kernel repeats this text at every row, every column block and for each of its three loops
  over a chunk; `Body.lean` shows that the printed text is this one.
-/
module

public import proofs.«01_k».proof.Proof.Gen.KernelIdeal

@[expose] public section

noncomputable section

namespace Cert.Proof.Seg

open Cert.KernelIdeal Cert.KernelIdeal.Gen
open Idealize.ShloMosaic
open Idealize.SL.Sem

variable {F : FTy → Type} [FloatOps F]

/-- The tile's program at mesh position `i`. -/
abbrev TProg (i : grid1.Coords) (α : Type) : Type 1 :=
  Prog (TpuEff nD τ sig (Elt F) Λ₀ (.scVector ((i 0).castLE hcore1) ((i 1).castLE hsub1))) α

/-- Row `j` of group `t`, column block `k`: where the sixteen words start. -/
def rowOff (t j k : Nat) : Fin 2 → Nat :=
  ![(Scalar.indexCast (Scalar.addi (Scalar.muli (Scf.iv (0#32) (1#32) t) 16#32) (BitVec.ofNat 32 j))).toNat, 16 * k]

/-- Where the group's sixteen segment ids start. -/
def idOff (t : Nat) : Fin 1 → Nat := ![(Scalar.indexCast (Scalar.muli (Scf.iv (0#32) (1#32) t) 16#32)).toNat]

/-- The word that numbers row `j` of group `t` in its chunk is `16 * t + j`. -/
theorem row_word (t j : Nat) (ht : t < 25) (hj : j < 16) :
    (Scalar.indexCast (Scalar.addi (Scalar.muli (Scf.iv (0#32) (1#32) t) 16#32) (BitVec.ofNat 32 j))).toNat = 16 * t + j := by
  have h : ((0#32 + BitVec.ofNat 32 t * 1#32) * 16#32 + BitVec.ofNat 32 j).toNat = 16 * t + j := by
    simp only [BitVec.toNat_add, BitVec.toNat_mul, BitVec.toNat_ofNat]
    omega
  exact h

/-- The word at which group `t` starts in its chunk is `16 * t`. -/
theorem id_word (t : Nat) (ht : t < 25) : (Scalar.indexCast (Scalar.muli (Scf.iv (0#32) (1#32) t) 16#32)).toNat = 16 * t := by
  have h : ((0#32 + BitVec.ofNat 32 t * 1#32) * 16#32).toNat = 16 * t := by
    simp only [BitVec.toNat_add, BitVec.toNat_mul, BitVec.toNat_ofNat]
    omega
  exact h

/-- A piece of a group's row lies inside the chunk. -/
theorem rowOff_inb {t j k : Nat} (ht : t < 25) (hj : j < 16) (hk : k < 8) : ∀ a, rowOff t j k a + S1x16.size a ≤ S400x128.size a := by
  intro a
  match a with
  | 0 => show (Scalar.indexCast (Scalar.addi (Scalar.muli (Scf.iv (0#32) (1#32) t) 16#32) (BitVec.ofNat 32 j))).toNat + 1 ≤ 400
         rw [row_word t j ht hj]; omega
  | 1 => show 16 * k + 16 ≤ 128
         omega

/-- A group's ids lie inside the chunk's. -/
theorem idOff_inb {t : Nat} (ht : t < 25) : ∀ a, idOff t a + S16.size a ≤ S400.size a := by
  intro a
  match a with
  | 0 => show (Scalar.indexCast (Scalar.muli (Scf.iv (0#32) (1#32) t) 16#32)).toNat + 16 ≤ 400
         rw [id_word t ht]; omega

/-- A piece of sixteen columns lies inside a row. -/
theorem colOff_inb {k : Nat} (hk : k < 8) : ∀ a, (![16 * k] : Fin 1 → Nat) a + S16.size a ≤ S128.size a := by
  intro a
  match a with
  | 0 => show 16 * k + 16 ≤ 128
         omega

/-- One lane lies inside sixteen. -/
theorem lane_slices {j : Nat} (hj : j < 16) : S16.Slices ![j] S1 := by
  have h : ∀ j : Fin 16, S16.Slices ![j.val] S1 := by decide
  exact h ⟨j, hj⟩

/-- The segment id in lane `j` of the group's vector of ids. -/
def laneId (v : IVec S16 32) (j : Nat) (hj : j < 16) : BitVec 32 :=
  extractAt ![0] (extractStridedSlice S1 ![j] v (lane_slices hj)) inpos_S1_p0

variable (i : grid1.Coords)
variable (hb : Memref sig .scVector .vmem S400x128 .f32) (acc : Memref sig .scVector .vmem S128 .f32)
variable (cur : Memref sig .scVector .smem S1 .i32) (out : Memref sig .scVector .hbm S32x512x128 .f32)
variable (hacc : acc.IsWhole)

/-- The rectangle of column block `k` of the running maximum. -/
abbrev colR (k : Nat) (hk : k < 8) : Rect S128 := Rect.unit (s := S128) ![16 * k] S16.size (colOff_inb hk)
/-- The rectangle of row `j` of group `t`, column block `k`. -/
abbrev rowR (t j k : Nat) (ht : t < 25) (hj : j < 16) (hk : k < 8) : Rect S400x128 := Rect.unit (s := S400x128) (rowOff t j k) S1x16.size (rowOff_inb ht hj hk)
/-- The one word of the open segment's id. -/
abbrev curR : Rect S1 := Rect.unit (s := S1) ![0] S1.size inb_S1_S1_0

/-- The one position of a one-word rectangle. -/
abbrev word₀ : curR.shape.Idx := Shape.Idx.first (numel1_S1.symm ▸ Nat.one_pos)

/-- The load of the word holding the open segment's id. -/
def loadCur {α : Type} (p : Vec F S1 .i32 → TProg (F := F) i α) : TProg (F := F) i α :=
  .op (.load cur curR.toLoadRect (View.loadsAt_rect (View.loads_smem_one rfl numel1_S1))) fun f => p f

/-- One column block of one row, taken into the running maximum. -/
def col {α : Type} (t j k : Nat) (ht : t < 25) (hj : j < 16) (hk : k < 8) (p : TProg (F := F) i α) : TProg (F := F) i α :=
  .op (.load acc (colR k hk).toLoadRect (View.loadsAt_vmem h_S16)) fun a =>
  .op (.load hb (rowR t j k ht hj hk).toLoadRect (View.loadsAt_vmem h_S1x16)) fun r =>
  .op (.load acc (colR k hk).toLoadRect (View.loadsAt_vmem h_S16)) fun _ =>
  .op (.store acc (colR k hk) (shapeCast S16 (maximumf (shapeCast S16 a shapeCasts_S16_S16) (shapeCast S16 r shapeCasts_S1x16_S16)) shapeCasts_S16_S16)
    Finset.univ (View.stores_vmem_bits_univ h_S16 rfl) (.inl rfl)) fun _ => p

/-- The last `n` column blocks of row `j`, then `p`. -/
def cols {α : Type} (t j : Nat) (ht : t < 25) (hj : j < 16) : (n : Nat) → n ≤ 8 → TProg (F := F) i α → TProg (F := F) i α
  | 0, _, p => p
  | n + 1, hn, p => col i hb acc t j (8 - (n + 1)) ht hj (by omega) (cols t j ht hj n (by omega) p)

/-- The last `n` column blocks of the running maximum set to `-∞`, then `p`. -/
def clear {α : Type} (ninf : FVec F S16 .f32) : (n : Nat) → n ≤ 8 → TProg (F := F) i α → TProg (F := F) i α
  | 0, _, p => p
  | n + 1, hn, p =>
    .op (.load acc (colR (8 - (n + 1)) (by omega)).toLoadRect (View.loadsAt_vmem h_S16)) fun _ =>
    .op (.store acc (colR (8 - (n + 1)) (by omega)) (shapeCast S16 ninf shapeCasts_S16_S16) Finset.univ (View.stores_vmem_bits_univ h_S16 rfl) (.inl rfl)) fun _ =>
    clear ninf n (by omega) p

/-- Where the tile's row for segment `s` starts in the table of partial maxima. -/
def outOff (s : BitVec 32) : Fin 3 → Nat :=
  ![(Scalar.addi (Scalar.muli (BitVec.ofNat 32 (i 1).val) 2#32) (BitVec.ofNat 32 (i 0).val)).toNat, s.toNat, 0]

/-- That the tile's row for segment `s` lies in the table. -/
def OutIn (s : BitVec 32) : Prop := ∀ a, outOff i s a + S1x1x128.size a ≤ S32x512x128.size a

/-- The tile's row for segment `s`. -/
abbrev outRow (s : BitVec 32) (h : OutIn i s) : Memref sig .scVector .hbm S128 .f32 :=
  (out.slice (Rect.unit (s := S32x512x128) (outOff i s) S1x1x128.size h) (fun _ => rfl)).squeeze S128 squeezes_S1x1x128_S128

/-- The running maximum written to the row of segment `s`, and waited for. -/
def send {α : Type} (sem : DmaSems sig S_) (s : BitVec 32) (h : OutIn i s) (p : TProg (F := F) i α) : TProg (F := F) i α :=
  .op (.enqueueDma acc (.here (outRow i out s h)) (.dma sem.sem) hacc.wordExact ((View.wordExact_bits rfl).reshape _ _) ⟨Or.inl rfl, trivial⟩) fun _ =>
  .op (.waitDma2 sem.sem acc (outRow i out s h) hacc.wordExact ((View.wordExact_bits rfl).reshape _ _)) fun _ => p

/-- A segment's end: its maximum sent off, the running maximum cleared, segment `b` opened. The row's place in the table
    is checked under the two conditions `C` and `C'` of the text around it, both of which hold there. -/
def flush (ninf : FVec F S16 .f32) (sem : DmaSems sig S_) (b : BitVec 32) (C C' : Prop) (hC : C) (hC' : C')
    (dec : (s : BitVec 32) → Decidable (C → C' → OutIn i s)) : TProg (F := F) i PUnit :=
  loadCur i cur fun f =>
  .op (.assume (C → C' → OutIn i (f word₀)) (dec (f word₀))) fun w =>
  send i acc out hacc sem (f word₀) (w.down hC hC') <|
  clear i acc ninf 8 le_rfl <|
  loadCur i cur fun _ =>
  .op (.store cur curR (fun _ => b) Finset.univ (View.stores_smem_one rfl numel1_S1) (.inl rfl)) fun _ => .ret ⟨⟩

/-- The word the kernel tests to see whether a row with id `b` opens a segment, `s` being open. -/
def opens (b s : BitVec 32) : BitVec 1 := Scalar.cmpi .ne (Scalar.extui (Scalar.cmpi .ne b s) : BitVec 32) 0#32

/-- The word the kernel tests to see whether the group needs the row-by-row text: not all its rows (first `b`, last `b'`)
    belong to the open segment `s`. -/
def mixed (b b' s : BitVec 32) : BitVec 1 :=
  Scalar.cmpi .ne (Scalar.extui (Scalar.xori (Scalar.andi (Scalar.cmpi .eq b s) (Scalar.cmpi .eq b b')) 1#1) : BitVec 32) 0#32

/-- The word the kernel tests to see whether the whole group belongs to the open segment. -/
def uniform (b b' s : BitVec 32) : BitVec 1 :=
  Scalar.cmpi .ne (Scalar.extui (Scalar.andi (Scalar.cmpi .eq b s) (Scalar.cmpi .eq b b')) : BitVec 32) 0#32

/-- Row `j` of group `t` whose id is `b`, then `p`. -/
def row {α : Type} (ninf : FVec F S16 .f32) (sem : DmaSems sig S_) (C : Prop) (hC : C) (t j : Nat) (ht : t < 25) (hj : j < 16) (b : BitVec 32)
    (p : TProg (F := F) i α) : TProg (F := F) i α :=
  loadCur i cur fun f =>
  (if h : opens b (f word₀) = 1#1 then
      flush i acc cur out hacc ninf sem b C (opens b (f word₀) = 1#1) hC h (fun _ => Classical.propDecidable _)
    else .ret ⟨⟩) >>= fun _ => cols i hb acc t j ht hj 8 le_rfl p

/-- A row as the program spells it, first form, is the row of the short text. -/
theorem row_eq {α β : Type} {ninf : FVec F S16 .f32} {sem : DmaSems sig S_} {C : Prop} {hC : C} {t j : Nat} {ht : t < 25} {hj : j < 16} {b : BitVec 32}
    {A : (f : Vec F S1 .i32) → opens b (f word₀) = 1#1 → TProg (F := F) i β} {E : TProg (F := F) i β} {K : β → TProg (F := F) i α} {p : TProg (F := F) i α}
    {dec : (f : Vec F S1 .i32) → (s : BitVec 32) → Decidable (C → opens b (f word₀) = 1#1 → OutIn i s)}
    (hA : ∀ f h, A f h = flush i acc cur out hacc ninf sem b C (opens b (f word₀) = 1#1) hC h (dec f) >>= fun _ => E)
    (hE : (E >>= K) = cols i hb acc t j ht hj 8 le_rfl p) :
    (loadCur i cur fun f => (if h : opens b (f word₀) = 1#1 then A f h else E) >>= K) = row i hb acc cur out hacc ninf sem C hC t j ht hj b p := by
  unfold row
  congr 1
  funext f
  rw [← hE]
  split
  · rw [hA, Prog.bind_assoc]
    rw [show dec f = fun _ => Classical.propDecidable _ from funext fun _ => Subsingleton.elim _ _]
  · rfl

/-- A row as the program spells it, second form, is the row of the short text. -/
theorem row_eq₂ {α β γ : Type} {ninf : FVec F S16 .f32} {sem : DmaSems sig S_} {C : Prop} {hC : C} {t j : Nat} {ht : t < 25} {hj : j < 16} {b : BitVec 32}
    {A : (f : Vec F S1 .i32) → opens b (f word₀) = 1#1 → TProg (F := F) i γ} {E : TProg (F := F) i γ} {K' : γ → TProg (F := F) i β} {K : β → TProg (F := F) i α} {p : TProg (F := F) i α}
    {dec : (f : Vec F S1 .i32) → (s : BitVec 32) → Decidable (C → opens b (f word₀) = 1#1 → OutIn i s)}
    (hA : ∀ f h, A f h = flush i acc cur out hacc ninf sem b C (opens b (f word₀) = 1#1) hC h (dec f) >>= fun _ => E)
    (hE : (E >>= K' >>= K) = cols i hb acc t j ht hj 8 le_rfl p) :
    (loadCur i cur fun f => (if h : opens b (f word₀) = 1#1 then A f h else E) >>= K' >>= K) = row i hb acc cur out hacc ninf sem C hC t j ht hj b p := by
  rw [← row_eq (K := fun x => K' x >>= K) i hb acc cur out hacc hA (by rw [← hE, Prog.bind_assoc])]
  congr 1
  funext f
  exact Prog.bind_assoc _ _ _

/-- The last `n` rows of group `t`, then `p`. -/
def rows {α : Type} (ninf : FVec F S16 .f32) (sems : Nat → DmaSems sig S_) (C : Prop) (hC : C) (t : Nat) (ht : t < 25) (ids : IVec S16 32) :
    (n : Nat) → n ≤ 16 → TProg (F := F) i α → TProg (F := F) i α
  | 0, _, p => p
  | n + 1, hn, p => row i hb acc cur out hacc ninf (sems (16 - (n + 1))) C hC t (16 - (n + 1)) ht (by omega) (laneId ids (16 - (n + 1)) (by omega))
      (rows ninf sems C hC t ht ids n (by omega) p)

/-- One step of showing a printed text to be `rows`. -/
theorem rows_succ {α : Type} {ninf : FVec F S16 .f32} {sems : Nat → DmaSems sig S_} {C : Prop} {hC : C} {t : Nat} {ht : t < 25} {ids : IVec S16 32}
    {n : Nat} {hn : n + 1 ≤ 16} {X p p' : TProg (F := F) i α}
    (h : X = row i hb acc cur out hacc ninf (sems (16 - (n + 1))) C hC t (16 - (n + 1)) ht (by omega) (laneId ids (16 - (n + 1)) (by omega)) p')
    (h' : p' = rows i hb acc cur out hacc ninf sems C hC t ht ids n (by omega) p) :
    X = rows i hb acc cur out hacc ninf sems C hC t ht ids (n + 1) hn p := by
  rw [h, h']; rfl

/-- The rectangle of the ids of group `t`. -/
abbrev idR (t : Nat) (ht : t < 25) : Rect S400 := Rect.unit (s := S400) (idOff t) S16.size (idOff_inb ht)

/-- The last `n` rows of group `t`, column block `k`, loaded: `p` of the sixteen vectors, those before taken from `g`. -/
def loads {α : Type} (t k : Nat) (ht : t < 25) (hk : k < 8) : (n : Nat) → n ≤ 16 → (Nat → FVec F S16 .f32) → ((Nat → FVec F S16 .f32) → TProg (F := F) i α) → TProg (F := F) i α
  | 0, _, g, p => p g
  | n + 1, hn, g, p =>
    .op (.load hb (rowR t (16 - (n + 1)) k ht (by omega) hk).toLoadRect (View.loadsAt_vmem h_S1x16)) fun r =>
    loads t k ht hk n (by omega) (fun m => if m = 16 - (n + 1) then shapeCast S16 r shapeCasts_S1x16_S16 else g m) p

/-- The maximum of sixteen vectors, by pairs. -/
def tree (g : Nat → FVec F S16 .f32) : FVec F S16 .f32 :=
  maximumf
    (maximumf (maximumf (maximumf (g 0) (g 1)) (maximumf (g 2) (g 3))) (maximumf (maximumf (g 4) (g 5)) (maximumf (g 6) (g 7))))
    (maximumf (maximumf (maximumf (g 8) (g 9)) (maximumf (g 10) (g 11))) (maximumf (maximumf (g 12) (g 13)) (maximumf (g 14) (g 15))))

/-- One column block of a group that lies in the open segment. -/
def fastCol {α : Type} (g₀ : Nat → FVec F S16 .f32) (t k : Nat) (ht : t < 25) (hk : k < 8) (p : TProg (F := F) i α) : TProg (F := F) i α :=
  loads i hb t k ht hk 16 le_rfl g₀ fun g =>
  .op (.load acc (colR k hk).toLoadRect (View.loadsAt_vmem h_S16)) fun a =>
  .op (.load acc (colR k hk).toLoadRect (View.loadsAt_vmem h_S16)) fun _ =>
  .op (.store acc (colR k hk) (shapeCast S16 (maximumf (shapeCast S16 a shapeCasts_S16_S16) (tree g)) shapeCasts_S16_S16)
    Finset.univ (View.stores_vmem_bits_univ h_S16 rfl) (.inl rfl)) fun _ => p

/-- The last `n` column blocks of such a group, then `p`. -/
def fast {α : Type} (g₀ : Nat → FVec F S16 .f32) (t : Nat) (ht : t < 25) : (n : Nat) → n ≤ 8 → TProg (F := F) i α → TProg (F := F) i α
  | 0, _, p => p
  | n + 1, hn, p => fastCol i hb acc g₀ t (8 - (n + 1)) ht (by omega) (fast g₀ t ht n (by omega) p)

/-- A group's rows one by one, when they are not all in the open segment. -/
def slow (ninf : FVec F S16 .f32) (sems : Nat → DmaSems sig S_) (t : Nat) (ht : t < 25) (ids : IVec S16 32) (s : BitVec 32) : TProg (F := F) i (BitVec 32) :=
  if h : mixed (laneId ids 0 (by omega)) (laneId ids 15 (by omega)) s = 1#1 then
    rows i hb acc cur out hacc ninf sems (mixed (laneId ids 0 (by omega)) (laneId ids 15 (by omega)) s = 1#1) h t ht ids 16 le_rfl (.ret 0#32)
  else .ret 0#32

/-- Group `t` of a chunk. -/
def group (bb : Memref sig .scVector .vmem S400 .i32) (ninf : FVec F S16 .f32) (sems : Nat → DmaSems sig S_) (t : Nat) (ht : t < 25) : TProg (F := F) i (BitVec 32) :=
  .op (.load bb (idR t ht).toLoadRect (View.loadsAt_vmem h_S16)) fun w =>
  loadCur i cur fun f =>
  if uniform (laneId (shapeCast S16 w shapeCasts_S16_S16) 0 (by omega)) (laneId (shapeCast S16 w shapeCasts_S16_S16) 15 (by omega)) (f word₀) = 1#1 then
    fast i hb acc (fun _ => ninf) t ht 8 le_rfl (slow i hb acc cur out hacc ninf sems t ht (shapeCast S16 w shapeCasts_S16_S16) (f word₀))
  else slow i hb acc cur out hacc ninf sems t ht (shapeCast S16 w shapeCasts_S16_S16) (f word₀)

/-- A text with the two conditionals of a group is `group`, if their branches are. -/
theorem group_eq {bb : Memref sig .scVector .vmem S400 .i32} {ninf : FVec F S16 .f32} {sems : Nat → DmaSems sig S_} {t : Nat} {ht : t < 25}
    {A : Vec F S16 .i32 → Vec F S1 .i32 → TProg (F := F) i (BitVec 32)} {J : Vec F S16 .i32 → Vec F S1 .i32 → TProg (F := F) i (BitVec 32)}
    {B : (w : Vec F S16 .i32) → (f : Vec F S1 .i32) → mixed (laneId (shapeCast S16 w shapeCasts_S16_S16) 0 (by omega)) (laneId (shapeCast S16 w shapeCasts_S16_S16) 15 (by omega)) (f word₀) = 1#1 → TProg (F := F) i (BitVec 32)}
    (hA : ∀ w f, A w f = fast i hb acc (fun _ => ninf) t ht 8 le_rfl (J w f))
    (hJ : ∀ w f, J w f = if h : mixed (laneId (shapeCast S16 w shapeCasts_S16_S16) 0 (by omega)) (laneId (shapeCast S16 w shapeCasts_S16_S16) 15 (by omega)) (f word₀) = 1#1 then B w f h else .ret 0#32)
    (hB : ∀ w f h, B w f h = rows i hb acc cur out hacc ninf sems _ h t ht (shapeCast S16 w shapeCasts_S16_S16) 16 le_rfl (.ret 0#32)) :
    (.op (.load bb (idR t ht).toLoadRect (View.loadsAt_vmem h_S16)) fun w => loadCur i cur fun f =>
      if uniform (laneId (shapeCast S16 w shapeCasts_S16_S16) 0 (by omega)) (laneId (shapeCast S16 w shapeCasts_S16_S16) 15 (by omega)) (f word₀) = 1#1 then A w f else J w f)
      = group i hb acc cur out hacc bb ninf sems t ht := by
  unfold group
  congr 1
  funext w
  congr 1
  funext f
  have h : J w f = slow i hb acc cur out hacc ninf sems t ht (shapeCast S16 w shapeCasts_S16_S16) (f word₀) := by
    rw [hJ]
    unfold slow
    split
    · rw [hB]
    · rfl
  rw [hA, h]

end Cert.Proof.Seg
-- ==== Proof.Body.lean ====
/-
  A tile's whole program in short form: the fill of its table of partial maxima, the twenty-five chunks through two pairs
  of buffers, and the last segment's row.
-/
module

public import proofs.«01_k».proof.Proof.Group

@[expose] public section

noncomputable section

namespace Cert.Proof.Seg

open Cert.KernelIdeal Cert.KernelIdeal.Gen
open Idealize.ShloMosaic
open Idealize.SL.Sem

variable {F : FTy → Type} [FloatOps F]

/-- The vector of sixteen `-∞`. -/
def ninf₀ : FVec F S16 .f32 := broadcast S16 (Scalar.ofBits .f32 0xFF800000#32 : F .f32)

/-- Row `t`, column block `k` of the buffer being filled. -/
def fillOff (t k : Nat) : Fin 2 → Nat := ![(Scalar.indexCast (Scf.iv (0#32) (1#32) t)).toNat, 16 * k]

/-- The word that numbers a row to fill is its number. -/
theorem fill_word (t : Nat) (ht : t < 400) : (Scalar.indexCast (Scf.iv (0#32) (1#32) t)).toNat = t := by
  have h : (0#32 + BitVec.ofNat 32 t * 1#32).toNat = t := by
    simp only [BitVec.toNat_add, BitVec.toNat_mul, BitVec.toNat_ofNat]
    omega
  exact h

/-- A piece of a row to fill lies inside the buffer. -/
theorem fillOff_inb {t k : Nat} (ht : t < 400) (hk : k < 8) : ∀ a, fillOff t k a + S1x16.size a ≤ S400x128.size a := by
  intro a
  match a with
  | 0 => show (Scalar.indexCast (Scf.iv (0#32) (1#32) t)).toNat + 1 ≤ 400
         rw [fill_word t ht]; omega
  | 1 => show 16 * k + 16 ≤ 128
         omega

variable (i : grid1.Coords)

/-- The rectangle of row `t`, column block `k` of the buffer being filled. -/
abbrev fillR (t k : Nat) (ht : t < 400) (hk : k < 8) : Rect S400x128 := Rect.unit (s := S400x128) (fillOff t k) S1x16.size (fillOff_inb ht hk)

/-- The last `n` column blocks of row `t` filled with `-∞`, then `p`. -/
def fillCols {α : Type} (hb : Memref sig .scVector .vmem S400x128 .f32) (t : Nat) (ht : t < 400) : (n : Nat) → n ≤ 8 → TProg (F := F) i α → TProg (F := F) i α
  | 0, _, p => p
  | n + 1, hn, p =>
    .op (.load hb (fillR t (8 - (n + 1)) ht (by omega)).toLoadRect (View.loadsAt_vmem h_S1x16)) fun _ =>
    .op (.store hb (fillR t (8 - (n + 1)) ht (by omega)) (shapeCast S1x16 (ninf₀ (F := F)) shapeCasts_S16_S1x16) Finset.univ (View.stores_vmem_bits_univ h_S1x16 rfl) (.inl rfl)) fun _ =>
    fillCols hb t ht n (by omega) p

/-- The first 400 rows of the tile's table. -/
abbrev outTop (out : Memref sig .scVector .hbm S32x512x128 .f32) : Memref sig .scVector .hbm S400x128 .f32 :=
  (out.slice (Rect.unit (s := S32x512x128) (k1_off9 i) S1x400x128.size (k1_off9_inb i)) (fun _ => rfl)).squeeze S400x128 squeezes_S1x400x128_S400x128

/-- The last 112 rows of the tile's table. -/
abbrev outEnd (out : Memref sig .scVector .hbm S32x512x128 .f32) : Memref sig .scVector .hbm S112x128 .f32 :=
  (out.slice (Rect.unit (s := S32x512x128) (k1_off10 i) S1x112x128.size (k1_off10_inb i)) (fun _ => rfl)).squeeze S112x128 squeezes_S1x112x128_S112x128

/-- The first 112 rows of a buffer. -/
abbrev hbTop (hb : Memref sig .scVector .vmem S400x128 .f32) : Memref sig .scVector .vmem S112x128 .f32 :=
  hb.slice (Rect.unit (s := S400x128) ![0, 0] S112x128.size inb_S400x128_S112x128_0_0) (fun _ => rfl)

/-- The filled buffer copied over the tile's whole table. -/
def fillSend {α : Type} (hb : Memref sig .scVector .vmem S400x128 .f32) (hhb : hb.IsWhole) (out : Memref sig .scVector .hbm S32x512x128 .f32)
    (s s' : DmaSems sig S_) (p : TProg (F := F) i α) : TProg (F := F) i α :=
  .op (.enqueueDma hb (.here (outTop i out)) (.dma s.sem) hhb.wordExact ((View.wordExact_bits rfl).reshape _ _) ⟨Or.inl rfl, trivial⟩) fun _ =>
  .op (.waitDma2 s.sem hb (outTop i out) hhb.wordExact ((View.wordExact_bits rfl).reshape _ _)) fun _ =>
  .op (.enqueueDma (hbTop hb) (.here (outEnd i out)) (.dma s'.sem) (View.wordExact_bits rfl) ((View.wordExact_bits rfl).reshape _ _) ⟨Or.inl rfl, trivial⟩) fun _ =>
  .op (.waitDma2 s'.sem (hbTop hb) (outEnd i out) (View.wordExact_bits rfl) ((View.wordExact_bits rfl).reshape _ _)) fun _ => p

variable (h : Memref sig .scVector .hbm S320000x128 .f32) (ids : Memref sig .scVector .hbm S320000 .i32)
variable (hb : Memref sig .scVector .vmem S400x128 .f32) (hhb : hb.IsWhole) (bb : Memref sig .scVector .vmem S400 .i32) (hbb : bb.IsWhole)
variable (s s' : DmaSems sig S_)

/-- A chunk's rows of the features. -/
abbrev hChunk (o : Fin 2 → Nat) (ho : ∀ a, o a + S400x128.size a ≤ S320000x128.size a) : Memref sig .scVector .hbm S400x128 .f32 :=
  h.slice (Rect.unit (s := S320000x128) o S400x128.size ho) (fun _ => rfl)

/-- A chunk's segment ids. -/
abbrev idChunk (o : Fin 1 → Nat) (ho : ∀ a, o a + S400.size a ≤ S320000.size a) : Memref sig .scVector .hbm S400 .i32 :=
  ids.slice (Rect.unit (s := S320000) o S400.size ho) (fun _ => rfl)

/-- A chunk's two copies started. -/
def issue {α : Type} (o : Fin 2 → Nat) (ho : ∀ a, o a + S400x128.size a ≤ S320000x128.size a) (o' : Fin 1 → Nat) (ho' : ∀ a, o' a + S400.size a ≤ S320000.size a)
    (p : TProg (F := F) i α) : TProg (F := F) i α :=
  .op (.enqueueDma (hChunk h o ho) (.here hb) (.dma s.sem) (View.wordExact_bits rfl) hhb.wordExact ⟨Or.inl rfl, trivial⟩) fun _ =>
  .op (.enqueueDma (idChunk ids o' ho') (.here bb) (.dma s'.sem) (View.wordExact_bits rfl) hbb.wordExact ⟨Or.inl rfl, trivial⟩) fun _ => p

/-- A chunk's two copies waited for. -/
def drain {α : Type} (p : TProg (F := F) i α) : TProg (F := F) i α :=
  .op (.waitDma2 s.sem (hChunk h ![0, 0] inb_S320000x128_S400x128_0_0) hb (View.wordExact_bits rfl) hhb.wordExact) fun _ =>
  .op (.waitDma2 s'.sem (idChunk ids ![0] inb_S320000_S400_0) bb (View.wordExact_bits rfl) hbb.wordExact) fun _ => p

variable (hb' : Memref sig .scVector .vmem S400x128 .f32) (hhb' : hb'.IsWhole) (bb' : Memref sig .scVector .vmem S400 .i32) (hbb' : bb'.IsWhole)
variable (z z' : DmaSems sig S_)
variable (acc : Memref sig .scVector .vmem S128 .f32) (cur : Memref sig .scVector .smem S1 .i32) (out : Memref sig .scVector .hbm S32x512x128 .f32)
variable (hacc : acc.IsWhole)

/-- Twenty-five groups. -/
def chunk₁ (sems : Nat → DmaSems sig S_) : TProg (F := F) i (BitVec 32) :=
  Scf.Loop.for k1_t2_loop k1_t2_ok 0#32 fun t _ => group i hb acc cur out hacc bb ninf₀ sems t.val t.isLt

/-- One trip of the loop over pairs of chunks: the odd chunk, then the even one, each buffer refilled behind itself. -/
def trip (sems sems' : Nat → DmaSems sig S_) (t : Fin k1_t3_loop.trips) : TProg (F := F) i (BitVec 32) :=
  drain i h ids hb' hhb' bb' hbb' z z' <|
  (Scf.Loop.for k1_t4_loop k1_t4_ok 0#32 fun t _ => group i hb' acc cur out hacc bb' ninf₀ sems t.val t.isLt) >>= fun _ =>
  (if hc : k1_cond37 t = 1#1 then issue i h ids hb' hhb' bb' hbb' z z' (k1_off319 i t) (k1_off319_inb i t hc) (k1_off320 i t) (k1_off320_inb i t hc) (.ret ⟨⟩)
    else (.ret ⟨⟩ : TProg (F := F) i PUnit)) >>= fun _ =>
  drain i h ids hb hhb bb hbb s s' <|
  (Scf.Loop.for k1_t5_loop k1_t5_ok 0#32 fun t _ => group i hb acc cur out hacc bb ninf₀ sems' t.val t.isLt) >>= fun _ =>
  (if hc : k1_cond56 t = 1#1 then issue i h ids hb hhb bb hbb s s' (k1_off474 i t) (k1_off474_inb i t hc) (k1_off475 i t) (k1_off475_inb i t hc) (.ret ⟨⟩)
    else (.ret ⟨⟩ : TProg (F := F) i PUnit)) >>= fun _ => .ret 0#32

/-- The first segment opened. -/
def start {α : Type} (p : TProg (F := F) i α) : TProg (F := F) i α :=
  .op (.load bb (Rect.unit (s := S400) ![0] S16.size inb_S400_S16_0).toLoadRect (View.loadsAt_vmem h_S16)) fun w =>
  loadCur i cur fun _ =>
  .op (.store cur curR (fun _ => laneId (shapeCast S16 w shapeCasts_S16_S16) 0 (by omega)) Finset.univ (View.stores_smem_one rfl numel1_S1) (.inl rfl)) fun _ =>
  clear i acc ninf₀ 8 le_rfl p

/-- The last segment's row sent. -/
def finish (r : DmaSems sig S_) : TProg (F := F) i PUnit :=
  loadCur i cur fun f => .op (.assume (OutIn i (f word₀)) (k1_chk49.dec i (f word₀))) fun w => send i acc out hacc r (f word₀) w.down (.ret ⟨⟩)

/-- The tile's whole program. -/
def body (r₀ r₁ r₂ : DmaSems sig S_) (sems₁ sems₂ sems₃ : Nat → DmaSems sig S_) : TProg (F := F) i PUnit :=
  (Scf.Loop.for k1_t1_loop k1_t1_ok 0#32 fun t _ => fillCols i hb t.val t.isLt 8 le_rfl (.ret 0#32)) >>= fun _ =>
  fillSend i hb hhb out r₀ r₁ <|
  issue i h ids hb hhb bb hbb s s' (k1_off11 i 0#32) (k1_off11_inb i 0) (k1_off12 i 0#32) (k1_off12_inb i 0) <|
  issue i h ids hb' hhb' bb' hbb' z z' (k1_off11 i 400#32) (k1_off11_inb i 1) (k1_off12 i 400#32) (k1_off12_inb i 1) <|
  drain i h ids hb hhb bb hbb s s' <|
  start i bb acc cur <|
  chunk₁ i hb bb acc cur out hacc sems₁ >>= fun _ =>
  issue i h ids hb hhb bb hbb s s' (k1_off11 i 800#32) (k1_off11_inb i 2) (k1_off12 i 800#32) (k1_off12_inb i 2) <|
  (Scf.Loop.for k1_t3_loop k1_t3_ok 0#32 fun t _ => trip i h ids hb hhb bb hbb s s' hb' hhb' bb' hbb' z z' acc cur out hacc sems₂ sems₃ t) >>= fun _ =>
  finish i acc cur out hacc r₂

end Cert.Proof.Seg
-- ==== Proof.Values.lean ====
/-
  What a tile computes: the running maximum, the open segment and the tile's table of partial maxima, as a fold over the
  groups of sixteen rows in the order the tile meets them.
-/
module

public import proofs.«01_k».proof.Proof.Body
public import Idealize.ShloMosaic.Lib.Pointwise

@[expose] public section

noncomputable section

namespace Cert.Proof.Seg

open Cert.KernelIdeal Cert.KernelIdeal.Gen
open Idealize.ShloMosaic

variable {F : FTy → Type} [FloatOps F]

/-- A tile's state between rows: the running maximum of the open segment, that segment's id, the table. -/
@[ext] structure St (F : FTy → Type) where
  /-- The running maximum. -/
  acc : S128.Idx → F .f32
  /-- The open segment. -/
  cur : BitVec 32
  /-- The table of partial maxima (the tile writes only its own block of it). -/
  tab : S32x512x128.Idx → F .f32

/-- `-∞`. -/
def ninf : F .f32 := Scalar.ofBits .f32 0xFF800000#32

/-- The table with row `s` of block `w` replaced. -/
def putRow (w : Nat) (s : BitVec 32) (a : S128.Idx → F .f32) (T : S32x512x128.Idx → F .f32) : S32x512x128.Idx → F .f32 :=
  fun y => if (y 0).val = w ∧ (y 1).val = s.toNat then a (ix1 (y 2)) else T y

/-- The open segment closed and segment `b` opened. -/
def St.flush (w : Nat) (b : BitVec 32) (σ : St F) : St F := ⟨fun _ => ninf, b, putRow w σ.cur σ.acc σ.tab⟩

/-- The state with a row segment `b` opened, unless it is open. -/
def St.seek (w : Nat) (b : BitVec 32) (σ : St F) : St F := if b = σ.cur then σ else σ.flush w b

/-- One row taken in: its id `b`, its values `H`. -/
def St.row (w : Nat) (b : BitVec 32) (H : S128.Idx → F .f32) (σ : St F) : St F :=
  { σ.seek w b with acc := fun x => FloatOps.maximumf ((σ.seek w b).acc x) (H x) }

/-- The last `n` of sixteen rows taken in. -/
def St.rows (w : Nat) (B : Nat → BitVec 32) (H : Nat → S128.Idx → F .f32) : Nat → St F → St F
  | 0, σ => σ
  | n + 1, σ => St.rows w B H n (σ.row w (B (16 - (n + 1))) (H (16 - (n + 1))))

/-- The maximum of sixteen numbers, by pairs. -/
def tree₁ (g : Nat → F .f32) : F .f32 :=
  FloatOps.maximumf
    (FloatOps.maximumf (FloatOps.maximumf (FloatOps.maximumf (g 0) (g 1)) (FloatOps.maximumf (g 2) (g 3)))
      (FloatOps.maximumf (FloatOps.maximumf (g 4) (g 5)) (FloatOps.maximumf (g 6) (g 7))))
    (FloatOps.maximumf (FloatOps.maximumf (FloatOps.maximumf (g 8) (g 9)) (FloatOps.maximumf (g 10) (g 11)))
      (FloatOps.maximumf (FloatOps.maximumf (g 12) (g 13)) (FloatOps.maximumf (g 14) (g 15))))

/-- Sixteen rows of the open segment taken in. -/
def St.fast (H : Nat → S128.Idx → F .f32) (σ : St F) : St F :=
  { σ with acc := fun x => FloatOps.maximumf (σ.acc x) (tree₁ fun j => H j x) }

/-- A group of sixteen rows taken in. -/
def St.group (w : Nat) (B : Nat → BitVec 32) (H : Nat → S128.Idx → F .f32) (σ : St F) : St F :=
  if B 0 = σ.cur ∧ B 0 = B 15 then σ.fast H else St.rows w B H 16 σ

/-- Word `r` of a vector of ids. -/
def idAt {n : Nat} (ids : (⟨1, ![n]⟩ : Shape).Idx → BitVec 32) (r : Nat) : BitVec 32 := if h : r < n then ids (ix1 ⟨r, h⟩) else 0#32

/-- Row `r` of an array of rows. -/
def rowAt {n : Nat} (H : (⟨2, ![n, 128]⟩ : Shape).Idx → F .f32) (r : Nat) : S128.Idx → F .f32 :=
  fun x => if h : r < n then H (ix2 ⟨r, h⟩ (x 0)) else ninf

/-- What tile `w` starts from: its block of the table at `-∞`, its first row's segment open. -/
def St.init (w : Nat) (ids : S320000.Idx → BitVec 32) (T : S32x512x128.Idx → F .f32) : St F :=
  ⟨fun _ => ninf, idAt (n := 320000) ids (10000 * w), fun y => if (y 0).val = w then ninf else T y⟩

/-- The state of tile `w` after its first `n` groups. -/
def St.run (w : Nat) (ids : S320000.Idx → BitVec 32) (H : S320000x128.Idx → F .f32) (T : S32x512x128.Idx → F .f32) : Nat → St F
  | 0 => St.init w ids T
  | n + 1 => St.group w (fun j => idAt (n := 320000) ids (10000 * w + 16 * n + j)) (fun j => rowAt (n := 320000) H (10000 * w + 16 * n + j)) (St.run w ids H T n)

/-- The table a tile leaves. -/
def St.table (w : Nat) (σ : St F) : S32x512x128.Idx → F .f32 := putRow w σ.cur σ.acc σ.tab

/-- The number of the tile at mesh position `i`. -/
def wid (i : grid1.Coords) : Nat := 2 * (i 1).val + (i 0).val

/-- A tile's number is below 32. -/
theorem wid_lt (i : grid1.Coords) : wid i < 32 := by
  have h0 : (i 0).val < 2 := (i 0).isLt
  have h1 : (i 1).val < 16 := (i 1).isLt
  unfold wid; omega

/-- The word that numbers a tile is the tile's number. -/
theorem wid_word (i : grid1.Coords) : (Scalar.addi (Scalar.muli (BitVec.ofNat 32 (i 1).val) 2#32) (BitVec.ofNat 32 (i 0).val)).toNat = wid i := by
  have h0 : (i 0).val < 2 := (i 0).isLt
  have h1 : (i 1).val < 16 := (i 1).isLt
  have h : (BitVec.ofNat 32 (i 1).val * 2#32 + BitVec.ofNat 32 (i 0).val).toNat = 2 * (i 1).val + (i 0).val := by
    simp only [BitVec.toNat_add, BitVec.toNat_mul, BitVec.toNat_ofNat]
    omega
  exact h

/-- The row of an id below 512 lies inside the table. -/
theorem outIn (i : grid1.Coords) (s : BitVec 32) (hs : s.toNat < 512) : OutIn i s := by
  intro a
  have := wid_lt i
  match a with
  | 0 => show (Scalar.addi (Scalar.muli (BitVec.ofNat 32 (i 1).val) 2#32) (BitVec.ofNat 32 (i 0).val)).toNat + 1 ≤ 32
         rw [wid_word]; omega
  | 1 => show s.toNat + 1 ≤ 512
         omega
  | 2 => show 0 + 128 ≤ 128
         omega

/-! ### The words the kernel tests -/

/-- A truth value widened to a word is nonzero exactly if it is true. -/
theorem ofBool_ne_zero (p : Bool) : Scalar.cmpi .ne (Scalar.extui (BitVec.ofBool p) : BitVec 32) 0#32 = 1#1 ↔ p = true := by
  cases p <;> decide

/-- A row opens a segment exactly if its id is not the current one. -/
theorem opens_iff (b s : BitVec 32) : opens b s = 1#1 ↔ b ≠ s := by
  have h : Scalar.cmpi .ne b s = BitVec.ofBool (b != s) := rfl
  unfold opens
  rw [h, ofBool_ne_zero]
  simp

/-- The fast path is taken exactly if the first id is the current one and the last. -/
theorem uniform_iff (b b' s : BitVec 32) : uniform b b' s = 1#1 ↔ (b = s ∧ b = b') := by
  have h1 : Scalar.cmpi .eq b s = BitVec.ofBool (b == s) := rfl
  have h2 : Scalar.cmpi .eq b b' = BitVec.ofBool (b == b') := rfl
  have h3 : ∀ p q : Bool, Scalar.andi (BitVec.ofBool p) (BitVec.ofBool q) = BitVec.ofBool (p && q) := by decide
  unfold uniform
  rw [h1, h2, h3, ofBool_ne_zero]
  simp

/-- The slow path is taken exactly if the fast one is not. -/
theorem mixed_iff (b b' s : BitVec 32) : mixed b b' s = 1#1 ↔ ¬(b = s ∧ b = b') := by
  have h1 : Scalar.cmpi .eq b s = BitVec.ofBool (b == s) := rfl
  have h2 : Scalar.cmpi .eq b b' = BitVec.ofBool (b == b') := rfl
  have h3 : ∀ p q : Bool, Scalar.xori (Scalar.andi (BitVec.ofBool p) (BitVec.ofBool q)) 1#1 = BitVec.ofBool (!(p && q)) := by decide
  unfold mixed
  rw [h1, h2, h3, ofBool_ne_zero]
  by_cases hs : b = s <;> simp [hs]

/-- One lane of a group of ids. -/
theorem laneId_eq (v : IVec S16 32) (j : Nat) (hj : j < 16) : laneId v j hj = v (ix1 ⟨j, hj⟩) := by
  unfold laneId extractAt extractStridedSlice
  congr 1
  funext a
  match a with
  | 0 => exact Fin.ext (by show j + 0 = j; omega)

end Cert.Proof.Seg
-- ==== Proof.Setup.lean ====
/-
  The launch as the library's theorem sees it, and the rules for a tile's loads, stores and copies in the form the rest of
  the proof uses them: a buffer is held with the values read through it.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Memref
public import Idealize.ShloMosaic.Lib.Tactic

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program with the two TensorCore calls' pipelines. -/
abbrev ΛP : Labels := Pipeline.Sig Λ₀ (Fin 2) fun p => (pcfgs (F := F) p).Adm
/-- The SparseCore call of the program. -/
abbrev K : SparseCore.Cfg τ sig (ΛP (F := F)) 1 := sc (F := F)
/-- What the pipelines and the kernels run. -/
abbrev D [FloatOps F] : Defs nD τ sig (Elt F) (ΛP (F := F)) := Pipeline.defs pcfgs defs₀
/-- No loop of the kernels needs a variant. -/
abbrev 𝒱₀ : Variants := Variants.none
/-- No loop of the program needs one. -/
abbrev 𝒱 : Variants := 𝒱₀.lift
/-- The variant where none is needed. -/
abbrev v₀ : 𝒱.V := Sum.inl none

/-- The SparseCore call is well-formed. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the copies' counters. -/
abbrev UH : Type := URounds (GSem nD τ sig) ℕ
/-- The ghost state: the handshakes', the pipelines', the copies'. -/
abbrev UU : Type := UH × (UR sig nD τ × Counters)

local notation "𝕄" => MT nD τ sig (HIx 1) (Elt F) ℕ UU ℕ

/-- Where the handshakes have their part. -/
abbrev EH : Emb UH (MT nD τ sig (HIx 1) (Elt F) ℕ UU ℕ) := embL
/-- Where the pipelines have theirs. -/
abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ 𝕄) := by unfold EP; infer_instance

/-- The tile at mesh position `i` of device `d`. -/
abbrev tile (d : Dev nD) (i : grid1.Coords) : Thread nD τ := V d ((i 0).castLE hcore1) ((i 1).castLE hsub1)

variable [FloatOps F] (d : Dev nD) (i : grid1.Coords)

/-- A tile's program run to its end. -/
abbrev Wp {α : Type} (p : TProg (F := F) i α) (Q : α → sProp 𝕄) : sProp 𝕄 := wp frame (wpE (defs₀ (F := F)) 𝒱₀ (tile d i) none) Set.univ p Q

/-- A load through a rectangle of a buffer held with its values. -/
theorem wp_load_owns {α : Type} {cs : CoreSpace} {s : Shape} {e : EltTy} {m : Memref sig .scVector cs s e} {r : Rect s} {hl : m.view.LoadsAt r.toLoadRect}
    {k : (r.shape.Idx → Elt F e) → TProg (F := F) i α} {q : PosShare TreeShare} {X : s.Idx → Elt F e} {Q : α → sProp 𝕄} :
    (owns (tile d i) m q X : sProp 𝕄) ⊢ iprop((owns (tile d i) m q X -∗ Wp d i (k fun x => X (r.emb x)) Q) -∗ Wp d i (.op (.load m r.toLoadRect hl) k) Q) := by
  unfold owns
  iintro ⟨%f, %hf, H⟩ Hk
  subst hf
  iapply (wp_load_rect 𝒱₀ (tile d i) none Set.univ (m := m) (r := r) (S := m.view.set) (f := f) (by rw [View.set_slice]; exact Finset.map_subset_map.mpr (Finset.subset_univ _))) $$ H
  iintro H
  iapply Hk
  iexists f; isplitr; · ipureintro; rfl
  iexact H

/-- A store through a rectangle of a buffer held with its values. -/
theorem wp_store_owns {α : Type} {cs : CoreSpace} {s : Shape} {e : EltTy} {m : Memref sig .scVector cs s e} {r : Rect s} {w : r.shape.Idx → Elt F e}
    {hx : (m.access r).Stores Finset.univ} {hm : (Finset.univ : Finset r.shape.Idx) = Finset.univ ∨ ∀ a, r.stride a = 1}
    {k : PUnit → TProg (F := F) i α} {X : s.Idx → Elt F e} {Q : α → sProp 𝕄} :
    (owns (tile d i) m fullShare X : sProp 𝕄) ⊢ iprop((owns (tile d i) m fullShare (r.overlay X w) -∗ Wp d i (k ⟨⟩) Q) -∗ Wp d i (.op (.store m r w Finset.univ hx hm) k) Q) := by
  unfold owns
  iintro ⟨%f, %hf, H⟩ Hk
  subst hf
  iapply (wp_store 𝒱₀ (tile d i) none Set.univ (m := m) (r := r) (S := m.view.set) (f := f) (by rw [View.setOn_univ, View.set_slice]; exact Finset.map_subset_map.mpr (Finset.subset_univ _))) $$ H
  iintro H
  iapply Hk
  iexists _; isplitr; swap; · iexact H
  ipureintro
  funext y
  by_cases hy : y ∈ r.set
  · obtain ⟨x, rfl⟩ : ∃ x, r.emb x = y := by
      rw [← Rect.map_emb_univ] at hy; obtain ⟨x, -, hx⟩ := Finset.mem_map.mp hy; exact ⟨x, hx⟩
    rw [Rect.overlay_emb]
    exact View.read_slice_write_emb r f w (Finset.mem_univ x)
  · rw [Rect.overlay_of_not_mem r _ _ hy]
    exact View.read_slice_write_of_not_mem r f w _ (by rwa [Rect.map_emb_univ])

end Cert.Proof.Seg
-- ==== Proof.Steps.lean ====
/-
  A tile's copies, and the pieces of its work on one group, run.
-/
module

public import proofs.«01_k».proof.Proof.Setup
public import Idealize.ShloMosaic.Lib.SparseCore.Scatter

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid1.Coords)

/-- What the tile owes, its waits so far beyond `W` all at the copies' index. -/
def Owed (O : CellTallies nD τ sig (HIx 1)) (W : Waits sig (HIx 1)) : sProp 𝕄 :=
  iprop(∃ W', ⌜∀ p ∈ W', p ∈ W ∨ p.2 = none⌝ ∗ owes (tile d i) O W')

/-- A set of the tile's semaphores, all at zero. -/
def Sems (M : Finset (GSem nD τ sig)) : sProp 𝕄 := bigSep M fun g => semVal g 0

variable (O : CellTallies nD τ sig (HIx 1)) (W : Waits sig (HIx 1))

/-- A copy started: both ends come back with the wait. -/
theorem wp_issue {α : Type} {sp sp' : Space} {s : Shape} {e : EltTy} {src : Memref sig .scVector sp s e} {dst : Memref sig .scVector sp' s e} {sem : DmaSem sig}
    {hs : src.view.WordExact} {hd : dst.view.WordExact} {ht : DmaTarget.Typed (nD := nD) (p := Proc.scVector ((i 0).castLE hcore1) ((i 1).castLE hsub1)) sp (.dma sem) (.here dst)}
    {k : PUnit → TProg (F := F) i α} {q : PosShare TreeShare} {Ss : Finset (Idx (src.view.loc (tile d i)))} {fs : Buf (Elt F) (src.view.loc (tile d i))}
    {Sd : Finset (Idx (dst.view.loc (tile d i)))} {fd : Buf (Elt F) (dst.view.loc (tile d i))} {Q : α → sProp 𝕄}
    (hn : 0 < s.numel) (hSs : src.view.set ⊆ Ss) (hSd : dst.view.set ⊆ Sd) :
    (iprop((src.view.loc (tile d i) ↦[Ss]{q} fs) ∗ (dst.view.loc (tile d i) ↦[Sd]{fullShare} fd) ∗ semVal (tile d i, SemLoc.dma sem) 0) : sProp 𝕄)
      ⊢ iprop((Transfers.Flight countersEmb (tile d i) (SemLoc.dma sem) (none : HIx 1) dst.view.dmaCredit
            iprop((dst.view.loc (tile d i) ↦[Sd]{fullShare} dst.view.write (Elt F) fd (src.view.read (Elt F) fs) Finset.univ) ∗ (src.view.loc (tile d i) ↦[Ss]{q} fs))
          -∗ Wp d i (k ⟨⟩) Q) -∗ Wp d i (.op (.enqueueDma src (.here dst) (.dma sem) hs hd ht) k) Q) := by
  iintro ⟨Hs, Hd, Hv⟩ Hk
  ihave Hs' := (pointsTo_split_subset (q := q) (f := fs) hSs).1 $$ Hs
  icases Hs' with ⟨Hs, Hr⟩
  iapply (Transfers.wp_dmaLocal countersEmb 𝒱₀ (tile d i) none (src := src) (dst := dst) (q := q) (fs := fs) (Sd := Sd) (fd := fd) (none : HIx 1) dst.view.dmaCredit rfl (View.dmaCredit_pos _ hn) hSd) $$ [Hs Hd Hv]
  · isplitl [Hs]; · iexact Hs
    isplitl [Hd]; · iexact Hd
    iexact Hv
  iintro Hf
  iapply Hk
  ihave Hf' := (Transfers.Flight_frame countersEmb (tile d i)) $$ [Hr Hf]
  · isplitl [Hr]; · iexact Hr
    iexact Hf
  iapply (Transfers.Flight_mono countersEmb (tile d i) (D := iprop((src.view.loc (tile d i) ↦[Ss \ src.view.set]{q} fs) ∗ (dst.view.loc (tile d i) ↦[Sd]{fullShare} dst.view.write (Elt F) fd (src.view.read (Elt F) fs) Finset.univ) ∗ (src.view.loc (tile d i) ↦[src.view.set]{q} fs))) ?_) $$ Hf'
  iintro ⟨Hr, Hd, Hs⟩
  isplitl [Hd]; · iexact Hd
  iapply (pointsTo_split_subset (q := q) (f := fs) hSs).2
  isplitl [Hs]; · iexact Hs
  iexact Hr

/-- A copy waited for. -/
theorem wp_await {α : Type} {sp sp' : Space} {s s' : Shape} {e e' : EltTy} {srcw : Memref sig .scVector sp s' e'} {dstw : Memref sig .scVector sp' s e} {sem : DmaSem sig}
    {hs : srcw.view.WordExact} {hd : dstw.view.WordExact} {k : PUnit → TProg (F := F) i α} {Dl : sProp 𝕄} {Q : α → sProp 𝕄} :
    (iprop(Transfers.MayWaits (tile d i) (none : HIx 1) O ∗ Transfers.Flight countersEmb (tile d i) (SemLoc.dma sem) (none : HIx 1) dstw.view.dmaCredit Dl ∗ Owed d i O W) : sProp 𝕄)
      ⊢ iprop((iprop(Dl ∗ semVal (tile d i, SemLoc.dma sem) 0 ∗ Owed d i O W) -∗ Wp d i (k ⟨⟩) Q) -∗ Wp d i (.op (.waitDma2 sem srcw dstw hs hd) k) Q) := by
  unfold Owed
  iintro ⟨Hm, Hf, ⟨%W', %hW, HO⟩⟩ Hk
  ihave Hm' := (Transfers.MayWaits.elim (SemLoc.dma sem)) $$ Hm
  iapply (Transfers.wp_waitLocalO countersEmb 𝒱₀ (tile d i) none (srcw := srcw) (dstw := dstw) (none : HIx 1) rfl (D := Dl) (O := O) (W := W')) $$ [Hf HO Hm']
  · isplitl [Hf]; · iexact Hf
    isplitl [HO]; · iexact HO
    iexact Hm'
  iintro ⟨HD, Hv, HO⟩
  iapply Hk
  isplitl [HD]; · iexact HD
  isplitl [Hv]; · iexact Hv
  iexists _; isplitr; swap; · iexact HO
  ipureintro
  intro p hp
  rcases Finset.mem_insert.mp hp with rfl | hp
  · exact .inr rfl
  · exact hW p hp

/-- A copy started and waited for at once. -/
theorem wp_copy {α : Type} {sp sp' : Space} {s : Shape} {e : EltTy} {src : Memref sig .scVector sp s e} {dst : Memref sig .scVector sp' s e} {sem : DmaSem sig}
    {hs hs' : src.view.WordExact} {hd hd' : dst.view.WordExact} {ht : DmaTarget.Typed (nD := nD) (p := Proc.scVector ((i 0).castLE hcore1) ((i 1).castLE hsub1)) sp (.dma sem) (.here dst)}
    {p : TProg (F := F) i α} {q : PosShare TreeShare} {Ss : Finset (Idx (src.view.loc (tile d i)))} {fs : Buf (Elt F) (src.view.loc (tile d i))}
    {Sd : Finset (Idx (dst.view.loc (tile d i)))} {fd : Buf (Elt F) (dst.view.loc (tile d i))} {Q : α → sProp 𝕄} {M : Finset (GSem nD τ sig)}
    (hM : (tile d i, SemLoc.dma sem) ∈ M) (hn : 0 < s.numel) (hSs : src.view.set ⊆ Ss) (hSd : dst.view.set ⊆ Sd) :
    (iprop(Transfers.MayWaits (tile d i) (none : HIx 1) O ∗ (src.view.loc (tile d i) ↦[Ss]{q} fs) ∗ (dst.view.loc (tile d i) ↦[Sd]{fullShare} fd) ∗ Sems M ∗ Owed d i O W) : sProp 𝕄)
      ⊢ iprop((iprop((src.view.loc (tile d i) ↦[Ss]{q} fs) ∗ (dst.view.loc (tile d i) ↦[Sd]{fullShare} dst.view.write (Elt F) fd (src.view.read (Elt F) fs) Finset.univ) ∗ Sems M ∗ Owed d i O W)
          -∗ Wp d i p Q) -∗ Wp d i (.op (.enqueueDma src (.here dst) (.dma sem) hs hd ht) fun _ => .op (.waitDma2 sem src dst hs' hd') fun _ => p) Q) := by
  unfold Sems
  rw [SparseCore.bigSep_erase' hM]
  iintro ⟨Hm, Hs, Hd, ⟨Hv, HM⟩, HO⟩ Hk
  iapply (wp_issue d i (src := src) (dst := dst) hn hSs hSd (q := q) (fs := fs) (fd := fd)) $$ [Hs Hd Hv]
  · isplitl [Hs]; · iexact Hs
    isplitl [Hd]; · iexact Hd
    iexact Hv
  iintro Hf
  iapply (wp_await d i O W (srcw := src) (dstw := dst)) $$ [Hm Hf HO]
  · isplitl [Hm]; · iexact Hm
    isplitl [Hf]; · iexact Hf
    iexact HO
  iintro ⟨⟨Hd, Hs⟩, Hv, HO⟩
  iapply Hk
  isplitl [Hs]; · iexact Hs
  isplitl [Hd]; · iexact Hd
  isplitl [Hv HM]; · isplitl [Hv] <;> iassumption
  iexact HO

end Cert.Proof.Seg
-- ==== Proof.GroupRun.lean ====
/-
  A tile's work on one group of sixteen rows, run: the state it leaves is `St.group` of the state it found.
-/
module

public import proofs.«01_k».proof.Proof.Steps

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ### Values of one column block -/

/-- Sixteen words of the running maximum replaced. -/
theorem overlay_col (k : Nat) (hk : k < 8) (A G : S128.Idx → F .f32) (w : (colR k hk).shape.Idx → F .f32) (hG : ∀ x, w x = G ((colR k hk).emb x)) :
    (colR k hk).overlay A w = fun y => if (y 0).val / 16 = k then G y else A y := by
  funext y
  by_cases hy : (y 0).val / 16 = k
  · rw [if_pos hy]
    have hlt : (y 0).val - 16 * k < 16 := by omega
    have he : (colR k hk).emb (ix1 (n0 := 16) ⟨(y 0).val - 16 * k, hlt⟩) = y := by
      funext a
      match a with
      | 0 => exact Fin.ext (by show 16 * k + 1 * ((y 0).val - 16 * k) = (y 0).val; omega)
    have := (colR k hk).overlay_emb A w (ix1 (n0 := 16) ⟨(y 0).val - 16 * k, hlt⟩)
    rw [he] at this
    rw [this, hG, he]
  · rw [if_neg hy]
    refine (colR k hk).overlay_of_not_mem A w ?_
    rw [Rect.mem_set_unit]
    intro h
    have h0 : 16 * k ≤ (y 0).val ∧ (y 0).val < 16 * k + 16 := h 0
    omega

/-- The one word holding the open segment's id replaced. -/
theorem overlay_cur (A : S1.Idx → BitVec 32) (w : curR.shape.Idx → BitVec 32) (b : BitVec 32) (hw : w = fun _ => b) : curR.overlay A w = fun _ => b := by
  subst hw
  funext y
  have he : curR.emb y = y := by
    funext a
    match a with
    | 0 => exact Fin.ext (by show 0 + 1 * (y 0).val = (y 0).val; omega)
  have := curR.overlay_emb A (fun _ => b) y
  rwa [he] at this

/-- Row `j` of group `t` read at column block `k`. -/
theorem row_read (H : S400x128.Idx → F .f32) (t j k : Nat) (ht : t < 25) (hj : j < 16) (hk : k < 8) (x : S16.Idx) :
    shapeCast S16 (fun z => H ((rowR t j k ht hj hk).emb z)) shapeCasts_S1x16_S16 x = rowAt (n := 400) H (16 * t + j) ((colR k hk).emb x) := by
  have h : 16 * t + j < 400 := by omega
  refine (Idealize.ShloMosaic.shapeCast_apply (s := S1x16) (t := S16) (fun z => H ((rowR t j k ht hj hk).emb z)) shapeCasts_S1x16_S16 x (ix2 (n0 := 1) (n1 := 16) 0 (x 0)) (by
    refine (Shape.rowMajor_val_two _).trans (Eq.trans ?_ (Shape.rowMajor_val_one x).symm)
    show 0 * 16 + (x 0).val = (x 0).val
    omega)).trans ?_
  unfold rowAt
  rw [dif_pos h]
  congr 1
  funext a
  match a with
  | 0 => exact Fin.ext (by show (Scalar.indexCast (Scalar.addi (Scalar.muli (Scf.iv (0#32) (1#32) t) 16#32) (BitVec.ofNat 32 j))).toNat + 1 * 0 = 16 * t + j
                           rw [row_word t j ht hj]; omega)
  | 1 => rfl

/-- A column is in one of eight pieces. -/
theorem col_lt (y : S128.Idx) : (y 0).val / 16 < 8 := by
  have h : (y 0).val < 128 := (y 0).isLt
  omega

/-! ### The state held -/

variable (d : Dev nD) (i : grid1.Coords)
variable (hb : Memref sig .scVector .vmem S400x128 .f32) (acc : Memref sig .scVector .vmem S128 .f32)
variable (cur : Memref sig .scVector .smem S1 .i32) (out : Memref sig .scVector .hbm S32x512x128 .f32) (bb : Memref sig .scVector .vmem S400 .i32)
variable (hacc : acc.IsWhole)
variable (O : CellTallies nD τ sig (HIx 1)) (W : Waits sig (HIx 1)) (M : Finset (GSem nD τ sig))

/-- Block `w` of the table. -/
def blk (w : Nat) : Finset S32x512x128.Idx := Finset.univ.filter fun y => (y 0).val = w

/-- The tile's own block of the table held, the table reading `T`. -/
def Tab (T : S32x512x128.Idx → F .f32) : sProp 𝕄 :=
  iprop(∃ f, ⌜out.view.read (Elt F) f = T⌝ ∗ (out.view.loc (tile d i) ↦[out.view.setOn (blk (wid i))]{fullShare} f))

/-- The tile's state held. -/
def Held (σ : St F) : sProp 𝕄 :=
  iprop(Transfers.MayWaits (tile d i) (none : HIx 1) O ∗ owns (tile d i) acc fullShare σ.acc ∗ owns (tile d i) cur fullShare (fun _ => σ.cur) ∗ Tab d i out σ.tab ∗ Sems M ∗ Owed d i O W)

/-- The words of row `r` taken into the maximum `A`. -/
def take₁ (R A : S128.Idx → F .f32) : S128.Idx → F .f32 := fun y => FloatOps.maximumf (A y) (R y)

/-- One piece of a row: the running maximum's piece becomes its maximum with the row's. -/
theorem wp_col {α : Type} (t j k : Nat) (ht : t < 25) (hj : j < 16) (hk : k < 8) (p : TProg (F := F) i α) (Q : α → sProp 𝕄)
    (A : S128.Idx → F .f32) (H : S400x128.Idx → F .f32) :
    (iprop(owns (tile d i) acc fullShare A ∗ owns (tile d i) hb fullShare H) : sProp 𝕄)
      ⊢ iprop((iprop(owns (tile d i) acc fullShare (fun y => if (y 0).val / 16 = k then take₁ (rowAt (n := 400) H (16 * t + j)) A y else A y) ∗ owns (tile d i) hb fullShare H) -∗ Wp d i p Q)
        -∗ Wp d i (col i hb acc t j k ht hj hk p) Q) := by
  unfold col
  iintro ⟨Ha, Hh⟩ Hk
  iapply (wp_load_owns d i) $$ Ha; iintro Ha
  iapply (wp_load_owns d i) $$ Hh; iintro Hh
  iapply (wp_load_owns d i) $$ Ha; iintro Ha
  iapply (wp_store_owns d i) $$ Ha; iintro Ha
  iapply Hk
  isplitl [Ha]
  · rw [← overlay_col k hk A (take₁ (rowAt (n := 400) H (16 * t + j)) A) _ (fun x => ?_)]
    · iexact Ha
    · rw [shapeCast_self, shapeCast_self]
      unfold take₁
      rw [← row_read H t j k ht hj hk x]
      rfl
  · iexact Hh

/-- The eight pieces of a row: the running maximum becomes its maximum with the row. -/
theorem wp_cols {α : Type} (t j : Nat) (ht : t < 25) (hj : j < 16) (p : TProg (F := F) i α) (Q : α → sProp 𝕄) (H : S400x128.Idx → F .f32) :
    ∀ (n : Nat) (hn : n ≤ 8) (A : S128.Idx → F .f32),
    (iprop(owns (tile d i) acc fullShare A ∗ owns (tile d i) hb fullShare H) : sProp 𝕄)
      ⊢ iprop((iprop(owns (tile d i) acc fullShare (fun y => if 8 - n ≤ (y 0).val / 16 then take₁ (rowAt (n := 400) H (16 * t + j)) A y else A y) ∗ owns (tile d i) hb fullShare H) -∗ Wp d i p Q)
        -∗ Wp d i (cols i hb acc t j ht hj n hn p) Q)
  | 0, hn, A => by
    rw [show (fun y : S128.Idx => if 8 - 0 ≤ (y 0).val / 16 then take₁ (rowAt (n := 400) H (16 * t + j)) A y else A y) = A from funext fun y => by
      rw [if_neg]; have := col_lt y; omega]
    unfold cols
    iintro H Hk
    iapply Hk; iexact H
  | n + 1, hn, A => by
    unfold cols
    iintro H Hk
    iapply (wp_col d i hb acc t j (8 - (n + 1)) ht hj _ _ Q A H) $$ H
    iintro H
    iapply (wp_cols t j ht hj p Q H n _ _) $$ H
    iintro ⟨Ha, Hh⟩
    iapply Hk
    isplitl [Ha]; swap; · iexact Hh
    refine Entails.of_eq (congrArg (owns (tile d i) acc fullShare) ?_)
    funext y
    have := col_lt y
    dsimp only [take₁]
    by_cases h : 8 - n ≤ (y 0).val / 16
    · rw [if_pos h, if_neg (show ¬(y 0).val / 16 = 8 - (n + 1) by omega), if_pos (show 8 - (n + 1) ≤ (y 0).val / 16 by omega)]
    · rw [if_neg h]
      by_cases h' : (y 0).val / 16 = 8 - (n + 1)
      · rw [if_pos h', if_pos (show 8 - (n + 1) ≤ (y 0).val / 16 by omega)]
      · rw [if_neg h', if_neg (show ¬8 - (n + 1) ≤ (y 0).val / 16 by omega)]

/-- The running maximum set to -inf. -/
theorem wp_clear {α : Type} (p : TProg (F := F) i α) (Q : α → sProp 𝕄) :
    ∀ (n : Nat) (hn : n ≤ 8) (A : S128.Idx → F .f32),
    (owns (tile d i) acc fullShare A : sProp 𝕄)
      ⊢ iprop((owns (tile d i) acc fullShare (fun y => if 8 - n ≤ (y 0).val / 16 then ninf else A y) -∗ Wp d i p Q)
        -∗ Wp d i (clear i acc ninf₀ n hn p) Q)
  | 0, hn, A => by
    rw [show (fun y : S128.Idx => if 8 - 0 ≤ (y 0).val / 16 then ninf else A y) = A from funext fun y => by
      rw [if_neg]; have := col_lt y; omega]
    unfold clear
    iintro H Hk
    iapply Hk; iexact H
  | n + 1, hn, A => by
    unfold clear
    iintro Ha Hk
    iapply (wp_load_owns d i) $$ Ha; iintro Ha
    iapply (wp_store_owns d i) $$ Ha; iintro Ha
    rw [overlay_col (8 - (n + 1)) (by omega) A (fun _ => ninf) (shapeCast S16 (ninf₀ (F := F)) shapeCasts_S16_S16) (fun x => rfl)]
    iapply (wp_clear p Q n _ _) $$ Ha
    iintro Ha
    iapply Hk
    refine Entails.of_eq (congrArg (owns (tile d i) acc fullShare) ?_)
    funext y
    have := col_lt y
    by_cases h : 8 - n ≤ (y 0).val / 16
    · rw [if_pos h, if_pos (show 8 - (n + 1) ≤ (y 0).val / 16 by omega)]
    · rw [if_neg h]
      by_cases h' : (y 0).val / 16 = 8 - (n + 1)
      · rw [if_pos h', if_pos (show 8 - (n + 1) ≤ (y 0).val / 16 by omega)]
      · rw [if_neg h', if_neg (show ¬8 - (n + 1) ≤ (y 0).val / 16 by omega)]

/-- The current segment's id, read. -/
theorem wp_loadCur {α : Type} (p : Vec F S1 .i32 → TProg (F := F) i α) (Q : α → sProp 𝕄) (s : BitVec 32) :
    (owns (tile d i) cur fullShare (fun _ => s) : sProp 𝕄)
      ⊢ iprop((owns (tile d i) cur fullShare (fun _ => s) -∗ Wp d i (p fun _ => s) Q) -∗ Wp d i (loadCur i cur p) Q) := by
  unfold loadCur
  iintro H Hk
  iapply (wp_load_owns d i) $$ H
  iexact Hk

/-- The current segment's id, written. -/
theorem wp_storeCur {α : Type} (p : TProg (F := F) i α) (Q : α → sProp 𝕄) (s b : BitVec 32) (w : curR.shape.Idx → BitVec 32) (hw : w = fun _ => b)
    {hx : (cur.access curR).Stores Finset.univ} {hm : (Finset.univ : Finset curR.shape.Idx) = Finset.univ ∨ ∀ a, curR.stride a = 1} :
    (owns (tile d i) cur fullShare (fun _ => s) : sProp 𝕄)
      ⊢ iprop((owns (tile d i) cur fullShare (fun _ => b) -∗ Wp d i p Q) -∗ Wp d i (.op (.store cur curR w Finset.univ hx hm) fun _ => p) Q) := by
  iintro H Hk
  iapply (wp_store_owns d i) $$ H
  iintro H
  iapply Hk
  rw [overlay_cur _ w b hw]
  iexact H

/-! ### A row of the table written -/

/-- Position `x` of the row of segment `s`, in the table. -/
theorem emb_outRow (s : BitVec 32) (h : OutIn i s) (x : S128.Idx) :
    (outRow i out s h).view.emb x = out.view.emb (ix3 (n0 := 32) (n1 := 512) (n2 := 128) ⟨wid i, wid_lt i⟩ ⟨s.toNat, by have := h 1; exact this⟩ (x 0)) := by
  have hs : s.toNat < 512 := by have := h 1; exact this
  have he : Shape.reshapeEquiv (squeezes_S1x1x128_S128.numel_eq) x = ix3 (n0 := 1) (n1 := 1) (n2 := 128) 0 0 (x 0) := by
    refine Shape.reshapeEquiv_eq_of_rowMajor _ ((Shape.rowMajor_val_three _).trans (Eq.trans ?_ (Shape.rowMajor_val_one x).symm))
    show (0 * 1 + 0) * 128 + (x 0).val = (x 0).val
    omega
  show out.view.emb ((Rect.unit (s := S32x512x128) (outOff i s) S1x1x128.size h).emb (Shape.reshapeEquiv (squeezes_S1x1x128_S128.numel_eq) x)) = _
  rw [he]
  congr 1
  funext a
  match a with
  | 0 => exact Fin.ext (by show (Scalar.addi (Scalar.muli (BitVec.ofNat 32 (i 1).val) 2#32) (BitVec.ofNat 32 (i 0).val)).toNat + 1 * 0 = wid i
                           rw [wid_word]; omega)
  | 1 => exact Fin.ext (by show s.toNat + 1 * 0 = s.toNat; omega)
  | 2 => exact Fin.ext (by show 0 + 1 * (x 0).val = (x 0).val; omega)

/-- A row of the table that a tile writes lies in the tile's block. -/
theorem outRow_sub (s : BitVec 32) (h : OutIn i s) : (outRow i out s h).view.set ⊆ out.view.setOn (blk (wid i)) := by
  intro y hy
  obtain ⟨x, -, rfl⟩ := Finset.mem_map.mp hy
  rw [emb_outRow]
  exact (View.mem_setOn _).mpr (Finset.mem_filter.mpr ⟨Finset.mem_univ _, rfl⟩)

/-- The table after its row is written, read through the array's view: the row put in place. -/
theorem read_outRow (s : BitVec 32) (h : OutIn i s) (f : out.view.ty.Contents (Elt F)) (a : S128.Idx → F .f32) :
    out.view.read (Elt F) ((outRow i out s h).view.write (Elt F) f a Finset.univ) = putRow (wid i) s a (out.view.read (Elt F) f) := by
  funext y
  unfold putRow
  by_cases hy : (y 0).val = wid i ∧ (y 1).val = s.toNat
  · rw [if_pos hy]
    have he : (outRow i out s h).view.emb (ix1 (y 2)) = out.view.emb y := by
      rw [emb_outRow]
      congr 1
      funext b
      match b with
      | 0 => exact Fin.ext hy.1.symm
      | 1 => exact Fin.ext hy.2.symm
      | 2 => rfl
    have h1 := View.read_write_of_mem (v := (outRow i out s h).view) (Val := Elt F) f a (Finset.mem_univ (ix1 (y 2)))
    rw [View.read_apply, ← he]
    exact h1
  · rw [if_neg hy, View.read_apply, View.read_apply]
    congr 1
    refine View.write_of_not_mem (v := (outRow i out s h).view) f a Finset.univ fun hm => hy ?_
    obtain ⟨x, -, hx⟩ := Finset.mem_map.mp hm
    rw [emb_outRow] at hx
    have := out.view.emb.injective hx
    rw [← this]
    exact ⟨rfl, rfl⟩

/-- The running maximum copied to a row of the table, and waited for. -/
theorem wp_send {α : Type} (sem : DmaSems sig S_) (hM : (tile d i, SemLoc.dma sem.sem) ∈ M) (s : BitVec 32) (h : OutIn i s) (p : TProg (F := F) i α) (Q : α → sProp 𝕄)
    (A : S128.Idx → F .f32) (T : S32x512x128.Idx → F .f32) :
    (iprop(Transfers.MayWaits (tile d i) (none : HIx 1) O ∗ owns (tile d i) acc fullShare A ∗ Tab d i out T ∗ Sems M ∗ Owed d i O W) : sProp 𝕄)
      ⊢ iprop((iprop(owns (tile d i) acc fullShare A ∗ Tab d i out (putRow (wid i) s A T) ∗ Sems M ∗ Owed d i O W) -∗ Wp d i p Q)
        -∗ Wp d i (send i acc out hacc sem s h p) Q) := by
  unfold send Tab owns
  iintro ⟨Hm, ⟨%fa, %ha, Ha⟩, ⟨%fT, %hT, HT⟩, HM, HO⟩ Hk
  subst ha
  subst hT
  iapply (wp_copy d i O W (src := acc) (dst := outRow i out s h) hM (by decide) (Finset.Subset.refl _) (outRow_sub i out s h) (q := fullShare) (fs := fa) (fd := fT)) $$ [Hm Ha HT HM HO]
  · isplitl [Hm]; · iexact Hm
    isplitl [Ha]; · iexact Ha
    isplitl [HT]; · iexact HT
    isplitl [HM]; · iexact HM
    iexact HO
  iintro ⟨Ha, HT, HM, HO⟩
  iapply Hk
  isplitl [Ha]
  · iexists fa; isplitr; · ipureintro; rfl
    iexact Ha
  isplitl [HT]
  · iexists _; isplitr; swap; · iexact HT
    ipureintro
    exact read_outRow i out s h fT _
  isplitl [HM]; · iexact HM
  iexact HO

/-! ### Rows and groups -/

omit [FloatOps F] in
/-- Contents restated. -/
theorem owns_eq {sp : Space} {sh : Shape} {e : EltTy} (m : Memref sig .scVector sp sh e) {q : PosShare TreeShare} {X Y : sh.Idx → Elt F e} (h : X = Y) :
    (owns (tile d i) m q X : sProp 𝕄) ⊢ owns (tile d i) m q Y := Entails.of_eq (congrArg (owns (tile d i) m q) h)

/-- A check that holds passes. -/
theorem wp_checked {α : Type} {P : Prop} {dec : Decidable P} {k : PLift P → TProg (F := F) i α} {Q : α → sProp 𝕄} (h : P) :
    (Wp d i (k ⟨h⟩) Q : sProp 𝕄) ⊢ Wp d i (.op (.assume P dec) k) Q :=
  wp_assume 𝒱₀ (tile d i) none Set.univ h

/-- The end of a program. -/
theorem wp_done {α : Type} (Q : α → sProp 𝕄) (a : α) : (Q a : sProp 𝕄) ⊢ Wp d i (.ret a) Q := by
  unfold Wp
  rw [wp_ret]
  exact fupd_intro

/-- A segment's end: its row written, the running maximum cleared, the next id taken. -/
theorem wp_flush {α : Type} (sem : DmaSems sig S_) (hM : (tile d i, SemLoc.dma sem.sem) ∈ M) (b : BitVec 32) (C C' : Prop) (hC : C) (hC' : C')
    (dec : (s : BitVec 32) → Decidable (C → C' → OutIn i s)) (p : PUnit → TProg (F := F) i α) (Q : α → sProp 𝕄) (σ : St F) (hs : σ.cur.toNat < 512) :
    (Held d i acc cur out O W M σ : sProp 𝕄)
      ⊢ iprop((Held d i acc cur out O W M (σ.flush (wid i) b) -∗ Wp d i (p ⟨⟩) Q)
        -∗ Wp d i (flush i acc cur out hacc ninf₀ sem b C C' hC hC' dec >>= p) Q) := by
  unfold Held flush
  iintro ⟨#Hm, Ha, Hc, HT, HM, HO⟩ Hk
  iapply (wp_loadCur d i cur _ Q σ.cur) $$ Hc; iintro Hc
  iapply (wp_checked d i (Q := Q) (fun _ _ => outIn i σ.cur hs))
  iapply (wp_send d i acc out hacc O W M sem hM σ.cur _ _ Q σ.acc σ.tab) $$ [Ha HT HM HO]
  · isplitr; · iexact Hm
    isplitl [Ha]; · iexact Ha
    isplitl [HT]; · iexact HT
    isplitl [HM]; · iexact HM
    iexact HO
  iintro ⟨Ha, HT, HM, HO⟩
  iapply (wp_clear d i acc _ Q 8 le_rfl σ.acc) $$ Ha; iintro Ha
  iapply (wp_loadCur d i cur _ Q σ.cur) $$ Hc; iintro Hc
  iapply (wp_storeCur d i cur _ Q σ.cur b _ rfl) $$ Hc; iintro Hc
  iapply Hk
  isplitr; · iexact Hm
  isplitl [Ha]
  · iapply (owns_eq d i acc (funext fun y => if_pos (show 8 - 8 ≤ (y 0).val / 16 by omega))) $$ Ha
  isplitl [Hc]; · iexact Hc
  isplitl [HT]; · iexact HT
  isplitl [HM]; · iexact HM
  iexact HO

/-- A row whose id may open a segment: if it does, the segment before is ended. -/
theorem wp_seek {α : Type} (sem : DmaSems sig S_) (hM : (tile d i, SemLoc.dma sem.sem) ∈ M) (b : BitVec 32) (C : Prop) (hC : C)
    (σ : St F) (dec : (s : BitVec 32) → Decidable (C → opens b σ.cur = 1#1 → OutIn i s)) (p : PUnit → TProg (F := F) i α) (Q : α → sProp 𝕄) (hs : σ.cur.toNat < 512) :
    (Held d i acc cur out O W M σ : sProp 𝕄)
      ⊢ iprop((Held d i acc cur out O W M (σ.seek (wid i) b) -∗ Wp d i (p ⟨⟩) Q)
        -∗ Wp d i ((if h : opens b σ.cur = 1#1 then flush i acc cur out hacc ninf₀ sem b C (opens b σ.cur = 1#1) hC h dec else .ret ⟨⟩) >>= p) Q) := by
  unfold St.seek
  by_cases h : opens b σ.cur = 1#1
  · rw [dif_pos h, if_neg ((opens_iff _ _).mp h)]
    exact wp_flush d i acc cur out hacc O W M sem hM b C _ hC h dec p Q σ hs
  · rw [dif_neg h, if_pos (not_not.mp fun hn => h ((opens_iff _ _).mpr hn))]
    iintro H Hk
    iapply Hk; iexact H

/-- One row of a group on the slow path. -/
theorem wp_row {α : Type} (sem : DmaSems sig S_) (hM : (tile d i, SemLoc.dma sem.sem) ∈ M) (C : Prop) (hC : C) (t j : Nat) (ht : t < 25) (hj : j < 16) (b : BitVec 32)
    (p : TProg (F := F) i α) (Q : α → sProp 𝕄) (H : S400x128.Idx → F .f32) (σ : St F) (hs : σ.cur.toNat < 512) :
    (iprop(Held d i acc cur out O W M σ ∗ owns (tile d i) hb fullShare H) : sProp 𝕄)
      ⊢ iprop((iprop(Held d i acc cur out O W M (σ.row (wid i) b (rowAt (n := 400) H (16 * t + j))) ∗ owns (tile d i) hb fullShare H) -∗ Wp d i p Q)
        -∗ Wp d i (row i hb acc cur out hacc ninf₀ sem C hC t j ht hj b p) Q) := by
  have hload : ∀ (σ : St F) (p : Vec F S1 .i32 → TProg (F := F) i α), (Held d i acc cur out O W M σ : sProp 𝕄)
      ⊢ iprop((Held d i acc cur out O W M σ -∗ Wp d i (p fun _ => σ.cur) Q) -∗ Wp d i (loadCur i cur p) Q) := by
    intro σ p
    unfold Held
    iintro ⟨#Hm, Ha, Hc, HR⟩ Hk
    iapply (wp_loadCur d i cur _ Q σ.cur) $$ Hc; iintro Hc
    iapply Hk
    isplitr; · iexact Hm
    isplitl [Ha]; · iexact Ha
    isplitl [Hc]; · iexact Hc
    iexact HR
  have hcols : ∀ σ : St F, (iprop(Held d i acc cur out O W M σ ∗ owns (tile d i) hb fullShare H) : sProp 𝕄)
      ⊢ iprop((iprop(Held d i acc cur out O W M { σ with acc := take₁ (rowAt (n := 400) H (16 * t + j)) σ.acc } ∗ owns (tile d i) hb fullShare H) -∗ Wp d i p Q)
        -∗ Wp d i (cols i hb acc t j ht hj 8 le_rfl p) Q) := by
    intro σ
    unfold Held
    iintro ⟨⟨#Hm, Ha, HR⟩, Hh⟩ Hk
    iapply (wp_cols d i hb acc t j ht hj p Q H 8 le_rfl σ.acc) $$ [Ha Hh]
    · isplitl [Ha]; · iexact Ha
      iexact Hh
    iintro ⟨Ha, Hh⟩
    iapply Hk
    isplitr [Hh]; swap; · iexact Hh
    isplitr; · iexact Hm
    isplitl [Ha]
    · iapply (owns_eq d i acc (funext fun y => if_pos (show 8 - 8 ≤ (y 0).val / 16 by omega))) $$ Ha
    iexact HR
  unfold row
  iintro ⟨HH, Hh⟩ Hk
  iapply (hload σ _) $$ HH; iintro HH
  iapply (wp_seek d i acc cur out hacc O W M sem hM b C hC σ _ _ Q hs) $$ HH; iintro HH
  iapply (hcols (σ.seek (wid i) b)) $$ [HH Hh]
  · isplitl [HH]; · iexact HH
    iexact Hh
  iintro H
  iapply Hk
  iexact H

/-- After a row the current segment is the row's. -/
theorem St.row_cur (w : Nat) (b : BitVec 32) (H : S128.Idx → F .f32) (σ : St F) : (σ.row w b H).cur = b := by
  unfold St.row St.seek
  dsimp only
  split
  · exact (by assumption : b = σ.cur).symm
  · rfl

/-- No rows are left of a group. -/
theorem rows_nil {α : Type} {ninf : FVec F S16 .f32} {sems : Nat → DmaSems sig S_} {C : Prop} {hC : C} {t : Nat} {ht : t < 25} {ids : IVec S16 32} {hn : 0 ≤ 16} {p : TProg (F := F) i α} :
    rows i hb acc cur out hacc ninf sems C hC t ht ids 0 hn p = p := rfl

/-- The first of the rows left of a group, then the others. -/
theorem rows_cons {α : Type} {ninf : FVec F S16 .f32} {sems : Nat → DmaSems sig S_} {C : Prop} {hC : C} {t : Nat} {ht : t < 25} {ids : IVec S16 32} {n : Nat} {hn : n + 1 ≤ 16} {p : TProg (F := F) i α} :
    rows i hb acc cur out hacc ninf sems C hC t ht ids (n + 1) hn p
      = row i hb acc cur out hacc ninf (sems (16 - (n + 1))) C hC t (16 - (n + 1)) ht (by omega) (laneId ids (16 - (n + 1)) (by omega)) (rows i hb acc cur out hacc ninf sems C hC t ht ids n (by omega) p) := rfl

/-- The rows of a group on the slow path, one after the other. -/
theorem wp_rows {α : Type} (sems : Nat → DmaSems sig S_) (hM : ∀ n, (tile d i, SemLoc.dma (sems n).sem) ∈ M) (C : Prop) (hC : C) (t : Nat) (ht : t < 25)
    (ids : IVec S16 32) (B : Nat → BitVec 32) (hB : ∀ j hj, laneId ids j hj = B j) (hB' : ∀ j, (B j).toNat < 512)
    (p : TProg (F := F) i α) (Q : α → sProp 𝕄) (H : S400x128.Idx → F .f32) : ∀ (n : Nat) (hn : n ≤ 16) (σ : St F) (hs : σ.cur.toNat < 512),
    (iprop(Held d i acc cur out O W M σ ∗ owns (tile d i) hb fullShare H) : sProp 𝕄)
      ⊢ iprop((iprop(Held d i acc cur out O W M (St.rows (wid i) B (fun j => rowAt (n := 400) H (16 * t + j)) n σ) ∗ owns (tile d i) hb fullShare H) -∗ Wp d i p Q)
        -∗ Wp d i (rows i hb acc cur out hacc ninf₀ sems C hC t ht ids n hn p) Q)
  | 0, hn, σ, hs => by
    rw [rows_nil]
    unfold St.rows
    iintro H Hk
    iapply Hk; iexact H
  | n + 1, hn, σ, hs => by
    rw [rows_cons, hB]
    unfold St.rows
    iintro H Hk
    iapply (wp_row d i hb acc cur out hacc O W M (sems (16 - (n + 1))) (hM _) C hC t (16 - (n + 1)) ht _ (B (16 - (n + 1))) _ Q H σ hs) $$ H
    iintro H
    iapply (wp_rows sems hM C hC t ht ids B hB hB' p Q H n _ _ (by rw [St.row_cur]; exact hB' _)) $$ H
    iexact Hk

/-- The last `n` of sixteen loaded vectors in their places, the others from `g`. -/
def loaded (H : S400x128.Idx → F .f32) (t k : Nat) (hk : k < 8) (n : Nat) (g : Nat → FVec F S16 .f32) : Nat → FVec F S16 .f32 :=
  fun m => if 16 - n ≤ m ∧ m < 16 then (fun x => rowAt (n := 400) H (16 * t + m) ((colR k hk).emb x)) else g m

/-- Before any of the sixteen rows is read nothing is changed. -/
theorem loaded_zero (H : S400x128.Idx → F .f32) (t k : Nat) (hk : k < 8) (g : Nat → FVec F S16 .f32) : loaded H t k hk 0 g = g := funext fun m => if_neg (by omega)

/-- One more of the sixteen rows read. -/
theorem loaded_succ (H : S400x128.Idx → F .f32) (t k : Nat) (ht : t < 25) (hk : k < 8) (n : Nat) (hn : n + 1 ≤ 16) (g : Nat → FVec F S16 .f32) (r : S1x16.Idx → F .f32)
    (hr : r = fun z => H ((rowR t (16 - (n + 1)) k ht (by omega) hk).emb z)) :
    loaded H t k hk (n + 1) g = loaded H t k hk n (fun m => if m = 16 - (n + 1) then shapeCast S16 r shapeCasts_S1x16_S16 else g m) := by
  subst hr
  funext m
  unfold loaded
  dsimp only
  by_cases h : 16 - n ≤ m ∧ m < 16
  · rw [if_pos h, if_pos (show 16 - (n + 1) ≤ m ∧ m < 16 by omega)]
  · rw [if_neg h]
    by_cases h' : m = 16 - (n + 1)
    · rw [if_pos h', if_pos (show 16 - (n + 1) ≤ m ∧ m < 16 by omega)]
      subst h'
      funext x
      exact (row_read H t _ k ht (by omega) hk x).symm
    · rw [if_neg h', if_neg (show ¬(16 - (n + 1) ≤ m ∧ m < 16) by omega)]

/-- One piece of sixteen rows, read. -/
theorem wp_loads {α : Type} (t k : Nat) (ht : t < 25) (hk : k < 8) (p : (Nat → FVec F S16 .f32) → TProg (F := F) i α) (Q : α → sProp 𝕄) (H : S400x128.Idx → F .f32) :
    ∀ (n : Nat) (hn : n ≤ 16) (g : Nat → FVec F S16 .f32),
    (owns (tile d i) hb fullShare H : sProp 𝕄)
      ⊢ iprop((owns (tile d i) hb fullShare H -∗ Wp d i (p (loaded H t k hk n g)) Q) -∗ Wp d i (loads i hb t k ht hk n hn g p) Q)
  | 0, hn, g => by
    rw [loaded_zero]
    unfold loads
    iintro H Hk
    iapply Hk; iexact H
  | n + 1, hn, g => by
    rw [loaded_succ H t k ht hk n hn g _ rfl]
    unfold loads
    iintro Hh Hk
    iapply (wp_load_owns d i) $$ Hh; iintro Hh
    iapply (wp_loads t k ht hk p Q H n _ _) $$ Hh
    iexact Hk

/-- The maximum as a tree depends on its sixteen leaves only. -/
theorem tree₁_congr {g g' : Nat → F .f32} (h : ∀ j, j < 16 → g j = g' j) : tree₁ g = tree₁ g' := by
  unfold tree₁
  rw [h 0 (by omega), h 1 (by omega), h 2 (by omega), h 3 (by omega), h 4 (by omega), h 5 (by omega), h 6 (by omega), h 7 (by omega),
    h 8 (by omega), h 9 (by omega), h 10 (by omega), h 11 (by omega), h 12 (by omega), h 13 (by omega), h 14 (by omega), h 15 (by omega)]

/-- The maximum of the sixteen rows of group `t`. -/
def treeRow (H : S400x128.Idx → F .f32) (t : Nat) : S128.Idx → F .f32 := fun y => tree₁ fun j => rowAt (n := 400) H (16 * t + j) y

/-- One piece of a group on the fast path: the running maximum with the tree over sixteen rows. -/
theorem wp_fastCol {α : Type} (g₀ : Nat → FVec F S16 .f32) (t k : Nat) (ht : t < 25) (hk : k < 8) (p : TProg (F := F) i α) (Q : α → sProp 𝕄)
    (A : S128.Idx → F .f32) (H : S400x128.Idx → F .f32) :
    (iprop(owns (tile d i) acc fullShare A ∗ owns (tile d i) hb fullShare H) : sProp 𝕄)
      ⊢ iprop((iprop(owns (tile d i) acc fullShare (fun y => if (y 0).val / 16 = k then take₁ (treeRow H t) A y else A y) ∗ owns (tile d i) hb fullShare H) -∗ Wp d i p Q)
        -∗ Wp d i (fastCol i hb acc g₀ t k ht hk p) Q) := by
  unfold fastCol
  iintro ⟨Ha, Hh⟩ Hk
  iapply (wp_loads d i hb t k ht hk _ Q H 16 le_rfl g₀) $$ Hh; iintro Hh
  iapply (wp_load_owns d i) $$ Ha; iintro Ha
  iapply (wp_load_owns d i) $$ Ha; iintro Ha
  iapply (wp_store_owns d i) $$ Ha; iintro Ha
  iapply Hk
  isplitl [Ha]
  · rw [← overlay_col k hk A (take₁ (treeRow H t) A) _ (fun x => ?_)]
    · iexact Ha
    · rw [shapeCast_self, shapeCast_self]
      refine congrArg (FloatOps.maximumf (A ((colR k hk).emb x))) (tree₁_congr (g := fun j => loaded H t k hk 16 g₀ j x) fun j hj => ?_)
      unfold loaded
      rw [if_pos (by omega)]
  · iexact Hh

/-- A group on the fast path: all eight pieces. -/
theorem wp_fast {α : Type} (g₀ : Nat → FVec F S16 .f32) (t : Nat) (ht : t < 25) (p : TProg (F := F) i α) (Q : α → sProp 𝕄) (H : S400x128.Idx → F .f32) :
    ∀ (n : Nat) (hn : n ≤ 8) (A : S128.Idx → F .f32),
    (iprop(owns (tile d i) acc fullShare A ∗ owns (tile d i) hb fullShare H) : sProp 𝕄)
      ⊢ iprop((iprop(owns (tile d i) acc fullShare (fun y => if 8 - n ≤ (y 0).val / 16 then take₁ (treeRow H t) A y else A y) ∗ owns (tile d i) hb fullShare H) -∗ Wp d i p Q)
        -∗ Wp d i (fast i hb acc g₀ t ht n hn p) Q)
  | 0, hn, A => by
    rw [show (fun y : S128.Idx => if 8 - 0 ≤ (y 0).val / 16 then take₁ (treeRow H t) A y else A y) = A from funext fun y => by
      rw [if_neg]; have := col_lt y; omega]
    unfold fast
    iintro H Hk
    iapply Hk; iexact H
  | n + 1, hn, A => by
    unfold fast
    iintro H Hk
    iapply (wp_fastCol d i hb acc g₀ t (8 - (n + 1)) ht _ _ Q A H) $$ H
    iintro H
    iapply (wp_fast g₀ t ht p Q H n _ _) $$ H
    iintro ⟨Ha, Hh⟩
    iapply Hk
    isplitl [Ha]; swap; · iexact Hh
    refine Entails.of_eq (congrArg (owns (tile d i) acc fullShare) ?_)
    funext y
    have := col_lt y
    dsimp only [take₁]
    by_cases h : 8 - n ≤ (y 0).val / 16
    · rw [if_pos h, if_neg (show ¬(y 0).val / 16 = 8 - (n + 1) by omega), if_pos (show 8 - (n + 1) ≤ (y 0).val / 16 by omega)]
    · rw [if_neg h]
      by_cases h' : (y 0).val / 16 = 8 - (n + 1)
      · rw [if_pos h', if_pos (show 8 - (n + 1) ≤ (y 0).val / 16 by omega)]
      · rw [if_neg h', if_neg (show ¬8 - (n + 1) ≤ (y 0).val / 16 by omega)]

/-- Lane `j` of the ids of group `t`. -/
theorem lane_read (B : S400.Idx → BitVec 32) (t j : Nat) (ht : t < 25) (hj : j < 16) :
    laneId (shapeCast S16 (fun z => B ((idR t ht).emb z)) shapeCasts_S16_S16) j hj = idAt (n := 400) B (16 * t + j) := by
  rw [laneId_eq]
  refine (congrFun (shapeCast_self (s := S16) (fun z => B ((idR t ht).emb z)) shapeCasts_S16_S16) (ix1 ⟨j, hj⟩)).trans ?_
  unfold idAt
  rw [dif_pos (show 16 * t + j < 400 by omega)]
  congr 1
  funext a
  match a with
  | 0 => exact Fin.ext (by show (Scalar.indexCast (Scalar.muli (Scf.iv (0#32) (1#32) t) 16#32)).toNat + 1 * j = 16 * t + j
                           rw [id_word t ht]; omega)

/-- The rows and ids of a chunk, group `t` taken into the state. -/
def St.chunkGroup (w : Nat) (B : S400.Idx → BitVec 32) (H : S400x128.Idx → F .f32) (t : Nat) (σ : St F) : St F :=
  σ.group w (fun j => idAt (n := 400) B (16 * t + j)) (fun j => rowAt (n := 400) H (16 * t + j))

/-- A group of sixteen rows, on whichever path its ids choose. -/
theorem wp_group (sems : Nat → DmaSems sig S_) (hM : ∀ n, (tile d i, SemLoc.dma (sems n).sem) ∈ M) (t : Nat) (ht : t < 25)
    (B : S400.Idx → BitVec 32) (hB' : ∀ j, (idAt (n := 400) B j).toNat < 512) (Q : BitVec 32 → sProp 𝕄) (H : S400x128.Idx → F .f32) (σ : St F) (hs : σ.cur.toNat < 512) :
    (iprop(Held d i acc cur out O W M σ ∗ owns (tile d i) hb fullShare H ∗ owns (tile d i) bb fullShare B) : sProp 𝕄)
      ⊢ iprop((iprop(Held d i acc cur out O W M (σ.chunkGroup (wid i) B H t) ∗ owns (tile d i) hb fullShare H ∗ owns (tile d i) bb fullShare B) -∗ Q 0#32)
        -∗ Wp d i (group i hb acc cur out hacc bb ninf₀ sems t ht) Q) := by
  have hslow : ∀ (s : BitVec 32) (hm : mixed (idAt (n := 400) B (16 * t + 0)) (idAt (n := 400) B (16 * t + 15)) s = 1#1),
      (iprop(Held d i acc cur out O W M σ ∗ owns (tile d i) hb fullShare H) : sProp 𝕄)
      ⊢ iprop((iprop(Held d i acc cur out O W M (St.rows (wid i) (fun j => idAt (n := 400) B (16 * t + j)) (fun j => rowAt (n := 400) H (16 * t + j)) 16 σ) ∗ owns (tile d i) hb fullShare H) -∗ Q 0#32)
        -∗ Wp d i (slow i hb acc cur out hacc ninf₀ sems t ht (shapeCast S16 (fun z => B ((idR t ht).emb z)) shapeCasts_S16_S16) s) Q) := by
    intro s hm
    unfold slow
    rw [dif_pos (by rw [lane_read B t 0 ht (by omega), lane_read B t 15 ht (by omega)]; exact hm)]
    iintro H Hk
    iapply (wp_rows d i hb acc cur out hacc O W M sems hM _ _ t ht _ (fun j => idAt (n := 400) B (16 * t + j)) (fun j hj => lane_read B t j ht hj) (fun j => hB' _) _ Q H 16 le_rfl σ hs) $$ H
    iintro H
    iapply (wp_done d i Q 0#32)
    iapply Hk; iexact H
  unfold group St.chunkGroup St.group
  iintro ⟨HH, Hh, Hb⟩ Hk
  iapply (wp_load_owns d i) $$ Hb; iintro Hb
  unfold Held
  icases HH with ⟨#Hm, Ha, Hc, HR⟩
  iapply (wp_loadCur d i cur _ Q σ.cur) $$ Hc; iintro Hc
  by_cases hu : idAt (n := 400) B (16 * t + 0) = σ.cur ∧ idAt (n := 400) B (16 * t + 0) = idAt (n := 400) B (16 * t + 15)
  · rw [if_pos hu, if_pos (by rw [lane_read B t 0 ht (by omega), lane_read B t 15 ht (by omega)]; exact (uniform_iff _ _ _).mpr hu)]
    iapply (wp_fast d i hb acc _ t ht _ Q H 8 le_rfl σ.acc) $$ [Ha Hh]
    · isplitl [Ha]; · iexact Ha
      iexact Hh
    iintro ⟨Ha, Hh⟩
    unfold slow
    rw [dif_neg (by rw [lane_read B t 0 ht (by omega), lane_read B t 15 ht (by omega)]; exact fun h => (mixed_iff _ _ _).mp h hu)]
    iapply (wp_done d i Q 0#32)
    iapply Hk
    isplitr [Hh Hb]
    · isplitr; · iexact Hm
      isplitl [Ha]
      · iapply (owns_eq d i acc (funext fun y => if_pos (show 8 - 8 ≤ (y 0).val / 16 by omega))) $$ Ha
      isplitl [Hc]; · iexact Hc
      iexact HR
    isplitl [Hh]; · iexact Hh
    iexact Hb
  · rw [if_neg hu, if_neg (by rw [lane_read B t 0 ht (by omega), lane_read B t 15 ht (by omega)]; exact fun h => hu ((uniform_iff _ _ _).mp h))]
    iapply (hslow σ.cur ((mixed_iff _ _ _).mpr hu)) $$ [Ha Hc HR Hh]
    · isplitr [Hh]; swap; · iexact Hh
      unfold Held
      isplitr; · iexact Hm
      isplitl [Ha]; · iexact Ha
      isplitl [Hc]; · iexact Hc
      iexact HR
    iintro ⟨HH, Hh⟩
    iapply Hk
    isplitr [Hh Hb]
    · unfold Held; iexact HH
    isplitl [Hh]; · iexact Hh
    iexact Hb

end Cert.Proof.Seg
-- ==== Proof.Chunk.lean ====
/-
  A tile's twenty-five chunks of 400 rows: which rows each copy brings, the copies of a pair of buffers started and waited
  for, and the loop over a chunk's groups run.
-/
module

public import proofs.«01_k».proof.Proof.GroupRun

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ### A chunk's rows -/

/-- The rows of chunk `c` of tile `w`. -/
def chunkH (w : Nat) (H : S320000x128.Idx → F .f32) (c : Nat) : S400x128.Idx → F .f32 :=
  fun x => rowAt (n := 320000) H (10000 * w + 400 * c + (x 0).val) (ix1 (x 1))

/-- The segment ids of chunk `c` of tile `w`. -/
def chunkB (w : Nat) (I : S320000.Idx → BitVec 32) (c : Nat) : S400.Idx → BitVec 32 :=
  fun x => idAt (n := 320000) I (10000 * w + 400 * c + (x 0).val)

/-- A chunk's row is the array's. -/
theorem rowAt_chunkH (w : Nat) (H : S320000x128.Idx → F .f32) (c r : Nat) (hr : r < 400) :
    rowAt (n := 400) (chunkH w H c) r = rowAt (n := 320000) H (10000 * w + 400 * c + r) := by
  funext x
  conv_lhs => unfold rowAt
  rw [dif_pos hr]
  unfold chunkH
  rw [show (ix1 ((ix2 (n0 := 400) (n1 := 128) ⟨r, hr⟩ (x 0)) 1) : S128.Idx) = x from (ix1_eta x).symm ▸ rfl]
  rfl

/-- A chunk's id is the array's. -/
theorem idAt_chunkB (w : Nat) (I : S320000.Idx → BitVec 32) (c r : Nat) (hr : r < 400) :
    idAt (n := 400) (chunkB w I c) r = idAt (n := 320000) I (10000 * w + 400 * c + r) := by
  conv_lhs => unfold idAt
  rw [dif_pos hr]
  rfl

/-- What rows do to the state depends on the rows and their ids only. -/
theorem St.rows_congr {w : Nat} {B B' : Nat → BitVec 32} {H H' : Nat → S128.Idx → F .f32} (hB : ∀ j, j < 16 → B j = B' j) (hH : ∀ j, j < 16 → H j = H' j) :
    ∀ (n : Nat) (hn : n ≤ 16) (σ : St F), St.rows w B H n σ = St.rows w B' H' n σ
  | 0, _, _ => rfl
  | n + 1, hn, σ => by
    unfold St.rows
    rw [hB _ (by omega), hH _ (by omega)]
    exact St.rows_congr hB hH n (by omega) _

/-- What a group does to the state depends on its sixteen rows and ids only. -/
theorem St.group_congr {w : Nat} {B B' : Nat → BitVec 32} {H H' : Nat → S128.Idx → F .f32} (hB : ∀ j, j < 16 → B j = B' j) (hH : ∀ j, j < 16 → H j = H' j) (σ : St F) :
    St.group w B H σ = St.group w B' H' σ := by
  unfold St.group St.fast
  rw [hB 0 (by omega), hB 15 (by omega), St.rows_congr hB hH 16 le_rfl]
  congr 2
  funext x
  exact congrArg _ (tree₁_congr fun j hj => congrFun (hH j hj) x)

/-- Group `t` of chunk `c` is group `25 c + t` of the tile. -/
theorem St.run_chunk (w : Nat) (I : S320000.Idx → BitVec 32) (H : S320000x128.Idx → F .f32) (T : S32x512x128.Idx → F .f32) (c t : Nat) (ht : t < 25) :
    (St.run w I H T (25 * c + t)).chunkGroup w (chunkB w I c) (chunkH w H c) t = St.run w I H T (25 * c + t + 1) := by
  have h : ∀ j, 10000 * w + 16 * (25 * c + t) + j = 10000 * w + 400 * c + (16 * t + j) := by intro j; omega
  unfold St.chunkGroup
  refine (St.group_congr (fun j hj => ?_) (fun j hj => ?_) _).trans (St.run.eq_2 w I H T (25 * c + t)).symm
  · rw [idAt_chunkB _ _ _ _ (by omega), h]
  · rw [rowAt_chunkH _ _ _ _ (by omega), h]

/-- From ids below 512 the current segment stays below 512, row by row. -/
theorem St.rows_cur (w : Nat) (B : Nat → BitVec 32) (H : Nat → S128.Idx → F .f32) (hB : ∀ j, (B j).toNat < 512) : ∀ (n : Nat) (σ : St F), σ.cur.toNat < 512 → (St.rows w B H n σ).cur.toNat < 512
  | 0, σ, h => h
  | n + 1, σ, h => St.rows_cur w B H hB n _ (by rw [St.row_cur]; exact hB _)

/-- From ids below 512 the current segment stays below 512, after any number of groups. -/
theorem St.run_cur (w : Nat) (I : S320000.Idx → BitVec 32) (H : S320000x128.Idx → F .f32) (T : S32x512x128.Idx → F .f32) (hI : ∀ x, (I x).toNat < 512) :
    ∀ n : Nat, (St.run w I H T n).cur.toNat < 512 := by
  have hB : ∀ r, (idAt (n := 320000) I r).toNat < 512 := fun r => by
    unfold idAt
    split
    · exact hI _
    · decide
  intro n
  induction n with
  | zero => exact hB _
  | succ n ih =>
    show (St.group w _ _ (St.run w I H T n)).cur.toNat < 512
    unfold St.group
    split
    · exact ih
    · exact St.rows_cur w _ _ (fun j => hB _) 16 _ ih

/-! ### Where the copies read -/

/-- Where the first part of the tile's block starts. -/
theorem off9_eq (i : grid1.Coords) : k1_off9 i = ![wid i, 0, 0] := by
  funext a
  match a with
  | 0 => exact wid_word i
  | 1 => rfl
  | 2 => rfl

/-- Where the second part of the tile's block starts. -/
theorem off10_eq (i : grid1.Coords) : k1_off10 i = ![wid i, 400, 0] := by
  funext a
  match a with
  | 0 => exact wid_word i
  | 1 => rfl
  | 2 => rfl

/-- Where the rows of one of the first three chunks start. -/
theorem off11_eq : ∀ (i : grid1.Coords) (r : Fin 3) (a : Fin 2), k1_off11 i (BitVec.ofNat 32 (400 * r.val)) a = (![10000 * wid i + 400 * r.val, 0] : Fin 2 → Nat) a := by decide +kernel
/-- Where the ids of one of the first three chunks start. -/
theorem off12_eq : ∀ (i : grid1.Coords) (r : Fin 3) (a : Fin 1), k1_off12 i (BitVec.ofNat 32 (400 * r.val)) a = (![10000 * wid i + 400 * r.val] : Fin 1 → Nat) a := by decide +kernel
/-- Where the rows of a trip's first requested chunk start. -/
theorem off319_eq : ∀ (i : grid1.Coords) (t : Fin k1_t3_loop.trips) (a : Fin 2), k1_off319 i t a = (![10000 * wid i + 400 * (2 * t.val + 3), 0] : Fin 2 → Nat) a := by decide +kernel
/-- Where the ids of a trip's first requested chunk start. -/
theorem off320_eq : ∀ (i : grid1.Coords) (t : Fin k1_t3_loop.trips) (a : Fin 1), k1_off320 i t a = (![10000 * wid i + 400 * (2 * t.val + 3)] : Fin 1 → Nat) a := by decide +kernel
/-- Where the rows of a trip's second requested chunk start. -/
theorem off474_eq : ∀ (i : grid1.Coords) (t : Fin k1_t3_loop.trips) (a : Fin 2), k1_off474 i t a = (![10000 * wid i + 400 * (2 * t.val + 4), 0] : Fin 2 → Nat) a := by decide +kernel
/-- Where the ids of a trip's second requested chunk start. -/
theorem off475_eq : ∀ (i : grid1.Coords) (t : Fin k1_t3_loop.trips) (a : Fin 1), k1_off475 i t a = (![10000 * wid i + 400 * (2 * t.val + 4)] : Fin 1 → Nat) a := by decide +kernel
/-- The first request is made on every trip but the last. -/
theorem cond37_iff : ∀ t : Fin k1_t3_loop.trips, k1_cond37 t = 1#1 ↔ t.val < 11 := by decide +kernel
/-- The second request is made on every trip but the last. -/
theorem cond56_iff : ∀ t : Fin k1_t3_loop.trips, k1_cond56 t = 1#1 ↔ t.val < 11 := by decide +kernel

/-- The rows a chunk's copy reads. -/
theorem chunkH_read (w : Nat) (H : S320000x128.Idx → F .f32) (c : Nat) (o : Fin 2 → Nat) (ho : ∀ a, o a + S400x128.size a ≤ S320000x128.size a)
    (h : ∀ a, o a = (![10000 * w + 400 * c, 0] : Fin 2 → Nat) a) : (fun x => H ((Rect.unit (s := S320000x128) o S400x128.size ho).emb x)) = chunkH w H c := by
  funext x
  have hx : (x 0).val < 400 := (x 0).isLt
  have h0 : o 0 = 10000 * w + 400 * c := h 0
  have h1 : o 1 = 0 := h 1
  have hb : o 0 + 400 ≤ 320000 := ho 0
  unfold chunkH rowAt
  rw [dif_pos (show 10000 * w + 400 * c + (x 0).val < 320000 by omega)]
  congr 1
  funext a
  match a with
  | 0 => exact Fin.ext (by show o 0 + 1 * (x 0).val = 10000 * w + 400 * c + (x 0).val; omega)
  | 1 => exact Fin.ext (by show o 1 + 1 * (x 1).val = (x 1).val; omega)

/-- The ids a chunk's copy reads. -/
theorem chunkB_read (w : Nat) (I : S320000.Idx → BitVec 32) (c : Nat) (o : Fin 1 → Nat) (ho : ∀ a, o a + S400.size a ≤ S320000.size a)
    (h : ∀ a, o a = (![10000 * w + 400 * c] : Fin 1 → Nat) a) : (fun x => I ((Rect.unit (s := S320000) o S400.size ho).emb x)) = chunkB w I c := by
  funext x
  have hx : (x 0).val < 400 := (x 0).isLt
  have h0 : o 0 = 10000 * w + 400 * c := h 0
  have hb : o 0 + 400 ≤ 320000 := ho 0
  unfold chunkB idAt
  rw [dif_pos (show 10000 * w + 400 * c + (x 0).val < 320000 by omega)]
  congr 1
  funext a
  match a with
  | 0 => exact Fin.ext (by show o 0 + 1 * (x 0).val = 10000 * w + 400 * c + (x 0).val; omega)

/-! ### A pair of buffers -/

variable (d : Dev nD) (i : grid1.Coords)
variable (h : Memref sig .scVector .hbm S320000x128 .f32) (ids : Memref sig .scVector .hbm S320000 .i32)
variable (hb : Memref sig .scVector .vmem S400x128 .f32) (hhb : hb.IsWhole) (bb : Memref sig .scVector .vmem S400 .i32) (hbb : bb.IsWhole)
variable (s s' : DmaSems sig S_)
variable (acc : Memref sig .scVector .vmem S128 .f32) (cur : Memref sig .scVector .smem S1 .i32) (out : Memref sig .scVector .hbm S32x512x128 .f32)
variable (hacc : acc.IsWhole)
variable (O : CellTallies nD τ sig (HIx 1)) (W : Waits sig (HIx 1)) (M : Finset (GSem nD τ sig))
variable (q : PosShare TreeShare) (H : S320000x128.Idx → F .f32) (I : S320000.Idx → BitVec 32)

/-- What the pair's copies read, and their semaphores, at rest. -/
def Rest : sProp 𝕄 :=
  iprop(owns (tile d i) h q H ∗ owns (tile d i) ids q I ∗ semVal (tile d i, SemLoc.dma s.sem) 0 ∗ semVal (tile d i, SemLoc.dma s'.sem) 0)

/-- The pair at rest. -/
def Idle : sProp 𝕄 := iprop((∃ X, owns (tile d i) hb fullShare X) ∗ (∃ Y, owns (tile d i) bb fullShare Y) ∗ Rest d i h ids s s' q H I)

/-- The pair holding chunk `c`. -/
def Ready (c : Nat) : sProp 𝕄 :=
  iprop(owns (tile d i) hb fullShare (chunkH (wid i) H c) ∗ owns (tile d i) bb fullShare (chunkB (wid i) I c) ∗ Rest d i h ids s s' q H I)

/-- Chunk `c` on its way into the pair. -/
def Loading (c : Nat) : sProp 𝕄 :=
  iprop(Transfers.Flight countersEmb (tile d i) (SemLoc.dma s.sem) (none : HIx 1) hb.view.dmaCredit iprop(owns (tile d i) hb fullShare (chunkH (wid i) H c) ∗ owns (tile d i) h q H)
    ∗ Transfers.Flight countersEmb (tile d i) (SemLoc.dma s'.sem) (none : HIx 1) bb.view.dmaCredit iprop(owns (tile d i) bb fullShare (chunkB (wid i) I c) ∗ owns (tile d i) ids q I))

/-- A pair of buffers that holds a chunk may be filled again. -/
theorem Ready_idle (c : Nat) : (Ready d i h ids hb bb s s' q H I c : sProp 𝕄) ⊢ Idle d i h ids hb bb s s' q H I := by
  unfold Ready Idle
  iintro ⟨Ha, Hb, HR⟩
  isplitl [Ha]; · iexists _; iexact Ha
  isplitl [Hb]; · iexists _; iexact Hb
  iexact HR

/-- A copy out of a rectangle of a buffer held with its values, started. -/
theorem wp_issue_owns {α : Type} {sp sp' : Space} {s : Shape} {e : EltTy} {src : Memref sig .scVector sp s e} {r : Rect s} {hr : ∀ a, r.stride a = 1} {dst : Memref sig .scVector sp' r.shape e}
    {sem : DmaSem sig} {hs : (src.slice r hr).view.WordExact} {hd : dst.view.WordExact}
    {ht : DmaTarget.Typed (nD := nD) (p := Proc.scVector ((i 0).castLE hcore1) ((i 1).castLE hsub1)) sp (.dma sem) (.here dst)}
    {k : PUnit → TProg (F := F) i α} {q : PosShare TreeShare} {X : s.Idx → Elt F e} {Y Z : r.shape.Idx → Elt F e} {Q : α → sProp 𝕄}
    (hn : 0 < r.shape.numel) (hZ : (fun x => X (r.emb x)) = Z) :
    (iprop(owns (tile d i) src q X ∗ owns (tile d i) dst fullShare Y ∗ semVal (tile d i, SemLoc.dma sem) 0) : sProp 𝕄)
      ⊢ iprop((Transfers.Flight countersEmb (tile d i) (SemLoc.dma sem) (none : HIx 1) dst.view.dmaCredit iprop(owns (tile d i) dst fullShare Z ∗ owns (tile d i) src q X)
          -∗ Wp d i (k ⟨⟩) Q) -∗ Wp d i (.op (.enqueueDma (src.slice r hr) (.here dst) (.dma sem) hs hd ht) k) Q) := by
  subst hZ
  unfold owns
  iintro ⟨⟨%fs, %hX, Hs⟩, ⟨%fd, %hY, Hd⟩, Hv⟩ Hk
  subst hX
  iapply (wp_issue d i (src := src.slice r hr) (dst := dst) (Ss := src.view.set) (Sd := dst.view.set) (q := q) (fs := fs) (fd := fd) hn
    (show (src.view.slice r).set ⊆ src.view.set by rw [View.set_slice]; exact Finset.map_subset_map.mpr (Finset.subset_univ _)) (Finset.Subset.refl _)) $$ [Hs Hd Hv]
  · isplitl [Hs]; · iexact Hs
    isplitl [Hd]; · iexact Hd
    iexact Hv
  iintro Hf
  iapply Hk
  iapply (Transfers.Flight_mono countersEmb (tile d i) ?_) $$ Hf
  iintro ⟨Hd, Hs⟩
  isplitl [Hd]
  · iexists _; isplitr; swap; · iexact Hd
    ipureintro
    exact View.read_write_univ _ _
  iexists fs; isplitr; · ipureintro; rfl
  iexact Hs

/-- A chunk requested: its rows and its ids, each on a semaphore of its own. -/
theorem wp_issue_chunk {α : Type} (c : Nat) (o : Fin 2 → Nat) (ho : ∀ a, o a + S400x128.size a ≤ S320000x128.size a) (o' : Fin 1 → Nat) (ho' : ∀ a, o' a + S400.size a ≤ S320000.size a)
    (e : ∀ a, o a = (![10000 * wid i + 400 * c, 0] : Fin 2 → Nat) a) (e' : ∀ a, o' a = (![10000 * wid i + 400 * c] : Fin 1 → Nat) a) (p : TProg (F := F) i α) (Q : α → sProp 𝕄) :
    (Idle d i h ids hb bb s s' q H I : sProp 𝕄)
      ⊢ iprop((Loading d i h ids hb bb s s' q H I c -∗ Wp d i p Q) -∗ Wp d i (issue i h ids hb hhb bb hbb s s' o ho o' ho' p) Q) := by
  unfold Idle Rest Loading issue
  iintro ⟨⟨%X, Ha⟩, ⟨%Y, Hb⟩, Hh, Hi, Hv, Hv'⟩ Hk
  iapply (wp_issue_owns d i (src := h) (dst := hb) (X := H) (Y := X) (show 0 < S400x128.numel by decide) (chunkH_read (wid i) H c o ho e)) $$ [Ha Hh Hv]
  · isplitl [Hh]; · iexact Hh
    isplitl [Ha]; · iexact Ha
    iexact Hv
  iintro Hf
  iapply (wp_issue_owns d i (src := ids) (dst := bb) (X := I) (Y := Y) (show 0 < S400.numel by decide) (chunkB_read (wid i) I c o' ho' e')) $$ [Hb Hi Hv']
  · isplitl [Hi]; · iexact Hi
    isplitl [Hb]; · iexact Hb
    iexact Hv'
  iintro Hf'
  iapply Hk
  isplitl [Hf]; · iexact Hf
  iexact Hf'

/-- A chunk waited for: its rows and its ids are in the buffers. -/
theorem wp_drain {α : Type} (c : Nat) (σ : St F) (p : TProg (F := F) i α) (Q : α → sProp 𝕄) :
    (iprop(Held d i acc cur out O W M σ ∗ Loading d i h ids hb bb s s' q H I c) : sProp 𝕄)
      ⊢ iprop((iprop(Held d i acc cur out O W M σ ∗ Ready d i h ids hb bb s s' q H I c) -∗ Wp d i p Q) -∗ Wp d i (drain i h ids hb hhb bb hbb s s' p) Q) := by
  unfold Held Ready Rest Loading drain
  iintro ⟨⟨#Hm, Ha, Hc, HT, HM, HO⟩, Hf, Hf'⟩ Hk
  iapply (wp_await d i O W) $$ [Hf HO]
  · isplitr; · iexact Hm
    isplitl [Hf]; · iexact Hf
    iexact HO
  iintro ⟨⟨Hb, Hh⟩, Hv, HO⟩
  iapply (wp_await d i O W) $$ [Hf' HO]
  · isplitr; · iexact Hm
    isplitl [Hf']; · iexact Hf'
    iexact HO
  iintro ⟨⟨Hb', Hi⟩, Hv', HO⟩
  iapply Hk
  isplitl [Ha Hc HT HM HO]
  · isplitr; · iexact Hm
    isplitl [Ha]; · iexact Ha
    isplitl [Hc]; · iexact Hc
    isplitl [HT]; · iexact HT
    isplitl [HM]; · iexact HM
    iexact HO
  isplitl [Hb]; · iexact Hb
  isplitl [Hb']; · iexact Hb'
  isplitl [Hh]; · iexact Hh
  isplitl [Hi]; · iexact Hi
  isplitl [Hv]; · iexact Hv
  iexact Hv'

/-- A chunk's twenty-five groups. -/
theorem wp_chunk {β : Type} (sems : Nat → DmaSems sig S_) (hM : ∀ n, (tile d i, SemLoc.dma (sems n).sem) ∈ M) (T : S32x512x128.Idx → F .f32) (hI : ∀ x, (I x).toNat < 512)
    (c : Nat) (Q : β → sProp 𝕄) (kk : BitVec 32 → TProg (F := F) i β) :
    (iprop(Held d i acc cur out O W M (St.run (wid i) I H T (25 * c)) ∗ Ready d i h ids hb bb s s' q H I c) : sProp 𝕄)
      ⊢ iprop((∀ r, iprop(Held d i acc cur out O W M (St.run (wid i) I H T (25 * (c + 1))) ∗ Ready d i h ids hb bb s s' q H I c) -∗ Wp d i (kk r) Q)
        -∗ Wp d i ((Scf.Loop.for k1_t2_loop k1_t2_ok 0#32 fun t _ => group i hb acc cur out hacc bb ninf₀ sems t.val t.isLt) >>= kk) Q) := by
  refine Scf.wp_for_bind frame (wpE (defs₀ (F := F)) 𝒱₀ (tile d i) none) Set.univ _ _ _ k1_t2_ok 0#32 _
    (fun t _ => iprop(Held d i acc cur out O W M (St.run (wid i) I H T (25 * c + t)) ∗ Ready d i h ids hb bb s s' q H I c)) ?_
  intro t _
  have ht : t.val < 25 := t.isLt
  have hB : ∀ j, (idAt (n := 400) (chunkB (wid i) I c) j).toNat < 512 := fun j => by
    unfold idAt
    split
    · unfold chunkB idAt
      split
      · exact hI _
      · decide
    · decide
  rw [show 25 * c + (t.val + 1) = 25 * c + t.val + 1 from rfl, ← St.run_chunk (wid i) I H T c t.val ht]
  unfold Ready
  iintro ⟨HH, Ha, Hb, HR⟩
  iapply (wp_group d i hb acc cur out bb hacc O W M sems hM t.val ht (chunkB (wid i) I c) hB _ (chunkH (wid i) H c) _ (St.run_cur _ _ _ _ hI _)) $$ [HH Ha Hb]
  · isplitl [HH]; · iexact HH
    isplitl [Ha]; · iexact Ha
    iexact Hb
  iintro ⟨HH, Ha, Hb⟩
  isplitl [HH]; · iexact HH
  isplitl [Ha]; · iexact Ha
  isplitl [Hb]; · iexact Hb
  iexact HR

end Cert.Proof.Seg
-- ==== Proof.BodyRun.lean ====
/-
  A whole tile run: from any table to the one `St.table` of its last state describes.
-/
module

public import proofs.«01_k».proof.Proof.Chunk

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid1.Coords)
variable (h : Memref sig .scVector .hbm S320000x128 .f32) (ids : Memref sig .scVector .hbm S320000 .i32)
variable (hb : Memref sig .scVector .vmem S400x128 .f32) (hhb : hb.IsWhole) (bb : Memref sig .scVector .vmem S400 .i32) (hbb : bb.IsWhole)
variable (s s' : DmaSems sig S_)
variable (hb' : Memref sig .scVector .vmem S400x128 .f32) (hhb' : hb'.IsWhole) (bb' : Memref sig .scVector .vmem S400 .i32) (hbb' : bb'.IsWhole)
variable (z z' : DmaSems sig S_)
variable (acc : Memref sig .scVector .vmem S128 .f32) (cur : Memref sig .scVector .smem S1 .i32) (out : Memref sig .scVector .hbm S32x512x128 .f32)
variable (hacc : acc.IsWhole)
variable (O : CellTallies nD τ sig (HIx 1)) (W : Waits sig (HIx 1)) (M : Finset (GSem nD τ sig))
variable (q q' : PosShare TreeShare) (H : S320000x128.Idx → F .f32) (I : S320000.Idx → BitVec 32)

/-! ### The fill -/

/-- Sixteen words of the buffer being filled replaced. -/
theorem overlay_fill (t k : Nat) (ht : t < 400) (hk : k < 8) (A : S400x128.Idx → F .f32) (w : (fillR t k ht hk).shape.Idx → F .f32) (hw : ∀ x, w x = ninf) :
    (fillR t k ht hk).overlay A w = fun y => if (y 0).val = t ∧ (y 1).val / 16 = k then ninf else A y := by
  funext y
  by_cases hy : (y 0).val = t ∧ (y 1).val / 16 = k
  · rw [if_pos hy]
    have hlt : (y 1).val - 16 * k < 16 := by omega
    have he : (fillR t k ht hk).emb (ix2 (n0 := 1) (n1 := 16) 0 ⟨(y 1).val - 16 * k, hlt⟩) = y := by
      funext a
      match a with
      | 0 => exact Fin.ext (by show (Scalar.indexCast (Scf.iv (0#32) (1#32) t)).toNat + 1 * 0 = (y 0).val; rw [fill_word t ht]; omega)
      | 1 => exact Fin.ext (by show 16 * k + 1 * ((y 1).val - 16 * k) = (y 1).val; omega)
    have := (fillR t k ht hk).overlay_emb A w (ix2 (n0 := 1) (n1 := 16) 0 ⟨(y 1).val - 16 * k, hlt⟩)
    rw [he] at this
    rw [this, hw]
  · rw [if_neg hy]
    refine (fillR t k ht hk).overlay_of_not_mem A w ?_
    rw [Rect.mem_set_unit]
    intro h
    have h0 : (Scalar.indexCast (Scf.iv (0#32) (1#32) t)).toNat ≤ (y 0).val ∧ (y 0).val < (Scalar.indexCast (Scf.iv (0#32) (1#32) t)).toNat + 1 := h 0
    have h1 : 16 * k ≤ (y 1).val ∧ (y 1).val < 16 * k + 16 := h 1
    rw [fill_word t ht] at h0
    omega

/-- A row of the buffer filled with -inf. -/
theorem wp_fillCols {α : Type} (t : Nat) (ht : t < 400) (p : TProg (F := F) i α) (Q : α → sProp 𝕄) :
    ∀ (n : Nat) (hn : n ≤ 8) (A : S400x128.Idx → F .f32),
    (owns (tile d i) hb fullShare A : sProp 𝕄)
      ⊢ iprop((owns (tile d i) hb fullShare (fun y => if (y 0).val = t ∧ 8 - n ≤ (y 1).val / 16 then ninf else A y) -∗ Wp d i p Q)
        -∗ Wp d i (fillCols i hb t ht n hn p) Q)
  | 0, hn, A => by
    rw [show (fun y : S400x128.Idx => if (y 0).val = t ∧ 8 - 0 ≤ (y 1).val / 16 then ninf else A y) = A from funext fun y => by
      rw [if_neg]; have : (y 1).val < 128 := (y 1).isLt; omega]
    unfold fillCols
    iintro H Hk
    iapply Hk; iexact H
  | n + 1, hn, A => by
    unfold fillCols
    iintro Ha Hk
    iapply (wp_load_owns d i) $$ Ha; iintro Ha
    iapply (wp_store_owns d i) $$ Ha; iintro Ha
    rw [overlay_fill t (8 - (n + 1)) ht (by omega) A (shapeCast S1x16 (ninf₀ (F := F)) shapeCasts_S16_S1x16) (fun x => rfl)]
    iapply (wp_fillCols t ht p Q n _ _) $$ Ha
    iintro Ha
    iapply Hk
    refine Entails.of_eq (congrArg (owns (tile d i) hb fullShare) ?_)
    funext y
    have : (y 1).val < 128 := (y 1).isLt
    by_cases h : (y 0).val = t ∧ 8 - n ≤ (y 1).val / 16
    · rw [if_pos h, if_pos (show (y 0).val = t ∧ 8 - (n + 1) ≤ (y 1).val / 16 by omega)]
    · rw [if_neg h]
      by_cases h' : (y 0).val = t ∧ (y 1).val / 16 = 8 - (n + 1)
      · rw [if_pos h', if_pos (show (y 0).val = t ∧ 8 - (n + 1) ≤ (y 1).val / 16 by omega)]
      · rw [if_neg h', if_neg (show ¬((y 0).val = t ∧ 8 - (n + 1) ≤ (y 1).val / 16) by omega)]

/-- The buffer filled with `-∞`. -/
theorem wp_fill {β : Type} (X : S400x128.Idx → F .f32) (Q : β → sProp 𝕄) (kk : BitVec 32 → TProg (F := F) i β) :
    (owns (tile d i) hb fullShare X : sProp 𝕄)
      ⊢ iprop((∀ r, owns (tile d i) hb fullShare (fun _ => ninf) -∗ Wp d i (kk r) Q)
        -∗ Wp d i ((Scf.Loop.for k1_t1_loop k1_t1_ok 0#32 fun t _ => fillCols i hb t.val t.isLt 8 le_rfl (.ret 0#32)) >>= kk) Q) := by
  have key := Scf.wp_for_bind frame (wpE (defs₀ (F := F)) 𝒱₀ (tile d i) none) Set.univ _ _ _ k1_t1_ok 0#32
    (fun t _ => fillCols i hb t.val t.isLt 8 le_rfl (.ret 0#32))
    (fun t _ => owns (tile d i) hb fullShare (fun y => if (y 0).val < t then ninf else X y)) (fun t _ => by
      iintro Ha
      iapply (wp_fillCols d i hb t.val t.isLt _ _ 8 le_rfl _) $$ Ha
      iintro Ha
      iapply (wp_done d i _ 0#32)
      refine Entails.of_eq (congrArg (owns (tile d i) hb fullShare) ?_)
      funext y
      by_cases h : (y 0).val = t.val
      · rw [if_pos ⟨h, by omega⟩, if_pos (by omega)]
      · rw [if_neg (by omega)]
        by_cases h' : (y 0).val < t.val
        · rw [if_pos h', if_pos (by omega)]
        · rw [if_neg h', if_neg (by omega)]) (kk := kk) (Q := Q)
  iintro Ha Hk
  iapply key $$ [Ha]
  · iapply (owns_eq d i hb (funext fun y => (if_neg (Nat.not_lt_zero _)).symm)) $$ Ha
  iintro %r Ha
  iapply Hk
  iapply (owns_eq d i hb (funext fun y => if_pos (show (y 0).val < Scf.trips k1_t1_loop.lb k1_t1_loop.ub k1_t1_loop.st from (y 0).isLt))) $$ Ha

/-- A position the copy to a reshaped rectangle of the table writes. -/
theorem read_piece_mem {sh : Shape} (r : Rect S32x512x128) (hr : ∀ a, r.stride a = 1) (hq : r.shape.Squeezes sh) (f : out.view.ty.Contents (Elt F)) (a : sh.Idx → F .f32)
    (x : sh.Idx) (y : S32x512x128.Idx) (hy : r.emb (Shape.reshapeEquiv hq.numel_eq x) = y) :
    out.view.read (Elt F) (((out.slice r hr).squeeze sh hq).view.write (Elt F) f a Finset.univ) y = a x := by
  have he : ((out.slice r hr).squeeze sh hq).view.emb x = out.view.emb y := congrArg out.view.emb hy
  have h1 := View.read_write_of_mem (v := ((out.slice r hr).squeeze sh hq).view) (Val := Elt F) f a (Finset.mem_univ x)
  rw [View.read_apply, ← he]
  exact h1

/-- A position it leaves. -/
theorem read_piece_not_mem {sh : Shape} (r : Rect S32x512x128) (hr : ∀ a, r.stride a = 1) (hq : r.shape.Squeezes sh) (f : out.view.ty.Contents (Elt F)) (a : sh.Idx → F .f32)
    (y : S32x512x128.Idx) (hy : y ∉ r.set) :
    out.view.read (Elt F) (((out.slice r hr).squeeze sh hq).view.write (Elt F) f a Finset.univ) y = out.view.read (Elt F) f y := by
  rw [View.read_apply, View.read_apply]
  congr 1
  refine View.write_of_not_mem (v := ((out.slice r hr).squeeze sh hq).view) f a Finset.univ fun hm => hy ?_
  obtain ⟨x, -, hx⟩ := Finset.mem_map.mp hm
  have h : r.emb (Shape.reshapeEquiv hq.numel_eq x) = y := out.view.emb.injective hx
  rw [← h, ← Rect.map_emb_univ]
  exact Finset.mem_map_of_mem _ (Finset.mem_univ _)

/-- Every position it writes is in the tile's block, if the rectangle is. -/
theorem piece_sub {sh : Shape} (r : Rect S32x512x128) (hr : ∀ a, r.stride a = 1) (hq : r.shape.Squeezes sh) (w : Nat) (hw : ∀ x, (r.emb x 0).val = w) :
    ((out.slice r hr).squeeze sh hq).view.set ⊆ out.view.setOn (blk w) := by
  intro y hy
  obtain ⟨x, -, rfl⟩ := Finset.mem_map.mp hy
  exact (View.mem_setOn _).mpr (Finset.mem_filter.mpr ⟨Finset.mem_univ _, hw _⟩)

/-- `n` rows of block `w`, from row `b`, as one piece written over with `-∞`. -/
theorem read_rows {n : Nat} (w b : Nat) (hbn : b + n ≤ 512) (o : Fin 3 → Nat) (ho : ∀ a, o a + (![1, n, 128] : Fin 3 → Nat) a ≤ S32x512x128.size a) (h : o = ![w, b, 0])
    (hq : (Rect.unit (s := S32x512x128) o ![1, n, 128] ho).shape.Squeezes ⟨2, ![n, 128]⟩) (f : out.view.ty.Contents (Elt F)) :
    out.view.read (Elt F) (((out.slice (Rect.unit (s := S32x512x128) o ![1, n, 128] ho) (fun _ => rfl)).squeeze ⟨2, ![n, 128]⟩ hq).view.write (Elt F) f (fun _ => (ninf : F .f32)) Finset.univ)
      = fun y => if (y 0).val = w ∧ b ≤ (y 1).val ∧ (y 1).val < b + n then ninf else out.view.read (Elt F) f y := by
  subst h
  funext y
  by_cases hy : (y 0).val = w ∧ b ≤ (y 1).val ∧ (y 1).val < b + n
  · rw [if_pos hy]
    refine read_piece_mem out _ _ hq f _ (ix2 (n0 := n) (n1 := 128) ⟨(y 1).val - b, by omega⟩ (y 2)) y ?_
    have he : Shape.reshapeEquiv hq.numel_eq (ix2 (n0 := n) (n1 := 128) ⟨(y 1).val - b, by omega⟩ (y 2)) = ix3 (n0 := 1) (n1 := n) (n2 := 128) 0 ⟨(y 1).val - b, by omega⟩ (y 2) := by
      refine Shape.reshapeEquiv_eq_of_rowMajor _ ((Shape.rowMajor_val_three _).trans (Eq.trans ?_ (Shape.rowMajor_val_two _).symm))
      show (0 * n + ((y 1).val - b)) * 128 + (y 2).val = ((y 1).val - b) * 128 + (y 2).val
      rw [Nat.zero_mul, Nat.zero_add]
    rw [he]
    funext a
    match a with
    | 0 => exact Fin.ext (by show w + 1 * 0 = (y 0).val; omega)
    | 1 => exact Fin.ext (by show b + 1 * ((y 1).val - b) = (y 1).val; omega)
    | 2 => exact Fin.ext (by show 0 + 1 * (y 2).val = (y 2).val; omega)
  · rw [if_neg hy]
    refine read_piece_not_mem out _ _ hq f _ y fun hm => hy ?_
    rw [Rect.mem_set_unit] at hm
    have h0 : w ≤ (y 0).val ∧ (y 0).val < w + 1 := hm 0
    have h1 : b ≤ (y 1).val ∧ (y 1).val < b + n := hm 1
    omega

/-- The filled buffer copied over the tile's block of the table, in two parts. -/
theorem wp_fillSend {α : Type} (r r' : DmaSems sig S_) (hM : (tile d i, SemLoc.dma r.sem) ∈ M) (hM' : (tile d i, SemLoc.dma r'.sem) ∈ M) (p : TProg (F := F) i α) (Q : α → sProp 𝕄)
    (T : S32x512x128.Idx → F .f32) :
    (iprop(Transfers.MayWaits (tile d i) (none : HIx 1) O ∗ owns (tile d i) hb fullShare (fun _ => ninf) ∗ Tab d i out T ∗ Sems M ∗ Owed d i O W) : sProp 𝕄)
      ⊢ iprop((iprop(owns (tile d i) hb fullShare (fun _ => ninf) ∗ Tab d i out (St.init (wid i) I T).tab ∗ Sems M ∗ Owed d i O W) -∗ Wp d i p Q)
        -∗ Wp d i (fillSend i hb hhb out r r' p) Q) := by
  have hs : ∀ x, ((Rect.unit (s := S32x512x128) (k1_off9 i) S1x400x128.size (k1_off9_inb i)).emb x 0).val = wid i := fun x => by
    have h : k1_off9 i 0 = wid i := congrFun (off9_eq i) 0
    have hx : (x 0).val < 1 := (x 0).isLt
    show k1_off9 i 0 + 1 * (x 0).val = wid i
    omega
  have hs' : ∀ x, ((Rect.unit (s := S32x512x128) (k1_off10 i) S1x112x128.size (k1_off10_inb i)).emb x 0).val = wid i := fun x => by
    have h : k1_off10 i 0 = wid i := congrFun (off10_eq i) 0
    have hx : (x 0).val < 1 := (x 0).isLt
    show k1_off10 i 0 + 1 * (x 0).val = wid i
    omega
  have hbt : (hbTop hb).view.set ⊆ hb.view.set := by
    intro y hy
    obtain ⟨x, -, rfl⟩ := Finset.mem_map.mp hy
    exact Finset.mem_map_of_mem _ (Finset.mem_univ _)
  unfold fillSend Tab owns
  iintro ⟨#Hm, ⟨%fa, %ha, Ha⟩, ⟨%fT, %hT, HT⟩, HM, HO⟩ Hk
  subst hT
  iapply (wp_copy d i O W (src := hb) (dst := outTop i out) hM (by decide) (Finset.Subset.refl _) (piece_sub out _ _ squeezes_S1x400x128_S400x128 (wid i) hs) (q := fullShare) (fs := fa) (fd := fT)) $$ [Ha HT HM HO]
  · isplitr; · iexact Hm
    isplitl [Ha]; · iexact Ha
    isplitl [HT]; · iexact HT
    isplitl [HM]; · iexact HM
    iexact HO
  iintro ⟨Ha, HT, HM, HO⟩
  iapply (wp_copy d i O W (src := hbTop hb) (dst := outEnd i out) hM' (by decide)
    hbt
    (piece_sub out _ _ squeezes_S1x112x128_S112x128 (wid i) hs') (q := fullShare) (fs := fa)) $$ [Ha HT HM HO]
  · isplitr; · iexact Hm
    isplitl [Ha]; · iexact Ha
    isplitl [HT]; · iexact HT
    isplitl [HM]; · iexact HM
    iexact HO
  iintro ⟨Ha, HT, HM, HO⟩
  iapply Hk
  isplitl [Ha]
  · iexists fa; isplitr; · ipureintro; exact ha
    iexact Ha
  isplitl [HT]
  · iexists _; isplitr; swap; · iexact HT
    ipureintro
    have e1 : (hbTop hb).view.read (Elt F) fa = fun _ => (ninf : F .f32) := funext fun x => congrFun ha _
    rw [e1, ha]
    refine (read_rows out (n := 112) (wid i) 400 (by omega) (k1_off10 i) (k1_off10_inb i) (off10_eq i) squeezes_S1x112x128_S112x128 _).trans ?_
    funext y
    have hy : (y 1).val < 512 := (y 1).isLt
    have e2 := congrFun (read_rows out (n := 400) (wid i) 0 (by omega) (k1_off9 i) (k1_off9_inb i) (off9_eq i) squeezes_S1x400x128_S400x128 fT) y
    by_cases h : (y 0).val = wid i
    · refine Eq.trans ?_ (if_pos h).symm
      by_cases h1 : (y 1).val < 400
      · rw [if_neg (by omega)]
        refine e2.trans (if_pos (by omega))
      · rw [if_pos (by omega)]
    · rw [if_neg (by omega)]
      refine e2.trans ((if_neg (by omega)).trans (if_neg h).symm)
  isplitl [HM]; · iexact HM
  iexact HO

/-! ### The first segment opened, the last one's row sent -/

/-- The first id taken and the running maximum cleared. -/
theorem wp_start {α : Type} (T : S32x512x128.Idx → F .f32) (A : S128.Idx → F .f32) (c₀ : BitVec 32) (p : TProg (F := F) i α) (Q : α → sProp 𝕄) :
    (iprop(owns (tile d i) acc fullShare A ∗ owns (tile d i) cur fullShare (fun _ => c₀) ∗ Ready d i h ids hb bb s s' q H I 0) : sProp 𝕄)
      ⊢ iprop((iprop(owns (tile d i) acc fullShare (St.init (F := F) (wid i) I T).acc ∗ owns (tile d i) cur fullShare (fun _ => (St.init (F := F) (wid i) I T).cur) ∗ Ready d i h ids hb bb s s' q H I 0) -∗ Wp d i p Q)
        -∗ Wp d i (start i bb acc cur p) Q) := by
  have e : laneId (shapeCast S16 (fun x => chunkB (wid i) I 0 ((Rect.unit (s := S400) ![0] S16.size inb_S400_S16_0).emb x)) shapeCasts_S16_S16) 0 (by omega) = (St.init (F := F) (wid i) I T).cur := by
    rw [laneId_eq]
    refine (congrFun (shapeCast_self (s := S16) (fun x => chunkB (wid i) I 0 ((Rect.unit (s := S400) ![0] S16.size inb_S400_S16_0).emb x)) shapeCasts_S16_S16) (ix1 ⟨0, by omega⟩)).trans ?_
    rfl
  unfold Ready start
  iintro ⟨Ha, Hc, Hh, Hb, HR⟩ Hk
  iapply (wp_load_owns d i) $$ Hb; iintro Hb
  iapply (wp_loadCur d i cur _ Q c₀) $$ Hc; iintro Hc
  iapply (wp_storeCur d i cur _ Q c₀ (St.init (F := F) (wid i) I T).cur _ (funext fun _ => e)) $$ Hc; iintro Hc
  iapply (wp_clear d i acc _ Q 8 le_rfl A) $$ Ha; iintro Ha
  iapply Hk
  isplitl [Ha]
  · iapply (owns_eq d i acc (funext fun y => if_pos (show 8 - 8 ≤ (y 0).val / 16 by omega))) $$ Ha
  isplitl [Hc]; · iexact Hc
  isplitl [Hh]; · iexact Hh
  isplitl [Hb]; · iexact Hb
  iexact HR

/-- What a tile ends with. -/
def Done (σ : St F) : sProp 𝕄 :=
  iprop(owns (tile d i) acc fullShare σ.acc ∗ owns (tile d i) cur fullShare (fun _ => σ.cur) ∗ Tab d i out (St.table (wid i) σ) ∗ Sems M ∗ Owed d i O W)

/-- The last segment's row written at the end. -/
theorem wp_finish (r : DmaSems sig S_) (hM : (tile d i, SemLoc.dma r.sem) ∈ M) (σ : St F) (hs : σ.cur.toNat < 512) (Q : PUnit → sProp 𝕄) :
    (Held d i acc cur out O W M σ : sProp 𝕄) ⊢ iprop((Done d i acc cur out O W M σ -∗ Q ⟨⟩) -∗ Wp d i (finish i acc cur out hacc r) Q) := by
  unfold Held Done finish
  iintro ⟨#Hm, Ha, Hc, HT, HM, HO⟩ Hk
  iapply (wp_loadCur d i cur _ Q σ.cur) $$ Hc; iintro Hc
  iapply (wp_checked d i (Q := Q) (outIn i σ.cur hs))
  iapply (wp_send d i acc out hacc O W M r hM σ.cur _ _ Q σ.acc σ.tab) $$ [Ha HT HM HO]
  · isplitr; · iexact Hm
    isplitl [Ha]; · iexact Ha
    isplitl [HT]; · iexact HT
    isplitl [HM]; · iexact HM
    iexact HO
  iintro ⟨Ha, HT, HM, HO⟩
  iapply (wp_done d i Q ⟨⟩)
  iapply Hk
  isplitl [Ha]; · iexact Ha
  isplitl [Hc]; · iexact Hc
  isplitl [HT]; · iexact HT
  isplitl [HM]; · iexact HM
  iexact HO

/-! ### The loop over pairs of chunks -/

/-- A pair of buffers between two trips: chunk `c` on its way, unless `n` trips were all. -/
def Between (n c : Nat) (L R : sProp 𝕄) : sProp 𝕄 := if n < 12 then L else R

/-- The next chunk requested into a pair of buffers, unless it was the last. -/
theorem wp_reissue {α : Type} (c : Nat) (o : Fin 2 → Nat) (o' : Fin 1 → Nat) (n : Nat) (hn : n < 12) (b : BitVec 1) (hb1 : b = 1#1 ↔ n < 11)
    (ho : b = 1#1 → ∀ a, o a + S400x128.size a ≤ S320000x128.size a) (ho' : b = 1#1 → ∀ a, o' a + S400.size a ≤ S320000.size a)
    (e : b = 1#1 → ∀ a, o a = (![10000 * wid i + 400 * c, 0] : Fin 2 → Nat) a) (e' : b = 1#1 → ∀ a, o' a = (![10000 * wid i + 400 * c] : Fin 1 → Nat) a)
    (p : TProg (F := F) i α) (Q : α → sProp 𝕄) :
    (Idle d i h ids hb bb s s' q H I : sProp 𝕄)
      ⊢ iprop((Between (F := F) (n + 1) c (Loading d i h ids hb bb s s' q H I c) (Idle d i h ids hb bb s s' q H I) -∗ Wp d i p Q)
        -∗ Wp d i ((if hc : b = 1#1 then issue i h ids hb hhb bb hbb s s' o (ho hc) o' (ho' hc) (.ret ⟨⟩) else (.ret ⟨⟩ : TProg (F := F) i PUnit)) >>= fun _ => p) Q) := by
  unfold Between
  by_cases hc : b = 1#1
  · have := hb1.mp hc
    rw [dif_pos hc, if_pos (show n + 1 < 12 by omega)]
    exact wp_issue_chunk d i h ids hb hhb bb hbb s s' q H I c o (ho hc) o' (ho' hc) (e hc) (e' hc) p Q
  · have : ¬n < 11 := fun hh => hc (hb1.mpr hh)
    rw [dif_neg hc, if_neg (show ¬n + 1 < 12 by omega)]
    iintro H Hk
    iapply Hk; iexact H

/-- The state before trip `t`. -/
def TripInv (T : S32x512x128.Idx → F .f32) (t : Nat) : sProp 𝕄 :=
  iprop(Held d i acc cur out O W M (St.run (wid i) I H T (25 * (2 * t + 1)))
    ∗ Between (F := F) t 0 (Loading d i h ids hb' bb' z z' q' H I (2 * t + 1)) (Idle d i h ids hb' bb' z z' q' H I)
    ∗ Between (F := F) t 0 (Loading d i h ids hb bb s s' q H I (2 * t + 2)) (Idle d i h ids hb bb s s' q H I))

/-- One trip of the loop: a chunk out of each pair of buffers. -/
theorem wp_trip (sems sems' : Nat → DmaSems sig S_) (hM : ∀ n, (tile d i, SemLoc.dma (sems n).sem) ∈ M) (hM' : ∀ n, (tile d i, SemLoc.dma (sems' n).sem) ∈ M)
    (T : S32x512x128.Idx → F .f32) (hI : ∀ x, (I x).toNat < 512) (t : Fin k1_t3_loop.trips) :
    (TripInv d i h ids hb bb s s' hb' bb' z z' acc cur out O W M q q' H I T t.val : sProp 𝕄)
      ⊢ Wp d i (trip i h ids hb hhb bb hbb s s' hb' hhb' bb' hbb' z z' acc cur out hacc sems sems' t)
          fun _ => TripInv d i h ids hb bb s s' hb' bb' z z' acc cur out O W M q q' H I T (t.val + 1) := by
  have ht : t.val < 12 := t.isLt
  unfold TripInv trip
  rw [show Between (F := F) t.val 0 (Loading d i h ids hb' bb' z z' q' H I (2 * t.val + 1)) (Idle d i h ids hb' bb' z z' q' H I) = Loading d i h ids hb' bb' z z' q' H I (2 * t.val + 1) from if_pos ht,
    show Between (F := F) t.val 0 (Loading d i h ids hb bb s s' q H I (2 * t.val + 2)) (Idle d i h ids hb bb s s' q H I) = Loading d i h ids hb bb s s' q H I (2 * t.val + 2) from if_pos ht]
  iintro ⟨HH, H1, H2⟩
  iapply (wp_drain d i h ids hb' hhb' bb' hbb' z z' acc cur out O W M q' H I (2 * t.val + 1)) $$ [HH H1]
  · isplitl [HH]; · iexact HH
    iexact H1
  iintro H
  iapply (wp_chunk d i h ids hb' bb' z z' acc cur out hacc O W M q' H I sems hM T hI (2 * t.val + 1)) $$ H
  iintro %r ⟨HH, H1⟩
  ihave H1 := (Ready_idle d i h ids hb' bb' z z' q' H I (2 * t.val + 1)) $$ H1
  iapply (wp_reissue d i h ids hb' hhb' bb' hbb' z z' q' H I (2 * t.val + 3) _ _ t.val ht _ (cond37_iff t) _ _ (fun _ => off319_eq i t) (fun _ => off320_eq i t)) $$ H1
  iintro H1
  iapply (wp_drain d i h ids hb hhb bb hbb s s' acc cur out O W M q H I (2 * t.val + 2)) $$ [HH H2]
  · isplitl [HH]; · iexact HH
    iexact H2
  iintro H
  iapply (wp_chunk d i h ids hb bb s s' acc cur out hacc O W M q H I sems' hM' T hI (2 * t.val + 2)) $$ H
  iintro %r' ⟨HH, H2⟩
  ihave H2 := (Ready_idle d i h ids hb bb s s' q H I (2 * t.val + 2)) $$ H2
  iapply (wp_reissue d i h ids hb hhb bb hbb s s' q H I (2 * t.val + 4) _ _ t.val ht _ (cond56_iff t) _ _ (fun _ => off474_eq i t) (fun _ => off475_eq i t)) $$ H2
  iintro H2
  iapply (wp_done d i _ 0#32)
  isplitl [HH]; · iexact HH
  isplitl [H1]; · iexact H1
  iexact H2

/-- A tile's whole program: from any table `T`, its block of the table becomes what the run of its 625 groups leaves. -/
theorem wp_body (r₀ r₁ r₂ : DmaSems sig S_) (sems₁ sems₂ sems₃ : Nat → DmaSems sig S_)
    (hr₀ : (tile d i, SemLoc.dma r₀.sem) ∈ M) (hr₁ : (tile d i, SemLoc.dma r₁.sem) ∈ M) (hr₂ : (tile d i, SemLoc.dma r₂.sem) ∈ M)
    (h₁ : ∀ n, (tile d i, SemLoc.dma (sems₁ n).sem) ∈ M) (h₂ : ∀ n, (tile d i, SemLoc.dma (sems₂ n).sem) ∈ M) (h₃ : ∀ n, (tile d i, SemLoc.dma (sems₃ n).sem) ∈ M)
    (T : S32x512x128.Idx → F .f32) (hI : ∀ x, (I x).toNat < 512) :
    (iprop(Transfers.MayWaits (tile d i) (none : HIx 1) O ∗ (∃ A, owns (tile d i) acc fullShare A) ∗ (∃ c₀, owns (tile d i) cur fullShare c₀) ∗ Tab d i out T ∗ Sems M ∗ Owed d i O W
        ∗ Idle d i h ids hb bb s s' q H I ∗ Idle d i h ids hb' bb' z z' q' H I) : sProp 𝕄)
      ⊢ Wp d i (body i h ids hb hhb bb hbb s s' hb' hhb' bb' hbb' z z' acc cur out hacc r₀ r₁ r₂ sems₁ sems₂ sems₃)
          fun _ => iprop(Done d i acc cur out O W M (St.run (wid i) I H T 625) ∗ Idle d i h ids hb bb s s' q H I ∗ Idle d i h ids hb' bb' z z' q' H I) := by
  unfold body chunk₁
  iintro ⟨#Hm, ⟨%A, Ha⟩, ⟨%c₀, Hc⟩, HT, HM, HO, H1, H2⟩
  unfold Idle
  icases H1 with ⟨⟨%X, Hb⟩, HR⟩
  iapply (wp_fill d i hb X) $$ Hb
  iintro %_ Hb
  iapply (wp_fillSend d i hb hhb out O W M I r₀ r₁ hr₀ hr₁ _ _ T) $$ [Hb HT HM HO]
  · isplitr; · iexact Hm
    isplitl [Hb]; · iexact Hb
    isplitl [HT]; · iexact HT
    isplitl [HM]; · iexact HM
    iexact HO
  iintro ⟨Hb, HT, HM, HO⟩
  iapply (wp_issue_chunk d i h ids hb hhb bb hbb s s' q H I 0 _ _ _ _ (off11_eq i 0) (off12_eq i 0)) $$ [Hb HR]
  · unfold Idle
    isplitl [Hb]; · iexists _; iexact Hb
    iexact HR
  iintro H1
  iapply (wp_issue_chunk d i h ids hb' hhb' bb' hbb' z z' q' H I 1 _ _ _ _ (off11_eq i 1) (off12_eq i 1)) $$ [H2]
  · unfold Idle
    iexact H2
  iintro H2
  ihave Hc := (owns_eq d i cur (Y := fun _ => c₀ (ix1 (n0 := 1) 0)) (funext fun y => congrArg c₀ (funext fun a => match a with | 0 => Subsingleton.elim (α := Fin 1) _ _))) $$ Hc
  iapply (wp_drain d i h ids hb hhb bb hbb s s' acc cur out O W M q H I 0 ⟨A, c₀ (ix1 (n0 := 1) 0), (St.init (wid i) I T).tab⟩) $$ [Ha Hc HT HM HO H1]
  · unfold Held
    isplitr [H1]; swap; · iexact H1
    isplitr; · iexact Hm
    isplitl [Ha]; · iexact Ha
    isplitl [Hc]; · iexact Hc
    isplitl [HT]; · iexact HT
    isplitl [HM]; · iexact HM
    iexact HO
  unfold Held
  iintro ⟨⟨#Hm', Ha, Hc, HR⟩, H1⟩
  iapply (wp_start d i h ids hb bb s s' acc cur q H I T A (c₀ (ix1 (n0 := 1) 0))) $$ [Ha Hc H1]
  · isplitl [Ha]; · iexact Ha
    isplitl [Hc]; · iexact Hc
    iexact H1
  iintro ⟨Ha, Hc, H1⟩
  iapply (wp_chunk d i h ids hb bb s s' acc cur out hacc O W M q H I sems₁ h₁ T hI 0) $$ [Ha Hc HR H1]
  · isplitr [H1]; swap; · iexact H1
    unfold Held
    isplitr; · iexact Hm
    isplitl [Ha]; · iexact Ha
    isplitl [Hc]; · iexact Hc
    iexact HR
  iintro %r ⟨HH, H1⟩
  ihave H1 := (Ready_idle d i h ids hb bb s s' q H I 0) $$ H1
  iapply (wp_issue_chunk d i h ids hb hhb bb hbb s s' q H I 2 _ _ _ _ (off11_eq i 2) (off12_eq i 2)) $$ H1
  iintro H1
  iapply (Scf.wp_for_bind frame (wpE (defs₀ (F := F)) 𝒱₀ (tile d i) none) Set.univ _ _ _ k1_t3_ok 0#32 _
    (fun t _ => TripInv d i h ids hb bb s s' hb' bb' z z' acc cur out O W M q q' H I T t)
    (fun t _ => wp_trip d i h ids hb hhb bb hbb s s' hb' hhb' bb' hbb' z z' acc cur out hacc O W M q q' H I sems₂ sems₃ h₂ h₃ T hI t)) $$ [HH H1 H2]
  · unfold TripInv Between
    rw [if_pos (show 0 < 12 by omega), if_pos (show 0 < 12 by omega)]
    isplitl [HH]; · iexact HH
    isplitl [H2]; · iexact H2
    iexact H1
  iintro %r' HI
  unfold TripInv Between
  rw [if_neg (show ¬Scf.trips k1_t3_loop.lb k1_t3_loop.ub k1_t3_loop.st < 12 by decide), if_neg (show ¬Scf.trips k1_t3_loop.lb k1_t3_loop.ub k1_t3_loop.st < 12 by decide)]
  rw [show 25 * (2 * Scf.trips k1_t3_loop.lb k1_t3_loop.ub k1_t3_loop.st + 1) = 625 by decide]
  icases HI with ⟨HH, H2, H1⟩
  iapply (wp_finish d i acc cur out hacc O W M r₂ hr₂ (St.run (wid i) I H T 625) (St.run_cur _ _ _ _ hI _)) $$ HH
  iintro HD
  isplitl [HD]; · iexact HD
  isplitl [H1]
  · unfold Idle; iexact H1
  · unfold Idle; iexact H2

end Cert.Proof.Seg
-- ==== Proof.BodyEq.lean ====
/-
  The printed program of a tile is the short form of `Body.lean`.
-/
module

public import proofs.«01_k».proof.Proof.Body

@[expose] public section

noncomputable section

namespace Cert.Proof.Seg

open Cert.KernelIdeal Cert.KernelIdeal.Gen
open Idealize.ShloMosaic
open Idealize.SL.Sem

variable {F : FTy → Type} [FloatOps F]

/-- Two programs that start with the same operation agree if what follows it does. -/
theorem op_step {i : grid1.Coords} {α β : Type} {e : TpuEff nD τ sig (Elt F) Λ₀ (.scVector ((i 0).castLE hcore1) ((i 1).castLE hsub1)) β} {K K' : β → TProg (F := F) i α}
    (hK : ∀ x, K x = K' x) : Prog.op e K = Prog.op e K' := by
  rw [funext hK]

/-- Two programs that start with a loop agree if the trips and what follows do. -/
theorem for_step {i : grid1.Coords} {α β : Type} {l : Scf.Loop 32} {ok : l.OK} {z : BitVec 32} {R R' : Fin l.trips → BitVec 32 → TProg (F := F) i (BitVec 32)}
    {K : BitVec 32 → TProg (F := F) i β} {K₂ : β → TProg (F := F) i α} {K' : BitVec 32 → TProg (F := F) i α}
    (hR : ∀ t a, R t a = R' t a) (hK : ∀ a, K a >>= K₂ = K' a) :
    (Scf.Loop.for l ok z R >>= K) >>= K₂ = Scf.Loop.for l ok z R' >>= K' := by
  rw [show R = R' from funext fun t => funext (hR t), Prog.bind_assoc]
  congr 1
  exact funext hK

/-- The same, the loop one bind less deep. -/
theorem for_step₁ {i : grid1.Coords} {α : Type} {l : Scf.Loop 32} {ok : l.OK} {z : BitVec 32} {R R' : Fin l.trips → BitVec 32 → TProg (F := F) i (BitVec 32)}
    {K K' : BitVec 32 → TProg (F := F) i α}
    (hR : ∀ t a, R t a = R' t a) (hK : ∀ a, K a = K' a) :
    Scf.Loop.for l ok z R >>= K = Scf.Loop.for l ok z R' >>= K' := by
  rw [show R = R' from funext fun t => funext (hR t), show K = K' from funext hK]

/-- A conditional with the rest of the program in both branches is the conditional, then the rest. -/
theorem dite_step {i : grid1.Coords} {α : Type} {c : Prop} [Decidable c] {A : c → TProg (F := F) i α} {B : TProg (F := F) i α}
    {A' : c → TProg (F := F) i PUnit} {K : PUnit → TProg (F := F) i α}
    (hA : ∀ h, A h = A' h >>= fun _ => B) (hB : B = K ⟨⟩) :
    (if h : c then A h else B) = (if h : c then A' h else .ret ⟨⟩) >>= K := by
  have hK : (fun _ => B) = K := funext fun _ => hB
  subst hK
  split
  · exact hA _
  · rfl

/-- The printed program is the short form. -/
theorem body_eq
    (i : grid1.Coords) (arg2 : Memref sig .scVector .hbm S320000x128 .f32) (harg2 : arg2.IsWhole) (arg3 : Memref sig .scVector .hbm S320000 .i32) (harg3 : arg3.IsWhole) (arg4 : Memref sig
    .scVector .hbm S32x512x128 .f32) (harg4 : arg4.IsWhole) (arg5 : Memref sig .scVector .vmem S400x128 .f32) (harg5 : arg5.IsWhole) (arg6 : Memref sig .scVector .vmem S400x128 .f32) (harg6 :
    arg6.IsWhole) (arg7 : Memref sig .scVector .vmem S400 .i32) (harg7 : arg7.IsWhole) (arg8 : Memref sig .scVector .vmem S400 .i32) (harg8 : arg8.IsWhole) (arg9 : Memref sig .scVector .vmem
    S128 .f32) (harg9 : arg9.IsWhole) (arg10 : Memref sig .scVector .smem S1 .i32) (harg10 : arg10.IsWhole) (arg11 arg12 arg13 arg14 v61_r0 v61_r1 v61_r50 : DmaSems sig S_) (v1627_r2 v1627_r3
    v1627_r4 v1627_r5 v1627_r6 v1627_r7 v1627_r8 v1627_r9 v1627_r10 v1627_r11 v1627_r12 v1627_r13 v1627_r14 v1627_r15 v1627_r16 v1627_r17 v1645_r18 v1645_r19 v1645_r20 v1645_r21 v1645_r22
    v1645_r23 v1645_r24 v1645_r25 v1645_r26 v1645_r27 v1645_r28 v1645_r29 v1645_r30 v1645_r31 v1645_r32 v1645_r33 v1645_r34 v1645_r35 v1645_r36 v1645_r37 v1645_r38 v1645_r39 v1645_r40
    v1645_r41 v1645_r42 v1645_r43 v1645_r44 v1645_r45 v1645_r46 v1645_r47 v1645_r48 v1645_r49 : DmaSems sig S_) :
    cc1__sc_segmax_body (F := F) i arg2 harg2 arg3 harg3 arg4 harg4 arg5 harg5 arg6 harg6 arg7 harg7 arg8 harg8 arg9 harg9 arg10 harg10 arg11 arg12 arg13 arg14 v61_r0 v61_r1 v1627_r2 v1627_r3 v1627_r4 v1627_r5 v1627_r6 v1627_r7 v1627_r8 v1627_r9 v1627_r10 v1627_r11 v1627_r12 v1627_r13 v1627_r14 v1627_r15 v1627_r16 v1627_r17 v1645_r18 v1645_r19 v1645_r20 v1645_r21 v1645_r22 v1645_r23 v1645_r24 v1645_r25 v1645_r26 v1645_r27 v1645_r28 v1645_r29 v1645_r30 v1645_r31 v1645_r32 v1645_r33 v1645_r34 v1645_r35 v1645_r36 v1645_r37 v1645_r38 v1645_r39 v1645_r40 v1645_r41 v1645_r42 v1645_r43 v1645_r44 v1645_r45 v1645_r46 v1645_r47 v1645_r48 v1645_r49 v61_r50
    = body (F := F) i arg2 arg3 arg5 harg5 arg7 harg7 arg11 arg13 arg6 harg6 arg8 harg8 arg12 arg14 arg9 arg10 arg4 harg9 v61_r0 v61_r1 v61_r50
      (fun n => match n with | 0 => v1627_r2 | 1 => v1627_r3 | 2 => v1627_r4 | 3 => v1627_r5 | 4 => v1627_r6 | 5 => v1627_r7 | 6 => v1627_r8 | 7 => v1627_r9 | 8 => v1627_r10 | 9 => v1627_r11 | 10 => v1627_r12 | 11 => v1627_r13 | 12 => v1627_r14 | 13 => v1627_r15 | 14 => v1627_r16 | _ => v1627_r17)
      (fun n => match n with | 0 => v1645_r18 | 1 => v1645_r19 | 2 => v1645_r20 | 3 => v1645_r21 | 4 => v1645_r22 | 5 => v1645_r23 | 6 => v1645_r24 | 7 => v1645_r25 | 8 => v1645_r26 | 9 => v1645_r27 | 10 => v1645_r28 | 11 => v1645_r29 | 12 => v1645_r30 | 13 => v1645_r31 | 14 => v1645_r32 | _ => v1645_r33)
      (fun n => match n with | 0 => v1645_r34 | 1 => v1645_r35 | 2 => v1645_r36 | 3 => v1645_r37 | 4 => v1645_r38 | 5 => v1645_r39 | 6 => v1645_r40 | 7 => v1645_r41 | 8 => v1645_r42 | 9 => v1645_r43 | 10 => v1645_r44 | 11 => v1645_r45 | 12 => v1645_r46 | 13 => v1645_r47 | 14 => v1645_r48 | _ => v1645_r49) := by
  unfold cc1__sc_segmax_body
  apply for_step
  case hR => intro t a; rfl
  case hK =>
    intro a
    iterate 10
      apply op_step
      intro x
    iterate 3
      apply op_step
      intro x
    iterate 16
      apply op_step
      intro x
    apply for_step
    case hR =>
      intro t a
      apply group_eq (F := F)
      case hA => intro w f; rfl
      case hJ => intro w f; rfl
      case hB =>
        intro w f hm
        iterate 16
          apply rows_succ i
          case h =>
            apply row_eq₂ (F := F) i
            case hA => intro f h; rfl
            case hE => rfl
        rfl

    case hK =>
      intro a
      iterate 2
        apply op_step
        intro x
      apply for_step
      case hR =>
        intro t a
        iterate 2
          apply op_step
          intro x
        apply for_step₁
        case hR =>
          intro t a
          apply group_eq (F := F)
          case hA => intro w f; rfl
          case hJ => intro w f; rfl
          case hB =>
            intro w f hm
            iterate 16
              apply rows_succ i
              case h =>
                apply row_eq₂ (F := F) i
                case hA => intro f h; rfl
                case hE => rfl
            rfl
        case hK =>
          intro a
          apply dite_step
          case hA => intro h; rfl
          case hB =>
            iterate 2
              apply op_step
              intro x
            apply for_step₁
            case hR =>
              intro t a
              apply group_eq (F := F)
              case hA => intro w f; rfl
              case hJ => intro w f; rfl
              case hB =>
                intro w f hm
                iterate 16
                  apply rows_succ i
                  case h =>
                    apply row_eq₂ (F := F) i
                    case hA => intro f h; rfl
                    case hE => rfl
                rfl
            case hK =>
              intro a
              apply dite_step
              case hA => intro h; rfl
              case hB => rfl
      case hK => intro a; rfl

end Cert.Proof.Seg
-- ==== Proof.Tile.lean ====
/-
  A tile's obligation to the launch: from the shares of the rows and ids and the block of the table it is handed, and its own
  scratch and semaphores, its program runs to the block filled and everything given back.
-/
module

public import proofs.«01_k».proof.Proof.BodyRun
public import proofs.«01_k».proof.Proof.BodyEq

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The rows, the ids and the table of partial maxima in device `d`'s memory. -/
abbrev hLoc (d : Dev nD) : Loc nD τ sig := (T d : Thread nD τ).loc main_v3
/-- The ids. -/
abbrev iLoc (d : Dev nD) : Loc nD τ sig := (T d : Thread nD τ).loc main_arg2
/-- The tiles' tables. -/
abbrev oLoc (d : Dev nD) : Loc nD τ sig := (T d : Thread nD τ).loc main_v4

/-- The table of partial maxima the thirty-two tiles leave. -/
def outTab (H : S320000x128.Idx → F .f32) (I : S320000.Idx → BitVec 32) (B : S32x512x128.Idx → F .f32) : S32x512x128.Idx → F .f32 :=
  fun y => St.table (y 0).val (St.run (y 0).val I H B 625) y

variable (d : Dev nD) (i : grid1.Coords)

/-- A DMA semaphore of the tile. -/
abbrev cell (s : DmaSems sig S_) : GSem nD τ sig := (tile d i, SemLoc.dma s.sem)

/-- The tile's semaphores but the four of the copies left in flight. -/
def others : Finset (GSem nD τ sig) :=
  ((((ownCells (tile d i)).erase (cell d i cc1_scratch6)).erase (cell d i cc1_scratch7)).erase (cell d i cc1_scratch8)).erase (cell d i cc1_scratch9)

omit [FloatOps F] in
/-- Two semaphores' cells differ. -/
theorem cell_ne {s s' : DmaSems sig S_} (h : s.sem ≠ s'.sem) : cell d i s ≠ cell d i s' := by
  intro e
  have h2 : (SemLoc.dma s.sem : SemLoc sig) = SemLoc.dma s'.sem := congrArg Prod.snd e
  exact h (SemLoc.dma.inj h2)

/-- A scoped semaphore's cell is the tile's own. -/
theorem cell_own {s : DmaSems sig S_} (h : (SemLoc.dma s.sem : SemLoc sig).isScoped .scVector = true) : cell d i s ∈ ownCells (tile d i) :=
  mem_ownCells.mpr ⟨rfl, h⟩

/-- What `others` asks of a semaphore. -/
def Spare (s : DmaSems sig S_) : Prop :=
  (SemLoc.dma s.sem : SemLoc sig).isScoped .scVector = true ∧ s.sem ≠ cc1_scratch6.sem ∧ s.sem ≠ cc1_scratch7.sem ∧ s.sem ≠ cc1_scratch8.sem ∧ s.sem ≠ cc1_scratch9.sem

instance (s : DmaSems sig S_) : Decidable (Spare s) := by unfold Spare; infer_instance

/-- A spare semaphore is among the others. -/
theorem mem_others {s : DmaSems sig S_} (h : Spare s) : cell d i s ∈ others d i := by
  unfold others
  exact Finset.mem_erase.mpr ⟨cell_ne d i h.2.2.2.2, Finset.mem_erase.mpr ⟨cell_ne d i h.2.2.2.1, Finset.mem_erase.mpr ⟨cell_ne d i h.2.2.1,
    Finset.mem_erase.mpr ⟨cell_ne d i h.2.1, cell_own d i h.1⟩⟩⟩⟩

/-- The tile's semaphores at zero: the four it names, and the others. -/
theorem ownSems0_tile :
    (ownSems0 (tile d i) : sProp 𝕄)
      = iprop(semVal (cell d i cc1_scratch6) 0 ∗ semVal (cell d i cc1_scratch7) 0 ∗ semVal (cell d i cc1_scratch8) 0 ∗ semVal (cell d i cc1_scratch9) 0 ∗ Sems (F := F) (others d i)) := by
  unfold SparseCore.Cfg.ownSems0 Sems others
  rw [SparseCore.bigSep_erase' (cell_own d i (s := cc1_scratch6) (by decide)),
    SparseCore.bigSep_erase' (Finset.mem_erase.mpr ⟨cell_ne d i (s := cc1_scratch7) (s' := cc1_scratch6) (by decide), cell_own d i (by decide)⟩),
    SparseCore.bigSep_erase' (Finset.mem_erase.mpr ⟨cell_ne d i (s := cc1_scratch8) (s' := cc1_scratch7) (by decide),
      Finset.mem_erase.mpr ⟨cell_ne d i (s := cc1_scratch8) (s' := cc1_scratch6) (by decide), cell_own d i (by decide)⟩⟩),
    SparseCore.bigSep_erase' (Finset.mem_erase.mpr ⟨cell_ne d i (s := cc1_scratch9) (s' := cc1_scratch8) (by decide),
      Finset.mem_erase.mpr ⟨cell_ne d i (s := cc1_scratch9) (s' := cc1_scratch7) (by decide),
        Finset.mem_erase.mpr ⟨cell_ne d i (s := cc1_scratch9) (s' := cc1_scratch6) (by decide), cell_own d i (by decide)⟩⟩⟩)]

/-- A buffer of the tile's own, held at some contents. -/
abbrev Scr (b : Ref sig .scVector) : sProp 𝕄 := iprop(∃ f : Buf (Elt F) ((tile d i).loc b), (tile d i).loc b ↦{fullShare} f)

/-- Two scratch buffers differ. -/
theorem own_ref {b b' : Ref sig .scVector} (h : b ≠ b') :
    (Proc.scVector (τ := τ) ((i 0).castLE hcore1) ((i 1).castLE hsub1)).devRef b ≠ (Proc.scVector ((i 0).castLE hcore1) ((i 1).castLE hsub1)).devRef b' :=
  fun e => h (Proc.devRef_injective _ e)

/-- The tile's scratch but the six buffers its program names. -/
def otherBufs : Finset (DevRef τ sig) :=
  let p : Proc τ := .scVector ((i 0).castLE hcore1) ((i 1).castLE hsub1)
  ((((((ownRefs (τ := τ) p).erase (p.devRef cc1_scratch0)).erase (p.devRef cc1_scratch1)).erase (p.devRef cc1_scratch2)).erase (p.devRef cc1_scratch3)).erase
    (p.devRef cc1_scratch4)).erase (p.devRef cc1_scratch5)

/-- A scratch buffer is the tile's own. -/
theorem own_mem (b : Ref sig .scVector) (h : ((Proc.scVector (τ := τ) ((i 0).castLE hcore1) ((i 1).castLE hsub1)).devRef b).owner = .proc (.scVector ((i 0).castLE hcore1) ((i 1).castLE hsub1))) :
    (Proc.scVector (τ := τ) ((i 0).castLE hcore1) ((i 1).castLE hsub1)).devRef b ∈ ownRefs (τ := τ) (.scVector ((i 0).castLE hcore1) ((i 1).castLE hsub1)) :=
  SparseCore.Cfg.mem_ownRefs_of_owner h

/-- The tile's scratch: the six buffers it names, and the others. -/
theorem ownBufs_tile :
    (ownBufs (tile d i) : sProp 𝕄)
      = iprop(Scr (F := F) d i cc1_scratch0 ∗ Scr (F := F) d i cc1_scratch1 ∗ Scr (F := F) d i cc1_scratch2 ∗ Scr (F := F) d i cc1_scratch3 ∗ Scr (F := F) d i cc1_scratch4 ∗ Scr (F := F) d i cc1_scratch5
          ∗ bigSep (otherBufs i) fun b => iprop(∃ f, ((d, b) : Loc nD τ sig) ↦{fullShare} f)) := by
  unfold SparseCore.Cfg.ownBufs otherBufs
  refine (SparseCore.bigSep_erase' (own_mem i cc1_scratch0 rfl)).trans ?_
  rw [SparseCore.bigSep_erase' (Finset.mem_erase.mpr ⟨own_ref i (b := cc1_scratch1) (b' := cc1_scratch0) (by decide), own_mem i cc1_scratch1 rfl⟩),
    SparseCore.bigSep_erase' (Finset.mem_erase.mpr ⟨own_ref i (b := cc1_scratch2) (b' := cc1_scratch1) (by decide),
      Finset.mem_erase.mpr ⟨own_ref i (b := cc1_scratch2) (b' := cc1_scratch0) (by decide), own_mem i cc1_scratch2 rfl⟩⟩),
    SparseCore.bigSep_erase' (Finset.mem_erase.mpr ⟨own_ref i (b := cc1_scratch3) (b' := cc1_scratch2) (by decide),
      Finset.mem_erase.mpr ⟨own_ref i (b := cc1_scratch3) (b' := cc1_scratch1) (by decide),
        Finset.mem_erase.mpr ⟨own_ref i (b := cc1_scratch3) (b' := cc1_scratch0) (by decide), own_mem i cc1_scratch3 rfl⟩⟩⟩),
    SparseCore.bigSep_erase' (Finset.mem_erase.mpr ⟨own_ref i (b := cc1_scratch4) (b' := cc1_scratch3) (by decide),
      Finset.mem_erase.mpr ⟨own_ref i (b := cc1_scratch4) (b' := cc1_scratch2) (by decide),
        Finset.mem_erase.mpr ⟨own_ref i (b := cc1_scratch4) (b' := cc1_scratch1) (by decide),
          Finset.mem_erase.mpr ⟨own_ref i (b := cc1_scratch4) (b' := cc1_scratch0) (by decide), own_mem i cc1_scratch4 rfl⟩⟩⟩⟩),
    SparseCore.bigSep_erase' (Finset.mem_erase.mpr ⟨own_ref i (b := cc1_scratch5) (b' := cc1_scratch4) (by decide),
      Finset.mem_erase.mpr ⟨own_ref i (b := cc1_scratch5) (b' := cc1_scratch3) (by decide),
        Finset.mem_erase.mpr ⟨own_ref i (b := cc1_scratch5) (b' := cc1_scratch2) (by decide),
          Finset.mem_erase.mpr ⟨own_ref i (b := cc1_scratch5) (b' := cc1_scratch1) (by decide),
            Finset.mem_erase.mpr ⟨own_ref i (b := cc1_scratch5) (b' := cc1_scratch0) (by decide), own_mem i cc1_scratch5 rfl⟩⟩⟩⟩⟩)]

/-- A whole scratch buffer in the form its memref holds it, and back. -/
theorem scr_owns (b : Ref sig .scVector) : (Scr (F := F) d i b : sProp 𝕄) = iprop(∃ X : b.ty.Contents (Elt F), owns (tile d i) (Memref.whole b) fullShare X) := by
  simp only [owns_whole]

/-- The table's block as the memref of the table holds it. -/
theorem tab_whole (B : S32x512x128.Idx → F .f32) :
    (Tab d i (Memref.whole main_v4_scv) B : sProp 𝕄) = (oLoc d ↦[blk (wid i)]{fullShare} (B : Buf (Elt F) (oLoc d))) := by
  have hs : (Memref.whole main_v4_scv : Memref sig .scVector .hbm S32x512x128 .f32).view.setOn (blk (wid i)) = blk (wid i) := Finset.map_refl
  unfold Tab
  rw [hs]
  have h₁ : iprop(∃ f : Buf (Elt F) (oLoc d), ⌜(Memref.whole main_v4_scv).view.read (Elt F) f = B⌝ ∗ (oLoc d ↦[blk (wid i)]{fullShare} f))
      ⊢ (oLoc d ↦[blk (wid i)]{fullShare} (B : Buf (Elt F) (oLoc d)) : sProp 𝕄) := by
    iintro ⟨%f, %hf, H⟩
    simp only [Memref.view_whole, View.read_whole] at hf
    subst hf
    iexact H
  have h₂ : (oLoc d ↦[blk (wid i)]{fullShare} (B : Buf (Elt F) (oLoc d)) : sProp 𝕄)
      ⊢ iprop(∃ f : Buf (Elt F) (oLoc d), ⌜(Memref.whole main_v4_scv).view.read (Elt F) f = B⌝ ∗ (oLoc d ↦[blk (wid i)]{fullShare} f)) := by
    iintro H
    iexists B
    isplitr
    · ipureintro; simp only [Memref.view_whole, View.read_whole]
    · iexact H
  exact BI.Entails.antisymm h₁ h₂

/-- What a tile is handed: shares of the rows and of the ids, its block of the table. -/
abbrev Take (q : PosShare TreeShare) (w : Nat) (H : Buf (Elt F) (hLoc d)) (I : Buf (Elt F) (iLoc d)) (B : Buf (Elt F) (oLoc d)) : sProp 𝕄 :=
  iprop((hLoc d ↦{q} H) ∗ (iLoc d ↦{q} I) ∗ oLoc d ↦[blk w]{fullShare} B)

omit [FloatOps F] in
/-- A share of an array is its two halves. -/
theorem halves {ℓ : Loc nD τ sig} (q : PosShare TreeShare) (f : Buf (Elt F) ℓ) : (ℓ ↦{q} f : sProp 𝕄) = iprop((ℓ ↦{q.left} f) ∗ (ℓ ↦{q.right} f)) :=
  BI.Entails.antisymm (pointsTo_share (PosShare.mem_left_op_right q)).1 (pointsTo_share (PosShare.mem_left_op_right q)).2

/-- A tile's block after its run is its part of the whole table. -/
theorem outTab_eq (w : Nat) (H : S320000x128.Idx → F .f32) (I : S320000.Idx → BitVec 32) (B : S32x512x128.Idx → F .f32) :
    (oLoc d ↦[blk w]{fullShare} (St.table w (St.run w I H B 625) : Buf (Elt F) (oLoc d)) : sProp 𝕄) = oLoc d ↦[blk w]{fullShare} (outTab H I B : Buf (Elt F) (oLoc d)) := by
  refine pointsTo_congr fun y hy => ?_
  have e : (y 0).val = w := (Finset.mem_filter.mp hy).2
  unfold outTab
  rw [e]

variable (O : CellTallies nD τ sig (HIx 1)) (W : Waits sig (HIx 1))

/-- The tile's program on the launch's own buffers and semaphores. -/
abbrev prog (i : grid1.Coords) : TProg (F := F) i PUnit :=
  cc1__sc_segmax_body i (Memref.whole main_v3_scv) (Memref.isWhole_whole _) (Memref.whole main_arg2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50

/-- The tile's program run from what the launch hands the tile to what it hands back: its block of the table filled with
    the partial maxima of its rows. -/
theorem tile_run (q : PosShare TreeShare) (H : Buf (Elt F) (hLoc d)) (I : Buf (Elt F) (iLoc d)) (B : Buf (Elt F) (oLoc d))
    (hI : ∀ x : S320000.Idx, (I x : BitVec 32).toNat < 512) (hO : ∀ g, O g none = 0) :
    (iprop(levAts (K (F := F)).L (K (F := F)).lev ∗ emp ∗ Take d q (wid i) H I B ∗ scopedBufs (tile d i) ∗ scopedSems0 (tile d i) ∗ owes (tile d i) O W) : sProp 𝕄)
      ⊢ Wp d i (prog i) fun _ => iprop(Take d q (wid i) H I (outTab H I B) ∗ scopedBufs (tile d i) ∗ scopedSems0 (tile d i)
          ∗ ∃ W', ⌜∀ p ∈ W', p ∈ W ∨ p.2 = none⌝ ∗ owes (tile d i) O W') := by
  unfold prog
  rw [body_eq, (K (F := F)).scopedBufs_V scFacts, SparseCore.Cfg.scopedSems0_V (Val := Elt F), ownSems0_tile, ownBufs_tile]
  iintro ⟨#Hlv, -, ⟨HH, HI, HB⟩, ⟨H0, H1, H2, H3, H4, H5, Hbufs⟩, ⟨S6, S7, S8, S9, HM⟩, HO⟩
  ihave Hmw := (show levAts (K (F := F)).L (K (F := F)).lev ⊢ Transfers.MayWaits (tile d i) (none : HIx 1) O from (K (F := F)).mayWaits_none (thr := tile d i) hO) $$ Hlv
  ihave HH := (Entails.of_eq (halves (ℓ := hLoc d) q H)) $$ HH
  ihave HI := (Entails.of_eq (halves (ℓ := iLoc d) q I)) $$ HI
  icases HH with ⟨HHl, HHr⟩
  icases HI with ⟨HIl, HIr⟩
  ihave HHl := (Entails.of_eq (owns_whole (Val := Elt F) (tile d i) main_v3_scv q.left H).symm) $$ HHl
  ihave HHr := (Entails.of_eq (owns_whole (Val := Elt F) (tile d i) main_v3_scv q.right H).symm) $$ HHr
  ihave HIl := (Entails.of_eq (owns_whole (Val := Elt F) (tile d i) main_arg2_scv q.left I).symm) $$ HIl
  ihave HIr := (Entails.of_eq (owns_whole (Val := Elt F) (tile d i) main_arg2_scv q.right I).symm) $$ HIr
  ihave HB := (Entails.of_eq (tab_whole d i B).symm) $$ HB
  ihave H0 := (Entails.of_eq (scr_owns d i cc1_scratch0)) $$ H0
  ihave H1 := (Entails.of_eq (scr_owns d i cc1_scratch1)) $$ H1
  ihave H2 := (Entails.of_eq (scr_owns d i cc1_scratch2)) $$ H2
  ihave H3 := (Entails.of_eq (scr_owns d i cc1_scratch3)) $$ H3
  ihave H4 := (Entails.of_eq (scr_owns d i cc1_scratch4)) $$ H4
  ihave H5 := (Entails.of_eq (scr_owns d i cc1_scratch5)) $$ H5
  iapply (wp_wand_r frame (wpE (defs₀ (F := F)) 𝒱₀ (tile d i) none) Set.univ)
  isplitl [Hmw HHl HHr HIl HIr HB H0 H1 H2 H3 H4 H5 S6 S7 S8 S9 HM HO]
  · iapply (wp_body d i (Memref.whole main_v3_scv) (Memref.whole main_arg2_scv) (Memref.whole cc1_scratch0) _ (Memref.whole cc1_scratch2) _ cc1_scratch6 cc1_scratch8
      (Memref.whole cc1_scratch1) _ (Memref.whole cc1_scratch3) _ cc1_scratch7 cc1_scratch9 (Memref.whole cc1_scratch4) (Memref.whole cc1_scratch5) (Memref.whole main_v4_scv) _
      O W (others d i) q.left q.right H I cc1_scoped0 cc1_scoped1 cc1_scoped50 _ _ _ (mem_others d i (by decide)) (mem_others d i (by decide)) (mem_others d i (by decide))
      (by intro n; split <;> exact mem_others d i (by decide)) (by intro n; split <;> exact mem_others d i (by decide)) (by intro n; split <;> exact mem_others d i (by decide))
      B hI)
    unfold Idle Rest Owed
    isplitl [Hmw]; · iexact Hmw
    isplitl [H4]; · iexact H4
    isplitl [H5]; · iexact H5
    isplitl [HB]; · iexact HB
    isplitl [HM]; · iexact HM
    isplitl [HO]
    · iexists W
      isplitr
      · ipureintro; exact fun p hp => .inl hp
      · iexact HO
    isplitl [H0 H2 HHl HIl S6 S8]
    · isplitl [H0]; · iexact H0
      isplitl [H2]; · iexact H2
      isplitl [HHl]; · iexact HHl
      isplitl [HIl]; · iexact HIl
      isplitl [S6]; · iexact S6
      iexact S8
    · isplitl [H1]; · iexact H1
      isplitl [H3]; · iexact H3
      isplitl [HHr]; · iexact HHr
      isplitl [HIr]; · iexact HIr
      isplitl [S7]; · iexact S7
      iexact S9
  iintro %u HD
  unfold Done Idle Rest Owed
  icases HD with ⟨⟨H4, H5, HB, HM, HO⟩, ⟨H0, H2, HHl, HIl, S6, S8⟩, ⟨H1, H3, HHr, HIr, S7, S9⟩⟩
  ihave HHl := (Entails.of_eq (owns_whole (Val := Elt F) (tile d i) main_v3_scv q.left H)) $$ HHl
  ihave HHr := (Entails.of_eq (owns_whole (Val := Elt F) (tile d i) main_v3_scv q.right H)) $$ HHr
  ihave HIl := (Entails.of_eq (owns_whole (Val := Elt F) (tile d i) main_arg2_scv q.left I)) $$ HIl
  ihave HIr := (Entails.of_eq (owns_whole (Val := Elt F) (tile d i) main_arg2_scv q.right I)) $$ HIr
  ihave HB := (Entails.of_eq ((tab_whole d i _).trans (outTab_eq d (wid i) H I B))) $$ HB
  isplitl [HHl HHr HIl HIr HB]
  · isplitl [HHl HHr]
    · iapply (Entails.of_eq (halves (ℓ := hLoc d) q H).symm)
      isplitl [HHl]; · iexact HHl
      iexact HHr
    isplitl [HIl HIr]
    · iapply (Entails.of_eq (halves (ℓ := iLoc d) q I).symm)
      isplitl [HIl]; · iexact HIl
      iexact HIr
    iexact HB
  isplitr [S6 S7 S8 S9 HM HO]
  · isplitl [H0]; · iapply (Entails.of_eq (scr_owns d i cc1_scratch0).symm); iexact H0
    isplitl [H1]; · iapply (Entails.of_eq (scr_owns d i cc1_scratch1).symm); iexact H1
    isplitl [H2]; · iapply (Entails.of_eq (scr_owns d i cc1_scratch2).symm); iexact H2
    isplitl [H3]; · iapply (Entails.of_eq (scr_owns d i cc1_scratch3).symm); iexact H3
    isplitl [H4]; · iapply (Entails.of_eq (scr_owns d i cc1_scratch4).symm); iexists _; iexact H4
    isplitl [H5]; · iapply (Entails.of_eq (scr_owns d i cc1_scratch5).symm); iexists _; iexact H5
    iexact Hbufs
  isplitr [HO]
  · isplitl [S6]; · iexact S6
    isplitl [S7]; · iexact S7
    isplitl [S8]; · iexact S8
    isplitl [S9]; · iexact S9
    iexact HM
  iexact HO

end Cert.Proof.Seg
-- ==== Proof.Launch.lean ====
module

public import proofs.«01_k».proof.Proof.Tile

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A share cut into a given number of pieces -/

/-- The pieces of share `q`, `n + 1` of them: the first takes the left half, the rest share the right half. -/
def piece : (n : ℕ) → PosShare TreeShare → Fin (n + 1) → PosShare TreeShare
  | 0, q, _ => q
  | n + 1, q, i => Fin.cases q.left (fun j => piece n q.right j) i

omit [FloatOps F] in
/-- A separating conjunction over `Fin (n + 1)` is its first member and the others. -/
theorem bigSep_first {n : ℕ} (Φ : Fin (n + 1) → sProp 𝕄) :
    bigSep Finset.univ Φ = iprop(Φ 0 ∗ bigSep Finset.univ fun j : Fin n => Φ j.succ) := by
  rw [Fin.univ_succ, Finset.cons_eq_insert, SparseCore.bigSep_insert' (by simp), bigSep_map]
  rfl

omit [FloatOps F] in
/-- A buffer held at a share is held at every piece of it. -/
theorem pointsTo_pieces {ℓ : Loc nD τ sig} (f : Buf (Elt F) ℓ) : ∀ (n : ℕ) (q : PosShare TreeShare),
    (ℓ ↦{q} f : sProp 𝕄) = bigSep Finset.univ fun i : Fin (n + 1) => ℓ ↦{piece n q i} f
  | 0, q => (bigSep_univ_of_subsingleton (0 : Fin 1) (Φ := fun i : Fin 1 => (ℓ ↦{piece 0 q i} f : sProp 𝕄))).symm
  | n + 1, q => by
    rw [halves q f, pointsTo_pieces f n q.right]
    exact (bigSep_first (fun i : Fin (n + 1 + 1) => (ℓ ↦{piece (n + 1) q i} f : sProp 𝕄))).symm

/-! ## What the launch carries -/

/-- The number of the tile at core `c`, subcore `i`. -/
abbrev num (c i : ℕ) : ℕ := 2 * i + c

/-- Core `c`'s half of the output table: the blocks of its sixteen tiles. -/
def half (c : ℕ) : Finset S32x512x128.Idx := (Finset.univ : Finset (Fin 16)).biUnion fun i => blk (num c i.val)

/-- Two tiles' blocks of the table are disjoint. -/
theorem blk_disjoint {a b : ℕ} (h : a ≠ b) : Disjoint (blk a) (blk b) := by
  rw [Finset.disjoint_left]
  intro y ha hb
  simp only [blk, Finset.mem_filter] at ha hb
  exact h (ha.2.symm.trans hb.2)

/-- The blocks of one SparseCore's tiles are pairwise disjoint. -/
theorem blks_disjoint (c : ℕ) : ∀ i ∈ (Finset.univ : Finset (Fin 16)), ∀ j ∈ (Finset.univ : Finset (Fin 16)), i ≠ j → Disjoint (blk (num c i.val)) (blk (num c j.val)) :=
  fun i _ j _ h => blk_disjoint fun e => h (Fin.ext (by simp only [num] at e; omega))

/-- What a SparseCore's part of the table holds. -/
theorem mem_half {c : ℕ} {y : S32x512x128.Idx} : y ∈ half c ↔ ∃ i : Fin 16, (y 0).val = num c i.val := by
  simp only [half, blk, Finset.mem_biUnion, Finset.mem_filter, Finset.mem_univ, true_and]

/-- The two SparseCores' parts are disjoint. -/
theorem halves_disjoint : ∀ c ∈ (Finset.univ : Finset (Fin 2)), ∀ c' ∈ (Finset.univ : Finset (Fin 2)), c ≠ c' → Disjoint (half c.val) (half c'.val) := by
  intro c _ c' _ h
  rw [Finset.disjoint_left]
  intro y hy hy'
  obtain ⟨i, hi⟩ := mem_half.mp hy
  obtain ⟨j, hj⟩ := mem_half.mp hy'
  simp only [num] at hi hj
  exact h (Fin.ext (by omega))

/-- The two SparseCores' parts are the whole table. -/
theorem halves_cover : (Finset.univ : Finset (Fin 2)).biUnion (fun c => half c.val) = Finset.univ := by
  refine Finset.eq_univ_iff_forall.mpr fun y => Finset.mem_biUnion.mpr ?_
  have hy : (y 0).val < 32 := (y 0).isLt
  refine ⟨⟨(y 0).val % 2, by omega⟩, Finset.mem_univ _, mem_half.mpr ⟨⟨(y 0).val / 2, by omega⟩, ?_⟩⟩
  simp only [num]; omega

section Pay

variable (m : (ℓ : Loc nD τ sig) → Buf (Elt F) ℓ) (H : (d : Dev nD) → Buf (Elt F) (hLoc d))

/-- Core `c`'s share of what every tile reads, and tile `i`'s share of it. -/
abbrev qc (c : Fin 2) : PosShare TreeShare := piece 1 fullShare c
/-- The share of the read arrays that a tile holds. -/
abbrev qt (c : Fin 2) (i : Fin 16) : PosShare TreeShare := piece 15 (qc c) i

/-- What core `c` takes with the output table's half at `B`. -/
abbrev Deal (d : Dev nD) (c : Fin 2) (B : Buf (Elt F) (oLoc d)) : sProp 𝕄 :=
  iprop((hLoc d ↦{qc c} H d) ∗ (iLoc d ↦{qc c} m (iLoc d)) ∗ oLoc d ↦[half c.val]{fullShare} B)

/-- What the tile at `(c, i)` takes with the output table's block at `B`. -/
abbrev Hand (d : Dev nD) (c : Fin 2) (i : Fin 16) (B : Buf (Elt F) (oLoc d)) : sProp 𝕄 :=
  Take d (qt c i) (num c.val i.val) (H d) (m (iLoc d)) B

/-- The table the tiles leave. -/
abbrev left (d : Dev nD) : Buf (Elt F) (oLoc d) := outTab (H d) (m (iLoc d)) (m (oLoc d))

/-- There are two SparseCores. -/
theorem nCore_two : (K (F := F)).nCore 0 = 2 := rfl
/-- There are sixteen tiles on each. -/
theorem nSub_sixteen : (K (F := F)).nSub 0 = 16 := rfl

/-- The one launch: each core takes its share of the rows and the ids and its half of the table, each tile its share
    of the core's and its block, and the table comes back as the tiles leave it. -/
def P : (K (F := F)).Pay (nD := nD) (Val := Elt F) (Name := ℕ) (U := UU) where
  st := fun q d c => match q with | 0 => Deal m H d (Fin.cast nCore_two c) (m (oLoc d))
  dn := fun q d c => match q with | 0 => Deal m H d (Fin.cast nCore_two c) (left m H d)
  go := fun q d c i => match q with | 0 => Hand m H d (Fin.cast nCore_two c) (Fin.cast nSub_sixteen i) (m (oLoc d))
  td := fun q d c i => match q with | 0 => Hand m H d (Fin.cast nCore_two c) (Fin.cast nSub_sixteen i) (left m H d)
  x := fun _ _ => iprop(emp)

instance P_storable : (P (F := F) m H).IsStorable where
  st q d c := match q with
    | 0 => (inferInstance : BI.Storable (upEmb : UEmb _ 𝕄) (Deal m H d (Fin.cast nCore_two c) (m (oLoc d))))
  dn q d c := match q with
    | 0 => (inferInstance : BI.Storable (upEmb : UEmb _ 𝕄) (Deal m H d (Fin.cast nCore_two c) (left m H d)))
  go q d c i := match q with
    | 0 => (inferInstance : BI.Storable (upEmb : UEmb _ 𝕄) (Hand m H d (Fin.cast nCore_two c) (Fin.cast nSub_sixteen i) (m (oLoc d))))
  td q d c i := match q with
    | 0 => (inferInstance : BI.Storable (upEmb : UEmb _ 𝕄) (Hand m H d (Fin.cast nCore_two c) (Fin.cast nSub_sixteen i) (left m H d)))

/-- What is asked of the launch memory: every id names a row of the table. -/
def IdsOK : Prop := ∀ (d : Dev nD) (x : S320000.Idx), (m (iLoc d) x : BitVec 32).toNat < 512

/-! ## The tiles' obligation -/

/-- The mesh position at core `c`, subcore `s`. -/
def at2 (c : Fin (grid1.bound 0)) (s : Fin (grid1.bound 1)) : grid1.Coords :=
  fun | 0 => c | 1 => s | ⟨_ + 2, h⟩ => absurd h (Nat.not_lt.2 (Nat.le_add_left _ _))

/-- What a tile runs. -/
theorem body_at (c : Fin τ.nSC) (s : Fin τ.nSub) :
    defs₀ (F := F) (.scVector c s) 1 () = SparseCore.onTile hcore1 hsub1 (fun c s => prog (at2 c s)) ⟨⟩ c s := rfl

/-- A tile's waits, in the launch's wording. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr; swap; · iexact HO
  ipureintro
  intro p hp
  rcases hW' p hp with h | h
  · exact .inl h
  · exact .inr (.inl h)

set_option maxRecDepth 16384 in
/-- Every tile of the launch runs its program from what it takes to what it gives back. -/
theorem tileObl (hI : IdsOK m) : (K (F := F)).TileObl (D (F := F)) 𝒱 (P m H) v₀ 0 := by
  intro d c i O W hO _ _
  simp only [show (P m H).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [body_at]; simp only [SparseCore.onTile, hci, and_self, ↓reduceDIte]
  exact (tile_run d (at2 ⟨_, hci.1⟩ ⟨_, hci.2⟩) O W _ (H d) (m (iLoc d)) (m (oLoc d)) (hI d) hO).trans (wp_mono frame _ _ fun _ => waits_weaken)

/-! ## Dealing to the tiles and taking back -/

/-- A SparseCore's operands are its tiles' together. -/
theorem core_pieces (d : Dev nD) (c : Fin 2) (B : Buf (Elt F) (oLoc d)) :
    (Deal m H d c B : sProp 𝕄) = bigSep Finset.univ fun i : Fin 16 => Hand m H d c i B := by
  unfold Deal Hand Take
  rw [pointsTo_pieces (H d) 15 (qc c), pointsTo_pieces (m (iLoc d)) 15 (qc c), half, pointsTo_biUnion Finset.univ _ (blks_disjoint c.val), bigSep_sep', bigSep_sep']

/-- A product over the tiles, however they are counted. -/
theorem bigSep_subs (Φ : Fin 16 → sProp 𝕄) :
    (bigSep Finset.univ fun i : Fin ((K (F := F)).nSub 0) => Φ (Fin.cast nSub_sixteen i)) = bigSep Finset.univ Φ :=
  bigSep_congr fun _ _ => congrArg Φ (Fin.ext rfl)

/-- A product over the SparseCores, however they are counted. -/
theorem bigSep_cores (Φ : Fin 2 → sProp 𝕄) :
    (bigSep Finset.univ fun c : Fin ((K (F := F)).nCore 0) => Φ (Fin.cast nCore_two c)) = bigSep Finset.univ Φ :=
  bigSep_congr fun _ _ => congrArg Φ (Fin.ext rfl)

/-- A SparseCore deals its operands to its tiles and gathers them back. -/
theorem vecSplit : (K (F := F)).VecSplit' (P m H) 0 := by
  intro d c
  show Deal m H d (Fin.cast nCore_two c) (m (oLoc d)) ⊢ |={Set.univ}=> iprop(
      (bigSep Finset.univ fun i : Fin ((K (F := F)).nSub 0) => Hand m H d (Fin.cast nCore_two c) (Fin.cast nSub_sixteen i) (m (oLoc d)))
      ∗ ((bigSep Finset.univ fun i : Fin ((K (F := F)).nSub 0) => Hand m H d (Fin.cast nCore_two c) (Fin.cast nSub_sixteen i) (left m H d))
          -∗ Deal m H d (Fin.cast nCore_two c) (left m H d)))
  rw [bigSep_subs (F := F) (fun i => Hand m H d (Fin.cast nCore_two c) i (m (oLoc d))), bigSep_subs (F := F) (fun i => Hand m H d (Fin.cast nCore_two c) i (left m H d)),
    ← core_pieces, ← core_pieces]
  iintro HD; imodintro
  isplitl [HD]; · iexact HD
  iintro HD; iexact HD

/-- What both cores take together: the rows, the ids and the table, whole. -/
theorem deals (d : Dev nD) (B : Buf (Elt F) (oLoc d)) :
    (bigSep Finset.univ fun c : Fin 2 => Deal m H d c B : sProp 𝕄)
      = iprop((hLoc d ↦{fullShare} H d) ∗ (iLoc d ↦{fullShare} m (iLoc d)) ∗ oLoc d ↦{fullShare} B) := by
  unfold Deal
  rw [bigSep_sep', bigSep_sep', ← pointsTo_pieces (H d) 1 fullShare, ← pointsTo_pieces (m (iLoc d)) 1 fullShare,
    ← pointsTo_biUnion Finset.univ (ℓ := oLoc d) (fun c : Fin 2 => half c.val) halves_disjoint, halves_cover]

/-- The host's three arrays are what the two SparseCores start from. -/
theorem starts (d : Dev nD) : (bigSep Finset.univ fun c : Fin ((K (F := F)).nCore 0) => (P m H).st 0 d c)
    = iprop((hLoc d ↦{fullShare} H d) ∗ (iLoc d ↦{fullShare} m (iLoc d)) ∗ oLoc d ↦{fullShare} m (oLoc d)) :=
  (bigSep_cores (fun c => Deal m H d c (m (oLoc d)))).trans (deals m H d _)

/-- What the two SparseCores hand back is the three arrays, the table written. -/
theorem dones (d : Dev nD) : (bigSep Finset.univ fun c : Fin ((K (F := F)).nCore 0) => (P m H).dn 0 d c)
    = iprop((hLoc d ↦{fullShare} H d) ∗ (iLoc d ↦{fullShare} m (iLoc d)) ∗ oLoc d ↦{fullShare} left m H d) :=
  (bigSep_cores (fun c => Deal m H d c (left m H d))).trans (deals m H d _)

end Pay

end Cert.Proof.Seg
-- ==== Proof.Region.lean ====
/-
  The two TensorCore kernels: what each leaves in its staging buffers, and each as a region of the host program entered
  from every unscoped buffer at a valuation.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.ValueKit

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat BodyObligation)

variable {F : FTy → Type} [FloatOps F]

local notation "𝕄" => MT nD τ sig (HIx 1) (Elt F) ℕ UU ℕ

/-! ## Loads and stores of the TensorCore -/

/-- A TensorCore's program run to its end. -/
abbrev WpT (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A TensorCore's load through a rectangle of a buffer held with its values. -/
theorem tc_load_owns (c : Dev nD) {α : Type} {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e} {Q : α → sProp 𝕄} :
    (owns (c : Thread nD τ) m q X : sProp 𝕄) ⊢ iprop((owns (c : Thread nD τ) m q X -∗ WpT c (k (View.ld X r)) Q) -∗ WpT c (.op (.load m r.toLoadRect hl) k) Q) := by
  unfold owns
  iintro ⟨%f, %hf, H⟩ Hk
  subst hf
  iapply (wp_load_rect 𝒱₀ (c : Thread nD τ) none Set.univ (m := m) (r := r) (S := m.view.set) (f := f) (by rw [View.set_slice]; exact Finset.map_subset_map.mpr (Finset.subset_univ _))) $$ H
  iintro H
  iapply Hk
  iexists f; isplitr; · ipureintro; rfl
  iexact H

/-- A TensorCore's store over the whole of a buffer. -/
theorem tc_store_owns (c : Dev nD) {α : Type} {cs : CoreSpace} {s : Shape} {e : EltTy} {m : Memref sig .tc cs s e} {off : Fin s.rank → ℕ} {inb : ∀ a, off a + s.size a ≤ s.size a}
    {w : s.Idx → Elt F e} {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig (Elt F) Λ₀ .tc) α} {X : s.Idx → Elt F e} {Q : α → sProp 𝕄} (ho : off = fun _ => 0) :
    (owns (c : Thread nD τ) m fullShare X : sProp 𝕄) ⊢ iprop((owns (c : Thread nD τ) m fullShare w -∗ WpT c (k ⟨⟩) Q) -∗ WpT c (.op (.store m (Rect.unit off s.size inb) w Finset.univ hx hm) k) Q) := by
  subst ho
  unfold owns
  iintro ⟨%f, %hf, H⟩ Hk
  subst hf
  iapply (wp_store 𝒱₀ (c : Thread nD τ) none Set.univ (m := m) (r := Rect.unit (fun _ => 0) s.size inb) (S := m.view.set) (f := f)
    (by rw [View.setOn_univ, View.set_slice]; exact Finset.map_subset_map.mpr (Finset.subset_univ _))) $$ H
  iintro H
  iapply Hk
  iexists _; isplitr; swap; · iexact H
  ipureintro
  funext y
  have hy : (Rect.unit (fun _ => 0) s.size inb).emb y = y := Rect.emb_whole_apply s y
  conv_lhs => rw [← hy]
  exact View.read_slice_write_emb (Rect.unit (fun _ => 0) s.size inb) f w (Finset.mem_univ y)

/-- The end of a TensorCore's program. -/
theorem tc_done (c : Dev nD) {α : Type} (Q : α → sProp 𝕄) (a : α) : (Q a : sProp 𝕄) ⊢ WpT c (.ret a) Q := by
  unfold WpT
  rw [wp_ret]
  exact fupd_intro

/-! ## The two bodies -/

/-- What the first kernel's body leaves in its result's buffer, from the blocks staged. -/
abbrev mmOut (X0 : S8000x128.Idx → F .f32) (X1 : S8000x3.Idx → F .f32) (X2 : S128x128.Idx → F .f32) (X3 : S3x128.Idx → F .f32) (X4 : S1x128.Idx → F .f32) : S8000x128.Idx → F .f32 :=
  k0_pay1 (F := F) (View.ld X0 (Rect.unit (s := S8000x128) ![0, 0] S8000x128.size inb_S8000x128_S8000x128_0_0))
    (View.ld X2 (Rect.unit (s := S128x128) ![0, 0] S128x128.size inb_S128x128_S128x128_0_0))
    (View.ld X1 (Rect.unit (s := S8000x3) ![0, 0] S8000x3.size inb_S8000x3_S8000x3_0_0))
    (View.ld X3 (Rect.unit (s := S3x128) ![0, 0] S1x128.size inb_S3x128_S1x128_0_0))
    (View.ld X3 (Rect.unit (s := S3x128) ![1, 0] S1x128.size inb_S3x128_S1x128_1_0))
    (View.ld X3 (Rect.unit (s := S3x128) ![2, 0] S1x128.size inb_S3x128_S1x128_2_0))
    (View.ld X4 (Rect.unit (s := S1x128) ![0, 0] S1x128.size inb_S1x128_S1x128_0_0))

set_option maxRecDepth 65536 in
/-- The first kernel's body: the five blocks read, the result's buffer left at `mmOut` of them. -/
theorem mm_body (c : Dev nD) (i : grid0.Coords) (a1 : Memref sig .tc .vmem S8000x128 .f32) (h1 : a1.IsWhole) (a2 : Memref sig .tc .vmem S8000x3 .f32) (h2 : a2.IsWhole)
    (a3 : Memref sig .tc .vmem S128x128 .f32) (h3 : a3.IsWhole) (a4 : Memref sig .tc .vmem S3x128 .f32) (h4 : a4.IsWhole) (a5 : Memref sig .tc .vmem S1x128 .f32) (h5 : a5.IsWhole)
    (a6 : Memref sig .tc .vmem S8000x128 .f32) (h6 : a6.IsWhole) (X1 : S8000x128.Idx → Elt F .f32) (X2 : S8000x3.Idx → Elt F .f32) (X3 : S128x128.Idx → Elt F .f32) (X4 : S3x128.Idx → Elt F .f32)
    (X5 : S1x128.Idx → Elt F .f32) (X6 : S8000x128.Idx → Elt F .f32) (Q : PUnit → sProp 𝕄) :
    iprop(owns (c : Thread nD τ) a1 fullShare X1 ∗ owns (c : Thread nD τ) a2 fullShare X2 ∗ owns (c : Thread nD τ) a3 fullShare X3 ∗ owns (c : Thread nD τ) a4 fullShare X4
        ∗ owns (c : Thread nD τ) a5 fullShare X5 ∗ owns (c : Thread nD τ) a6 fullShare X6
        ∗ (iprop(owns (c : Thread nD τ) a1 fullShare X1 ∗ owns (c : Thread nD τ) a2 fullShare X2 ∗ owns (c : Thread nD τ) a3 fullShare X3 ∗ owns (c : Thread nD τ) a4 fullShare X4
            ∗ owns (c : Thread nD τ) a5 fullShare X5 ∗ owns (c : Thread nD τ) a6 fullShare (mmOut (F := F) X1 X2 X3 X4 X5)) -∗ Q ⟨⟩))
      ⊢ WpT c (cc0__mm_body (F := F) i a1 h1 a2 h2 a3 h3 a4 h4 a5 h5 a6 h6) Q := by
  rw [cc0__mm_body_eq_skeleton]
  unfold cc0__mm_body_skel
  simp only [Prog.lift, Prog.bind_op, Prog.bind_ret]
  iintro ⟨H1, H2, H3, H4, H5, H6, Hk⟩
  iapply (tc_load_owns c) $$ H1; iintro H1
  iapply (tc_load_owns c) $$ H3; iintro H3
  iapply (tc_load_owns c) $$ H2; iintro H2
  iapply (tc_load_owns c) $$ H4; iintro H4
  iapply (tc_load_owns c) $$ H4; iintro H4
  iapply (tc_load_owns c) $$ H4; iintro H4
  iapply (tc_load_owns c) $$ H5; iintro H5
  iapply (tc_load_owns c) $$ H6; iintro H6
  iapply (tc_store_owns c (by funext a; fin_cases a <;> rfl)) $$ H6; iintro H6
  iapply (tc_done c Q ⟨⟩)
  iapply Hk
  isplitl [H1]; · iexact H1
  isplitl [H2]; · iexact H2
  isplitl [H3]; · iexact H3
  isplitl [H4]; · iexact H4
  isplitl [H5]; · iexact H5
  iexact H6

set_option maxRecDepth 65536 in
/-- The second kernel's body: the workers' tables read, the result's buffer left at their maximum. -/
theorem combine_body (c : Dev nD) (a0 : Memref sig .tc .vmem S32x512x128 .f32) (h0 : a0.IsWhole) (a1 : Memref sig .tc .vmem S512x128 .f32) (h1 : a1.IsWhole)
    (X0 : S32x512x128.Idx → Elt F .f32) (X1 : S512x128.Idx → Elt F .f32) (Q : PUnit → sProp 𝕄) :
    iprop(owns (c : Thread nD τ) a0 fullShare X0 ∗ owns (c : Thread nD τ) a1 fullShare X1
        ∗ (iprop(owns (c : Thread nD τ) a0 fullShare X0 ∗ owns (c : Thread nD τ) a1 fullShare (k2_pay1 (F := F) X0)) -∗ Q ⟨⟩))
      ⊢ WpT c (cc2__combine_body (F := F) a0 h0 a1 h1) Q := by
  rw [cc2__combine_body_eq_skeleton]
  unfold cc2__combine_body_skel
  simp only [Prog.lift, Prog.bind_op, Prog.bind_ret]
  iintro ⟨H0, H1, Hk⟩
  iapply (tc_load_owns c) $$ H0; iintro H0
  iapply (tc_load_owns c) $$ H1; iintro H1
  iapply (tc_store_owns c (by funext a; fin_cases a <;> rfl)) $$ H1; iintro H1
  iapply (tc_done c Q ⟨⟩)
  iapply Hk
  isplitl [H0]; · iexact H0
  rw [View.ld_unit_zero (S := S32x512x128) (by funext a; fin_cases a <;> rfl)]
  iexact H1

/-! ## The proof data -/

/-- The pipelines' launches are admissible. -/
abbrev adm : (p : Fin 2) → (pcfgs (F := F) p).Adm := fun q => (cfgs q).toPCfg_adm

/-- The level at or below which the TensorCore's recorded waits sit before call `n`. -/
abbrev lowWaits (c : Dev nD) (n : ℕ) : Set (SemLoc sig × HIx 1) := {q | (K (F := F)).lev ((c : Thread nD τ), q.1) q.2 ≤ 8 * n}

variable (V : (c : Dev nD) → (b : Ref sig .tc) → Buf (Elt F) ((c : Thread nD τ).loc b))

/-- A window's block of the first kernel at a point, read off the array it stages. -/
abbrev blk0 (c : Dev nD) (w : Fin 6) (t : Fin cfg0.N) : ((cfg0.win w).xblock (cfg0.grid.coords t)).Idx → Elt F (cfg0.win w).elt :=
  ((cfg0.win w).blk t).view.read (Elt F) (V c (Pipeline.arrRef spec0 w))

/-- The proof data of the first kernel. -/
def dat0 (c : Dev nD) : Dat τ (Elt F) (HIx 1) ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => mmOut (F := F) (blk0 V c 0 t) (blk0 V c 1 t) (blk0 V c 2 t) (blk0 V c 3 t) (blk0 V c 4 t)
  Φ _ := Pipeline.scopedRest (Ix := HIx 1) (Name := ℕ) (U := UU) (Lvl := ℕ) (Val := Elt F) spec0 c
  q _ := fullShare
  owed _ := (K (F := F)).Otc c 0
  recorded _ := lowWaits (F := F) c 0

/-- The proof data of the second kernel. -/
def dat2 (c : Dev nD) : Dat τ (Elt F) (HIx 1) ℕ UU ℕ cfg2 c where
  A w := V c (Pipeline.arrRef spec2 w)
  after w t := match w with
    | ⟨0, _⟩ => ((cfg2.win 0).blk t).view.read (Elt F) (V c main_v4)
    | ⟨1, _⟩ => k2_pay1 (F := F) (((cfg2.win 0).blk t).view.read (Elt F) (V c main_v4))
  Φ _ := Pipeline.scopedRest (Ix := HIx 1) (Name := ℕ) (U := UU) (Lvl := ℕ) (Val := Elt F) spec2 c
  q _ := fullShare
  owed _ := (K (F := F)).Otc c 1
  recorded _ := lowWaits (F := F) c 1

/-! ## The bodies' obligations -/

/-- A window the first kernel only reads holds its block when the body runs. -/
theorem before0 (c : Dev nD) (t : Fin cfg0.N) :
    (∀ d, (dat0 V c).before 0 t d = blk0 V c 0 t) ∧ (∀ d, (dat0 V c).before 1 t d = blk0 V c 1 t) ∧ (∀ d, (dat0 V c).before 2 t d = blk0 V c 2 t)
      ∧ (∀ d, (dat0 V c).before 3 t d = blk0 V c 3 t) ∧ (∀ d, (dat0 V c).before 4 t d = blk0 V c 4 t) :=
  ⟨fun d => ((dat0 V c).before_in_eq_fetched 0 rfl (fun _ => rfl) (fun _ _ _ => rfl) (fun _ => rfl) t d).trans rfl,
    fun d => ((dat0 V c).before_in_eq_fetched 1 rfl (fun _ => rfl) (fun _ _ _ => rfl) (fun _ => rfl) t d).trans rfl,
    fun d => ((dat0 V c).before_in_eq_fetched 2 rfl (fun _ => rfl) (fun _ _ _ => rfl) (fun _ => rfl) t d).trans rfl,
    fun d => ((dat0 V c).before_in_eq_fetched 3 rfl (fun _ => rfl) (fun _ _ _ => rfl) (fun _ => rfl) t d).trans rfl,
    fun d => ((dat0 V c).before_in_eq_fetched 4 rfl (fun _ => rfl) (fun _ _ _ => rfl) (fun _ => rfl) t d).trans rfl⟩

set_option maxRecDepth 65536 in
/-- The first kernel's body at every point. -/
theorem obligation0 (c : Dev nD) : BodyObligation (dat0 V c) (defs₀ (F := F)) 𝒱₀ none Set.univ := fun t => by
  obtain ⟨b0, b1, b2, b3, b4⟩ := before0 V c t
  rw [bigSep_W0, bigSep_W0]
  rw [show (dat0 V c).Φ t.succ = (dat0 V c).Φ t.castSucc from rfl, show (dat0 V c).owesAt none t.succ = (dat0 V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [b0, b1, b2, b3, b4]
  iapply (mm_body c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (blk0 V c 0 t) (blk0 V c 1 t) (blk0 V c 2 t) (blk0 V c 3 t) (blk0 V c 4 t) ((dat0 V c).before 5 t d5))
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

seal k2_pay1 in
/-- What the second kernel's body leaves in its result's buffer. -/
theorem after2 (c : Dev nD) (t : Fin cfg2.N) : (dat2 V c).after 1 t = k2_pay1 (F := F) (((cfg2.win 0).blk t).view.read (Elt F) (V c main_v4)) := rfl

set_option maxRecDepth 65536 in
/-- The second kernel's body at its point. -/
theorem obligation2 (c : Dev nD) : BodyObligation (dat2 V c) (defs₀ (F := F)) 𝒱₀ none Set.univ := fun t => by
  have b0 : ∀ d, (dat2 V c).before 0 t d = ((cfg2.win 0).blk t).view.read (Elt F) (V c main_v4) := fun d =>
    ((dat2 V c).before_in_eq_fetched 0 rfl (fun _ => rfl) (fun _ _ _ => rfl) (fun _ => rfl) t d).trans rfl
  rw [bigSep_W2, bigSep_W2]
  rw [show (dat2 V c).Φ t.succ = (dat2 V c).Φ t.castSucc from rfl, show (dat2 V c).owesAt none t.succ = (dat2 V c).owesAt none t.castSucc from rfl]
  iintro ⟨HΦ, Howes, ⟨%d0, H0⟩, ⟨%d1, H1⟩⟩
  rw [b0]
  iapply (combine_body c (win2_0.stage (cfg2.slots t 0)) (hstage2_0 0) (win2_1.stage (cfg2.slots t 1)) (hstage2_1 0) (((cfg2.win 0).blk t).view.read (Elt F) (V c main_v4)) ((dat2 V c).before 1 t d1))
  isplitl [H0]; · iexact H0
  isplitl [H1]; · iexact H1
  iintro ⟨H0, H1⟩
  isplitl [HΦ]; · iexact HΦ
  isplitl [Howes]; · iexact Howes
  isplitl [H0]; · iexact H0
  dsimp only
  rw [after2 V c t]
  iexact H1

/-! ## The regions -/

/-- The TensorCore's unscoped references: what the thread state holds at a valuation. -/
def hostRefs : Finset (DevRef τ sig) := (StableHlo.tcRefs τ sig).filter fun b => ¬ b.isScoped

/-- The launch's unscoped buffers at a valuation are that set held at it. -/
theorem unscoped_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

/-- A host operation's buffers are among them. -/
theorem hostRefs_sub (op : HloOp τ sig (Elt F)) (h : op.bufs ⊆ StableHlo.tcRefs τ sig) : op.bufs ⊆ hostRefs := fun b hb =>
  Finset.mem_filter.mpr ⟨h hb, fun hs => Bool.false_ne_true ((op.no_scoped b hb).symm.trans hs)⟩

/-- The TensorCore owes nothing at the index the pipelines wait with. -/
theorem otc_none (c : Dev nD) (n : ℕ) (g : GSem nD τ sig) : (K (F := F)).Otc c n g none = 0 := by
  by_contra h
  have := (K (F := F)).lev_of_Otc_pos (N := 1) (Nat.pos_of_ne_zero h)
  rw [show (K (F := F)).lev g none = 0 from rfl] at this
  omega

/-- What the TensorCore's thread holds between the kernels besides its buffers: its debts, the recorded waits low. -/
abbrev HostOwed (c : Dev nD) (n : ℕ) : sProp 𝕄 :=
  iprop(∃ W, ⌜(K (F := F)).WBelow (SparseCore.T c) W (8 * n)⌝ ∗ owes (SparseCore.T c) ((K (F := F)).Otc c n) W)

section Region

variable (p : Fin 2) (n : ℕ) (pdats : (p : Fin 2) → (c : Dev nD) → Dat τ (Elt F) (HIx 1) ℕ UU ℕ (Pipeline.pin (pcfgs (F := F)) adm p) c)
  (V Vp : (c : Dev nD) → (b : Ref sig .tc) → Buf (Elt F) ((c : Thread nD τ).loc b))

set_option backward.isDefEq.respectTransparency.types false in
/-- A TensorCore kernel as a region of the host program: entered from every unscoped buffer at `V` and the thread's debts,
    left with the buffers at `Vp`, which is `V` off the kernel's arrays and the kernel's results on them. -/
def region (kit : Pipeline.LaunchFacts (nD := nD) (τ := τ) cfgs p)
    (hbody : ∀ c, Pipeline.BodyObligationLoose (pdats p c) (defs₀ (F := F)) 𝒱₀ none Set.univ)
    (howed : ∀ c t, (pdats p c).owed t = (K (F := F)).Otc c n) (hrec : ∀ c t, (pdats p c).recorded t = lowWaits (F := F) c n)
    (hq : ∀ c w, (pdats p c).q w = fullShare)
    (hA : ∀ c w, (pdats p c).A w = V c (Pipeline.arrRef (cfgs p).spec w))
    (hΦ : ∀ c t, (pdats p c).Φ t = Pipeline.scopedRest (Ix := HIx 1) (Name := ℕ) (U := UU) (Lvl := ℕ) (Val := Elt F) (cfgs p).spec c)
    (hout : ∀ c w, (pdats p c).arrAt w (cfgs p).N = Vp c (Pipeline.arrRef (cfgs p).spec w))
    (hoff : ∀ c (b : Ref sig .tc), b ∉ Finset.univ.image (Pipeline.arrRef (cfgs p).spec) → Vp c b = V c b) :
    Pipeline.RegionSeg (pcfgs (F := F)) adm pdats none (defs₀ (F := F)) 𝒱₀ ((K (F := F)).L (nD := nD)) ((K (F := F)).lev (nD := nD)) p where
  win := kit.win.to₀
  block_pos := kit.block_pos
  stage_whole := kit.stage_whole
  K := PEmpty
  osem k := k.elim
  ho := Pipeline.OwnSemFacts.none _
  hbody := hbody
  hwaits c := Pipeline.cellsWaits_intro (Pipeline.pin (pcfgs (F := F)) adm) pdats none p c fun w s t => by
    rw [howed]; exact (K (F := F)).mayWait_none _ (otc_none c n)
  pre c := iprop(unscopedBufs c (V c) ∗ HostOwed (F := F) c n)
  post c := iprop(unscopedBufs c (Vp c) ∗ HostOwed (F := F) c n)
  X _ := BI.emp
  Y _ := BI.emp
  Z c := Pipeline.unscopedRest (Ix := HIx 1) (Name := ℕ) (U := UU) (Lvl := ℕ) (cfgs p).spec c (V c)
  hentry c := by
    rw [Pipeline.ownSems0_none]
    have hsplit := Pipeline.arrays_of_unscopedBufs (p := p) (pcfgs (F := F)) adm pdats kit.win kit.arr_whole c
      ((pdats p c).share_full fun w => hq c w) (V c) fun w => hA c w
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      iexists W; isplitr; · ipureintro; exact fun q hq => Or.inl (hW q hq)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) kit.win kit.arr_whole c
      pdats ((pdats p c).share_full fun w => hq c w) (V c) (Vp c) ((pdats p c).arrAt · (cfgs p).N) (fun w => hout c w) (fun b hb => hoff c b hb)
    iintro ⟨Ha, HO, -, Hrest⟩
    imodintro
    isplitl [Ha Hrest]
    · iapply hjoin; isplitl [Ha] <;> iassumption
    unfold Pipeline.Dat.owesAt Pipeline.owesWithin Pipeline.Dat.bound
    rw [howed, hrec]
    icases HO with ⟨%W, %hW, HO⟩; iexists W; isplitr
    · ipureintro
      intro q hq
      rcases hW hq with h | ⟨w, s, h⟩
      · exact h
      · rw [h]; exact Nat.zero_le _
    iexact HO

end Region

end Cert.Proof.Seg
-- ==== Proof.Main.lean ====
/-
  The whole program's run: the host's operations, the first kernel, the tiles, the second kernel, in that order, over one
  valuation of the host's buffers; and what the memory holds when every thread has ended.
-/
module

public import proofs.«01_k».proof.Proof.Launch
public import proofs.«01_k».proof.Proof.Region

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat BodyObligation)

variable {F : FTy → Type} [FloatOps F]

local notation "𝕄" => MT nD τ sig (HIx 1) (Elt F) ℕ UU ℕ

/-! ## The host's operations -/

/-- The first 128 rows of the weights. -/
abbrev opW1 : HloOp τ sig (Elt F) := StableHlo.unary main_arg3 main_v0 ((extractStridedSlice S128x128 ![0, 0] · slices_S131x128_S128x128_0_0) : (⟨S131x128, .f32⟩ : BufTy).Contents (Elt F) → (⟨S128x128, .f32⟩ : BufTy).Contents (Elt F))
/-- The last three rows of the weights. -/
abbrev opW2 : HloOp τ sig (Elt F) := StableHlo.unary main_arg3 main_v1 ((extractStridedSlice S3x128 ![128, 0] · slices_S131x128_S3x128_128_0) : (⟨S131x128, .f32⟩ : BufTy).Contents (Elt F) → (⟨S3x128, .f32⟩ : BufTy).Contents (Elt F))
/-- The bias as one row. -/
abbrev opB : HloOp τ sig (Elt F) := StableHlo.reshape main_arg4 main_v2 (rfl : (.f32 : EltTy) = .f32) shapeCasts_S128_S1x128
/-- The constant zero. -/
abbrev opZero : HloOp τ sig (Elt F) := StableHlo.nullary main_cst (constant S_ .f32 0x00000000#32)
/-- The second result: zeros. -/
abbrev opPos : HloOp τ sig (Elt F) := StableHlo.unary main_cst main_v6 (broadcastInDim S512x3 ![] bcast_S_S512x3 : (⟨S_, .f32⟩ : BufTy).Contents (Elt F) → (⟨S512x3, .f32⟩ : BufTy).Contents (Elt F))
/-- The third result: the segments' numbers. -/
abbrev opBatch : HloOp τ sig (Elt F) := StableHlo.nullary main_v7 (iotaInDim S512 32 0)

/-! ## The valuations between the steps -/

section Run

variable (m : (ℓ : Loc nD τ sig) → Buf (Elt F) ℓ) (ρ : Dev nD → PrngReg)

/-- Before the first kernel: the weights and the bias in the shapes it takes. -/
def W1 (d : Dev nD) : Valuation τ sig (Elt F) := opB.result (opW2.result (opW1.result fun b => m (d, b)))
/-- The same, by reference. -/
abbrev V1 (c : Dev nD) (b : Ref sig .tc) : Buf (Elt F) ((c : Thread nD τ).loc b) := W1 m c b

/-- The rows the first kernel writes. -/
def feats (d : Dev nD) : Buf (Elt F) (hLoc d) := (dat0 (V1 m) d).arrAt 5 cfg0.N

/-- After the first kernel: the rows it writes. -/
def W2 (d : Dev nD) : Valuation τ sig (Elt F) := Function.update (W1 m d) (Proc.devRef .tc main_v3) (feats m d)
/-- The same, by reference. -/
abbrev V2 (c : Dev nD) (b : Ref sig .tc) : Buf (Elt F) ((c : Thread nD τ).loc b) := W2 m c b

/-- After the tiles: the table they leave. -/
def W3 (d : Dev nD) : Valuation τ sig (Elt F) := Function.update (W2 m d) (Proc.devRef .tc main_v4) (left m (feats m) d)
/-- The same, by reference. -/
abbrev V3 (c : Dev nD) (b : Ref sig .tc) : Buf (Elt F) ((c : Thread nD τ).loc b) := W3 m c b

/-- The pooled rows the second kernel writes. -/
def pooled (d : Dev nD) : Buf (Elt F) ((d : Thread nD τ).loc main_v5) := (dat2 (V3 m) d).arrAt 1 cfg2.N

/-- After the second kernel: the pooled rows. -/
def W4 (d : Dev nD) : Valuation τ sig (Elt F) := Function.update (W3 m d) (Proc.devRef .tc main_v5) (pooled m d)
/-- The same, by reference. -/
abbrev V4 (c : Dev nD) (b : Ref sig .tc) : Buf (Elt F) ((c : Thread nD τ).loc b) := W4 m c b

/-- At the end. -/
def W5 (d : Dev nD) : Valuation τ sig (Elt F) := opBatch.result (opPos.result (opZero.result (W4 m d)))

/-! ## The two regions -/

/-- The two pipelines' proof data. -/
def pdats : (p : Fin 2) → (c : Dev nD) → Dat τ (Elt F) (HIx 1) ℕ UU ℕ (Pipeline.pin (pcfgs (F := F)) adm p) c
  | ⟨0, _⟩ => fun c => dat0 (V1 m) c
  | ⟨1, _⟩ => fun c => dat2 (V3 m) c

/-- The first kernel changes its result only. -/
theorem V2_off (c : Dev nD) (b : Ref sig .tc) (h : b ≠ main_v3) : V2 m c b = V1 m c b :=
  Function.update_of_ne (StableHlo.devRef_ne_of_ne h) _ _
/-- The second kernel changes its result only. -/
theorem V4_off (c : Dev nD) (b : Ref sig .tc) (h : b ≠ main_v5) : V4 m c b = V3 m c b :=
  Function.update_of_ne (StableHlo.devRef_ne_of_ne h) _ _

/-- The first kernel's region. -/
def reg0 : Pipeline.RegionSeg (pcfgs (F := F)) adm (pdats m) none (defs₀ (F := F)) 𝒱₀ ((K (F := F)).L (nD := nD)) ((K (F := F)).lev (nD := nD)) 0 :=
  region (p := 0) (n := 0) (pdats := pdats m) (V := V1 m) (Vp := V2 m) launch0 (fun c => (obligation0 (V1 m) c).loose) (fun _ _ => rfl) (fun _ _ => rfl) (fun _ _ => rfl) (fun _ _ => rfl) (fun _ _ => rfl)
    (fun c w => by
      match w with
      | 0 => exact ((dat0 (V1 m) c).arrAt_in 0 rfl _).trans (V2_off m c main_arg0 (by decide)).symm
      | 1 => exact ((dat0 (V1 m) c).arrAt_in 1 rfl _).trans (V2_off m c main_arg1 (by decide)).symm
      | 2 => exact ((dat0 (V1 m) c).arrAt_in 2 rfl _).trans (V2_off m c main_v0 (by decide)).symm
      | 3 => exact ((dat0 (V1 m) c).arrAt_in 3 rfl _).trans (V2_off m c main_v1 (by decide)).symm
      | 4 => exact ((dat0 (V1 m) c).arrAt_in 4 rfl _).trans (V2_off m c main_v2 (by decide)).symm
      | 5 => exact (Function.update_self (Proc.devRef .tc main_v3) (feats m c) (W1 m c)).symm)
    (fun c b hb => V2_off m c b fun h => hb (h ▸ Finset.mem_image.mpr ⟨5, Finset.mem_univ _, rfl⟩))

/-- The second kernel's region. -/
def reg1 : Pipeline.RegionSeg (pcfgs (F := F)) adm (pdats m) none (defs₀ (F := F)) 𝒱₀ ((K (F := F)).L (nD := nD)) ((K (F := F)).lev (nD := nD)) 1 :=
  region (p := 1) (n := 1) (pdats := pdats m) (V := V3 m) (Vp := V4 m) launch2 (fun c => (obligation2 (V3 m) c).loose) (fun _ _ => rfl) (fun _ _ => rfl) (fun _ _ => rfl) (fun _ w => by match w with | 0 => rfl | 1 => rfl) (fun _ _ => rfl)
    (fun c w => by
      match w with
      | 0 => exact ((dat2 (V3 m) c).arrAt_in 0 rfl _).trans (V4_off m c main_v4 (by decide)).symm
      | 1 => exact (Function.update_self (Proc.devRef .tc main_v5) (pooled m c) (W3 m c)).symm)
    (fun c b hb => V4_off m c b fun h => hb (h ▸ Finset.mem_image.mpr ⟨1, Finset.mem_univ _, rfl⟩))

/-- What the first region takes. -/
theorem reg0_pre (c : Dev nD) : (reg0 m).pre c = iprop(unscopedBufs c (V1 m c) ∗ HostOwed (F := F) c 0) := rfl
/-- What the first region leaves. -/
theorem reg0_post (c : Dev nD) : (reg0 m).post c = iprop(unscopedBufs c (V2 m c) ∗ HostOwed (F := F) c 0) := rfl
/-- What the second region takes. -/
theorem reg1_pre (c : Dev nD) : (reg1 m).pre c = iprop(unscopedBufs c (V3 m c) ∗ HostOwed (F := F) c 1) := rfl
/-- What the second region leaves. -/
theorem reg1_post (c : Dev nD) : (reg1 m).post c = iprop(unscopedBufs c (V4 m c) ∗ HostOwed (F := F) c 1) := rfl

/-- A continuation weakened beside what runs it. -/
theorem wand_weaken {A B C R : sProp 𝕄} (h : B ⊢ C) : iprop((A -∗ B) ∗ R) ⊢ iprop((A -∗ C) ∗ R) := by
  iintro ⟨Hk, HR⟩
  isplitl [Hk]
  · iintro HA; iapply h; iapply Hk; iexact HA
  iexact HR

/-- A product of nothing is nothing. -/
theorem bigSep_nothing {I : Type} (s : Finset I) : (bigSep s fun _ => iprop(emp)) = (iprop(emp) : sProp 𝕄) := bigSep_emp_const s

/-- A region of the host program, its call as the launch writes it. -/
theorem region_step [∀ e, Nonempty (Elt F e)] {p : Fin 2}
    (R : Pipeline.RegionSeg (pcfgs (F := F)) adm (pdats m) none (defs₀ (F := F)) 𝒱₀ ((K (F := F)).L (nD := nD)) ((K (F := F)).lev (nD := nD)) p) (c : Dev nD) (Q : PUnit → sProp 𝕄) :
    iprop((iprop(boundary (c : Thread nD τ) ∗ R.post c) -∗ Q ⟨⟩) ∗ boundary (c : Thread nD τ) ∗ R.pre c ∗ levAts ((K (F := F)).L (nD := nD)) ((K (F := F)).lev (nD := nD))
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ (Prog.lift (.customCall (SparseCore.inner (Pipeline.entry p)) ())) Q := by
  refine BI.Entails.trans ?_ ((K (F := F)).wp_liftProg (D (F := F)) 𝒱 (SparseCore.T c) Set.univ none (Prog.lift (.customCall (Pipeline.entry p) ())) Q)
  refine BI.Entails.trans ?_ (R.wp (pcfgs (F := F)) adm (pdats m) none cellOf_inj EP (defs₀ (F := F)) 𝒱₀ _ _ c none (fun _ h => nomatch h) (fun x => .ret x) Q)
  refine wand_weaken ?_
  rw [wp_ret]
  exact fupd_intro

/-! ## The ghost state at the launch -/

/-- The ghost state at the launch. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- What the pipelines of device `d` start from. -/
def G (d : Dev nD) : sProp 𝕄 :=
  iprop((bigSep Finset.univ fun p => Pipeline.cellsGhost (Pipeline.pin (pcfgs (F := F)) adm) EP p d) ∗ bigSep Finset.univ fun p => Pipeline.toksInit (Pipeline.pin (pcfgs (F := F)) adm) EP p d)

/-- The launch gives the handshakes and the pipelines their parts. -/
theorem ghost (H : (d : Dev nD) → Buf (Elt F) (hLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m H).x q thr) := by
  unfold u₀
  iintro Hu
  ihave H := (ownU_pair (initOf (K (F := F)).hsCells (K (F := F)).hsToks)
    ((initOf (Pipeline.cells (nD := nD) (τ := τ) (Pipeline.pin (pcfgs (F := F)) adm) cellOf_inj) (Pipeline.launchToks (nD := nD) (τ := τ) (Pipeline.pin (pcfgs (F := F)) adm) cellOf_inj), 1) : UR sig nD τ × Counters)) $$ Hu
  icases H with ⟨HH, HP⟩
  ihave HP := (Entails.of_eq (show BI.own ((embR : Emb (UR sig nD τ × Counters) 𝕄) (initOf (Pipeline.cells (nD := nD) (τ := τ) (Pipeline.pin (pcfgs (F := F)) adm) cellOf_inj) (Pipeline.launchToks (nD := nD) (τ := τ) (Pipeline.pin (pcfgs (F := F)) adm) cellOf_inj), 1))
      = BI.own ((EP (F := F)) (initOf (Pipeline.cells (nD := nD) (τ := τ) (Pipeline.pin (pcfgs (F := F)) adm) cellOf_inj) (Pipeline.launchToks (nD := nD) (τ := τ) (Pipeline.pin (pcfgs (F := F)) adm) cellOf_inj))) from rfl)) $$ HP
  ihave H2 := (Pipeline.fund_ghost (Pipeline.pin (pcfgs (F := F)) adm) (EP (F := F)) cellOf_inj) $$ HP
  imod H2
  icases H2 with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (P (F := F) m H).x q thr) = bigSep Finset.univ fun _ => iprop(emp) from
    bigSep_congr fun _ _ => bigSep_univ_of_subsingleton (0 : Fin 1), bigSep_nothing]
  iempintro

/-! ## What is held at the tiles' launch -/

/-- The three buffers the tiles work on. -/
def tileRefs : Finset (DevRef τ sig) := {Proc.devRef .tc main_v3, Proc.devRef .tc main_arg2, Proc.devRef .tc main_v4}

/-- The tiles' arrays are among the host's. -/
theorem tileRefs_sub : tileRefs ⊆ hostRefs := by
  intro b hb
  simp only [tileRefs, Finset.mem_insert, Finset.mem_singleton] at hb
  rcases hb with rfl | rfl | rfl <;> exact Finset.mem_filter.mpr ⟨StableHlo.devRef_mem_tcRefs _, by decide⟩

/-- Held together, the tiles' arrays are the three of them. -/
theorem held_tiles (d : Dev nD) (W : Valuation τ sig (Elt F)) :
    (StableHlo.held (d : Thread nD τ) tileRefs W : sProp 𝕄) = iprop((hLoc d ↦{fullShare} W main_v3) ∗ (iLoc d ↦{fullShare} W main_arg2) ∗ oLoc d ↦{fullShare} W main_v4) := by
  unfold StableHlo.held tileRefs
  rw [SparseCore.bigSep_insert' (by decide), SparseCore.bigSep_insert' (by decide), bigSep_singleton]

/-- Before the first kernel an argument is as at the launch. -/
theorem W1_arg (d : Dev nD) (b : Ref sig .tc) (h0 : b ≠ main_v0) (h1 : b ≠ main_v1) (h2 : b ≠ main_v2) : W1 m d b = m (d, b) := by
  unfold W1
  rw [StableHlo.reshape_result_ne' (h := h2), StableHlo.unary_result_ne' (h := h1), StableHlo.unary_result_ne' (h := h0)]

/-- After the first kernel an argument is as at the launch. -/
theorem W2_arg (d : Dev nD) (b : Ref sig .tc) (h0 : b ≠ main_v0) (h1 : b ≠ main_v1) (h2 : b ≠ main_v2) (h3 : b ≠ main_v3) : W2 m d b = m (d, b) :=
  (V2_off m d b h3).trans (W1_arg m d b h0 h1 h2)

/-- The tiles change their table only. -/
theorem W3_off (d : Dev nD) (b : Ref sig .tc) (h : b ≠ main_v4) : W3 m d b = W2 m d b :=
  Function.update_of_ne (StableHlo.devRef_ne_of_ne h) _ _

/-- A buffer nothing in the program writes ends as it began. -/
theorem W5_arg (d : Dev nD) (b : Ref sig .tc) (h0 : b ≠ main_v0) (h1 : b ≠ main_v1) (h2 : b ≠ main_v2) (h3 : b ≠ main_v3) (h4 : b ≠ main_v4) (h5 : b ≠ main_v5)
    (h6 : b ≠ main_cst) (h7 : b ≠ main_v6) (h8 : b ≠ main_v7) : W5 m d b = m (d, b) := by
  unfold W5
  rw [StableHlo.nullary_result_ne' (h := h8), StableHlo.unary_result_ne' (h := h7), StableHlo.nullary_result_ne' (h := h6)]
  exact (V4_off m d b h5).trans ((W3_off m d b h4).trans (W2_arg m d b h0 h1 h2 h3))

/-! ## The host's program -/

/-- What the host holds at the end. -/
abbrev FIN (d : Dev nD) : sProp 𝕄 := StableHlo.held (d : Thread nD τ) hostRefs (W5 m d)

/-- One operation of the host. -/
theorem host_step (d : Dev nD) (op : HloOp τ sig (Elt F)) (hs : op.bufs ⊆ StableHlo.tcRefs τ sig) (hf : op.fresh = ∅) (W : Valuation τ sig (Elt F)) (Q : PUnit → sProp 𝕄) :
    iprop(boundary (d : Thread nD τ) ∗ StableHlo.held (d : Thread nD τ) hostRefs W
        ∗ (iprop(boundary (d : Thread nD τ) ∗ StableHlo.held (d : Thread nD τ) hostRefs (op.result W)) -∗ Q ⟨⟩))
      ⊢ wp frame (wpE ((K (F := F)).defs (D (F := F))) 𝒱 (SparseCore.T d) none) Set.univ (hlo rfl op fun _ => .ret ⟨⟩) Q := by
  iintro ⟨Hb, Hh, Hk⟩
  iapply (StableHlo.wp_hlo_within 𝒱 (SparseCore.T d) none Set.univ (hostRefs_sub op hs) hf) $$ [Hb Hh]
  · isplitl [Hb] <;> iassumption
  iintro H
  rw [wp_ret]
  imodintro
  iapply Hk; iexact H

/-- The tiles' three buffers at the valuation before the launch, as the launch takes them. -/
theorem tiles_take (d : Dev nD) : (StableHlo.held (d : Thread nD τ) tileRefs (W2 m d) : sProp 𝕄)
    = bigSep Finset.univ fun c : Fin ((K (F := F)).nCore 0) => (P m (feats m)).st 0 d c := by
  rw [starts, held_tiles, W2_arg m d main_arg2 (by decide) (by decide) (by decide) (by decide), W2_arg m d main_v4 (by decide) (by decide) (by decide) (by decide),
    show W2 m d main_v3 = feats m d from Function.update_self ..]

/-- The same after the launch. -/
theorem tiles_give (d : Dev nD) : (StableHlo.held (d : Thread nD τ) tileRefs (W3 m d) : sProp 𝕄)
    = bigSep Finset.univ fun c : Fin ((K (F := F)).nCore 0) => (P m (feats m)).dn 0 d c := by
  rw [dones, held_tiles, W3_off m d main_arg2 (by decide), W3_off m d main_v3 (by decide), W2_arg m d main_arg2 (by decide) (by decide) (by decide) (by decide),
    show W2 m d main_v3 = feats m d from Function.update_self .., show W3 m d main_v4 = left m (feats m) d from Function.update_self ..]

/-- Every other buffer keeps its contents over the launch. -/
theorem tiles_rest (d : Dev nD) : (StableHlo.held (d : Thread nD τ) (hostRefs \ tileRefs) (W2 m d) : sProp 𝕄) = StableHlo.held (d : Thread nD τ) (hostRefs \ tileRefs) (W3 m d) :=
  StableHlo.held_congr _ fun b hb => (Function.update_of_ne (fun h => (Finset.mem_sdiff.mp hb).2 (by
    rw [h]; simp only [tileRefs, Finset.mem_insert, Finset.mem_singleton]; exact Or.inr (Or.inr trivial))) _ _).symm

set_option maxRecDepth 16384 in
/-- The host program on device `d`: every buffer ends at the last valuation. -/
theorem host_run [∀ e, Nonempty (Elt F e)] (κ : GSem nD τ sig → ℕ) (d : Dev nD) :
    iprop((K (F := F)).ctx EH (P m (feats m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d fun b => m ((SparseCore.T d : Thread nD τ).loc b) : sProp 𝕄) = StableHlo.held (d : Thread nD τ) hostRefs (fun b => m (d, b)) from unscoped_held d fun b => m (d, b),
    bigSep_univ_two, bigSep_univ_two]
  simp only [main, wp_bind, wp_pure]
  iintro ⟨#Hctx, Hst, ⟨Hb, Hub, Hts, -⟩, ⟨Hc0, Hc1⟩, ⟨Ht0, Ht1⟩⟩
  ihave #Hlev := ((K (F := F)).ctx_levAts (P := P m (feats m)) κ) $$ Hctx
  iapply (host_step d opW1 (StableHlo.unary_bufs_sub ..) rfl)
  isplitl [Hb]; · iexact Hb
  isplitl [Hub]; · iexact Hub
  iintro ⟨Hb, Hub⟩
  iapply (host_step d opW2 (StableHlo.unary_bufs_sub ..) rfl)
  isplitl [Hb]; · iexact Hb
  isplitl [Hub]; · iexact Hub
  iintro ⟨Hb, Hub⟩
  iapply (host_step d opB (StableHlo.reshape_bufs_sub ..) rfl)
  isplitl [Hb]; · iexact Hb
  isplitl [Hub]; · iexact Hub
  iintro ⟨Hb, Hub⟩
  ihave Hub := (Entails.of_eq (show (StableHlo.held (d : Thread nD τ) hostRefs (opB.result (opW2.result (opW1.result fun b => m (d, b)))) : sProp 𝕄) = unscopedBufs d (V1 m d) from
    (unscoped_held d (W1 m d)).symm)) $$ Hub
  unfold SparseCore.Cfg.tcSt
  icases Hst with ⟨HO, Hst⟩
  iapply (region_step m (reg0 m) d)
  rw [reg0_pre, reg0_post]
  isplitr [Hb Hub HO Hc0 Ht0]; swap
  · isplitl [Hb]; · iexact Hb
    isplitl [Hub HO]
    · isplitl [Hub]; · iexact Hub
      iexact HO
    isplitr; · iexact Hlev
    isplitl [Hc0]; · iexact Hc0
    iexact Ht0
  iintro ⟨Hb, Hub, HO⟩
  ihave Hub := (Entails.of_eq (unscoped_held d (W2 m d))) $$ Hub
  ihave Hub := (Entails.of_eq (StableHlo.held_sub_split (d : Thread nD τ) tileRefs_sub (W2 m d))) $$ Hub
  icases Hub with ⟨Htl, Hrest⟩
  ihave Htl := (Entails.of_eq (tiles_take m d)) $$ Htl
  ihave Hrest := (Entails.of_eq (tiles_rest m d)) $$ Hrest
  iapply ((K (F := F)).wp_run (D (F := F)) 𝒱 (EH := EH) (P := P m (feats m)) κ d 0) $$ [HO Hst Htl Hrest Hb Hts Hc1 Ht1]
  isplitr; · iexact Hctx
  isplitl [HO Hst]
  · unfold SparseCore.Cfg.tcSt
    isplitl [HO]; · iexact HO
    iexact Hst
  isplitl [Htl]; · iexact Htl
  iintro ⟨Hst, Htl⟩
  ihave Htl := (Entails.of_eq (tiles_give m d).symm) $$ Htl
  ihave Hub := (Entails.of_eq (StableHlo.held_sub_split (d : Thread nD τ) tileRefs_sub (W3 m d)).symm) $$ [Htl Hrest]
  · isplitl [Htl] <;> iassumption
  ihave Hub := (Entails.of_eq (unscoped_held d (W3 m d)).symm) $$ Hub
  unfold SparseCore.Cfg.tcSt
  icases Hst with ⟨HO, Hst⟩
  iapply (region_step m (reg1 m) d)
  rw [reg1_pre, reg1_post]
  isplitr [Hb Hub HO Hc1 Ht1]; swap
  · isplitl [Hb]; · iexact Hb
    isplitl [Hub HO]
    · isplitl [Hub]; · iexact Hub
      iexact HO
    isplitr; · iexact Hlev
    isplitl [Hc1]; · iexact Hc1
    iexact Ht1
  iintro ⟨Hb, Hub, HO⟩
  ihave Hub := (Entails.of_eq (unscoped_held d (W4 m d))) $$ Hub
  iapply (host_step d opZero (StableHlo.nullary_bufs_sub ..) rfl)
  isplitl [Hb]; · iexact Hb
  isplitl [Hub]; · iexact Hub
  iintro ⟨Hb, Hub⟩
  iapply (host_step d opPos (StableHlo.unary_bufs_sub ..) rfl)
  isplitl [Hb]; · iexact Hb
  isplitl [Hub]; · iexact Hub
  iintro ⟨Hb, Hub⟩
  iapply (host_step d opBatch (StableHlo.nullary_bufs_sub ..) rfl)
  isplitl [Hb]; · iexact Hb
  isplitl [Hub]; · iexact Hub
  iintro ⟨Hb, Hub⟩
  imodintro
  isplitl [HO Hst]
  · isplitl [HO]; · iexact HO
    iexact Hst
  isplitl [Hub]; · iexact Hub
  isplitl [Hb] <;> iassumption

/-! ## The run -/

/-- What the memory holds at the end: every buffer of the host at the last valuation. -/
def atEnd (d : Dev nD) (s : Phys nD τ sig (Elt F)) : Prop := ∀ b ∈ hostRefs, s.mem.mem (d, b) = W5 m d b

/-- What the host holds at the end is what the memory holds. -/
theorem end_read (d : Dev nD) (s : Phys nD τ sig (Elt F)) : iprop(FIN m d ∗ SI s) ⊢ (⌜atEnd m d s⌝ : sProp 𝕄) := by
  unfold FIN StableHlo.held
  iintro H
  ihave H := (Idealize.ShloMosaic.pointsTo_read_all hostRefs (fun b => (d, b)) (fun b => W5 m d b) s) $$ H
  icases H with ⟨%h, -⟩
  ipureintro; exact h

/-- The program's run: from any memory whose ids name rows of the table, every thread ends, every semaphore is back at
    zero and every buffer of the host holds the last valuation. -/
theorem run_main [∀ e, Nonempty (Elt F e)] (hI : IdsOK m) :
    θ_run (Cert.KernelIdeal.defs (F := F)) (Cert.KernelIdeal.threads (F := F)) ⟨m, fun _ => 0, ρ⟩
      (fun r => (∀ d : Dev nD, ∀ b ∈ hostRefs, r.2.mem (d, b) = W5 m d b) ∧ r.2.sem = fun _ => 0) :=
  SparseCore.Cfg.θ_run_sc_quiescent (K := K (F := F)) (D := D (F := F)) (𝒱 := 𝒱) (EH := EH) (P := P m (feats m)) (A := ∅) scFacts v₀
    (fun q hq => match q with | 0 => nomatch hq)
    (fun q _ => match q with | 0 => tileObl m (feats m) hI)
    (fun q _ => match q with | 0 => SparseCore.Cfg.VecSplit.of_plain (vecSplit m (feats m)))
    m ρ main (fun d => G (F := F) d) (FIN m) (u₀ (F := F)) (sep_elim_left.trans (ghost m (feats m))) (host_run m ρ) (atEnd m) (end_read m)
    (fun r => (∀ d : Dev nD, ∀ b ∈ hostRefs, r.2.mem (d, b) = W5 m d b) ∧ r.2.sem = fun _ => 0) (fun _ h hz => ⟨h, hz⟩)

end Run

end Cert.Proof.Seg
-- ==== Proof.Frames.lean ====
/-
  The frames: under the precondition that every segment id names a row of the table, the kernel runs to its end, leaves
  its arguments as they were and every counter at zero; and the reference does the same with no precondition.
-/
module

public import proofs.«01_k».proof.Defs
public import proofs.«01_k».proof.Proof.Main
public import proofs.«01_k».proof.Proof.Gen.Kernel
public import proofs.«01_k».proof.Proof.Gen.Pre_in_table
public import proofs.«01_k».proof.Proof.Gen.ReferenceIdeal
public import proofs.«01_k».proof.Proof.Gen.ReferenceIdeal.Run
public import Idealize.ShloMosaic.Lib.ReduceAll

@[expose] public section

noncomputable section

namespace Cert.Proof.Seg

open Cert.KernelIdeal Cert.KernelIdeal.Gen
open Idealize.ShloMosaic
open Idealize.ShloMosaic.SparseCore (S V T)
open Idealize.SL.Sem
open Idealize.ShloMosaic.TcCoe

/-- A word between 0 and 512, compared as a signed word, is below 512 as a natural number. -/
theorem id_lt (v : BitVec 32) (e : IntOp.andi (IntOp.cmpi .sge v 0#32) (IntOp.cmpi .slt v 512#32) = 1#1) : v.toNat < 512 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

section
variable {F : FTy → Type} [FloatOps F]

/-- The precondition, all ones on every device, says that every id is below 512. -/
theorem ok_of_in_table (m : (ℓ : Loc nD τ sig) → Buf (Elt F) ℓ)
    (h : ∀ c : Dev nD, Cert.Pre_in_table.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    IdsOK (F := F) m := by
  intro d x
  have e := congrFun (h d) finZeroElim
  simp only [Cert.Pre_in_table.fn] at e
  exact id_lt _ (Host.reduce_andi_all _ _ _ _ _ e x)

/-- The arguments are as they were when the program has ended. -/
theorem W5_args (m : (ℓ : Loc nD τ sig) → Buf (Elt F) ℓ) {mem : (ℓ : Loc nD τ sig) → Buf (Elt F) ℓ}
    (h : ∀ d : Dev nD, ∀ b ∈ hostRefs, mem (d, b) = W5 m d b) (c : Dev nD) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4) := by
  have key (b : Ref sig .tc) (hb : (b : DevRef τ sig) ∈ hostRefs) (h0 : b ≠ main_v0) (h1 : b ≠ main_v1) (h2 : b ≠ main_v2) (h3 : b ≠ main_v3) (h4 : b ≠ main_v4)
      (h5 : b ≠ main_v5) (hc : b ≠ main_cst) (h6 : b ≠ main_v6) (h7 : b ≠ main_v7) : mem ((c.tc : Thread nD τ).loc b) = m ((c.tc : Thread nD τ).loc b) :=
    (h c b hb).trans (W5_arg m c b h0 h1 h2 h3 h4 h5 hc h6 h7)
  refine ⟨key main_arg0 ?_ ?_ ?_ ?_ ?_ ?_ ?_ ?_ ?_ ?_, key main_arg1 ?_ ?_ ?_ ?_ ?_ ?_ ?_ ?_ ?_ ?_, key main_arg2 ?_ ?_ ?_ ?_ ?_ ?_ ?_ ?_ ?_ ?_,
    key main_arg3 ?_ ?_ ?_ ?_ ?_ ?_ ?_ ?_ ?_ ?_, key main_arg4 ?_ ?_ ?_ ?_ ?_ ?_ ?_ ?_ ?_ ?_⟩ <;>
    first | decide | exact Finset.mem_filter.mpr ⟨StableHlo.devRef_mem_tcRefs _, by decide⟩

/-- From ids that all name a row, the kernel runs, leaves its arguments and ends with every counter at zero. -/
theorem kept [∀ e, Nonempty (Elt F e)] (m : (ℓ : Loc nD τ sig) → Buf (Elt F) ℓ) (ρ : Dev nD → PrngReg) (hI : IdsOK (F := F) m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (Cert.KernelIdeal.defs (F := F)) _ _).mono (fun _ h => ⟨fun c => W5_args m h.1 c, h.2⟩) (run_main m ρ hI)

end

/-- The kernel at the extended reals runs and leaves its arguments alone. -/
theorem frame_kernelIdeal : Cert.quiescent_KernelIdeal := fun m ρ hpre =>
  kept (F := Ideal) m ρ (ok_of_in_table m hpre)

set_option maxHeartbeats 4000000 in
/-- The two programs' kernels are the same text. -/
theorem bodies_eq : Cert.Kernel.defs₀ (F := Bits) = Cert.KernelIdeal.defs₀ (F := Bits) := by
  funext p l a
  match p, l, a with
  | .tc, 0, (t, s) => rfl
  | .tc, 2, (t, s) => rfl
  | .tc, 1, _ => rfl
  | .scVector c s, 1, _ => rfl
  | .scVector c s, 0, _ => rfl
  | .scVector c s, 2, _ => rfl
  | .scScalar c, 0, _ => rfl
  | .scScalar c, 1, _ => rfl
  | .scScalar c, 2, _ => rfl

/-- The two programs' body tables are the same. -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- The kernel at the hardware's floats runs and leaves its arguments alone. -/
theorem frame_kernel : Cert.quiescent_Kernel := fun m ρ hpre => by
  have h := kept (F := Bits) m ρ (ok_of_in_table m hpre)
  rw [← defs_eq] at h
  exact h

/-- The reference runs, leaves its arguments alone and has no counter. -/
theorem kept_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono
    (fun r h => ⟨fun c => (h c).2.2.2, sem_eq_zero_of_no_sems (by decide) r.2⟩)
    (Cert.ReferenceIdeal.Value.run (F := Ideal) m ρ)

/-- The reference's frame. -/
theorem frame_reference : Cert.quiescent_ReferenceIdeal := fun m ρ _ => kept_reference m ρ

end Cert.Proof.Seg

end
-- ==== Proof.Pool.lean ====
/-
  What the table of a tile holds, over the extended reals: from ids in ascending order, row `s` of it is the maximum over the
  tile's rows with id `s`, and `-∞` where no row of the tile has it.
-/
module

public import proofs.«01_k».proof.Proof.Tile
public import Idealize.ShloMosaic.PureOps.Ideal.Laws

@[expose] public section

noncomputable section

namespace Cert.Proof.Seg

open Cert.KernelIdeal Cert.KernelIdeal.Gen
open Idealize.ShloMosaic

variable (I : S320000.Idx → BitVec 32) (H : S320000x128.Idx → EReal)

/-- The id of row `r`, as a number. -/
def segOf (r : Nat) : Nat := (idAt (n := 320000) I r).toNat

/-- The maximum, over the `R` rows from row `r₀` on, of the rows with id `s`. -/
def part (r₀ R s : Nat) (x : S128.Idx) : EReal :=
  (Finset.range R).sup fun r => if segOf I (r₀ + r) = s then rowAt (F := Ideal) (n := 320000) H (r₀ + r) x else ⊥

/-- The ids ascend. -/
def Ascending : Prop := ∀ i j, i ≤ j → j < 320000 → segOf I i ≤ segOf I j

/-- The kernel's -inf is the least extended real. -/
theorem ninf_eq : (ninf : Ideal .f32) = (⊥ : EReal) := by
  show Ideal.ofBits .f32 0xFF800000#32 = ⊥
  simp [Ideal.ofBits, Ideal.ieee]

/-- The maximum over no rows. -/
theorem part_zero (r₀ s : Nat) (x : S128.Idx) : part I H r₀ 0 s x = ⊥ := by
  simp [part]

/-- The maximum over one row more. -/
theorem part_succ (r₀ R s : Nat) (x : S128.Idx) :
    part I H r₀ (R + 1) s x = max (part I H r₀ R s x) (if segOf I (r₀ + R) = s then rowAt (F := Ideal) (n := 320000) H (r₀ + R) x else ⊥) := by
  unfold part
  rw [Finset.range_add_one, Finset.sup_insert, sup_comm]

/-- A row with another id changes nothing. -/
theorem part_skip (r₀ R s : Nat) (x : S128.Idx) (h : segOf I (r₀ + R) ≠ s) : part I H r₀ (R + 1) s x = part I H r₀ R s x := by
  rw [part_succ, if_neg h, max_eq_left bot_le]

/-- A row with the id joins the maximum. -/
theorem part_take (r₀ R s : Nat) (x : S128.Idx) (h : segOf I (r₀ + R) = s) :
    part I H r₀ (R + 1) s x = max (part I H r₀ R s x) (rowAt (F := Ideal) (n := 320000) H (r₀ + R) x) := by
  rw [part_succ, if_pos h]

/-- No row so far has the id. -/
theorem part_none (r₀ R s : Nat) (x : S128.Idx) (h : ∀ r < R, segOf I (r₀ + r) ≠ s) : part I H r₀ R s x = ⊥ := by
  unfold part
  rw [Finset.sup_eq_bot_iff]
  intro r hr
  rw [if_neg (h r (Finset.mem_range.mp hr))]

/-- What a tile's state is after `R` rows from row `r₀` on: the last row's segment is open, and holds its maximum so far; each
    other segment's row of the table holds that segment's maximum so far. -/
structure Upto (w r₀ R : Nat) (σ : St Ideal) : Prop where
  cur : σ.cur = idAt (n := 320000) I (r₀ + (R - 1))
  acc : ∀ x, σ.acc x = part I H r₀ R σ.cur.toNat x
  tab : ∀ y : S32x512x128.Idx, (y 0).val = w → (y 1).val ≠ σ.cur.toNat → σ.tab y = part I H r₀ R (y 1).val (ix1 (y 2))

variable {I H} {w r₀ : Nat}

/-- What a tile starts from. -/
theorem upto_init (T : S32x512x128.Idx → EReal) : Upto I H w (10000 * w) 0 (St.init (F := Ideal) w I T) where
  cur := rfl
  acc x := by rw [part_zero]; exact ninf_eq
  tab y h _ := by
    rw [part_zero]
    show (if (y 0).val = w then (ninf : Ideal .f32) else T y) = (⊥ : EReal)
    rw [if_pos h]; exact ninf_eq

/-- One more row. -/
theorem upto_row {R : Nat} {σ : St Ideal} (hA : Ascending I) (hR : r₀ + R < 320000) (h : Upto I H w r₀ R σ) :
    Upto I H w r₀ (R + 1) (σ.row w (idAt (n := 320000) I (r₀ + R)) (rowAt (n := 320000) H (r₀ + R))) := by
  have hrow : ∀ {b : BitVec 32} {G : S128.Idx → EReal} {σ : St Ideal} (x : S128.Idx), (σ.row w b G).acc x = max ((σ.seek w b).acc x) (G x) := fun _ => rfl
  by_cases hb : idAt (n := 320000) I (r₀ + R) = σ.cur
  · have hs : σ.seek w (idAt (n := 320000) I (r₀ + R)) = σ := if_pos hb
    have hsc : (σ.row w (idAt (n := 320000) I (r₀ + R)) (rowAt (n := 320000) H (r₀ + R))).cur = σ.cur := by
      show (σ.seek w _).cur = _; rw [hs]
    have hst : (σ.row w (idAt (n := 320000) I (r₀ + R)) (rowAt (n := 320000) H (r₀ + R))).tab = σ.tab := by
      show (σ.seek w _).tab = _; rw [hs]
    have hn : segOf I (r₀ + R) = σ.cur.toNat := congrArg BitVec.toNat hb
    refine ⟨?_, fun x => ?_, fun y h0 h1 => ?_⟩
    · rw [hsc, ← hb]; rfl
    · rw [hsc, part_take _ _ _ _ _ _ hn, hrow, hs, h.acc]
    · rw [hsc] at h1
      rw [hst, part_skip _ _ _ _ _ _ (by rw [hn]; exact fun e => h1 e.symm)]
      exact h.tab y h0 h1
  · have hs : σ.seek w (idAt (n := 320000) I (r₀ + R)) = σ.flush w (idAt (n := 320000) I (r₀ + R)) := if_neg hb
    have hsc : (σ.row w (idAt (n := 320000) I (r₀ + R)) (rowAt (n := 320000) H (r₀ + R))).cur = idAt (n := 320000) I (r₀ + R) := by
      show (σ.seek w _).cur = _; rw [hs]; rfl
    have hst : (σ.row w (idAt (n := 320000) I (r₀ + R)) (rowAt (n := 320000) H (r₀ + R))).tab = putRow w σ.cur σ.acc σ.tab := by
      show (σ.seek w _).tab = _; rw [hs]; rfl
    have hne : segOf I (r₀ + R) ≠ σ.cur.toNat := fun e => hb (BitVec.eq_of_toNat_eq e)
    have hcur : σ.cur.toNat = segOf I (r₀ + (R - 1)) := congrArg BitVec.toNat h.cur
    refine ⟨?_, fun x => ?_, fun y h0 h1 => ?_⟩
    · rw [hsc]; rfl
    · rw [hsc, hrow, hs, part_take (s := (idAt (n := 320000) I (r₀ + R)).toNat) _ _ _ _ _ rfl, part_none]
      · show max (ninf : Ideal .f32) _ = _
        rw [ninf_eq]
      · intro r hr e
        have h1 := hA (r₀ + r) (r₀ + (R - 1)) (by omega) (by omega)
        have h2 := hA (r₀ + (R - 1)) (r₀ + R) (by omega) hR
        have e' : segOf I (r₀ + r) = segOf I (r₀ + R) := e
        omega
    · rw [hsc] at h1
      rw [hst, part_skip _ _ _ _ _ _ (fun e => h1 e.symm)]
      unfold putRow
      by_cases hc : (y 1).val = σ.cur.toNat
      · rw [if_pos ⟨h0, hc⟩, h.acc, hc]
      · rw [if_neg (fun e => hc e.2)]
        exact h.tab y h0 hc

/-- The last `n` rows of a group of sixteen. -/
theorem upto_rows {R : Nat} (hA : Ascending I) (hR : r₀ + R + 16 ≤ 320000) : ∀ (n : Nat) (σ : St Ideal), n ≤ 16 → Upto I H w r₀ (R + (16 - n)) σ →
    Upto I H w r₀ (R + 16) (St.rows w (fun j => idAt (n := 320000) I (r₀ + R + j)) (fun j => rowAt (n := 320000) H (r₀ + R + j)) n σ)
  | 0, σ, _, h => h
  | n + 1, σ, hn, h => by
    have e : R + (16 - n) = R + (16 - (n + 1)) + 1 := by omega
    refine upto_rows hA hR n _ (by omega) ?_
    rw [e]
    have := upto_row (w := w) hA (by omega) h
    rwa [← Nat.add_assoc] at this

/-- Sixteen rows of the open segment taken in at once are the sixteen taken in one by one. -/
theorem fast_eq {σ : St Ideal} {B : Nat → BitVec 32} {G : Nat → S128.Idx → EReal} (hB : ∀ j < 16, B j = σ.cur) :
    σ.fast G = St.rows w B G 16 σ := by
  obtain ⟨a, c, t⟩ := σ
  have one : ∀ (a : S128.Idx → EReal) (j : Nat), j < 16 → St.row w (B j) (G j) (⟨a, c, t⟩ : St Ideal) = ⟨fun x => max (a x) (G j x), c, t⟩ := by
    intro a j hj
    have hs : St.seek w (B j) (⟨a, c, t⟩ : St Ideal) = ⟨a, c, t⟩ := if_pos (hB j hj)
    unfold St.row; rw [hs]; rfl
  simp only [St.rows, Nat.reduceAdd, Nat.reduceSub]
  rw [one _ 0 (by omega), one _ 1 (by omega), one _ 2 (by omega), one _ 3 (by omega), one _ 4 (by omega), one _ 5 (by omega), one _ 6 (by omega), one _ 7 (by omega),
    one _ 8 (by omega), one _ 9 (by omega), one _ 10 (by omega), one _ 11 (by omega), one _ 12 (by omega), one _ 13 (by omega), one _ 14 (by omega), one _ 15 (by omega)]
  unfold St.fast tree₁
  congr 1
  funext x
  simp only [Ideal.maximumf_def, max_assoc]

/-- A group of sixteen rows. -/
theorem upto_group {R : Nat} {σ : St Ideal} (hA : Ascending I) (hR : r₀ + R + 16 ≤ 320000) (h : Upto I H w r₀ R σ) :
    Upto I H w r₀ (R + 16) (St.group w (fun j => idAt (n := 320000) I (r₀ + R + j)) (fun j => rowAt (n := 320000) H (r₀ + R + j)) σ) := by
  have hrows := upto_rows (H := H) (w := w) hA hR 16 σ le_rfl (by simpa using h)
  unfold St.group
  split
  · next hu =>
    rw [fast_eq (w := w) (B := fun j => idAt (n := 320000) I (r₀ + R + j))]
    · exact hrows
    · intro j hj
      refine BitVec.eq_of_toNat_eq ?_
      have h0 : segOf I (r₀ + R + 0) = σ.cur.toNat := congrArg BitVec.toNat hu.1
      have h15 : segOf I (r₀ + R + 0) = segOf I (r₀ + R + 15) := congrArg BitVec.toNat hu.2
      have h1 := hA (r₀ + R + 0) (r₀ + R + j) (by omega) (by omega)
      have h2 := hA (r₀ + R + j) (r₀ + R + 15) (by omega) (by omega)
      show segOf I (r₀ + R + j) = _
      omega
  · exact hrows

/-- A tile before its first group. -/
theorem run_zero (T : S32x512x128.Idx → EReal) : St.run (F := Ideal) w I H T 0 = St.init (F := Ideal) w I T := rfl

/-- A tile after one group more. -/
theorem run_succ (T : S32x512x128.Idx → EReal) (n : Nat) : St.run (F := Ideal) w I H T (n + 1)
    = St.group w (fun j => idAt (n := 320000) I (10000 * w + 16 * n + j)) (fun j => rowAt (n := 320000) H (10000 * w + 16 * n + j)) (St.run (F := Ideal) w I H T n) := rfl

/-- The whole of a tile's rows, group by group. -/
theorem upto_run (hA : Ascending I) (hw : w < 32) (T : S32x512x128.Idx → EReal) : ∀ n, n ≤ 625 → Upto I H w (10000 * w) (16 * n) (St.run (F := Ideal) w I H T n)
  | 0, _ => by
    rw [run_zero, Nat.mul_zero]
    exact upto_init T
  | n + 1, hn => by
    rw [run_succ, Nat.mul_succ]
    exact upto_group (w := w) hA (by omega) (upto_run hA hw T n (by omega))

/-- The same, the number of rows named. -/
theorem upto_tile (hA : Ascending I) (hw : w < 32) (T : S32x512x128.Idx → EReal) {n R : Nat} (hn : n ≤ 625) (hR : 16 * n = R) :
    Upto I H w (10000 * w) R (St.run (F := Ideal) w I H T n) := by
  subst hR
  exact upto_run hA hw T n hn

/-- What a tile's state says of the table it leaves. -/
theorem table_part {R : Nat} {σ : St Ideal} (h : Upto I H w r₀ R σ) (y : S32x512x128.Idx) (hy : (y 0).val = w) :
    St.table w σ y = part I H r₀ R (y 1).val (ix1 (y 2)) := by
  unfold St.table putRow
  split
  · next hc => rw [h.acc, hc.2]
  · next hc => exact h.tab y hy fun e => hc ⟨hy, e⟩

/-- The table the tiles leave: at row `s` of tile `w`'s block, the maximum over the tile's rows with id `s`. -/
theorem outTab_part (hA : Ascending I) (T : S32x512x128.Idx → EReal) (y : S32x512x128.Idx) :
    outTab (F := Ideal) H I T y = part I H (10000 * (y 0).val) 10000 (y 1).val (ix1 (y 2)) := by
  have hw : (y 0).val < 32 := (y 0).isLt
  unfold outTab
  exact table_part (upto_tile hA hw T (n := 625) (R := 10000) le_rfl (by norm_num)) y rfl

end Cert.Proof.Seg

end
-- ==== Proof.Sorted.lean ====
/-
  The precondition that the ids are the table's segments in ascending order, read back.
-/
module

public import proofs.«01_k».proof.Defs
public import proofs.«01_k».proof.Proof.Frames
public import proofs.«01_k».proof.Proof.Pool
public import proofs.«01_k».proof.Proof.Gen.Pre_segments
public import Idealize.ShloMosaic.Lib.ReduceAll
public import Idealize.ShloMosaic.Lib.Pointwise

@[expose] public section

noncomputable section

namespace Cert.Proof.Seg

open Cert.KernelIdeal Cert.KernelIdeal.Gen
open Idealize.ShloMosaic
open Idealize.ShloMosaic.TcCoe

/-- Two bits whose conjunction is one are both one. -/
theorem andi_one (p q : BitVec 1) (e : IntOp.andi p q = 1#1) : p = 1#1 ∧ q = 1#1 := by
  revert e; revert p q; decide

/-- Two words below 512 compared as signed words are compared as natural numbers. -/
theorem toNat_le_of_sle (v w : BitVec 32) (hv : v.toNat < 512) (hw : w.toNat < 512) (e : IntOp.cmpi .sle v w = 1#1) : v.toNat ≤ w.toNat := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond] at e
  omega

/-- A sequence that ascends from each row to the next ascends. -/
theorem ascend_of_step (f : Nat → Nat) (N : Nat) (h : ∀ i, i + 1 < N → f i ≤ f (i + 1)) (i j : Nat) (hij : i ≤ j) (hj : j < N) : f i ≤ f j := by
  induction j, hij using Nat.le_induction with
  | base => exact le_rfl
  | succ k hk ih => exact (ih (by omega)).trans (h k hj)

/-- The precondition's two parts: every id below 512; each id at most the next. -/
theorem segments_parts (m : (ℓ : Loc nD τ sig) → Buf (Elt Ideal) ℓ) (h : Cert.Pre_KernelIdeal_segments m) :
    IdsOK (F := Ideal) m ∧ ∀ d : Dev nD, Ascending (m (iLoc d) : S320000.Idx → BitVec 32) := by
  have parts (d : Dev nD) := andi_one _ _ (congrFun (h d) finZeroElim)
  have ok : IdsOK (F := Ideal) m := fun d x => id_lt _ (Host.reduce_andi_all _ _ _ _ _ (parts d).1 x)
  refine ⟨ok, fun d => ?_⟩
  refine ascend_of_step _ 320000 fun i hi => ?_
  have e := Host.reduce_andi_all _ _ _ _ _ (parts d).2 (ix1 ⟨i, by omega⟩)
  dsimp only at e
  generalize hI : (m (iLoc d) : S320000.Idx → BitVec 32) = I
  have hok : ∀ x : S320000.Idx, (I x).toNat < 512 := fun x => hI ▸ ok d x
  have a0 : segOf I i = (I (ix1 ⟨i, by omega⟩)).toNat := by
    unfold segOf idAt
    rw [dif_pos]
  have a1 : segOf I (i + 1) = (I (ix1 ⟨i + 1, hi⟩)).toNat := by
    unfold segOf idAt
    rw [dif_pos hi]
  have hm : (m ((d.tc : Thread nD τ).loc main_arg2) : S320000.Idx → BitVec 32) = I := hI
  rw [hm] at e
  rw [a0, a1]
  refine toNat_le_of_sle _ _ (hok _) (hok _) ?_
  pointwise at e
  simpa only [Nat.add_comm 1 i] using e

end Cert.Proof.Seg

end
-- ==== Proof.Feats.lean ====
/-
  What the first TensorCore kernel writes, over the extended reals: at one index, the linear layer's value.
-/
module

public import proofs.«01_k».proof.Proof.Main
public import Idealize.ShloMosaic.Lib.Pointwise
public import Idealize.ShloMosaic.PureOps.Ideal.Laws

@[expose] public section

noncomputable section

namespace Cert.Proof.Seg

open Cert.KernelIdeal Cert.KernelIdeal.Gen
open Idealize.ShloMosaic Idealize.ShloMosaic.TcCoe

/-- A row of the linear layer at a column: the row of `x` against the first 128 rows of the weights, the row of `pos` against the
    last three, the bias. -/
def lin (X : S320000x128.Idx → EReal) (P : S320000x3.Idx → EReal) (W : S131x128.Idx → EReal) (b : S128.Idx → EReal) : S320000x128.Idx → EReal :=
  fun y => (∑ k : Fin 128, X (ix2 (y 0) k) * W (ix2 ⟨k.val, by omega⟩ (y 1)))
    + (∑ k : Fin 3, P (ix2 (y 0) k) * W (ix2 ⟨128 + k.val, by omega⟩ (y 1))) + b (ix1 (y 1))

set_option maxRecDepth 16384 in
/-- The first kernel's block at an index. -/
theorem mmOut_apply (X0 : S8000x128.Idx → EReal) (X1 : S8000x3.Idx → EReal) (X2 : S128x128.Idx → EReal) (X3 : S3x128.Idx → EReal) (X4 : S1x128.Idx → EReal) (y : S8000x128.Idx) :
    mmOut (F := Ideal) X0 X1 X2 X3 X4 y = (∑ k : Fin 128, X0 (ix2 (y 0) k) * X2 (ix2 k (y 1)))
      + (∑ k : Fin 3, X1 (ix2 (y 0) k) * X3 (ix2 k (y 1))) + X4 (ix2 0 (y 1)) := by
  unfold mmOut
  pointwise [k0_pay1]
  simp only [Fin.sum_univ_three, add_assoc]

/-! ## The arrays' blocks -/

section Arrays

variable (m : (ℓ : Loc nD τ sig) → Buf (Elt Ideal) ℓ) (d : Dev nD)

/-- Where window 0 of the first kernel lies at a point. -/
theorem blockAt0 : ∀ t, win0_0.index t = ![(grid0.coords t 0).val, 0] := by decide +kernel
/-- Where window 1 of the first kernel lies at a point. -/
theorem blockAt1 : ∀ t, win0_1.index t = ![(grid0.coords t 0).val, 0] := by decide +kernel
/-- Where window 2 of the first kernel lies at a point. -/
theorem blockAt2 : ∀ t, win0_2.index t = ![0, 0] := by decide +kernel
/-- Where window 3 of the first kernel lies at a point. -/
theorem blockAt3 : ∀ t, win0_3.index t = ![0, 0] := by decide +kernel
/-- Where window 4 of the first kernel lies at a point. -/
theorem blockAt4 : ∀ t, win0_4.index t = ![0, 0] := by decide +kernel
/-- Where window 5 of the first kernel lies at a point. -/
theorem blockAt5 : ∀ t, win0_5.index t = ![(grid0.coords t 0).val, 0] := by decide +kernel

/-- The first weights' rows as the first kernel finds them. -/
theorem V1_v0 : (V1 m d main_v0 : S128x128.Idx → EReal) = extractStridedSlice S128x128 ![0, 0] (m ((d : Thread nD τ).loc main_arg3) : S131x128.Idx → EReal) slices_S131x128_S128x128_0_0 := by
  show opB.result (opW2.result (opW1.result fun b => m (d, b))) (Proc.devRef .tc main_v0) = _
  rw [StableHlo.reshape_result_ne' (h := by decide), StableHlo.unary_result_ne' (h := by decide), StableHlo.unary_result']
/-- The last three weights' rows as the first kernel finds them. -/
theorem V1_v1 : (V1 m d main_v1 : S3x128.Idx → EReal) = extractStridedSlice S3x128 ![128, 0] (m ((d : Thread nD τ).loc main_arg3) : S131x128.Idx → EReal) slices_S131x128_S3x128_128_0 := by
  show opB.result (opW2.result (opW1.result fun b => m (d, b))) (Proc.devRef .tc main_v1) = _
  rw [StableHlo.reshape_result_ne' (h := by decide), StableHlo.unary_result', StableHlo.unary_result_ne' (h := by decide)]
/-- The bias as the first kernel finds it. -/
theorem V1_v2 : (V1 m d main_v2 : S1x128.Idx → EReal) = shapeCast S1x128 (m ((d : Thread nD τ).loc main_arg4) : S128.Idx → EReal) shapeCasts_S128_S1x128 := by
  show opB.result (opW2.result (opW1.result fun b => m (d, b))) (Proc.devRef .tc main_v2) = _
  rw [StableHlo.reshape_result', StableHlo.unary_result_ne' (h := by decide), StableHlo.unary_result_ne' (h := by decide)]
  rfl

/-- Every row the first kernel writes is the linear layer's. -/
theorem feats_eq : (feats m d : S320000x128.Idx → EReal) = lin (m ((d : Thread nD τ).loc main_arg0)) (m ((d : Thread nD τ).loc main_arg1)) (m ((d : Thread nD τ).loc main_arg3)) (m ((d : Thread nD τ).loc main_arg4)) := by
  refine (dat0 (V1 m) d).arrAt_eq_of_covers 5 _ (by decide +kernel) fun t hf y => ?_
  blk_simp
  have e : (dat0 (V1 m) d).after 5 t = mmOut (F := Ideal) (blk0 (V1 m) d 0 t) (blk0 (V1 m) d 1 t) (blk0 (V1 m) d 2 t) (blk0 (V1 m) d 3 t) (blk0 (V1 m) d 4 t) := rfl
  rw [e]
  refine (mmOut_apply _ _ _ _ _ _).trans ?_
  unfold lin
  have r0 : (V1 m d main_arg0 : S320000x128.Idx → EReal) = m ((d : Thread nD τ).loc main_arg0) := W1_arg m d main_arg0 (by decide) (by decide) (by decide)
  have r1 : (V1 m d main_arg1 : S320000x3.Idx → EReal) = m ((d : Thread nD τ).loc main_arg1) := W1_arg m d main_arg1 (by decide) (by decide) (by decide)
  have a0 : ∀ z, blk0 (V1 m) d 0 t z = (m ((d : Thread nD τ).loc main_arg0) : S320000x128.Idx → EReal) (((cfg0.win 0).blk t).view.emb z) := fun z => congrFun r0 _
  have a1 : ∀ z, blk0 (V1 m) d 1 t z = (m ((d : Thread nD τ).loc main_arg1) : S320000x3.Idx → EReal) (((cfg0.win 1).blk t).view.emb z) := fun z => congrFun r1 _
  have a2 : ∀ z, blk0 (V1 m) d 2 t z = extractStridedSlice S128x128 ![0, 0] (m ((d : Thread nD τ).loc main_arg3) : S131x128.Idx → EReal) slices_S131x128_S128x128_0_0 (((cfg0.win 2).blk t).view.emb z) := fun z => congrFun (V1_v0 m d) _
  have a3 : ∀ z, blk0 (V1 m) d 3 t z = extractStridedSlice S3x128 ![128, 0] (m ((d : Thread nD τ).loc main_arg3) : S131x128.Idx → EReal) slices_S131x128_S3x128_128_0 (((cfg0.win 3).blk t).view.emb z) := fun z => congrFun (V1_v1 m d) _
  have a4 : ∀ z, blk0 (V1 m) d 4 t z = shapeCast S1x128 (m ((d : Thread nD τ).loc main_arg4) : S128.Idx → EReal) shapeCasts_S128_S1x128 (((cfg0.win 4).blk t).view.emb z) := fun z => congrFun (V1_v2 m d) _
  refine congrArg₂ (· + ·) (congrArg₂ (· + ·) (Finset.sum_congr rfl fun k _ => ?_) (Finset.sum_congr rfl fun k _ => ?_)) ?_
  · rw [a0, a2]
    pointwise
    congr 1 <;> blk_ext [blockAt0 t, blockAt2 t, blockAt5 t]
  · rw [a1, a3]
    pointwise
    congr 1 <;> blk_ext [blockAt1 t, blockAt3 t, blockAt5 t]
  · rw [a4]
    pointwise
    blk_ext [blockAt4 t, blockAt5 t]

end Arrays

end Cert.Proof.Seg

end
-- ==== Proof.Peak.lean ====
/-
  What the second TensorCore kernel writes, over the extended reals: at one index, the maximum of the tiles' tables.
-/
module

public import proofs.«01_k».proof.Proof.Feats
public import proofs.«01_k».proof.Proof.Pool
public import Idealize.ShloMosaic.Lib.Pipeline.Covers
public import Idealize.ShloMosaic.Lib.Pointwise
public import Idealize.ShloMosaic.PureOps.Ideal.Laws

@[expose] public section

noncomputable section

namespace Cert.Proof.Seg

open Cert.KernelIdeal Cert.KernelIdeal.Gen
open Idealize.ShloMosaic Idealize.ShloMosaic.TcCoe

set_option maxRecDepth 16384 in
/-- The second kernel's block at an index: the maximum over the tables. -/
theorem maxOut_apply (X : S32x512x128.Idx → EReal) (y : S512x128.Idx) :
    k2_pay1 (F := Ideal) X y = Finset.univ.sup fun w : Fin 32 => X (ix3 w (y 0) (y 1)) := by
  pointwise [k2_pay1]
  rw [show Ideal.ofBits FTy.f32 4286578688#32 = (⊥ : EReal) from ninf_eq]
  rfl

section Arrays

variable (m : (ℓ : Loc nD τ sig) → Buf (Elt Ideal) ℓ) (d : Dev nD)

/-- The second kernel's tables are one block. -/
theorem tableAt : ∀ t, win2_0.index t = ![0, 0, 0] := by decide +kernel
/-- The second kernel's result is one block. -/
theorem pooledAt : ∀ t, win2_1.index t = ![0, 0] := by decide +kernel
/-- That block is the whole result. -/
theorem covers2 : (cfg2.win 1).Covers := (cfg2.win 1).covers_of_indexMap_surj rfl (by decide) fun β => ⟨grid2.coords t2_0, fun a => by
  have hb : ∀ a : Fin 2, (cfg2.win 1).nblk a = 1 := by decide
  have hi : ∀ a : Fin 2, (cfg2.win 1).indexMap (grid2.coords t2_0) a = 0 := by decide
  rw [hi a]
  have := (β a).isLt
  have := hb a
  omega⟩

/-- The one block of the tables is all of them. -/
theorem table_emb (t : Fin cfg2.N) (y : S32x512x128.Idx) : (show S32x512x128.Idx from ((cfg2.win 0).blk t).view.emb y) = y := by
  blk_ext [tableAt t]
/-- The one block of the pooled rows is all of them. -/
theorem pooled_emb (t : Fin cfg2.N) (y : S512x128.Idx) : (show S512x128.Idx from ((cfg2.win 1).blk t).view.emb y) = y := by
  blk_ext [pooledAt t]

/-- The maximum of the tables, at an index. -/
abbrev peak (X : S32x512x128.Idx → EReal) (y : S512x128.Idx) : EReal := Finset.univ.sup fun w : Fin 32 => X (ix3 w (y 0) (y 1))

/-- What the body leaves at an index of its block. -/
theorem after_apply (V : (c : Dev nD) → (b : Ref sig .tc) → Buf (Elt Ideal) ((c : Thread nD τ).loc b)) (X : S32x512x128.Idx → EReal) (hX : (V d main_v4 : S32x512x128.Idx → EReal) = X) (t : Fin cfg2.N) (y : S512x128.Idx) :
    (dat2 V d).after 1 t y = peak X y := by
  refine ((congrFun (after2 V d t) y).trans (maxOut_apply _ y)).trans ?_
  refine congrArg (fun Z : S32x512x128.Idx → EReal => peak Z y) (funext fun z => ?_)
  exact (congrFun hX (((cfg2.win 0).blk t).view.emb z)).trans (congrArg X (table_emb t z))

/-- What the second kernel leaves in its array, from the tables it finds. -/
theorem arrAt_eq (V : (c : Dev nD) → (b : Ref sig .tc) → Buf (Elt Ideal) ((c : Thread nD τ).loc b)) (X : S32x512x128.Idx → EReal) (hX : (V d main_v4 : S32x512x128.Idx → EReal) = X) :
    (dat2 V d).arrAt 1 cfg2.N = peak X := by
  refine (dat2 V d).arrAt_eq_of_covers 1 _ covers2 fun t hf y => ?_
  have k := after_apply d V X hX t
  generalize (dat2 V d).after 1 t = f at k ⊢
  exact (k y).trans (congrArg (peak X) (pooled_emb t y).symm)

/-- Every pooled row is the maximum of the tiles' tables. -/
theorem pooled_eq : pooled m d = peak (outTab (F := Ideal) (feats m d) (m (iLoc d)) (m (oLoc d))) := by
  unfold pooled
  exact arrAt_eq d (V3 m) _ (Function.update_self _ _ _)

end Arrays

end Cert.Proof.Seg

end
-- ==== Proof.Tie.lean ====
/-
  The tiles' tables, put together: the maximum over the tiles of a segment's row is the maximum over every row of the
  segment.
-/
module

public import proofs.«01_k».proof.Proof.Peak
public import proofs.«01_k».proof.Proof.Pool

@[expose] public section

noncomputable section

namespace Cert.Proof.Seg

open Cert.KernelIdeal Cert.KernelIdeal.Gen
open Idealize.ShloMosaic

/-- A maximum taken block by block is the maximum. -/
theorem sup_blocks (f : Nat → EReal) {W R N : Nat} (hN : W * R = N) :
    (Finset.univ.sup fun w : Fin W => (Finset.range R).sup fun r => f (R * w.val + r)) = Finset.univ.sup fun r : Fin N => f r.val := by
  refine eq_of_forall_ge_iff fun c => ?_
  simp only [Finset.sup_le_iff, Finset.mem_univ, forall_true_left, Finset.mem_range]
  constructor
  · intro h r
    have hR : 0 < R := by
      rcases Nat.eq_zero_or_pos R with h0 | h0
      · have := r.isLt; subst h0; omega
      · exact h0
    have hr : r.val < R * W := by rw [Nat.mul_comm, hN]; exact r.isLt
    have := h ⟨r.val / R, Nat.div_lt_of_lt_mul hr⟩ (r.val % R) (Nat.mod_lt _ hR)
    rwa [Nat.div_add_mod] at this
  · intro h w r hr
    refine h ⟨R * w.val + r, ?_⟩
    have h1 : R * (w.val + 1) ≤ R * W := Nat.mul_le_mul_left R w.isLt
    rw [Nat.mul_add, Nat.mul_one, Nat.mul_comm R W, hN] at h1
    omega

/-- Where the ids ascend, the second kernel's maximum of the tiles' tables is, at a segment's row, the maximum over the rows of
    the segment. -/
theorem peak_outTab {I : S320000.Idx → BitVec 32} {H : S320000x128.Idx → EReal} (hA : Ascending I) (T : S32x512x128.Idx → EReal) (y : S512x128.Idx) :
    peak (outTab (F := Ideal) H I T) y = Finset.univ.sup fun r : Fin 320000 => if (I (ix1 r)).toNat = (y 0).val then H (ix2 r (y 1)) else ⊥ := by
  have e1 : peak (outTab (F := Ideal) H I T) y = Finset.univ.sup fun w : Fin 32 => part I H (10000 * w.val) 10000 (y 0).val (ix1 (y 1)) :=
    Finset.sup_congr rfl fun w _ => outTab_part hA T (ix3 w (y 0) (y 1))
  rw [e1]
  refine (sup_blocks (fun r => if segOf I r = (y 0).val then rowAt (F := Ideal) (n := 320000) H r (ix1 (y 1)) else ⊥) (W := 32) (R := 10000) (N := 320000) (by norm_num)).trans ?_
  refine Finset.sup_congr rfl fun r _ => ?_
  have h1 : segOf I r.val = (I (ix1 r)).toNat := by
    unfold segOf idAt
    rw [dif_pos r.isLt]
  have h2 : rowAt (F := Ideal) (n := 320000) H r.val (ix1 (y 1)) = H (ix2 r (y 1)) := by
    unfold rowAt
    rw [dif_pos r.isLt]
    rfl
  simp only [h1, h2]

end Cert.Proof.Seg

end
-- ==== Proof.Refer.lean ====
/-
  What the reference computes, over the extended reals, at one index: the maximum of the linear layer's rows over the rows
  of the segment.
-/
module

public import proofs.«01_k».proof.Proof.Gen.ReferenceIdeal
public import proofs.«01_k».proof.Proof.Gen.ReferenceIdeal.Run
public import proofs.«01_k».proof.Proof.Feats
public import proofs.«01_k».proof.Proof.Pool

@[expose] public section

noncomputable section

namespace Cert.Proof.Seg.Refer

open Cert.ReferenceIdeal Cert.ReferenceIdeal.Gen Cert.ReferenceIdeal.Facts
open Idealize.ShloMosaic Idealize.ShloMosaic.TcCoe

variable (X : S320000x128.Idx → EReal) (P : S320000x3.Idx → EReal) (I : S320000.Idx → BitVec 32) (W : S131x128.Idx → EReal) (b : S128.Idx → EReal)

/-- The reference's linear layer. -/
def rows : S320000x128.Idx → EReal :=
  addf (F := Ideal) (φ := .f32) (Host.dotGeneral (F := Ideal) (φ₁ := .f32) (φ₂ := .f32) dot_S320000x131_S131x128_S320000x128_1_0_0_1_n_n none (concatenate S320000x131 1 [⟨S320000x128, X⟩, ⟨S320000x3, P⟩] concatenates_S320000x128_S320000x3_S320000x131_d1) W)
    (broadcastInDim S320000x128 ![0, 1] bcast_S1x128_S320000x128_0_1 (broadcastInDim S1x128 ![1] bcast_S128_S1x128_1 b))

set_option maxRecDepth 16384 in
/-- It is the linear layer as one row of products. -/
theorem rows_eq : rows X P W b = lin X P W b := by
  funext y
  unfold rows lin
  pointwise

/-- The reference's pooled rows, from the linear layer's. -/
def out (H : S320000x128.Idx → EReal) : S512x128.Idx → EReal :=
  Host.reduce (FloatOps.maximumf (F := Ideal) (φ := .f32)) (select (broadcastInDim S320000x512x128 ![0, 1, 2] bcast_S320000x512x1_S320000x512x128_0_1_2 (broadcastInDim S320000x512x1 ![0, 1] bcast_S320000x512_S320000x512x1_0_1 (cmpi .eq (broadcastInDim S320000x512 ![0, 1] bcast_S320000x1_S320000x512_0_1 (broadcastInDim S320000x1 ![0] bcast_S320000_S320000x1_0 I)) (broadcastInDim S320000x512 ![0, 1] bcast_S1x512_S320000x512_0_1 (broadcastInDim S1x512 ![1] bcast_S512_S1x512_1 (iotaInDim S512 32 0)))))) (broadcastInDim S320000x512x128 ![0, 1, 2] bcast_S320000x1x128_S320000x512x128_0_1_2 (broadcastInDim S320000x1x128 ![0, 2] bcast_S320000x128_S320000x1x128_0_2 H)) (broadcastInDim S320000x512x128 ![] bcast_S_S320000x512x128 (id (constant (F := Ideal) S_ .f32 0xFF800000#32))))
    (constant (F := Ideal) S_ .f32 0xFF800000#32) reducesTo_S320000x512x128_S512x128_d0 h_S_

set_option maxRecDepth 16384 in
/-- A pooled row is the maximum over the rows of its segment. -/
theorem out_apply (H : S320000x128.Idx → EReal) (y : S512x128.Idx) :
    out I H y = Finset.univ.sup fun r : Fin 320000 => if (I (ix1 r)).toNat = (y 0).val then H (ix2 r (y 1)) else ⊥ := by
  unfold out
  pointwise
  have hn : Ideal.ofBits FTy.f32 4286578688#32 = (⊥ : EReal) := ninf_eq
  have hy : (y 0).val < 512 := (y 0).isLt
  rw [hn]
  refine Finset.sup_congr rfl fun r _ => ?_
  have hc : (I (ix1 r) = BitVec.ofNat 32 (y 0).val) ↔ (I (ix1 r)).toNat = (y 0).val := by
    rw [← BitVec.toNat_inj, BitVec.toNat_ofNat, Nat.mod_eq_of_lt (by omega)]
  by_cases h : (I (ix1 r)).toNat = (y 0).val
  · rw [if_pos h]
    simp [Scalar.select, IntOp.cmpi, hc.mpr h]
  · rw [if_neg h]
    have h' : ¬ I (ix1 r) = BitVec.ofNat 32 (y 0).val := fun e => h (hc.mp e)
    have hb : (I (ix1 r) == BitVec.ofNat 32 (y 0).val) = false := beq_eq_false_iff_ne.mpr h'
    simp only [Scalar.select, IntOp.cmpi, hb]
    exact (if_neg (by decide)).trans hn

end Cert.Proof.Seg.Refer

end
-- ==== Proof.Equal.lean ====
/-
  The kernel against the reference, over the extended reals: from ids that are the table's segments in ascending order, both
  end with the same three results.
-/
module

public import proofs.«01_k».proof.Defs
public import proofs.«01_k».proof.Proof.Frames
public import proofs.«01_k».proof.Proof.Sorted
public import proofs.«01_k».proof.Proof.Tie
public import proofs.«01_k».proof.Proof.Refer

@[expose] public section

noncomputable section

namespace Cert.Proof.Seg

open Cert.KernelIdeal Cert.KernelIdeal.Gen
open Idealize.ShloMosaic
open Idealize.ShloMosaic.TcCoe
open Idealize.SL.Sem

/-- The pooled rows as the reference's text has them, of any arguments. -/
abbrev pooledRef (X : S320000x128.Idx → EReal) (P : S320000x3.Idx → EReal) (I : S320000.Idx → BitVec 32) (W : S131x128.Idx → EReal) (b : S128.Idx → EReal) : S512x128.Idx → EReal :=
  Refer.out I (Refer.rows X P W b)

section Results

variable (m : (ℓ : Loc nD τ sig) → Buf (Elt Ideal) ℓ)

/-- The kernel's pooled rows are the reference's. -/
theorem pooled_ref (hA : ∀ d : Dev nD, Ascending (m (iLoc d) : S320000.Idx → BitVec 32)) (d : Dev nD) :
    (pooled m d : S512x128.Idx → EReal) = pooledRef (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) := by
  rw [pooled_eq m d, feats_eq m d]
  funext y
  rw [peak_outTab (hA d)]
  unfold pooledRef
  rw [Refer.out_apply, Refer.rows_eq]

/-- The first result at the end: the pooled rows. -/
theorem W5_v5 (d : Dev nD) : W5 m d (Proc.devRef .tc main_v5) = pooled m d := by
  unfold W5 W4
  rw [StableHlo.nullary_result_ne' (h := by decide), StableHlo.unary_result_ne' (h := by decide), StableHlo.nullary_result_ne' (h := by decide), Function.update_self]

/-- The second result at the end: zeros. -/
theorem W5_v6 (d : Dev nD) : (W5 m d (Proc.devRef .tc main_v6) : S512x3.Idx → EReal) = broadcastInDim S512x3 ![] bcast_S_S512x3 (constant (F := Ideal) S_ .f32 0x00000000#32) := by
  unfold W5
  rw [StableHlo.nullary_result_ne' (h := by decide), StableHlo.unary_result', StableHlo.nullary_result']

/-- The third result at the end: each segment's number. -/
theorem W5_v7 (d : Dev nD) : (W5 m d (Proc.devRef .tc main_v7) : S512.Idx → BitVec 32) = iotaInDim S512 32 0 := by
  unfold W5
  rw [StableHlo.nullary_result']

end Results

/-- The frame of the kernel under the precondition that the ids are segments in ascending order. -/
theorem frame_kernelIdeal_segments : Cert.quiescent_KernelIdeal_pre_segments := fun m ρ h => kept (F := Ideal) m ρ (segments_parts m h).1

/-- The reference's frame under the same precondition. -/
theorem frame_reference_segments : Cert.quiescent_ReferenceIdeal_pre_segments := fun m ρ _ => kept_reference m ρ

/-- The kernel and the reference end with the same results. -/
theorem algebraic : Cert.algebraic_KernelIdeal_ReferenceIdeal_pre_segments := by
  intro m g m' g' hpre hm
  obtain ⟨ok, hA⟩ := segments_parts m hpre
  refine ⟨fun c => pooled m c, fun c => W5 m c (Proc.devRef .tc main_v6), fun c => W5 m c (Proc.devRef .tc main_v7), ?_, ?_⟩
  · refine (θ_run (Cert.KernelIdeal.defs (F := Ideal)) _ _).mono (fun r h c => ?_) (run_main (F := Ideal) m g ok)
    have at_ (b : Ref sig .tc) (hb : (b : DevRef τ sig) ∈ hostRefs) : r.2.mem ((c.tc : Thread nD τ).loc b) = W5 m c b := h.1 c b hb
    refine ⟨(at_ main_v5 ?_).trans (W5_v5 m c), at_ main_v6 ?_, at_ main_v7 ?_, W5_args m h.1 c⟩ <;>
      exact Finset.mem_filter.mpr ⟨StableHlo.devRef_mem_tcRefs _, by decide⟩
  · refine (θ_run (Cert.ReferenceIdeal.defs (F := Ideal)) _ _).mono (fun r h c => ?_) (Cert.ReferenceIdeal.Value.run (F := Ideal) m' g')
    obtain ⟨h0, h1, h2, h3, h4⟩ := hm c
    refine ⟨(h c).1.trans ?_, (h c).2.1.trans (W5_v6 m c).symm, (h c).2.2.1.trans (W5_v7 m c).symm, (h c).2.2.2⟩
    rw [h0, h1, h2, h3, h4]
    exact (pooled_ref m hA c).symm

end Cert.Proof.Seg

end
-- ==== Proof.lean ====
/-
  Everything the certificate claims, put together from the modules under `Proof/`: the frames (`Proof/Frames.lean`), that the
  idealized kernel is the kernel's own text, and that kernel and reference have the same results (`Proof/Equal.lean`).
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_table
public import proofs.«01_k».proof.Proof.Gen.Pre_segments

@[expose] public section

noncomputable section

namespace Cert.Proof

/-- Everything that the certificate claims. -/
theorem claim : Cert.Claim := ⟨Cert.Kernel.Gen.facts, Cert.KernelIdeal.Gen.facts, Cert.ReferenceIdeal.Gen.facts, Cert.Pre_in_table.Gen.facts, Cert.Pre_segments.Gen.facts,
  Seg.frame_kernel, Seg.frame_kernelIdeal, Seg.frame_kernelIdeal_segments, Seg.frame_reference, Seg.frame_reference_segments, trivial, Seg.algebraic⟩

end Cert.Proof

end
